-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite_qk [hPre_finite_qk : Cert.Pre_finite_qk.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite_qk.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).1 = (fun _ => 1#1)
    ∧ (Cert.Pre_finite_qk.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite_qk [hPre_finite_qk : Cert.Pre_finite_qk.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite_qk.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).1 = (fun _ => 1#1)
    ∧ (Cert.Pre_finite_qk.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Kernel14Ideal_pre_finite_qk [hKernel14Ideal : Cert.Kernel14Ideal.Facts] [hPre_finite_qk : Cert.Pre_finite_qk.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite_qk m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Reference14Ideal_pre_finite_qk [hReference14Ideal : Cert.Reference14Ideal.Facts] [hPre_finite_qk : Cert.Pre_finite_qk.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite_qk m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def preserves_Kernel_KernelIdeal : Prop :=
  IdealRules.named_const.Statement Cert.KernelIdeal.κ "c2" .f32 0x3E0293EE#32 (((Real.log 2)⁻¹ * (11863283 / 134217728) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v57_0)) (v1 : (c : Dev Cert.KernelIdeal.nD) → Buf (Elt Ideal) ((c.tc : Thread Cert.KernelIdeal.nD Cert.KernelIdeal.τ).loc Cert.KernelIdeal.main_v57_1)) (v2 : (c : Dev Cert.KernelIdeal.nD) → Buf (Elt Ideal) ((c.tc : Thread Cert.KernelIdeal.nD Cert.KernelIdeal.τ).loc Cert.KernelIdeal.main_v57_2)) (v3 : (c : Dev Cert.KernelIdeal.nD) → Buf (Elt Ideal) ((c.tc : Thread Cert.KernelIdeal.nD Cert.KernelIdeal.τ).loc Cert.KernelIdeal.main_v57_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57_0) = v0 c
          ∧ r.2.mem ((c.tc : Thread Cert.KernelIdeal.nD Cert.KernelIdeal.τ).loc Cert.KernelIdeal.main_v57_1) = v1 c
          ∧ r.2.mem ((c.tc : Thread Cert.KernelIdeal.nD Cert.KernelIdeal.τ).loc Cert.KernelIdeal.main_v57_2) = v2 c
          ∧ r.2.mem ((c.tc : Thread Cert.KernelIdeal.nD Cert.KernelIdeal.τ).loc Cert.KernelIdeal.main_v57_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_v143) = v2 c
          ∧ r.2.mem ((c.tc : Thread Cert.ReferenceIdeal.nD Cert.ReferenceIdeal.τ).loc Cert.ReferenceIdeal.main_v147) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  IdealRules.named_const.Statement Cert.Kernel14Ideal.κ "c2" .f32 0x3E0293EE#32 (((Real.log 2)⁻¹ * (11863283 / 134217728) : ℝ) : EReal)
  ∧ IdealRules.named_const.Statement Cert.Kernel14Ideal.κ "r2" .f32 0x3FB8AA3B#32 (((Real.log 2)⁻¹ : ℝ) : EReal)

def algebraic_Kernel14Ideal_Reference14Ideal_pre_finite_qk [hKernel14Ideal : Cert.Kernel14Ideal.Facts] [hReference14Ideal : Cert.Reference14Ideal.Facts] [hPre_finite_qk : Cert.Pre_finite_qk.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite_qk m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v87) = v0 c
          ∧ r.2.mem ((c.tc : Thread Cert.Reference14Ideal.nD Cert.Reference14Ideal.τ).loc Cert.Reference14Ideal.main_v88) = v1 c
          ∧ r.2.mem ((c.tc : Thread Cert.Reference14Ideal.nD Cert.Reference14Ideal.τ).loc Cert.Reference14Ideal.main_v89) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite_qk : Cert.Pre_finite_qk.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite_qk (hKernel14Ideal := hKernel14Ideal) (hPre_finite_qk := hPre_finite_qk)
    ∧ quiescent_Reference14Ideal (hReference14Ideal := hReference14Ideal)
    ∧ quiescent_Reference14Ideal_pre_finite_qk (hReference14Ideal := hReference14Ideal) (hPre_finite_qk := hPre_finite_qk)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite_qk (hKernel14Ideal := hKernel14Ideal) (hReference14Ideal := hReference14Ideal) (hPre_finite_qk := hPre_finite_qk)
-- ==== Pre_finite.lean ====
abbrev S2x4352x1024 : Shape := ⟨3, ![2, 4352, 1024]⟩
abbrev S2x4352x256 : Shape := ⟨3, ![2, 4352, 256]⟩
abbrev S_ : Shape := ⟨0, ![]⟩

class Facts : Prop where
  bitsLt_bf16_f32 : FTy.bits .bf16 < FTy.bits .f32
  bcast_S_S2x4352x1024 : S_.BroadcastsInDim S2x4352x1024 (![] : Fin 0 → Fin S2x4352x1024.rank)
  bcast_S_S2x4352x256 : S_.BroadcastsInDim S2x4352x256 (![] : Fin 0 → Fin S2x4352x256.rank)

variable [Facts]

def fn_part1 {F : FTy → Type} [FloatOps F] (main_v3 : IVec S2x4352x1024 1) (main_v7 : IVec S2x4352x256 1) (main_v11 : IVec S2x4352x256 1) (main_v15 : IVec S2x4352x1024 1) (main_v17 : FVec F S2x4352x1024 .f32) (main_v18 : FVec F S2x4352x1024 .f32) : IVec S2x4352x1024 1 × IVec S2x4352x256 1 × IVec S2x4352x256 1 × IVec S2x4352x1024 1 × IVec S2x4352x1024 1 :=
  let main_v19 : IVec S2x4352x1024 1 := cmpf .olt main_v17 main_v18
  (main_v3, main_v7, main_v11, main_v15, main_v19)

def fn {F : FTy → Type} [FloatOps F] (main_arg0 : FVec F S2x4352x1024 .bf16) (main_arg1 : FVec F S2x4352x256 .bf16) (main_arg2 : FVec F S2x4352x256 .bf16) (main_arg3 : FVec F S2x4352x1024 .bf16) (main_arg4 : FVec F S2x4352x1024 .bf16) : IVec S2x4352x1024 1 × IVec S2x4352x256 1 × IVec S2x4352x256 1 × IVec S2x4352x1024 1 × IVec S2x4352x1024 1 :=
  let main_v0 : FVec F S2x4352x1024 .f32 := (extf .f32 · bitsLt_bf16_f32) main_arg0
  let main_v1 : FVec F S2x4352x1024 .f32 := Host.absf main_v0
  let main_cst : FVec F S_ .f32 := constant S_ .f32 0x7F800000#32
  let main_v2 : FVec F S2x4352x1024 .f32 := broadcastInDim S2x4352x1024 ![] bcast_S_S2x4352x1024 main_cst
  let main_v3 : IVec S2x4352x1024 1 := cmpf .olt main_v1 main_v2
  let main_v4 : FVec F S2x4352x256 .f32 := (extf .f32 · bitsLt_bf16_f32) main_arg1
  let main_v5 : FVec F S2x4352x256 .f32 := Host.absf main_v4
  let main_cst_0 : FVec F S_ .f32 := constant S_ .f32 0x7F800000#32
  let main_v6 : FVec F S2x4352x256 .f32 := broadcastInDim S2x4352x256 ![] bcast_S_S2x4352x256 main_cst_0
  let main_v7 : IVec S2x4352x256 1 := cmpf .olt main_v5 main_v6
  let main_v8 : FVec F S2x4352x256 .f32 := (extf .f32 · bitsLt_bf16_f32) main_arg2
  let main_v9 : FVec F S2x4352x256 .f32 := Host.absf main_v8
  let main_cst_1 : FVec F S_ .f32 := constant S_ .f32 0x7F800000#32
  let main_v10 : FVec F S2x4352x256 .f32 := broadcastInDim S2x4352x256 ![] bcast_S_S2x4352x256 main_cst_1
  let main_v11 : IVec S2x4352x256 1 := cmpf .olt main_v9 main_v10
  let main_v12 : FVec F S2x4352x1024 .f32 := (extf .f32 · bitsLt_bf16_f32) main_arg3
  let main_v13 : FVec F S2x4352x1024 .f32 := Host.absf main_v12
  let main_cst_2 : FVec F S_ .f32 := constant S_ .f32 0x7F800000#32
  let main_v14 : FVec F S2x4352x1024 .f32 := broadcastInDim S2x4352x1024 ![] bcast_S_S2x4352x1024 main_cst_2
  let main_v15 : IVec S2x4352x1024 1 := cmpf .olt main_v13 main_v14
  let main_v16 : FVec F S2x4352x1024 .f32 := (extf .f32 · bitsLt_bf16_f32) main_arg4
  let main_v17 : FVec F S2x4352x1024 .f32 := Host.absf main_v16
  let main_cst_3 : FVec F S_ .f32 := constant S_ .f32 0x7F800000#32
  let main_v18 : FVec F S2x4352x1024 .f32 := broadcastInDim S2x4352x1024 ![] bcast_S_S2x4352x1024 main_cst_3
  fn_part1 (F := F) main_v3 main_v7 main_v11 main_v15 main_v17 main_v18
-- ==== Pre_finite_qk.lean ====
abbrev S2x4352x1024 : Shape := ⟨3, ![2, 4352, 1024]⟩
abbrev S2x4352x256 : Shape := ⟨3, ![2, 4352, 256]⟩
abbrev S_ : Shape := ⟨0, ![]⟩

class Facts : Prop where
  bitsLt_bf16_f32 : FTy.bits .bf16 < FTy.bits .f32
  bcast_S_S2x4352x1024 : S_.BroadcastsInDim S2x4352x1024 (![] : Fin 0 → Fin S2x4352x1024.rank)
  bcast_S_S2x4352x256 : S_.BroadcastsInDim S2x4352x256 (![] : Fin 0 → Fin S2x4352x256.rank)

variable [Facts]

def fn {F : FTy → Type} [FloatOps F] (main_arg0 : FVec F S2x4352x1024 .bf16) (main_arg1 : FVec F S2x4352x256 .bf16) (main_arg2 : FVec F S2x4352x256 .bf16) (main_arg3 : FVec F S2x4352x1024 .bf16) : IVec S2x4352x1024 1 × IVec S2x4352x256 1 :=
  let main_v0 : FVec F S2x4352x1024 .f32 := (extf .f32 · bitsLt_bf16_f32) main_arg0
  let main_v1 : FVec F S2x4352x1024 .f32 := Host.absf main_v0
  let main_cst : FVec F S_ .f32 := constant S_ .f32 0x7F800000#32
  let main_v2 : FVec F S2x4352x1024 .f32 := broadcastInDim S2x4352x1024 ![] bcast_S_S2x4352x1024 main_cst
  let main_v3 : IVec S2x4352x1024 1 := cmpf .olt main_v1 main_v2
  let main_v4 : FVec F S2x4352x256 .f32 := (extf .f32 · bitsLt_bf16_f32) main_arg1
  let main_v5 : FVec F S2x4352x256 .f32 := Host.absf main_v4
  let main_cst_0 : FVec F S_ .f32 := constant S_ .f32 0x7F800000#32
  let main_v6 : FVec F S2x4352x256 .f32 := broadcastInDim S2x4352x256 ![] bcast_S_S2x4352x256 main_cst_0
  let main_v7 : IVec S2x4352x256 1 := cmpf .olt main_v5 main_v6
  (main_v3, main_v7)
-- ==== Kernel.lean ====
abbrev S2x4352x1024 : Shape := ⟨3, ![2, 4352, 1024]⟩
abbrev S2x4352x256 : Shape := ⟨3, ![2, 4352, 256]⟩
abbrev S2x4352x2x4x128 : Shape := ⟨5, ![2, 4352, 2, 4, 128]⟩
abbrev S2x4352x2x128 : Shape := ⟨4, ![2, 4352, 2, 128]⟩
abbrev S2x4096x2x4x128 : Shape := ⟨5, ![2, 4096, 2, 4, 128]⟩
abbrev S2x2x4352x4096x4 : Shape := ⟨5, ![2, 2, 4352, 4096, 4]⟩
abbrev S2x2x4x4096x4352 : Shape := ⟨5, ![2, 2, 4, 4096, 4352]⟩
abbrev S_ : Shape := ⟨0, ![]⟩
abbrev S2x2x4x4096 : Shape := ⟨4, ![2, 2, 4, 4096]⟩
abbrev S2x2x4x4096x1 : Shape := ⟨5, ![2, 2, 4, 4096, 1]⟩
abbrev S2x2x128x4x4096 : Shape := ⟨5, ![2, 2, 128, 4, 4096]⟩
abbrev S2x256x2x4x128 : Shape := ⟨5, ![2, 256, 2, 4, 128]⟩
abbrev S2x256x2x128 : Shape := ⟨4, ![2, 256, 2, 128]⟩
abbrev S2x2x256x256x4 : Shape := ⟨5, ![2, 2, 256, 256, 4]⟩
abbrev S2x2x4x256x256 : Shape := ⟨5, ![2, 2, 4, 256, 256]⟩
abbrev S2x2x4x256 : Shape := ⟨4, ![2, 2, 4, 256]⟩
abbrev S2x2x4x256x1 : Shape := ⟨5, ![2, 2, 4, 256, 1]⟩
abbrev S2x2x128x4x256 : Shape := ⟨5, ![2, 2, 128, 4, 256]⟩
abbrev S2x2x4x4352 : Shape := ⟨4, ![2, 2, 4, 4352]⟩
abbrev S2x8x1x4352 : Shape := ⟨4, ![2, 8, 1, 4352]⟩
abbrev S1x256x128 : Shape := ⟨3, ![1, 256, 128]⟩
abbrev S1x4352x128 : Shape := ⟨3, ![1, 4352, 128]⟩
abbrev S1x1x1x256 : Shape := ⟨4, ![1, 1, 1, 256]⟩
abbrev S128x4352 : Shape := ⟨2, ![128, 4352]⟩
abbrev S4352x128 : Shape := ⟨2, ![4352, 128]⟩
abbrev S256x128 : Shape := ⟨2, ![256, 128]⟩
abbrev S1x256 : Shape := ⟨2, ![1, 256]⟩
abbrev S256 : Shape := ⟨1, ![256]⟩
abbrev S256x1 : Shape := ⟨2, ![256, 1]⟩
abbrev S128x256 : Shape := ⟨2, ![128, 256]⟩
abbrev S1x1024x128 : Shape := ⟨3, ![1, 1024, 128]⟩
abbrev S1024x128 : Shape := ⟨2, ![1024, 128]⟩
abbrev S1024x256 : Shape := ⟨2, ![1024, 256]⟩
abbrev S128x1024 : Shape := ⟨2, ![128, 1024]⟩
abbrev S256x256 : Shape := ⟨2, ![256, 256]⟩

abbrev nBuf : Space → Nat
  | .hbm => 74
  | .vmem => 23
  | .smem => 0
  | _ => 0

abbrev bufTy : (tb : Table) → Fin (tcTables nBuf tb) → BufTy
  | .hbm, ⟨0, _⟩ => ⟨S2x4352x1024, .bf16⟩
  | .hbm, ⟨1, _⟩ => ⟨S2x4352x256, .bf16⟩
  | .hbm, ⟨2, _⟩ => ⟨S2x4352x256, .bf16⟩
  | .hbm, ⟨3, _⟩ => ⟨S2x4352x1024, .bf16⟩
  | .hbm, ⟨4, _⟩ => ⟨S2x4352x1024, .bf16⟩
  | .hbm, ⟨5, _⟩ => ⟨S2x4352x1024, .f32⟩
  | .hbm, ⟨6, _⟩ => ⟨S2x4352x2x4x128, .f32⟩
  | .hbm, ⟨7, _⟩ => ⟨S2x4352x256, .f32⟩
  | .hbm, ⟨8, _⟩ => ⟨S2x4352x2x128, .f32⟩
  | .hbm, ⟨9, _⟩ => ⟨S2x4352x256, .f32⟩
  | .hbm, ⟨10, _⟩ => ⟨S2x4352x2x128, .f32⟩
  | .hbm, ⟨11, _⟩ => ⟨S2x4096x2x4x128, .f32⟩
  | .hbm, ⟨12, _⟩ => ⟨S2x2x4352x4096x4, .f32⟩
  | .hbm, ⟨13, _⟩ => ⟨S2x2x4x4096x4352, .f32⟩
  | .hbm, ⟨14, _⟩ => ⟨S_, .f32⟩
  | .hbm, ⟨15, _⟩ => ⟨S2x2x4x4096x4352, .f32⟩
  | .hbm, ⟨16, _⟩ => ⟨S2x2x4x4096x4352, .f32⟩
  | .hbm, ⟨17, _⟩ => ⟨S_, .f32⟩
  | .hbm, ⟨18, _⟩ => ⟨S2x2x4x4096, .f32⟩
  | .hbm, ⟨19, _⟩ => ⟨S2x2x4x4096x1, .f32⟩
  | .hbm, ⟨20, _⟩ => ⟨S2x2x4x4096x4352, .f32⟩
  | .hbm, ⟨21, _⟩ => ⟨S2x2x4x4096x4352, .f32⟩
  | .hbm, ⟨22, _⟩ => ⟨S2x2x4x4096x4352, .f32⟩
  | .hbm, ⟨23, _⟩ => ⟨S_, .f32⟩
  | .hbm, ⟨24, _⟩ => ⟨S2x2x4x4096, .f32⟩
  | .hbm, ⟨25, _⟩ => ⟨S2x2x4x4096x1, .f32⟩
  | .hbm, ⟨26, _⟩ => ⟨S2x2x4x4096x4352, .f32⟩
  | .hbm, ⟨27, _⟩ => ⟨S2x2x4x4096x4352, .f32⟩
  | .hbm, ⟨28, _⟩ => ⟨S2x2x128x4x4096, .f32⟩
  | .hbm, ⟨29, _⟩ => ⟨S2x4096x2x4x128, .f32⟩
  | .hbm, ⟨30, _⟩ => ⟨S2x2x4x4096x1, .f32⟩
  | .hbm, ⟨31, _⟩ => ⟨S2x2x4x4096x1, .f32⟩
  | .hbm, ⟨32, _⟩ => ⟨S_, .f32⟩
  | .hbm, ⟨33, _⟩ => ⟨S_, .f32⟩
  | .hbm, ⟨34, _⟩ => ⟨S2x2x4x4096x1, .f32⟩
  | .hbm, ⟨35, _⟩ => ⟨S2x2x4x4096x1, .f32⟩
  | .hbm, ⟨36, _⟩ => ⟨S2x2x4x4096, .f32⟩
  | .hbm, ⟨37, _⟩ => ⟨S2x256x2x4x128, .f32⟩
  | .hbm, ⟨38, _⟩ => ⟨S2x256x2x128, .f32⟩
  | .hbm, ⟨39, _⟩ => ⟨S2x256x2x128, .f32⟩
  | .hbm, ⟨40, _⟩ => ⟨S2x2x256x256x4, .f32⟩
  | .hbm, ⟨41, _⟩ => ⟨S2x2x4x256x256, .f32⟩
  | .hbm, ⟨42, _⟩ => ⟨S_, .f32⟩
  | .hbm, ⟨43, _⟩ => ⟨S2x2x4x256x256, .f32⟩
  | .hbm, ⟨44, _⟩ => ⟨S2x2x4x256x256, .f32⟩
  | .hbm, ⟨45, _⟩ => ⟨S_, .f32⟩
  | .hbm, ⟨46, _⟩ => ⟨S2x2x4x256, .f32⟩
  | .hbm, ⟨47, _⟩ => ⟨S2x2x4x256x1, .f32⟩
  | .hbm, ⟨48, _⟩ => ⟨S2x2x4x256x256, .f32⟩
  | .hbm, ⟨49, _⟩ => ⟨S2x2x4x256x256, .f32⟩
  | .hbm, ⟨50, _⟩ => ⟨S2x2x4x256x256, .f32⟩
  | .hbm, ⟨51, _⟩ => ⟨S_, .f32⟩
  | .hbm, ⟨52, _⟩ => ⟨S2x2x4x256, .f32⟩
  | .hbm, ⟨53, _⟩ => ⟨S2x2x4x256x1, .f32⟩
  | .hbm, ⟨54, _⟩ => ⟨S2x2x4x256x256, .f32⟩
  | .hbm, ⟨55, _⟩ => ⟨S2x2x4x256x256, .f32⟩
  | .hbm, ⟨56, _⟩ => ⟨S2x2x128x4x256, .f32⟩
  | .hbm, ⟨57, _⟩ => ⟨S2x256x2x4x128, .f32⟩
  | .hbm, ⟨58, _⟩ => ⟨S2x2x4x256x1, .f32⟩
  | .hbm, ⟨59, _⟩ => ⟨S2x2x4x256x1, .f32⟩
  | .hbm, ⟨60, _⟩ => ⟨S_, .f32⟩
  | .hbm, ⟨61, _⟩ => ⟨S_, .f32⟩
  | .hbm, ⟨62, _⟩ => ⟨S2x2x4x256x1, .f32⟩
  | .hbm, ⟨63, _⟩ => ⟨S2x2x4x256x1, .f32⟩
  | .hbm, ⟨64, _⟩ => ⟨S2x2x4x256, .f32⟩
  | .hbm, ⟨65, _⟩ => ⟨S2x4352x2x4x128, .f32⟩
  | .hbm, ⟨66, _⟩ => ⟨S2x4352x1024, .f32⟩
  | .hbm, ⟨67, _⟩ => ⟨S2x4352x1024, .bf16⟩
  | .hbm, ⟨68, _⟩ => ⟨S2x2x4x4352, .f32⟩
  | .hbm, ⟨69, _⟩ => ⟨S2x8x1x4352, .f32⟩
  | .hbm, ⟨70, _⟩ => ⟨S2x4352x1024, .bf16⟩
  | .hbm, ⟨71, _⟩ => ⟨S2x4352x256, .f32⟩
  | .hbm, ⟨72, _⟩ => ⟨S2x4352x256, .f32⟩
  | .hbm, ⟨73, _⟩ => ⟨S2x4352x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x256x128, .bf16⟩
  | .local _ .vmem, ⟨11, _⟩ => ⟨S1x256x128, .bf16⟩
  | .local _ .vmem, ⟨12, _⟩ => ⟨S1x1x1x256, .f32⟩
  | .local _ .vmem, ⟨13, _⟩ => ⟨S1x1x1x256, .f32⟩
  | .local _ .vmem, ⟨14, _⟩ => ⟨S1x256x128, .bf16⟩
  | .local _ .vmem, ⟨15, _⟩ => ⟨S1x256x128, .bf16⟩
  | .local _ .vmem, ⟨16, _⟩ => ⟨S1x4352x128, .f32⟩
  | .local _ .vmem, ⟨17, _⟩ => ⟨S1x4352x128, .f32⟩
  | .local _ .vmem, ⟨18, _⟩ => ⟨S1x4352x128, .f32⟩
  | .local _ .vmem, ⟨19, _⟩ => ⟨S1x4352x128, .f32⟩
  | .local _ .vmem, ⟨20, _⟩ => ⟨S1x256x128, .bf16⟩
  | .local _ .vmem, ⟨21, _⟩ => ⟨S1x256x128, .bf16⟩
  | .local _ .vmem, ⟨22, _⟩ => ⟨S128x4352, .bf16⟩
  | _, _ => ⟨S2x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57_0 : Ref sig .tc := ⟨.hbm, 70, rfl⟩
abbrev main_v57_1 : Ref sig .tc := ⟨.hbm, 71, rfl⟩
abbrev main_v57_2 : Ref sig .tc := ⟨.hbm, 72, rfl⟩
abbrev main_v57_3 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨4, ![2, 2, 4, 17], ![false, false, false, false]⟩

def k0_cond2 (i : grid0.Coords) : BitVec 1 :=
  let arg3 : BitVec 32 := BitVec.ofNat 32 (i 3).val
  let c16_i32 : BitVec 32 := 16#32
  let v5 : BitVec 1 := Scalar.cmpi .slt arg3 c16_i32
  let v6 : BitVec 32 := Scalar.extui v5
  let c0_i32_2 : BitVec 32 := 0#32
  let v7 : BitVec 1 := Scalar.cmpi .ne v6 c0_i32_2
  v7

def k0_cond3 (i : grid0.Coords) : BitVec 1 :=
  let arg3 : BitVec 32 := BitVec.ofNat 32 (i 3).val
  let c16_i32_3 : BitVec 32 := 16#32
  let v8 : BitVec 1 := Scalar.cmpi .sge arg3 c16_i32_3
  let v9 : BitVec 32 := Scalar.extui v8
  let c0_i32_4 : BitVec 32 := 0#32
  let v10 : BitVec 1 := Scalar.cmpi .ne v9 c0_i32_4
  v10

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let arg3 : BitVec 32 := BitVec.ofNat 32 (i 3).val
  let c0_i32_0 : BitVec 32 := 0#32
  let v1 : BitVec 1 := Scalar.cmpi .eq arg3 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg1 c4_i32
  let v1 : BitVec 32 := Scalar.addi v0 arg2
  let c0_i32 : BitVec 32 := 0#32
  ![arg0.toNat, arg3.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg1 c4_i32
  let v1 : BitVec 32 := Scalar.addi v0 arg2
  let c0_i32 : BitVec 32 := 0#32
  ![arg0.toNat, arg3.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg1 c4_i32
  let v1 : BitVec 32 := Scalar.addi v0 arg2
  let c0_i32 : BitVec 32 := 0#32
  ![arg0.toNat, arg3.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg1 c4_i32
  let v1 : BitVec 32 := Scalar.addi v0 arg2
  let c0_i32 : BitVec 32 := 0#32
  ![arg0.toNat, arg3.toNat, v1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat, arg3.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg1 c4_i32
  let v1 : BitVec 32 := Scalar.addi v0 arg2
  let c0_i32 : BitVec 32 := 0#32
  ![arg0.toNat, arg3.toNat, v1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg1 c4_i32
  let v1 : BitVec 32 := Scalar.addi v0 arg2
  let c0_i32 : BitVec 32 := 0#32
  ![arg0.toNat, arg3.toNat, v1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, true]

abbrev stage0_6 : Fin 2 → Memref sig .tc .vmem S1x1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, true]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true, true]

abbrev stage0_8 : Fin 2 → Memref sig .tc .vmem S1x4352x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false, false]

abbrev stage0_9 : Fin 2 → Memref sig .tc .vmem S1x4352x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false, false]

abbrev stage0_10 : Fin 2 → Memref sig .tc .vmem S1x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true, true]
-- ==== KernelIdeal.lean ====
variable {F : FTy → Type} [FloatOps F] [Named F]
def κ : String → Option EReal := fun
  | "c2" => some (((Real.log 2)⁻¹ * (11863283 / 134217728) : ℝ) : EReal)
  | _ => none
-- ==== ReferenceIdeal.lean ====
abbrev S2x4352x1024 : Shape := ⟨3, ![2, 4352, 1024]⟩
abbrev S2x4352x256 : Shape := ⟨3, ![2, 4352, 256]⟩
abbrev S2x4352x2x4x128 : Shape := ⟨5, ![2, 4352, 2, 4, 128]⟩
abbrev S2x4352x2x128 : Shape := ⟨4, ![2, 4352, 2, 128]⟩
abbrev S2x4096x2x4x128 : Shape := ⟨5, ![2, 4096, 2, 4, 128]⟩
abbrev S2x2x4352x4096x4 : Shape := ⟨5, ![2, 2, 4352, 4096, 4]⟩
abbrev S2x2x4x4096x4352 : Shape := ⟨5, ![2, 2, 4, 4096, 4352]⟩
abbrev S_ : Shape := ⟨0, ![]⟩
abbrev S2x2x4x4096 : Shape := ⟨4, ![2, 2, 4, 4096]⟩
abbrev S2x2x4x4096x1 : Shape := ⟨5, ![2, 2, 4, 4096, 1]⟩
abbrev S2x2x128x4x4096 : Shape := ⟨5, ![2, 2, 128, 4, 4096]⟩
abbrev S2x256x2x4x128 : Shape := ⟨5, ![2, 256, 2, 4, 128]⟩
abbrev S2x256x2x128 : Shape := ⟨4, ![2, 256, 2, 128]⟩
abbrev S2x2x256x256x4 : Shape := ⟨5, ![2, 2, 256, 256, 4]⟩
abbrev S2x2x4x256x256 : Shape := ⟨5, ![2, 2, 4, 256, 256]⟩
abbrev S2x2x4x256 : Shape := ⟨4, ![2, 2, 4, 256]⟩
abbrev S2x2x4x256x1 : Shape := ⟨5, ![2, 2, 4, 256, 1]⟩
abbrev S2x2x128x4x256 : Shape := ⟨5, ![2, 2, 128, 4, 256]⟩
abbrev S2x2x128x256 : Shape := ⟨4, ![2, 2, 128, 256]⟩
abbrev S2x2x256x4x128 : Shape := ⟨5, ![2, 2, 256, 4, 128]⟩
abbrev S2x2x256x128 : Shape := ⟨4, ![2, 2, 256, 128]⟩
abbrev S2x2x128x4352 : Shape := ⟨4, ![2, 2, 128, 4352]⟩
abbrev S2x2x4096x4x128 : Shape := ⟨5, ![2, 2, 4096, 4, 128]⟩
abbrev S2x2x4352x128 : Shape := ⟨4, ![2, 2, 4352, 128]⟩

abbrev nBuf : Space → Nat
  | .hbm => 200
  | .vmem => 0
  | .smem => 0
  | _ => 0

abbrev hbmTy0_0 (i : Nat) : BufTy := match i % 128 with
  | 0 => ⟨S2x4352x1024, .bf16⟩
  | 1 => ⟨S2x4352x256, .bf16⟩
  | 2 => ⟨S2x4352x256, .bf16⟩
  | 3 => ⟨S2x4352x1024, .bf16⟩
  | 4 => ⟨S2x4352x1024, .bf16⟩
  | 5 => ⟨S2x4352x1024, .f32⟩
  | 6 => ⟨S2x4352x256, .f32⟩
  | 7 => ⟨S2x4352x256, .f32⟩
  | 8 => ⟨S2x4352x1024, .f32⟩
  | 9 => ⟨S2x4352x2x4x128, .f32⟩
  | 10 => ⟨S2x4352x2x128, .f32⟩
  | 11 => ⟨S2x4352x2x128, .f32⟩
  | 12 => ⟨S2x4096x2x4x128, .f32⟩
  | 13 => ⟨S2x2x4352x4096x4, .f32⟩
  | 14 => ⟨S2x2x4x4096x4352, .f32⟩
  | 15 => ⟨S_, .f32⟩
  | 16 => ⟨S2x2x4x4096x4352, .f32⟩
  | 17 => ⟨S2x2x4x4096x4352, .f32⟩
  | 18 => ⟨S_, .f32⟩
  | 19 => ⟨S2x2x4x4096, .f32⟩
  | 20 => ⟨S2x2x4x4096x1, .f32⟩
  | 21 => ⟨S2x2x4x4096x4352, .f32⟩
  | 22 => ⟨S2x2x4x4096x4352, .i1⟩
  | 23 => ⟨S2x2x4x4096x4352, .f32⟩
  | 24 => ⟨S_, .f32⟩
  | 25 => ⟨S2x2x4x4096, .f32⟩
  | 26 => ⟨S_, .f32⟩
  | 27 => ⟨S2x2x4x4096, .f32⟩
  | 28 => ⟨S2x2x4x4096, .f32⟩
  | 29 => ⟨S_, .f32⟩
  | 30 => ⟨S2x2x4x4096, .f32⟩
  | 31 => ⟨S2x2x4x4096, .i1⟩
  | 32 => ⟨S_, .f32⟩
  | 33 => ⟨S2x2x4x4096, .f32⟩
  | 34 => ⟨S2x2x4x4096, .i1⟩
  | 35 => ⟨S_, .f32⟩
  | 36 => ⟨S2x2x4x4096, .f32⟩
  | 37 => ⟨S_, .f32⟩
  | 38 => ⟨S2x2x4x4096, .f32⟩
  | 39 => ⟨S_, .f32⟩
  | 40 => ⟨S2x2x4x4096, .f32⟩
  | 41 => ⟨S2x2x4x4096, .f32⟩
  | 42 => ⟨S2x2x4x4096, .f32⟩
  | 43 => ⟨S2x2x4x4096x1, .f32⟩
  | 44 => ⟨S2x2x4x4096x4352, .f32⟩
  | 45 => ⟨S2x2x4x4096x4352, .f32⟩
  | 46 => ⟨S2x2x4x4096x4352, .f32⟩
  | 47 => ⟨S_, .f32⟩
  | 48 => ⟨S2x2x4x4096, .f32⟩
  | 49 => ⟨S2x2x4x4096x1, .f32⟩
  | 50 => ⟨S2x2x4x4096x4352, .f32⟩
  | 51 => ⟨S2x2x4x4096x4352, .f32⟩
  | 52 => ⟨S2x2x4x4096x1, .f32⟩
  | 53 => ⟨S_, .f32⟩
  | 54 => ⟨S2x2x4x4096x1, .f32⟩
  | 55 => ⟨S2x2x4x4096x1, .f32⟩
  | 56 => ⟨S2x2x128x4x4096, .f32⟩
  | 57 => ⟨S2x4096x2x4x128, .f32⟩
  | 58 => ⟨S2x256x2x4x128, .f32⟩
  | 59 => ⟨S2x256x2x128, .f32⟩
  | 60 => ⟨S2x256x2x128, .f32⟩
  | 61 => ⟨S2x2x256x256x4, .f32⟩
  | 62 => ⟨S2x2x4x256x256, .f32⟩
  | 63 => ⟨S_, .f32⟩
  | 64 => ⟨S2x2x4x256x256, .f32⟩
  | 65 => ⟨S2x2x4x256x256, .f32⟩
  | 66 => ⟨S_, .f32⟩
  | 67 => ⟨S2x2x4x256, .f32⟩
  | 68 => ⟨S2x2x4x256x1, .f32⟩
  | 69 => ⟨S2x2x4x256x256, .f32⟩
  | 70 => ⟨S2x2x4x256x256, .i1⟩
  | 71 => ⟨S2x2x4x256x256, .f32⟩
  | 72 => ⟨S_, .f32⟩
  | 73 => ⟨S2x2x4x256, .f32⟩
  | 74 => ⟨S_, .f32⟩
  | 75 => ⟨S2x2x4x256, .f32⟩
  | 76 => ⟨S2x2x4x256, .f32⟩
  | 77 => ⟨S_, .f32⟩
  | 78 => ⟨S2x2x4x256, .f32⟩
  | 79 => ⟨S2x2x4x256, .i1⟩
  | 80 => ⟨S_, .f32⟩
  | 81 => ⟨S2x2x4x256, .f32⟩
  | 82 => ⟨S2x2x4x256, .i1⟩
  | 83 => ⟨S_, .f32⟩
  | 84 => ⟨S2x2x4x256, .f32⟩
  | 85 => ⟨S_, .f32⟩
  | 86 => ⟨S2x2x4x256, .f32⟩
  | 87 => ⟨S_, .f32⟩
  | 88 => ⟨S2x2x4x256, .f32⟩
  | 89 => ⟨S2x2x4x256, .f32⟩
  | 90 => ⟨S2x2x4x256, .f32⟩
  | 91 => ⟨S2x2x4x256x1, .f32⟩
  | 92 => ⟨S2x2x4x256x256, .f32⟩
  | 93 => ⟨S2x2x4x256x256, .f32⟩
  | 94 => ⟨S2x2x4x256x256, .f32⟩
  | 95 => ⟨S_, .f32⟩
  | 96 => ⟨S2x2x4x256, .f32⟩
  | 97 => ⟨S2x2x4x256x1, .f32⟩
  | 98 => ⟨S2x2x4x256x256, .f32⟩
  | 99 => ⟨S2x2x4x256x256, .f32⟩
  | 100 => ⟨S2x2x4x256x1, .f32⟩
  | 101 => ⟨S_, .f32⟩
  | 102 => ⟨S2x2x4x256x1, .f32⟩
  | 103 => ⟨S2x2x4x256x1, .f32⟩
  | 104 => ⟨S2x2x128x4x256, .f32⟩
  | 105 => ⟨S2x256x2x4x128, .f32⟩
  | 106 => ⟨S2x4352x2x4x128, .f32⟩
  | 107 => ⟨S2x4352x1024, .f32⟩
  | 108 => ⟨S2x4352x1024, .f32⟩
  | 109 => ⟨S2x4352x1024, .f32⟩
  | 110 => ⟨S_, .f32⟩
  | 111 => ⟨S2x4352x1024, .f32⟩
  | 112 => ⟨S2x4352x1024, .f32⟩
  | 113 => ⟨S_, .f32⟩
  | 114 => ⟨S2x4352x1024, .f32⟩
  | 115 => ⟨S2x4352x1024, .f32⟩
  | 116 => ⟨S_, .f32⟩
  | 117 => ⟨S2x4352x1024, .f32⟩
  | 118 => ⟨S2x4352x1024, .f32⟩
  | 119 => ⟨S2x4352x1024, .f32⟩
  | 120 => ⟨S2x4352x1024, .f32⟩
  | 121 => ⟨S2x4352x1024, .f32⟩
  | 122 => ⟨S2x4352x1024, .f32⟩
  | 123 => ⟨S2x4352x1024, .f32⟩
  | 124 => ⟨S2x4352x1024, .f32⟩
  | 125 => ⟨S2x4352x1024, .f32⟩
  | 126 => ⟨S2x4352x1024, .f32⟩
  | 127 => ⟨S2x4352x1024, .f32⟩
  | _ => ⟨S2x4352x1024, .bf16⟩

abbrev hbmTy0_1 (i : Nat) : BufTy := match i % 128 with
  | 0 => ⟨S2x4352x1024, .f32⟩
  | 1 => ⟨S2x4352x2x4x128, .f32⟩
  | 2 => ⟨S2x4096x2x4x128, .f32⟩
  | 3 => ⟨S2x256x2x4x128, .f32⟩
  | 4 => ⟨S2x2x128x4x256, .f32⟩
  | 5 => ⟨S2x2x4x256x256, .f32⟩
  | 6 => ⟨S2x2x128x256, .f32⟩
  | 7 => ⟨S2x256x2x128, .f32⟩
  | 8 => ⟨S2x2x4x256x256, .f32⟩
  | 9 => ⟨S2x2x4x256x256, .f32⟩
  | 10 => ⟨S2x2x4x256x256, .f32⟩
  | 11 => ⟨S_, .f32⟩
  | 12 => ⟨S2x2x4x256, .f32⟩
  | 13 => ⟨S2x2x4x256x1, .f32⟩
  | 14 => ⟨S2x2x4x256x1, .f32⟩
  | 15 => ⟨S2x2x4x256x256, .f32⟩
  | 16 => ⟨S2x2x4x256x256, .f32⟩
  | 17 => ⟨S_, .f32⟩
  | 18 => ⟨S2x2x4x256, .f32⟩
  | 19 => ⟨S2x2x4x256x256, .f32⟩
  | 20 => ⟨S2x2x4x256x256, .f32⟩
  | 21 => ⟨S2x2x4x256x256, .f32⟩
  | 22 => ⟨S_, .f32⟩
  | 23 => ⟨S2x2x4x256x256, .f32⟩
  | 24 => ⟨S2x2x4x256x256, .f32⟩
  | 25 => ⟨S2x2x256x256x4, .f32⟩
  | 26 => ⟨S2x2x256x4x128, .f32⟩
  | 27 => ⟨S2x256x2x4x128, .f32⟩
  | 28 => ⟨S2x2x256x128, .f32⟩
  | 29 => ⟨S2x256x2x128, .f32⟩
  | 30 => ⟨S_, .f32⟩
  | 31 => ⟨S2x4352x2x128, .f32⟩
  | 32 => ⟨S_, .f32⟩
  | 33 => ⟨S2x4352x2x128, .f32⟩
  | 34 => ⟨S_, .f32⟩
  | 35 => ⟨S2x4352x2x4x128, .f32⟩
  | 36 => ⟨S2x2x128x4x4096, .f32⟩
  | 37 => ⟨S2x2x4x4096x4352, .f32⟩
  | 38 => ⟨S2x2x128x4352, .f32⟩
  | 39 => ⟨S2x4352x2x128, .f32⟩
  | 40 => ⟨S2x4352x2x128, .f32⟩
  | 41 => ⟨S2x2x4x4096x4352, .f32⟩
  | 42 => ⟨S2x2x4x4096x4352, .f32⟩
  | 43 => ⟨S2x2x4x4096x4352, .f32⟩
  | 44 => ⟨S_, .f32⟩
  | 45 => ⟨S2x2x4x4096, .f32⟩
  | 46 => ⟨S2x2x4x4096x1, .f32⟩
  | 47 => ⟨S2x2x4x4096x1, .f32⟩
  | 48 => ⟨S2x2x4x4096x4352, .f32⟩
  | 49 => ⟨S2x2x4x4096x4352, .f32⟩
  | 50 => ⟨S_, .f32⟩
  | 51 => ⟨S2x2x4x4096, .f32⟩
  | 52 => ⟨S2x2x4x4096x4352, .f32⟩
  | 53 => ⟨S2x2x4x4096x4352, .f32⟩
  | 54 => ⟨S2x2x4x4096x4352, .f32⟩
  | 55 => ⟨S_, .f32⟩
  | 56 => ⟨S2x2x4x4096x4352, .f32⟩
  | 57 => ⟨S2x2x4x4096x4352, .f32⟩
  | 58 => ⟨S2x2x4352x4096x4, .f32⟩
  | 59 => ⟨S2x2x4096x4x128, .f32⟩
  | 60 => ⟨S2x4096x2x4x128, .f32⟩
  | 61 => ⟨S2x2x4352x128, .f32⟩
  | 62 => ⟨S2x4352x2x128, .f32⟩
  | 63 => ⟨S2x4352x2x128, .f32⟩
  | 64 => ⟨S_, .f32⟩
  | 65 => ⟨S2x4352x2x4x128, .f32⟩
  | 66 => ⟨S2x4352x2x4x128, .f32⟩
  | 67 => ⟨S2x4352x256, .f32⟩
  | 68 => ⟨S2x4352x256, .f32⟩
  | 69 => ⟨S2x4352x1024, .f32⟩
  | 70 => ⟨S2x4352x1024, .bf16⟩
  | 71 => ⟨S2x4352x1024, .bf16⟩
  | _ => ⟨S2x4352x1024, .bf16⟩

abbrev hbmTy (i : Nat) : BufTy := match i / 128 with
  | 0 => hbmTy0_0 i
  | 1 => hbmTy0_1 i
  | _ => ⟨S2x4352x1024, .bf16⟩

abbrev bufTy : (tb : Table) → Fin (tcTables nBuf tb) → BufTy
  | .hbm, ⟨i, _⟩ => hbmTy i
  | _, _ => ⟨S2x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_cst_11 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_12 : Ref sig .tc := ⟨.hbm, 72, rfl⟩
abbrev main_v54 : Ref sig .tc := ⟨.hbm, 73, rfl⟩
abbrev main_cst_13 : Ref sig .tc := ⟨.hbm, 74, rfl⟩
abbrev main_v55 : Ref sig .tc := ⟨.hbm, 75, rfl⟩
abbrev main_v56 : Ref sig .tc := ⟨.hbm, 76, rfl⟩
abbrev main_cst_14 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_cst_17 : Ref sig .tc := ⟨.hbm, 85, rfl⟩
abbrev main_v62 : Ref sig .tc := ⟨.hbm, 86, rfl⟩
abbrev main_cst_18 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_19 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_20 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_call0_v0 : Ref sig .tc := ⟨.hbm, 108, rfl⟩
abbrev main_call0_v1 : Ref sig .tc := ⟨.hbm, 109, rfl⟩
abbrev main_call0_cst : Ref sig .tc := ⟨.hbm, 110, rfl⟩
abbrev main_call0_v2 : Ref sig .tc := ⟨.hbm, 111, rfl⟩
abbrev main_call0_v3 : Ref sig .tc := ⟨.hbm, 112, rfl⟩
abbrev main_call0_cst_0 : Ref sig .tc := ⟨.hbm, 113, rfl⟩
abbrev main_call0_v4 : Ref sig .tc := ⟨.hbm, 114, rfl⟩
abbrev main_v81_2 : Ref sig .tc := ⟨.hbm, 115, rfl⟩
abbrev main_call0_cst_1 : Ref sig .tc := ⟨.hbm, 116, rfl⟩
abbrev main_call0_v6 : Ref sig .tc := ⟨.hbm, 117, rfl⟩
abbrev main_call0_v7 : Ref sig .tc := ⟨.hbm, 118, rfl⟩
abbrev main_v81_1 : Ref sig .tc := ⟨.hbm, 119, rfl⟩
abbrev main_v81_0 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_call1_v0 : Ref sig .tc := ⟨.hbm, 125, rfl⟩
abbrev main_call1_v1 : Ref sig .tc := ⟨.hbm, 126, rfl⟩
abbrev main_call1_v2 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_21 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_22 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_23 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_24 : Ref sig .tc := ⟨.hbm, 158, rfl⟩
abbrev main_v113 : Ref sig .tc := ⟨.hbm, 159, rfl⟩
abbrev main_cst_25 : Ref sig .tc := ⟨.hbm, 160, rfl⟩
abbrev main_v114 : Ref sig .tc := ⟨.hbm, 161, rfl⟩
abbrev main_cst_26 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_cst_27 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_cst_28 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_cst_29 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_cst_30 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩

abbrev nD : Nat := 1
abbrev τ : Topo := Topo.v7x

variable {F : FTy → Type} [FloatOps F]
-- ==== Kernel2.lean ====
abbrev S8704x1024 : Shape := ⟨2, ![8704, 1024]⟩
abbrev S8704x512 : Shape := ⟨2, ![8704, 512]⟩
abbrev S1024x10240 : Shape := ⟨2, ![1024, 10240]⟩
abbrev S1088x512 : Shape := ⟨2, ![1088, 512]⟩
abbrev S1024x512 : Shape := ⟨2, ![1024, 512]⟩
abbrev S1088x1024 : Shape := ⟨2, ![1088, 1024]⟩

abbrev nBuf : Space → Nat
  | .hbm => 7
  | .vmem => 15
  | .smem => 0
  | _ => 0

abbrev bufTy : (tb : Table) → Fin (tcTables nBuf tb) → BufTy
  | .hbm, ⟨0, _⟩ => ⟨S8704x1024, .f32⟩
  | .hbm, ⟨1, _⟩ => ⟨S8704x1024, .bf16⟩
  | .hbm, ⟨2, _⟩ => ⟨S8704x1024, .bf16⟩
  | .hbm, ⟨3, _⟩ => ⟨S8704x512, .bf16⟩
  | .hbm, ⟨4, _⟩ => ⟨S8704x1024, .bf16⟩
  | .hbm, ⟨5, _⟩ => ⟨S1024x10240, .bf16⟩
  | .hbm, ⟨6, _⟩ => ⟨S8704x1024, .f32⟩
  | .local _ .vmem, ⟨0, _⟩ => ⟨S1088x512, .f32⟩
  | .local _ .vmem, ⟨1, _⟩ => ⟨S1088x512, .f32⟩
  | .local _ .vmem, ⟨2, _⟩ => ⟨S1088x512, .bf16⟩
  | .local _ .vmem, ⟨3, _⟩ => ⟨S1088x512, .bf16⟩
  | .local _ .vmem, ⟨4, _⟩ => ⟨S1088x512, .bf16⟩
  | .local _ .vmem, ⟨5, _⟩ => ⟨S1088x512, .bf16⟩
  | .local _ .vmem, ⟨6, _⟩ => ⟨S1088x512, .bf16⟩
  | .local _ .vmem, ⟨7, _⟩ => ⟨S1088x512, .bf16⟩
  | .local _ .vmem, ⟨8, _⟩ => ⟨S1088x512, .bf16⟩
  | .local _ .vmem, ⟨9, _⟩ => ⟨S1088x512, .bf16⟩
  | .local _ .vmem, ⟨10, _⟩ => ⟨S1024x512, .bf16⟩
  | .local _ .vmem, ⟨11, _⟩ => ⟨S1024x512, .bf16⟩
  | .local _ .vmem, ⟨12, _⟩ => ⟨S1088x1024, .f32⟩
  | .local _ .vmem, ⟨13, _⟩ => ⟨S1088x1024, .f32⟩
  | .local _ .vmem, ⟨14, _⟩ => ⟨S1088x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 9], ![false, false]⟩

def k0_cond7 (i : grid0.Coords) : BitVec 1 :=
  let arg1 : BitVec 32 := BitVec.ofNat 32 (i 1).val
  let c8_i32 : BitVec 32 := 8#32
  let v28 : BitVec 1 := Scalar.cmpi .eq arg1 c8_i32
  let v29 : BitVec 32 := Scalar.extui v28
  let c0_i32_11 : BitVec 32 := 0#32
  let v30 : BitVec 1 := Scalar.cmpi .ne v29 c0_i32_11
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1088x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1088x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1088x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1088x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S8704x1024 : Shape := ⟨2, ![8704, 1024]⟩
abbrev S8704x512 : Shape := ⟨2, ![8704, 512]⟩
abbrev S1024x10240 : Shape := ⟨2, ![1024, 10240]⟩
abbrev S_ : Shape := ⟨0, ![]⟩
abbrev S1024x1024 : Shape := ⟨2, ![1024, 1024]⟩
abbrev S1024x512 : Shape := ⟨2, ![1024, 512]⟩
abbrev S1024x3072 : Shape := ⟨2, ![1024, 3072]⟩
abbrev S8704x3072 : Shape := ⟨2, ![8704, 3072]⟩

abbrev nBuf : Space → Nat
  | .hbm => 40
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S8704x1024, .bf16⟩
  | .hbm, ⟨2, _⟩ => ⟨S8704x1024, .bf16⟩
  | .hbm, ⟨3, _⟩ => ⟨S8704x512, .bf16⟩
  | .hbm, ⟨4, _⟩ => ⟨S8704x1024, .bf16⟩
  | .hbm, ⟨5, _⟩ => ⟨S1024x10240, .bf16⟩
  | .hbm, ⟨6, _⟩ => ⟨S8704x1024, .f32⟩
  | .hbm, ⟨7, _⟩ => ⟨S8704x1024, .f32⟩
  | .hbm, ⟨8, _⟩ => ⟨S8704x512, .f32⟩
  | .hbm, ⟨9, _⟩ => ⟨S8704x1024, .f32⟩
  | .hbm, ⟨10, _⟩ => ⟨S_, .f32⟩
  | .hbm, ⟨11, _⟩ => ⟨S8704x1024, .f32⟩
  | .hbm, ⟨12, _⟩ => ⟨S1024x10240, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x512, .f32⟩
  | .hbm, ⟨17, _⟩ => ⟨S1024x1024, .f32⟩
  | .hbm, ⟨18, _⟩ => ⟨S1024x1024, .f32⟩
  | .hbm, ⟨19, _⟩ => ⟨S1024x512, .f32⟩
  | .hbm, ⟨20, _⟩ => ⟨S1024x1024, .f32⟩
  | .hbm, ⟨21, _⟩ => ⟨S1024x3072, .f32⟩
  | .hbm, ⟨22, _⟩ => ⟨S8704x1024, .f32⟩
  | .hbm, ⟨23, _⟩ => ⟨S8704x1024, .f32⟩
  | .hbm, ⟨24, _⟩ => ⟨S8704x1024, .f32⟩
  | .hbm, ⟨25, _⟩ => ⟨S8704x512, .f32⟩
  | .hbm, ⟨26, _⟩ => ⟨S8704x1024, .f32⟩
  | .hbm, ⟨27, _⟩ => ⟨S8704x1024, .f32⟩
  | .hbm, ⟨28, _⟩ => ⟨S8704x512, .f32⟩
  | .hbm, ⟨29, _⟩ => ⟨S8704x1024, .f32⟩
  | .hbm, ⟨30, _⟩ => ⟨S8704x3072, .f32⟩
  | .hbm, ⟨31, _⟩ => ⟨S8704x1024, .f32⟩
  | .hbm, ⟨32, _⟩ => ⟨S8704x1024, .f32⟩
  | .hbm, ⟨33, _⟩ => ⟨S8704x1024, .f32⟩
  | .hbm, ⟨34, _⟩ => ⟨S8704x1024, .f32⟩
  | .hbm, ⟨35, _⟩ => ⟨S8704x1024, .f32⟩
  | .hbm, ⟨36, _⟩ => ⟨S8704x1024, .f32⟩
  | .hbm, ⟨37, _⟩ => ⟨S8704x1024, .f32⟩
  | .hbm, ⟨38, _⟩ => ⟨S8704x1024, .f32⟩
  | .hbm, ⟨39, _⟩ => ⟨S8704x1024, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== Kernel3.lean ====
abbrev S8704x1024 : Shape := ⟨2, ![8704, 1024]⟩
abbrev S8704x512 : Shape := ⟨2, ![8704, 512]⟩
abbrev S8704x3072 : Shape := ⟨2, ![8704, 3072]⟩
abbrev S1024x10240 : Shape := ⟨2, ![1024, 10240]⟩
abbrev S1088x512 : Shape := ⟨2, ![1088, 512]⟩
abbrev S1024x512 : Shape := ⟨2, ![1024, 512]⟩
abbrev S1088x1024 : Shape := ⟨2, ![1088, 1024]⟩

abbrev nBuf : Space → Nat
  | .hbm => 7
  | .vmem => 15
  | .smem => 0
  | _ => 0

abbrev bufTy : (tb : Table) → Fin (tcTables nBuf tb) → BufTy
  | .hbm, ⟨0, _⟩ => ⟨S8704x1024, .bf16⟩
  | .hbm, ⟨1, _⟩ => ⟨S8704x512, .bf16⟩
  | .hbm, ⟨2, _⟩ => ⟨S8704x1024, .bf16⟩
  | .hbm, ⟨3, _⟩ => ⟨S8704x3072, .bf16⟩
  | .hbm, ⟨4, _⟩ => ⟨S1024x10240, .bf16⟩
  | .hbm, ⟨5, _⟩ => ⟨S8704x1024, .f32⟩
  | .hbm, ⟨6, _⟩ => ⟨S8704x1024, .bf16⟩
  | .local _ .vmem, ⟨0, _⟩ => ⟨S1088x512, .bf16⟩
  | .local _ .vmem, ⟨1, _⟩ => ⟨S1088x512, .bf16⟩
  | .local _ .vmem, ⟨2, _⟩ => ⟨S1088x512, .bf16⟩
  | .local _ .vmem, ⟨3, _⟩ => ⟨S1088x512, .bf16⟩
  | .local _ .vmem, ⟨4, _⟩ => ⟨S1088x512, .bf16⟩
  | .local _ .vmem, ⟨5, _⟩ => ⟨S1088x512, .bf16⟩
  | .local _ .vmem, ⟨6, _⟩ => ⟨S1088x512, .bf16⟩
  | .local _ .vmem, ⟨7, _⟩ => ⟨S1088x512, .bf16⟩
  | .local _ .vmem, ⟨8, _⟩ => ⟨S1024x512, .bf16⟩
  | .local _ .vmem, ⟨9, _⟩ => ⟨S1024x512, .bf16⟩
  | .local _ .vmem, ⟨10, _⟩ => ⟨S1088x1024, .f32⟩
  | .local _ .vmem, ⟨11, _⟩ => ⟨S1088x1024, .f32⟩
  | .local _ .vmem, ⟨12, _⟩ => ⟨S1088x1024, .bf16⟩
  | .local _ .vmem, ⟨13, _⟩ => ⟨S1088x1024, .bf16⟩
  | .local _ .vmem, ⟨14, _⟩ => ⟨S1088x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 11], ![false, false]⟩

def k0_cond6 (i : grid0.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_9 : BitVec 32 := 0#32
  let v25 : BitVec 1 := Scalar.cmpi .ne v24 c0_i32_9
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let c5_i32_0 : BitVec 32 := 5#32
  let v1 : BitVec 32 := Scalar.maxsi c0_i32 v0
  let v2 : BitVec 32 := Scalar.minsi c5_i32_0 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1088x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1088x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1088x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1088x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S8704x1024 : Shape := ⟨2, ![8704, 1024]⟩
abbrev S8704x512 : Shape := ⟨2, ![8704, 512]⟩
abbrev S8704x3072 : Shape := ⟨2, ![8704, 3072]⟩
abbrev S1024x10240 : Shape := ⟨2, ![1024, 10240]⟩
abbrev S_ : Shape := ⟨0, ![]⟩
abbrev S1024x1024 : Shape := ⟨2, ![1024, 1024]⟩
abbrev S1024x512 : Shape := ⟨2, ![1024, 512]⟩
abbrev S1024x3072 : Shape := ⟨2, ![1024, 3072]⟩

abbrev nBuf : Space → Nat
  | .hbm => 40
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x512, .bf16⟩
  | .hbm, ⟨2, _⟩ => ⟨S8704x1024, .bf16⟩
  | .hbm, ⟨3, _⟩ => ⟨S8704x3072, .bf16⟩
  | .hbm, ⟨4, _⟩ => ⟨S1024x10240, .bf16⟩
  | .hbm, ⟨5, _⟩ => ⟨S8704x1024, .f32⟩
  | .hbm, ⟨6, _⟩ => ⟨S8704x1024, .f32⟩
  | .hbm, ⟨7, _⟩ => ⟨S8704x512, .f32⟩
  | .hbm, ⟨8, _⟩ => ⟨S8704x1024, .f32⟩
  | .hbm, ⟨9, _⟩ => ⟨S8704x3072, .f32⟩
  | .hbm, ⟨10, _⟩ => ⟨S_, .f32⟩
  | .hbm, ⟨11, _⟩ => ⟨S8704x1024, .f32⟩
  | .hbm, ⟨12, _⟩ => ⟨S1024x10240, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x512, .f32⟩
  | .hbm, ⟨17, _⟩ => ⟨S1024x1024, .f32⟩
  | .hbm, ⟨18, _⟩ => ⟨S1024x1024, .f32⟩
  | .hbm, ⟨19, _⟩ => ⟨S1024x512, .f32⟩
  | .hbm, ⟨20, _⟩ => ⟨S1024x1024, .f32⟩
  | .hbm, ⟨21, _⟩ => ⟨S1024x3072, .f32⟩
  | .hbm, ⟨22, _⟩ => ⟨S8704x1024, .f32⟩
  | .hbm, ⟨23, _⟩ => ⟨S8704x1024, .f32⟩
  | .hbm, ⟨24, _⟩ => ⟨S8704x1024, .f32⟩
  | .hbm, ⟨25, _⟩ => ⟨S8704x512, .f32⟩
  | .hbm, ⟨26, _⟩ => ⟨S8704x1024, .f32⟩
  | .hbm, ⟨27, _⟩ => ⟨S8704x1024, .f32⟩
  | .hbm, ⟨28, _⟩ => ⟨S8704x512, .f32⟩
  | .hbm, ⟨29, _⟩ => ⟨S8704x1024, .f32⟩
  | .hbm, ⟨30, _⟩ => ⟨S8704x3072, .f32⟩
  | .hbm, ⟨31, _⟩ => ⟨S8704x1024, .f32⟩
  | .hbm, ⟨32, _⟩ => ⟨S8704x1024, .f32⟩
  | .hbm, ⟨33, _⟩ => ⟨S8704x1024, .f32⟩
  | .hbm, ⟨34, _⟩ => ⟨S8704x1024, .f32⟩
  | .hbm, ⟨35, _⟩ => ⟨S8704x1024, .f32⟩
  | .hbm, ⟨36, _⟩ => ⟨S8704x1024, .f32⟩
  | .hbm, ⟨37, _⟩ => ⟨S8704x1024, .f32⟩
  | .hbm, ⟨38, _⟩ => ⟨S8704x1024, .f32⟩
  | .hbm, ⟨39, _⟩ => ⟨S8704x1024, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== Kernel4.lean ====
abbrev S8704x1024 : Shape := ⟨2, ![8704, 1024]⟩
abbrev S1024x1024 : Shape := ⟨2, ![1024, 1024]⟩
abbrev S2176x1024 : Shape := ⟨2, ![2176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .f32⟩
  | .hbm, ⟨2, _⟩ => ⟨S1024x1024, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .f32⟩
  | .local _ .vmem, ⟨3, _⟩ => ⟨S2176x1024, .f32⟩
  | .local _ .vmem, ⟨4, _⟩ => ⟨S1024x1024, .bf16⟩
  | .local _ .vmem, ⟨5, _⟩ => ⟨S1024x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel4Ideal.lean ====
abbrev S8704x1024 : Shape := ⟨2, ![8704, 1024]⟩
abbrev S1024x1024 : Shape := ⟨2, ![1024, 1024]⟩
abbrev S2176x1024 : Shape := ⟨2, ![2176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .f32⟩
  | .hbm, ⟨2, _⟩ => ⟨S1024x1024, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .f32⟩
  | .local _ .vmem, ⟨3, _⟩ => ⟨S2176x1024, .f32⟩
  | .local _ .vmem, ⟨4, _⟩ => ⟨S1024x1024, .bf16⟩
  | .local _ .vmem, ⟨5, _⟩ => ⟨S1024x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference4Ideal.lean ====
abbrev S8704x1024 : Shape := ⟨2, ![8704, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .f32⟩
  | .hbm, ⟨2, _⟩ => ⟨S_, .f32⟩
  | .hbm, ⟨3, _⟩ => ⟨S1024x1024, .f32⟩
  | .hbm, ⟨4, _⟩ => ⟨S8704x1024, .f32⟩
  | .hbm, ⟨5, _⟩ => ⟨S8704x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8704x1024 : Shape := ⟨2, ![8704, 1024]⟩
abbrev S1024x1024 : Shape := ⟨2, ![1024, 1024]⟩
abbrev S2176x1024 : Shape := ⟨2, ![2176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S1024x1024, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .bf16⟩
  | .local _ .vmem, ⟨5, _⟩ => ⟨S1024x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel5Ideal.lean ====
abbrev S8704x1024 : Shape := ⟨2, ![8704, 1024]⟩
abbrev S1024x1024 : Shape := ⟨2, ![1024, 1024]⟩
abbrev S2176x1024 : Shape := ⟨2, ![2176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S1024x1024, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .bf16⟩
  | .local _ .vmem, ⟨5, _⟩ => ⟨S1024x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S8704x1024 : Shape := ⟨2, ![8704, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S_, .f32⟩
  | .hbm, ⟨3, _⟩ => ⟨S1024x1024, .f32⟩
  | .hbm, ⟨4, _⟩ => ⟨S8704x1024, .f32⟩
  | .hbm, ⟨5, _⟩ => ⟨S8704x1024, .f32⟩
  | .hbm, ⟨6, _⟩ => ⟨S8704x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8704x1024 : Shape := ⟨2, ![8704, 1024]⟩
abbrev S8704x512 : Shape := ⟨2, ![8704, 512]⟩
abbrev S1024x512 : Shape := ⟨2, ![1024, 512]⟩
abbrev S2176x1024 : Shape := ⟨2, ![2176, 1024]⟩
abbrev S2176x512 : Shape := ⟨2, ![2176, 512]⟩

abbrev nBuf : Space → Nat
  | .hbm => 3
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S8704x512, .bf16⟩
  | .hbm, ⟨2, _⟩ => ⟨S1024x512, .bf16⟩
  | .local _ .vmem, ⟨0, _⟩ => ⟨S2176x1024, .bf16⟩
  | .local _ .vmem, ⟨1, _⟩ => ⟨S2176x1024, .bf16⟩
  | .local _ .vmem, ⟨2, _⟩ => ⟨S2176x512, .bf16⟩
  | .local _ .vmem, ⟨3, _⟩ => ⟨S2176x512, .bf16⟩
  | .local _ .vmem, ⟨4, _⟩ => ⟨S1024x512, .bf16⟩
  | .local _ .vmem, ⟨5, _⟩ => ⟨S1024x512, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel6Ideal.lean ====
abbrev S8704x1024 : Shape := ⟨2, ![8704, 1024]⟩
abbrev S8704x512 : Shape := ⟨2, ![8704, 512]⟩
abbrev S1024x512 : Shape := ⟨2, ![1024, 512]⟩
abbrev S2176x1024 : Shape := ⟨2, ![2176, 1024]⟩
abbrev S2176x512 : Shape := ⟨2, ![2176, 512]⟩

abbrev nBuf : Space → Nat
  | .hbm => 3
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S8704x512, .bf16⟩
  | .hbm, ⟨2, _⟩ => ⟨S1024x512, .bf16⟩
  | .local _ .vmem, ⟨0, _⟩ => ⟨S2176x1024, .bf16⟩
  | .local _ .vmem, ⟨1, _⟩ => ⟨S2176x1024, .bf16⟩
  | .local _ .vmem, ⟨2, _⟩ => ⟨S2176x512, .bf16⟩
  | .local _ .vmem, ⟨3, _⟩ => ⟨S2176x512, .bf16⟩
  | .local _ .vmem, ⟨4, _⟩ => ⟨S1024x512, .bf16⟩
  | .local _ .vmem, ⟨5, _⟩ => ⟨S1024x512, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S8704x1024 : Shape := ⟨2, ![8704, 1024]⟩
abbrev S8704x512 : Shape := ⟨2, ![8704, 512]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x512, .bf16⟩
  | .hbm, ⟨2, _⟩ => ⟨S_, .f32⟩
  | .hbm, ⟨3, _⟩ => ⟨S1024x512, .f32⟩
  | .hbm, ⟨4, _⟩ => ⟨S8704x1024, .f32⟩
  | .hbm, ⟨5, _⟩ => ⟨S8704x512, .f32⟩
  | .hbm, ⟨6, _⟩ => ⟨S8704x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8704x1024 : Shape := ⟨2, ![8704, 1024]⟩
abbrev S8704x3072 : Shape := ⟨2, ![8704, 3072]⟩
abbrev S1024x3072 : Shape := ⟨2, ![1024, 3072]⟩
abbrev S2176x1024 : Shape := ⟨2, ![2176, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8704x1024, .bf16⟩
  | .hbm, ⟨1, _⟩ => ⟨S8704x3072, .bf16⟩
  | .hbm, ⟨2, _⟩ => ⟨S1024x3072, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8704x1024 : Shape := ⟨2, ![8704, 1024]⟩
abbrev S8704x3072 : Shape := ⟨2, ![8704, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x3072, .bf16⟩
  | .hbm, ⟨2, _⟩ => ⟨S_, .f32⟩
  | .hbm, ⟨3, _⟩ => ⟨S1024x3072, .f32⟩
  | .hbm, ⟨4, _⟩ => ⟨S8704x1024, .f32⟩
  | .hbm, ⟨5, _⟩ => ⟨S8704x3072, .f32⟩
  | .hbm, ⟨6, _⟩ => ⟨S8704x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8704x1024 : Shape := ⟨2, ![8704, 1024]⟩
abbrev S1024x1024 : Shape := ⟨2, ![1024, 1024]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S1024x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1088x1024, .bf16⟩
  | .local _ .vmem, ⟨3, _⟩ => ⟨S1088x1024, .bf16⟩
  | .local _ .vmem, ⟨4, _⟩ => ⟨S1024x1024, .bf16⟩
  | .local _ .vmem, ⟨5, _⟩ => ⟨S1024x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8704x1024 : Shape := ⟨2, ![8704, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S_, .f32⟩
  | .hbm, ⟨3, _⟩ => ⟨S1024x1024, .f32⟩
  | .hbm, ⟨4, _⟩ => ⟨S8704x1024, .f32⟩
  | .hbm, ⟨5, _⟩ => ⟨S8704x1024, .f32⟩
  | .hbm, ⟨6, _⟩ => ⟨S8704x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8704x1024 : Shape := ⟨2, ![8704, 1024]⟩
abbrev S1024x1024 : Shape := ⟨2, ![1024, 1024]⟩
abbrev S2176x1024 : Shape := ⟨2, ![2176, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8704x1024, .bf16⟩
  | .hbm, ⟨1, _⟩ => ⟨S1024x1024, .bf16⟩
  | .hbm, ⟨2, _⟩ => ⟨S8704x1024, .bf16⟩
  | .local _ .vmem, ⟨0, _⟩ => ⟨S2176x1024, .bf16⟩
  | .local _ .vmem, ⟨1, _⟩ => ⟨S2176x1024, .bf16⟩
  | .local _ .vmem, ⟨2, _⟩ => ⟨S1024x1024, .bf16⟩
  | .local _ .vmem, ⟨3, _⟩ => ⟨S2176x1024, .bf16⟩
  | .local _ .vmem, ⟨4, _⟩ => ⟨S2176x1024, .bf16⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8704x1024 : Shape := ⟨2, ![8704, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x1024, .bf16⟩
  | .hbm, ⟨2, _⟩ => ⟨S_, .f32⟩
  | .hbm, ⟨3, _⟩ => ⟨S8704x1024, .f32⟩
  | .hbm, ⟨4, _⟩ => ⟨S1024x1024, .f32⟩
  | .hbm, ⟨5, _⟩ => ⟨S8704x1024, .f32⟩
  | .hbm, ⟨6, _⟩ => ⟨S8704x1024, .f32⟩
  | .hbm, ⟨7, _⟩ => ⟨S8704x1024, .f32⟩
  | .hbm, ⟨8, _⟩ => ⟨S8704x1024, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8704x1024 : Shape := ⟨2, ![8704, 1024]⟩
abbrev S1024x1024 : Shape := ⟨2, ![1024, 1024]⟩
abbrev S2176x1024 : Shape := ⟨2, ![2176, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8704x1024, .bf16⟩
  | .hbm, ⟨1, _⟩ => ⟨S1024x1024, .bf16⟩
  | .hbm, ⟨2, _⟩ => ⟨S8704x1024, .f32⟩
  | .local _ .vmem, ⟨0, _⟩ => ⟨S2176x1024, .bf16⟩
  | .local _ .vmem, ⟨1, _⟩ => ⟨S2176x1024, .bf16⟩
  | .local _ .vmem, ⟨2, _⟩ => ⟨S1024x1024, .bf16⟩
  | .local _ .vmem, ⟨3, _⟩ => ⟨S2176x1024, .f32⟩
  | .local _ .vmem, ⟨4, _⟩ => ⟨S2176x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8704x1024 : Shape := ⟨2, ![8704, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x1024, .bf16⟩
  | .hbm, ⟨2, _⟩ => ⟨S8704x1024, .f32⟩
  | .hbm, ⟨3, _⟩ => ⟨S1024x1024, .f32⟩
  | .hbm, ⟨4, _⟩ => ⟨S8704x1024, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S8704x1024 : Shape := ⟨2, ![8704, 1024]⟩
abbrev S1024x1024 : Shape := ⟨2, ![1024, 1024]⟩
abbrev S2176x1024 : Shape := ⟨2, ![2176, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8704x1024, .bf16⟩
  | .hbm, ⟨1, _⟩ => ⟨S1024x1024, .bf16⟩
  | .hbm, ⟨2, _⟩ => ⟨S8704x1024, .bf16⟩
  | .local _ .vmem, ⟨0, _⟩ => ⟨S2176x1024, .bf16⟩
  | .local _ .vmem, ⟨1, _⟩ => ⟨S2176x1024, .bf16⟩
  | .local _ .vmem, ⟨2, _⟩ => ⟨S1024x1024, .bf16⟩
  | .local _ .vmem, ⟨3, _⟩ => ⟨S2176x1024, .bf16⟩
  | .local _ .vmem, ⟨4, _⟩ => ⟨S2176x1024, .bf16⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel11Ideal.lean ====
abbrev S8704x1024 : Shape := ⟨2, ![8704, 1024]⟩
abbrev S1024x1024 : Shape := ⟨2, ![1024, 1024]⟩
abbrev S2176x1024 : Shape := ⟨2, ![2176, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8704x1024, .bf16⟩
  | .hbm, ⟨1, _⟩ => ⟨S1024x1024, .bf16⟩
  | .hbm, ⟨2, _⟩ => ⟨S8704x1024, .bf16⟩
  | .local _ .vmem, ⟨0, _⟩ => ⟨S2176x1024, .bf16⟩
  | .local _ .vmem, ⟨1, _⟩ => ⟨S2176x1024, .bf16⟩
  | .local _ .vmem, ⟨2, _⟩ => ⟨S1024x1024, .bf16⟩
  | .local _ .vmem, ⟨3, _⟩ => ⟨S2176x1024, .bf16⟩
  | .local _ .vmem, ⟨4, _⟩ => ⟨S2176x1024, .bf16⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8704x1024 : Shape := ⟨2, ![8704, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x1024, .bf16⟩
  | .hbm, ⟨2, _⟩ => ⟨S8704x1024, .f32⟩
  | .hbm, ⟨3, _⟩ => ⟨S1024x1024, .f32⟩
  | .hbm, ⟨4, _⟩ => ⟨S8704x1024, .f32⟩
  | .hbm, ⟨5, _⟩ => ⟨S8704x1024, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S8704x1024 : Shape := ⟨2, ![8704, 1024]⟩
abbrev S1024x512 : Shape := ⟨2, ![1024, 512]⟩
abbrev S8704x512 : Shape := ⟨2, ![8704, 512]⟩
abbrev S2176x1024 : Shape := ⟨2, ![2176, 1024]⟩
abbrev S2176x512 : Shape := ⟨2, ![2176, 512]⟩

abbrev nBuf : Space → Nat
  | .hbm => 3
  | .vmem => 5
  | .smem => 0
  | _ => 0

abbrev bufTy : (tb : Table) → Fin (tcTables nBuf tb) → BufTy
  | .hbm, ⟨0, _⟩ => ⟨S8704x1024, .bf16⟩
  | .hbm, ⟨1, _⟩ => ⟨S1024x512, .bf16⟩
  | .hbm, ⟨2, _⟩ => ⟨S8704x512, .bf16⟩
  | .local _ .vmem, ⟨0, _⟩ => ⟨S2176x1024, .bf16⟩
  | .local _ .vmem, ⟨1, _⟩ => ⟨S2176x1024, .bf16⟩
  | .local _ .vmem, ⟨2, _⟩ => ⟨S1024x512, .bf16⟩
  | .local _ .vmem, ⟨3, _⟩ => ⟨S2176x512, .bf16⟩
  | .local _ .vmem, ⟨4, _⟩ => ⟨S2176x512, .bf16⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2176x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel12Ideal.lean ====
abbrev S8704x1024 : Shape := ⟨2, ![8704, 1024]⟩
abbrev S1024x512 : Shape := ⟨2, ![1024, 512]⟩
abbrev S8704x512 : Shape := ⟨2, ![8704, 512]⟩
abbrev S2176x1024 : Shape := ⟨2, ![2176, 1024]⟩
abbrev S2176x512 : Shape := ⟨2, ![2176, 512]⟩

abbrev nBuf : Space → Nat
  | .hbm => 3
  | .vmem => 5
  | .smem => 0
  | _ => 0

abbrev bufTy : (tb : Table) → Fin (tcTables nBuf tb) → BufTy
  | .hbm, ⟨0, _⟩ => ⟨S8704x1024, .bf16⟩
  | .hbm, ⟨1, _⟩ => ⟨S1024x512, .bf16⟩
  | .hbm, ⟨2, _⟩ => ⟨S8704x512, .bf16⟩
  | .local _ .vmem, ⟨0, _⟩ => ⟨S2176x1024, .bf16⟩
  | .local _ .vmem, ⟨1, _⟩ => ⟨S2176x1024, .bf16⟩
  | .local _ .vmem, ⟨2, _⟩ => ⟨S1024x512, .bf16⟩
  | .local _ .vmem, ⟨3, _⟩ => ⟨S2176x512, .bf16⟩
  | .local _ .vmem, ⟨4, _⟩ => ⟨S2176x512, .bf16⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2176x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8704x1024 : Shape := ⟨2, ![8704, 1024]⟩
abbrev S1024x512 : Shape := ⟨2, ![1024, 512]⟩
abbrev S8704x512 : Shape := ⟨2, ![8704, 512]⟩

abbrev nBuf : Space → Nat
  | .hbm => 6
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x512, .bf16⟩
  | .hbm, ⟨2, _⟩ => ⟨S8704x1024, .f32⟩
  | .hbm, ⟨3, _⟩ => ⟨S1024x512, .f32⟩
  | .hbm, ⟨4, _⟩ => ⟨S8704x512, .f32⟩
  | .hbm, ⟨5, _⟩ => ⟨S8704x512, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S8704x1024 : Shape := ⟨2, ![8704, 1024]⟩
abbrev S1024x3072 : Shape := ⟨2, ![1024, 3072]⟩
abbrev S8704x3072 : Shape := ⟨2, ![8704, 3072]⟩
abbrev S2176x1024 : Shape := ⟨2, ![2176, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S1024x3072, .bf16⟩
  | .hbm, ⟨2, _⟩ => ⟨S8704x3072, .bf16⟩
  | .local _ .vmem, ⟨0, _⟩ => ⟨S2176x1024, .bf16⟩
  | .local _ .vmem, ⟨1, _⟩ => ⟨S2176x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2176x1024, .bf16⟩
  | .local _ .vmem, ⟨5, _⟩ => ⟨S2176x1024, .bf16⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8704x1024 : Shape := ⟨2, ![8704, 1024]⟩
abbrev S1024x3072 : Shape := ⟨2, ![1024, 3072]⟩
abbrev S8704x3072 : Shape := ⟨2, ![8704, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x3072, .bf16⟩
  | .hbm, ⟨2, _⟩ => ⟨S8704x1024, .f32⟩
  | .hbm, ⟨3, _⟩ => ⟨S1024x3072, .f32⟩
  | .hbm, ⟨4, _⟩ => ⟨S8704x3072, .f32⟩
  | .hbm, ⟨5, _⟩ => ⟨S8704x3072, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S2x4352x1024 : Shape := ⟨3, ![2, 4352, 1024]⟩
abbrev S2x4352x256 : Shape := ⟨3, ![2, 4352, 256]⟩
abbrev S2x8x1x4352 : Shape := ⟨4, ![2, 8, 1, 4352]⟩
abbrev S1x256x128 : Shape := ⟨3, ![1, 256, 128]⟩
abbrev S1x4352x128 : Shape := ⟨3, ![1, 4352, 128]⟩
abbrev S1x1x1x256 : Shape := ⟨4, ![1, 1, 1, 256]⟩
abbrev S256x128 : Shape := ⟨2, ![256, 128]⟩
abbrev S1x1024x128 : Shape := ⟨3, ![1, 1024, 128]⟩
abbrev S1024x128 : Shape := ⟨2, ![1024, 128]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S128x256 : Shape := ⟨2, ![128, 256]⟩
abbrev S1x256 : Shape := ⟨2, ![1, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x4352x1024, .bf16⟩
  | .hbm, ⟨1, _⟩ => ⟨S2x4352x256, .bf16⟩
  | .hbm, ⟨2, _⟩ => ⟨S2x4352x256, .bf16⟩
  | .hbm, ⟨3, _⟩ => ⟨S2x4352x1024, .bf16⟩
  | .hbm, ⟨4, _⟩ => ⟨S2x4352x1024, .bf16⟩
  | .hbm, ⟨5, _⟩ => ⟨S2x4352x1024, .bf16⟩
  | .hbm, ⟨6, _⟩ => ⟨S2x8x1x4352, .f32⟩
  | .local _ .vmem, ⟨0, _⟩ => ⟨S1x256x128, .bf16⟩
  | .local _ .vmem, ⟨1, _⟩ => ⟨S1x256x128, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x256x128, .bf16⟩
  | .local _ .vmem, ⟨11, _⟩ => ⟨S1x256x128, .bf16⟩
  | .local _ .vmem, ⟨12, _⟩ => ⟨S1x1x1x256, .f32⟩
  | .local _ .vmem, ⟨13, _⟩ => ⟨S1x1x1x256, .f32⟩
  | _, _ => ⟨S2x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 8, 17], ![false, false, false]⟩

def k0_cond1 (i : grid0.Coords) : BitVec 1 :=
  let arg2 : BitVec 32 := BitVec.ofNat 32 (i 2).val
  let c16_i32 : BitVec 32 := 16#32
  let v0 : BitVec 1 := Scalar.cmpi .slt arg2 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c16_i32_0 : BitVec 32 := 16#32
  let v3 : BitVec 1 := Scalar.cmpi .sge arg2 c16_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  let c0_i32_6 : BitVec 32 := 0#32
  ![arg0.toNat, c0_i32_5.toNat, v17.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  let c0_i32_6 : BitVec 32 := 0#32
  ![arg0.toNat, c0_i32_5.toNat, v17.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Kernel14Ideal.lean ====
variable {F : FTy → Type} [FloatOps F] [Named F]
def κ : String → Option EReal := fun
  | "c2" => some (((Real.log 2)⁻¹ * (11863283 / 134217728) : ℝ) : EReal)
  | "r2" => some (((Real.log 2)⁻¹ : ℝ) : EReal)
  | _ => none
-- ==== Reference14Ideal.lean ====
abbrev S2x4352x1024 : Shape := ⟨3, ![2, 4352, 1024]⟩
abbrev S2x4352x256 : Shape := ⟨3, ![2, 4352, 256]⟩
abbrev S2x4352x2x4x128 : Shape := ⟨5, ![2, 4352, 2, 4, 128]⟩
abbrev S2x4352x2x128 : Shape := ⟨4, ![2, 4352, 2, 128]⟩
abbrev S2x4096x2x4x128 : Shape := ⟨5, ![2, 4096, 2, 4, 128]⟩
abbrev S2x2x4352x4096x4 : Shape := ⟨5, ![2, 2, 4352, 4096, 4]⟩
abbrev S2x2x4x4096x4352 : Shape := ⟨5, ![2, 2, 4, 4096, 4352]⟩
abbrev S_ : Shape := ⟨0, ![]⟩
abbrev S2x2x4x4096 : Shape := ⟨4, ![2, 2, 4, 4096]⟩
abbrev S2x2x4x4096x1 : Shape := ⟨5, ![2, 2, 4, 4096, 1]⟩
abbrev S2x2x128x4x4096 : Shape := ⟨5, ![2, 2, 128, 4, 4096]⟩
abbrev S2x256x2x4x128 : Shape := ⟨5, ![2, 256, 2, 4, 128]⟩
abbrev S2x256x2x128 : Shape := ⟨4, ![2, 256, 2, 128]⟩
abbrev S2x2x256x256x4 : Shape := ⟨5, ![2, 2, 256, 256, 4]⟩
abbrev S2x2x4x256x256 : Shape := ⟨5, ![2, 2, 4, 256, 256]⟩
abbrev S2x2x4x256 : Shape := ⟨4, ![2, 2, 4, 256]⟩
abbrev S2x2x4x256x1 : Shape := ⟨5, ![2, 2, 4, 256, 1]⟩
abbrev S2x2x128x4x256 : Shape := ⟨5, ![2, 2, 128, 4, 256]⟩
abbrev S2x2x4x4352 : Shape := ⟨4, ![2, 2, 4, 4352]⟩
abbrev S2x8x1x4352 : Shape := ⟨4, ![2, 8, 1, 4352]⟩

abbrev nBuf : Space → Nat
  | .hbm => 118
  | .vmem => 0
  | .smem => 0
  | _ => 0

abbrev bufTy : (tb : Table) → Fin (tcTables nBuf tb) → BufTy
  | .hbm, ⟨0, _⟩ => ⟨S2x4352x1024, .bf16⟩
  | .hbm, ⟨1, _⟩ => ⟨S2x4352x256, .bf16⟩
  | .hbm, ⟨2, _⟩ => ⟨S2x4352x256, .bf16⟩
  | .hbm, ⟨3, _⟩ => ⟨S2x4352x1024, .bf16⟩
  | .hbm, ⟨4, _⟩ => ⟨S2x4352x1024, .f32⟩
  | .hbm, ⟨5, _⟩ => ⟨S2x4352x2x4x128, .f32⟩
  | .hbm, ⟨6, _⟩ => ⟨S2x4352x256, .f32⟩
  | .hbm, ⟨7, _⟩ => ⟨S2x4352x2x128, .f32⟩
  | .hbm, ⟨8, _⟩ => ⟨S2x4352x256, .f32⟩
  | .hbm, ⟨9, _⟩ => ⟨S2x4352x2x128, .f32⟩
  | .hbm, ⟨10, _⟩ => ⟨S2x4096x2x4x128, .f32⟩
  | .hbm, ⟨11, _⟩ => ⟨S2x2x4352x4096x4, .f32⟩
  | .hbm, ⟨12, _⟩ => ⟨S2x2x4x4096x4352, .f32⟩
  | .hbm, ⟨13, _⟩ => ⟨S_, .f32⟩
  | .hbm, ⟨14, _⟩ => ⟨S2x2x4x4096x4352, .f32⟩
  | .hbm, ⟨15, _⟩ => ⟨S2x2x4x4096x4352, .f32⟩
  | .hbm, ⟨16, _⟩ => ⟨S_, .f32⟩
  | .hbm, ⟨17, _⟩ => ⟨S2x2x4x4096, .f32⟩
  | .hbm, ⟨18, _⟩ => ⟨S_, .f32⟩
  | .hbm, ⟨19, _⟩ => ⟨S2x2x4x4096, .f32⟩
  | .hbm, ⟨20, _⟩ => ⟨S2x2x4x4096, .f32⟩
  | .hbm, ⟨21, _⟩ => ⟨S2x2x4x4096x1, .f32⟩
  | .hbm, ⟨22, _⟩ => ⟨S2x2x4x4096x4352, .f32⟩
  | .hbm, ⟨23, _⟩ => ⟨S2x2x4x4096x4352, .f32⟩
  | .hbm, ⟨24, _⟩ => ⟨S2x2x4x4096x4352, .f32⟩
  | .hbm, ⟨25, _⟩ => ⟨S_, .f32⟩
  | .hbm, ⟨26, _⟩ => ⟨S2x2x4x4096, .f32⟩
  | .hbm, ⟨27, _⟩ => ⟨S2x2x4x4096x1, .f32⟩
  | .hbm, ⟨28, _⟩ => ⟨S2x2x4x4096x4352, .f32⟩
  | .hbm, ⟨29, _⟩ => ⟨S2x2x4x4096x4352, .f32⟩
  | .hbm, ⟨30, _⟩ => ⟨S2x2x128x4x4096, .f32⟩
  | .hbm, ⟨31, _⟩ => ⟨S2x4096x2x4x128, .f32⟩
  | .hbm, ⟨32, _⟩ => ⟨S2x256x2x4x128, .f32⟩
  | .hbm, ⟨33, _⟩ => ⟨S2x256x2x128, .f32⟩
  | .hbm, ⟨34, _⟩ => ⟨S2x256x2x128, .f32⟩
  | .hbm, ⟨35, _⟩ => ⟨S2x2x256x256x4, .f32⟩
  | .hbm, ⟨36, _⟩ => ⟨S2x2x4x256x256, .f32⟩
  | .hbm, ⟨37, _⟩ => ⟨S_, .f32⟩
  | .hbm, ⟨38, _⟩ => ⟨S2x2x4x256x256, .f32⟩
  | .hbm, ⟨39, _⟩ => ⟨S2x2x4x256x256, .f32⟩
  | .hbm, ⟨40, _⟩ => ⟨S_, .f32⟩
  | .hbm, ⟨41, _⟩ => ⟨S2x2x4x256, .f32⟩
  | .hbm, ⟨42, _⟩ => ⟨S_, .f32⟩
  | .hbm, ⟨43, _⟩ => ⟨S2x2x4x256, .f32⟩
  | .hbm, ⟨44, _⟩ => ⟨S2x2x4x256, .f32⟩
  | .hbm, ⟨45, _⟩ => ⟨S2x2x4x256x1, .f32⟩
  | .hbm, ⟨46, _⟩ => ⟨S2x2x4x256x256, .f32⟩
  | .hbm, ⟨47, _⟩ => ⟨S2x2x4x256x256, .f32⟩
  | .hbm, ⟨48, _⟩ => ⟨S2x2x4x256x256, .f32⟩
  | .hbm, ⟨49, _⟩ => ⟨S_, .f32⟩
  | .hbm, ⟨50, _⟩ => ⟨S2x2x4x256, .f32⟩
  | .hbm, ⟨51, _⟩ => ⟨S2x2x4x256x1, .f32⟩
  | .hbm, ⟨52, _⟩ => ⟨S2x2x4x256x256, .f32⟩
  | .hbm, ⟨53, _⟩ => ⟨S2x2x4x256x256, .f32⟩
  | .hbm, ⟨54, _⟩ => ⟨S2x2x128x4x256, .f32⟩
  | .hbm, ⟨55, _⟩ => ⟨S2x256x2x4x128, .f32⟩
  | .hbm, ⟨56, _⟩ => ⟨S2x4352x2x4x128, .f32⟩
  | .hbm, ⟨57, _⟩ => ⟨S2x4352x1024, .f32⟩
  | .hbm, ⟨58, _⟩ => ⟨S2x4096x2x4x128, .f32⟩
  | .hbm, ⟨59, _⟩ => ⟨S2x2x4352x4096x4, .f32⟩
  | .hbm, ⟨60, _⟩ => ⟨S2x2x4x4096x4352, .f32⟩
  | .hbm, ⟨61, _⟩ => ⟨S_, .f32⟩
  | .hbm, ⟨62, _⟩ => ⟨S2x2x4x4096x4352, .f32⟩
  | .hbm, ⟨63, _⟩ => ⟨S2x2x4x4096x4352, .f32⟩
  | .hbm, ⟨64, _⟩ => ⟨S_, .f32⟩
  | .hbm, ⟨65, _⟩ => ⟨S2x2x4x4096, .f32⟩
  | .hbm, ⟨66, _⟩ => ⟨S2x2x4x4096x1, .f32⟩
  | .hbm, ⟨67, _⟩ => ⟨S2x2x4x4096x4352, .f32⟩
  | .hbm, ⟨68, _⟩ => ⟨S2x2x4x4096x4352, .f32⟩
  | .hbm, ⟨69, _⟩ => ⟨S2x2x4x4096x4352, .f32⟩
  | .hbm, ⟨70, _⟩ => ⟨S_, .f32⟩
  | .hbm, ⟨71, _⟩ => ⟨S2x2x4x4096, .f32⟩
  | .hbm, ⟨72, _⟩ => ⟨S2x2x4x4096x1, .f32⟩
  | .hbm, ⟨73, _⟩ => ⟨S2x2x4x4096x1, .f32⟩
  | .hbm, ⟨74, _⟩ => ⟨S2x2x4x4096x1, .f32⟩
  | .hbm, ⟨75, _⟩ => ⟨S_, .f32⟩
  | .hbm, ⟨76, _⟩ => ⟨S_, .f32⟩
  | .hbm, ⟨77, _⟩ => ⟨S2x2x4x4096x1, .f32⟩
  | .hbm, ⟨78, _⟩ => ⟨S2x2x4x4096x1, .f32⟩
  | .hbm, ⟨79, _⟩ => ⟨S2x2x4x4096, .f32⟩
  | .hbm, ⟨80, _⟩ => ⟨S2x256x2x4x128, .f32⟩
  | .hbm, ⟨81, _⟩ => ⟨S2x256x2x128, .f32⟩
  | .hbm, ⟨82, _⟩ => ⟨S2x2x256x256x4, .f32⟩
  | .hbm, ⟨83, _⟩ => ⟨S2x2x4x256x256, .f32⟩
  | .hbm, ⟨84, _⟩ => ⟨S_, .f32⟩
  | .hbm, ⟨85, _⟩ => ⟨S2x2x4x256x256, .f32⟩
  | .hbm, ⟨86, _⟩ => ⟨S2x2x4x256x256, .f32⟩
  | .hbm, ⟨87, _⟩ => ⟨S_, .f32⟩
  | .hbm, ⟨88, _⟩ => ⟨S2x2x4x256, .f32⟩
  | .hbm, ⟨89, _⟩ => ⟨S2x2x4x256x1, .f32⟩
  | .hbm, ⟨90, _⟩ => ⟨S2x2x4x256x256, .f32⟩
  | .hbm, ⟨91, _⟩ => ⟨S2x2x4x256x256, .f32⟩
  | .hbm, ⟨92, _⟩ => ⟨S2x2x4x256x256, .f32⟩
  | .hbm, ⟨93, _⟩ => ⟨S_, .f32⟩
  | .hbm, ⟨94, _⟩ => ⟨S2x2x4x256, .f32⟩
  | .hbm, ⟨95, _⟩ => ⟨S2x2x4x256x1, .f32⟩
  | .hbm, ⟨96, _⟩ => ⟨S2x2x4x256x1, .f32⟩
  | .hbm, ⟨97, _⟩ => ⟨S2x2x4x256x1, .f32⟩
  | .hbm, ⟨98, _⟩ => ⟨S_, .f32⟩
  | .hbm, ⟨99, _⟩ => ⟨S_, .f32⟩
  | .hbm, ⟨100, _⟩ => ⟨S2x2x4x256x1, .f32⟩
  | .hbm, ⟨101, _⟩ => ⟨S2x2x4x256x1, .f32⟩
  | .hbm, ⟨102, _⟩ => ⟨S2x2x4x256, .f32⟩
  | .hbm, ⟨103, _⟩ => ⟨S2x2x4x4352, .f32⟩
  | .hbm, ⟨104, _⟩ => ⟨S2x4352x1024, .f32⟩
  | .hbm, ⟨105, _⟩ => ⟨S2x4352x1024, .f32⟩
  | .hbm, ⟨106, _⟩ => ⟨S2x4352x1024, .f32⟩
  | .hbm, ⟨107, _⟩ => ⟨S_, .f32⟩
  | .hbm, ⟨108, _⟩ => ⟨S2x4352x1024, .f32⟩
  | .hbm, ⟨109, _⟩ => ⟨S2x4352x1024, .f32⟩
  | .hbm, ⟨110, _⟩ => ⟨S_, .f32⟩
  | .hbm, ⟨111, _⟩ => ⟨S2x4352x1024, .f32⟩
  | .hbm, ⟨112, _⟩ => ⟨S2x4352x1024, .f32⟩
  | .hbm, ⟨113, _⟩ => ⟨S2x4352x1024, .f32⟩
  | .hbm, ⟨114, _⟩ => ⟨S2x4352x1024, .f32⟩
  | .hbm, ⟨115, _⟩ => ⟨S2x4352x1024, .bf16⟩
  | .hbm, ⟨116, _⟩ => ⟨S2x4352x1024, .bf16⟩
  | .hbm, ⟨117, _⟩ => ⟨S2x8x1x4352, .f32⟩
  | _, _ => ⟨S2x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_9 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_10 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_11 : Ref sig .tc := ⟨.hbm, 84, rfl⟩
abbrev main_v68 : Ref sig .tc := ⟨.hbm, 85, rfl⟩
abbrev main_v69 : Ref sig .tc := ⟨.hbm, 86, rfl⟩
abbrev main_cst_12 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_13 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_14 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_call0_v0 : Ref sig .tc := ⟨.hbm, 105, rfl⟩
abbrev main_call0_v1 : Ref sig .tc := ⟨.hbm, 106, rfl⟩
abbrev main_call0_cst : Ref sig .tc := ⟨.hbm, 107, rfl⟩
abbrev main_call0_v2 : Ref sig .tc := ⟨.hbm, 108, rfl⟩
abbrev main_call0_v3 : Ref sig .tc := ⟨.hbm, 109, rfl⟩
abbrev main_call0_cst_0 : Ref sig .tc := ⟨.hbm, 110, rfl⟩
abbrev main_call0_v4 : Ref sig .tc := ⟨.hbm, 111, rfl⟩
abbrev main_call0_v5 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩

abbrev nD : Nat := 1
abbrev τ : Topo := Topo.v7x

variable {F : FTy → Type} [FloatOps F]
-- ==== Proof.Softmax.lean ====
/- The real-number side of the claim: one softmax row, its normalised weights and its gradient, and how the
   operations on extended reals act on finite numbers. Nothing here mentions a program. -/
module

public import Idealize.ShloMosaic.PureOps.Ideal
public import Idealize.ShloMosaic.PureOps.Ideal.Laws
public import Idealize.ShloMosaic.Lib.IdealHost

@[expose] public section

noncomputable section

namespace Attn

open Idealize.ShloMosaic

/-! ## Extended reals that are finite -/

/-- A sum of finite numbers is finite. -/
theorem coe_sum {ι : Type*} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

theorem exp_coe (x : ℝ) : Ideal.exp (x : EReal) = ((Real.exp x : ℝ) : EReal) := rfl

theorem exp2_coe (x : ℝ) : Ideal.exp2 (x : EReal) = (((2 : ℝ) ^ x : ℝ) : EReal) := rfl

theorem log_coe {x : ℝ} (h : 0 < x) : Ideal.log (x : EReal) = ((Real.log x : ℝ) : EReal) := by
  show (if x ≤ 0 then (⊥ : EReal) else (Real.log x : EReal)) = _
  rw [if_neg (not_le.mpr h)]

theorem div_coe {x y : ℝ} (h : y ≠ 0) : Ideal.div (x : EReal) (y : EReal) = ((x / y : ℝ) : EReal) := by
  rw [Ideal.div_coe h, ← EReal.coe_mul, mul_one_div]

/-- The logistic function. -/
def sig (x : ℝ) : ℝ := 1 / (1 + Real.exp (-x))

theorem one_add_exp_ne (x : ℝ) : 1 + Real.exp x ≠ 0 := by positivity

theorem logistic_coe (x : ℝ) : Ideal.logistic (x : EReal) = ((sig x : ℝ) : EReal) := by
  unfold Ideal.logistic sig
  rw [← EReal.coe_neg, exp_coe, ← EReal.coe_one, ← EReal.coe_add, div_coe (one_add_exp_ne _)]

/-- The printed `0.0883883461`: the binary32 number nearest to `1 / √128`. -/
def sc : ℝ := 11863283 / 134217728

/-- A positive normal binary32 pattern as a real number. -/
theorem ofBits_normal (b : BitVec 32) (ex fr : ℕ) (hs : (b.extractLsb' 31 1 == 1#1) = false)
    (he : (b.extractLsb' 23 8).toNat = ex) (hf : (b.extractLsb' 0 23).toNat = fr) (h0 : ex ≠ 0) (h1 : ex ≠ 255) :
    Ideal.ofBits .f32 b = (((2 ^ 23 + fr : ℕ) * (2 : ℝ) ^ ((ex : ℤ) - 127 - 23) : ℝ) : EReal) := by
  show Ideal.ieee 8 23 b = _
  unfold Ideal.ieee
  simp only [show 8 + 23 = 31 from rfl, hs, he, hf]
  rw [if_neg (by norm_num; exact h1), if_neg h0]
  norm_num

theorem ofBits_sc : Ideal.ofBits .f32 0x3DB504F3#32 = ((sc : ℝ) : EReal) := by
  rw [ofBits_normal _ 123 3474675 (by decide) (by decide) (by decide) (by decide) (by decide)]
  congr 1
  norm_num [sc]

theorem ofBits_two : Ideal.ofBits .f32 0x40000000#32 = ((2 : ℝ) : EReal) := by
  rw [ofBits_normal _ 128 0 (by decide) (by decide) (by decide) (by decide) (by decide)]
  congr 1
  norm_num

theorem ofBits_one : Ideal.ofBits .f32 0x3F800000#32 = ((1 : ℝ) : EReal) := by
  rw [ofBits_normal _ 127 0 (by decide) (by decide) (by decide) (by decide) (by decide)]
  congr 1
  norm_num

theorem ofBits_neg_inf : Ideal.ofBits .f32 0xFF800000#32 = ⊥ := by
  show Ideal.ieee 8 23 (0xFF800000#32) = _
  unfold Ideal.ieee
  rw [if_pos (by decide), if_pos (by decide), if_pos (by decide)]

theorem ofBits_inf : Ideal.ofBits .f32 0x7F800000#32 = ⊤ := by
  show Ideal.ieee 8 23 (0x7F800000#32) = _
  unfold Ideal.ieee
  rw [if_pos (by decide), if_pos (by decide), if_neg (by decide)]

/-! ## One softmax row -/

section row

variable {J : Type} [Fintype J] [Nonempty J]

/-- The largest score of a row. -/
def top (s : J → ℝ) : ℝ := Finset.univ.sup' Finset.univ_nonempty s

/-- A maximum taken from `-∞` over finite numbers is the largest of them. -/
theorem fold_max_coe (s : J → ℝ) :
    Finset.univ.fold max (⊥ : EReal) (fun j => ((s j : ℝ) : EReal)) = ((top s : ℝ) : EReal) := by
  apply le_antisymm
  · rw [Finset.fold_max_le]
    exact ⟨bot_le, fun j hj => EReal.coe_le_coe_iff.mpr (Finset.le_sup' s hj)⟩
  · obtain ⟨j, hj, e⟩ := Finset.exists_mem_eq_sup' (Finset.univ_nonempty (α := J)) s
    rw [Finset.le_fold_max]
    exact Or.inr ⟨j, hj, by rw [top, e]⟩

/-- A score's weight before normalisation. -/
def wgt (s : J → ℝ) (j : J) : ℝ := Real.exp (s j - top s)

/-- The sum of a row's weights. -/
def tot (s : J → ℝ) : ℝ := ∑ j, wgt s j

/-- A score's softmax. -/
def prob (s : J → ℝ) (j : J) : ℝ := wgt s j / tot s

theorem tot_pos (s : J → ℝ) : 0 < tot s :=
  Finset.sum_pos (fun _ _ => Real.exp_pos _) Finset.univ_nonempty

theorem tot_ne (s : J → ℝ) : tot s ≠ 0 := (tot_pos s).ne'

/-- Softmax from the saved base-2 log-sum of the row. -/
theorem two_rpow_prob (s : J → ℝ) (j : J) (x : ℝ) (hx : s j = x * sc) :
    (2 : ℝ) ^ (x * ((Real.log 2)⁻¹ * sc) - (top s + Real.log (tot s)) / Real.log 2) = prob s j := by
  have h2 : Real.log 2 ≠ 0 := (Real.log_pos one_lt_two).ne'
  rw [Real.rpow_def_of_pos two_pos]
  have : Real.log 2 * (x * ((Real.log 2)⁻¹ * sc) - (top s + Real.log (tot s)) / Real.log 2)
      = (s j - top s) - Real.log (tot s) := by
    rw [hx]; field_simp; ring
  rw [this, Real.exp_sub, Real.exp_log (tot_pos s)]
  rfl

/-- The gradient with respect to a score, as the quotient rule writes it and as the kernel does. -/
theorem score_grad (s dp : J → ℝ) (j : J) :
    (dp j / tot s + -(∑ i, dp i * (1 / (tot s * tot s)) * wgt s i)) * wgt s j
      = prob s j * (dp j - ∑ i, prob s i * dp i) := by
  have h := tot_ne s
  have e : ∑ i, dp i * (1 / (tot s * tot s)) * wgt s i = (∑ i, prob s i * dp i) / tot s := by
    rw [Finset.sum_div]
    refine Finset.sum_congr rfl fun i _ => ?_
    unfold prob; field_simp
  rw [e]
  generalize ∑ i, prob s i * dp i = D
  unfold prob; field_simp; ring

/-- The row's output against a cotangent is the weights against the weights' cotangents. -/
theorem delta_eq {D : Type} [Fintype D] (p : J → ℝ) (V : J → D → ℝ) (u : D → ℝ) :
    ∑ d, u d * ∑ j, V j d * p j = ∑ j, p j * ∑ d, u d * V j d := by
  simp only [Finset.mul_sum]
  rw [Finset.sum_comm]
  exact Finset.sum_congr rfl fun _ _ => Finset.sum_congr rfl fun _ _ => by ring

end row

end Attn
-- ==== Proof.Spec.lean ====
/- The attention's gradient as a formula over real numbers: which keys a row attends to, its softmax, and the four
   gradients. Rows and keys are numbered `0 … 4351`; the first 4096 are latent, the last 256 the context. A latent row
   attends to every key, a context row to the context's keys. -/
module

public import proofs.«01_k».proof.Proof.Softmax

@[expose] public section

noncomputable section

namespace Attn

/-- The column of component `d` of query head `g` of key head `h` in a row of 1024. -/
def qcol (h : Fin 2) (g : Fin 4) (d : Fin 128) : Fin 1024 := ⟨(h.val * 4 + g.val) * 128 + d.val, by omega⟩

/-- The column of component `d` of key head `h` in a row of 256. -/
def kcol (h : Fin 2) (d : Fin 128) : Fin 256 := ⟨h.val * 128 + d.val, by omega⟩

/-- Latent position `t`. -/
def lat (t : Fin 4096) : Fin 4352 := ⟨t.val, by omega⟩

/-- Context position `j`. -/
def cx (j : Fin 256) : Fin 4352 := ⟨4096 + j.val, by omega⟩

/-- The five arguments as real arrays. -/
structure Args where
  q : Fin 2 → Fin 4352 → Fin 1024 → ℝ
  k : Fin 2 → Fin 4352 → Fin 256 → ℝ
  v : Fin 2 → Fin 4352 → Fin 256 → ℝ
  gate : Fin 2 → Fin 4352 → Fin 1024 → ℝ
  dz : Fin 2 → Fin 4352 → Fin 1024 → ℝ

namespace Args

variable (A : Args) (b : Fin 2) (h : Fin 2) (g : Fin 4)

/-- A query against a key, before scaling. -/
def dot (t j : Fin 4352) : ℝ := ∑ d : Fin 128, A.k b j (kcol h d) * A.q b t (qcol h g d)

/-- The scaled score. -/
def score (t j : Fin 4352) : ℝ := A.dot b h g t j * sc

/-- A latent row's scores. -/
def latRow (t : Fin 4352) : Fin 4352 → ℝ := fun j => A.score b h g t j

/-- A context row's scores. -/
def ctxRow (t : Fin 4352) : Fin 256 → ℝ := fun j => A.score b h g t (cx j)

/-- The row's log-sum in base 2, which the forward pass saves. -/
def lse2 (t : Fin 4352) : ℝ :=
  if t.val < 4096 then (top (A.latRow b h g t) + Real.log (tot (A.latRow b h g t))) / Real.log 2
  else (top (A.ctxRow b h g t) + Real.log (tot (A.ctxRow b h g t))) / Real.log 2

/-- The attention weight of row `t` on key `j`. -/
def P (t j : Fin 4352) : ℝ :=
  if t.val < 4096 then prob (A.latRow b h g t) j
  else if hj : 4096 ≤ j.val then prob (A.ctxRow b h g t) ⟨j.val - 4096, by omega⟩ else 0

/-- The attention's output. -/
def y (t : Fin 4352) (d : Fin 128) : ℝ := ∑ j : Fin 4352, A.v b j (kcol h d) * A.P b h g t j

/-- The cotangent that reaches the attention's output through the gate. -/
def u (t : Fin 4352) (d : Fin 128) : ℝ :=
  A.dz b t (qcol h g d) * (A.gate b t (qcol h g d) * sig (A.gate b t (qcol h g d)))

/-- The cotangent of a weight. -/
def dp (t j : Fin 4352) : ℝ := ∑ d : Fin 128, A.u b h g t d * A.v b j (kcol h d)

/-- The part of a score's gradient that is common to the row. -/
def delta (t : Fin 4352) : ℝ := ∑ d : Fin 128, A.u b h g t d * A.y b h g t d

/-- A scaled score's gradient. -/
def ds (t j : Fin 4352) : ℝ := A.P b h g t j * (A.dp b h g t j - A.delta b h g t)

/-- The query's gradient. -/
def dq (t : Fin 4352) (d : Fin 128) : ℝ := (∑ j : Fin 4352, A.ds b h g t j * A.k b j (kcol h d)) * sc

/-- One query head's share of the key's gradient. -/
def dkOf (j : Fin 4352) (d : Fin 128) : ℝ := ∑ t : Fin 4352, A.ds b h g t j * A.q b t (qcol h g d) * sc

/-- One query head's share of the value's gradient. -/
def dvOf (j : Fin 4352) (d : Fin 128) : ℝ := ∑ t : Fin 4352, A.P b h g t j * A.u b h g t d

/-- The key's gradient. -/
def dk (j : Fin 4352) (d : Fin 128) : ℝ := ∑ g : Fin 4, A.dkOf b h g j d

/-- The value's gradient. -/
def dv (j : Fin 4352) (d : Fin 128) : ℝ := ∑ g : Fin 4, A.dvOf b h g j d

/-- The gate's gradient. -/
def dg (t : Fin 4352) (d : Fin 128) : ℝ :=
  A.dz b t (qcol h g d) * A.y b h g t d *
    (sig (A.gate b t (qcol h g d)) * (1 + A.gate b t (qcol h g d) * (1 - sig (A.gate b t (qcol h g d)))))

/-! ## The two kinds of row -/

theorem P_lat (t j : Fin 4352) (ht : t.val < 4096) : A.P b h g t j = prob (A.latRow b h g t) j := if_pos ht

theorem P_cx (t : Fin 4352) (j : Fin 256) (ht : ¬ t.val < 4096) :
    A.P b h g t (cx j) = prob (A.ctxRow b h g t) j := by
  unfold P
  have hj : 4096 ≤ (cx j).val := Nat.le_add_right _ _
  have e : (⟨(cx j).val - 4096, by omega⟩ : Fin 256) = j := Fin.ext (Nat.add_sub_cancel_left 4096 j.val)
  rw [if_neg ht, dif_pos hj, e]

theorem P_zero (t j : Fin 4352) (ht : ¬ t.val < 4096) (hj : j.val < 4096) : A.P b h g t j = 0 := by
  unfold P
  rw [if_neg ht]
  exact dif_neg (by omega)

theorem ds_zero (t j : Fin 4352) (ht : ¬ t.val < 4096) (hj : j.val < 4096) : A.ds b h g t j = 0 := by
  unfold ds; rw [P_zero A b h g t j ht hj, zero_mul]

/-- The kernel's weight from the saved log-sum, latent rows. -/
theorem two_rpow_lat (t j : Fin 4352) (ht : t.val < 4096) :
    (2 : ℝ) ^ (A.dot b h g t j * ((Real.log 2)⁻¹ * sc) - A.lse2 b h g t) = A.P b h g t j := by
  rw [P_lat A b h g t j ht, lse2, if_pos ht]
  exact two_rpow_prob _ _ _ rfl

/-- The kernel's weight from the saved log-sum, context rows. -/
theorem two_rpow_cx (t : Fin 4352) (j : Fin 256) (ht : ¬ t.val < 4096) :
    (2 : ℝ) ^ (A.dot b h g t (cx j) * ((Real.log 2)⁻¹ * sc) - A.lse2 b h g t) = A.P b h g t (cx j) := by
  rw [P_cx A b h g t j ht, lse2, if_neg ht]
  exact two_rpow_prob _ _ _ rfl

/-- The kernel's weight from the saved log-sum, where the kernel computes it. -/
theorem two_rpow (t j : Fin 4352) (ok : t.val < 4096 ∨ 4096 ≤ j.val) :
    (2 : ℝ) ^ (A.dot b h g t j * ((Real.log 2)⁻¹ * sc) - A.lse2 b h g t) = A.P b h g t j := by
  by_cases ht : t.val < 4096
  · exact A.two_rpow_lat b h g t j ht
  · have hj : 4096 ≤ j.val := ok.resolve_left ht
    have e : cx ⟨j.val - 4096, by omega⟩ = j := Fin.ext (Nat.add_sub_cancel' hj)
    rw [← e]
    exact A.two_rpow_cx b h g t _ ht

/-- A sum over all keys is the sum over the latent ones and the sum over the context's. -/
theorem sum_split (f : Fin 4352 → ℝ) : ∑ j, f j = (∑ j : Fin 4096, f (lat j)) + ∑ j : Fin 256, f (cx j) :=
  Fin.sum_univ_add (a := 4096) (b := 256) f

/-- A context row's sum over keys is over the context's keys. -/
theorem sum_ctx (f : Fin 4352 → ℝ) (hf : ∀ j, j.val < 4096 → f j = 0) : ∑ j, f j = ∑ j : Fin 256, f (cx j) := by
  rw [sum_split, Finset.sum_eq_zero (fun j _ => hf _ j.isLt), zero_add]

end Args

end Attn
-- ==== Proof.Block.lean ====
/- What the kernel does with one chunk of keys against one block of 256 rows, as array functions, and what they hold when
   their operands hold the attention's numbers. `L` is a chunk of 1024 keys, `C` the 256 keys of the context. -/
module

public import proofs.«01_k».proof.Proof.Gen.KernelIdeal.Skeleton
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.KernelIdeal.Block

open Cert.KernelIdeal Cert.KernelIdeal.Gen

/-- The kernel's scale of the scores, in base 2. -/
theorem c2_eq : (Named.named κ "c2" 0x3E0293EE#32 : Ideal .f32) = (((Real.log 2)⁻¹ * Attn.sc : ℝ) : EReal) := rfl

/-! ## The row block's operands -/

/-- The queries of a row block. -/
def qB (x : Vec Ideal S1x256x128 .bf16) : FVec Ideal S256x128 .bf16 := k0_pay9 x

/-- The cotangent of the attention's output. -/
def uB (gt z : Vec Ideal S1x256x128 .bf16) : FVec Ideal S256x128 .bf16 := k0_pay16 gt z

/-- The log-sums. -/
def zB (l : Vec Ideal S1x1x1x256 .f32) : FVec Ideal S1x256 .f32 := k0_pay17 l

/-- Each row's sum of cotangent times output. -/
def eB (gt z o : Vec Ideal S1x256x128 .bf16) : FVec Ideal S1x256 .f32 := k0_pay18 gt z o

/-- The gate's gradient. -/
def gB (gt z o : Vec Ideal S1x256x128 .bf16) : Vec Ideal S1x256x128 .bf16 := k0_pay8 (k0_pay15 gt z o)

/-- The queries' gradient out of the sum over keys. -/
def outB (a : FVec Ideal S128x256 .f32) : Vec Ideal S1x256x128 .bf16 :=
  shapeCast S1x256x128 (truncf .bf16 (mulf (transpose S256x128 [1, 0] a transposes_S128x256_p1_0_S256x128)
    (broadcast S256x128 (Scalar.ofBits .f32 0x3DB504F3#32))) bitsLt_bf16_f32) shapeCasts_S256x128_S1x256x128

theorem qB_at (x : Vec Ideal S1x256x128 .bf16) (r : Fin 256) (d : Fin 128) : qB x (ix2 r d) = x (ix3 0 r d) := by
  pointwise [qB, k0_pay9]

theorem zB_at (x : Vec Ideal S1x1x1x256 .f32) (r : Fin 256) : zB x (ix2 0 r) = x (ix4 0 0 0 r) := by
  pointwise [zB, k0_pay17]

theorem gl_at (gt z : Vec Ideal S1x256x128 .bf16) (r : Fin 256) (d : Fin 128) :
    (k0_pay14 gt z (ix2 r d) : EReal)
      = (z (ix3 0 r d) : EReal) * ((gt (ix3 0 r d) : EReal) * Ideal.logistic (gt (ix3 0 r d))) := by
  pointwise [k0_pay14, k0_pay13, k0_pay10, k0_pay11]

theorem uB_at (gt z : Vec Ideal S1x256x128 .bf16) (r : Fin 256) (d : Fin 128) :
    (uB gt z (ix2 r d) : EReal)
      = (z (ix3 0 r d) : EReal) * ((gt (ix3 0 r d) : EReal) * Ideal.logistic (gt (ix3 0 r d))) := gl_at gt z r d

theorem eB_at (gt z o : Vec Ideal S1x256x128 .bf16) (r : Fin 256) :
    (eB gt z o (ix2 0 r) : EReal) = ∑ d, (k0_pay14 gt z (ix2 r d) : EReal) * (o (ix3 0 r d) : EReal) := by
  pointwise [eB, k0_pay18, k0_pay12]

theorem gB_at (gt z o : Vec Ideal S1x256x128 .bf16) (r : Fin 256) (d : Fin 128) :
    (gB gt z o (ix3 0 r d) : EReal)
      = (z (ix3 0 r d) : EReal) * (o (ix3 0 r d) : EReal) * (Ideal.logistic (gt (ix3 0 r d)) *
          (Ideal.ofBits .f32 0x3F800000#32 + (gt (ix3 0 r d) : EReal) * (Ideal.ofBits .f32 0x3F800000#32 - Ideal.logistic (gt (ix3 0 r d))))) := by
  pointwise [gB, k0_pay8, k0_pay15, k0_pay12, k0_pay13, k0_pay10, k0_pay11]

theorem outB_at (a : FVec Ideal S128x256 .f32) (r : Fin 256) (d : Fin 128) :
    (outB a (ix3 0 r d) : EReal) = (a (ix2 d r) : EReal) * Ideal.ofBits .f32 0x3DB504F3#32 := by
  pointwise [outB]

/-! ## In the attention's numbers -/

section Rows

variable (A : Attn.Args) (b h : Fin 2) (g : Fin 4) (row : Fin 256 → Fin 4352)
variable {gt z o : Vec Ideal S1x256x128 .bf16}
  (hgt : ∀ r d, (gt (ix3 0 r d) : EReal) = ((A.gate b (row r) (Attn.qcol h g d) : ℝ) : EReal))
  (hz : ∀ r d, (z (ix3 0 r d) : EReal) = ((A.dz b (row r) (Attn.qcol h g d) : ℝ) : EReal))
  (ho : ∀ r d, (o (ix3 0 r d) : EReal) = ((A.y b h g (row r) d : ℝ) : EReal))

include hgt hz in
theorem uB_eq (r : Fin 256) (d : Fin 128) : (uB gt z (ix2 r d) : EReal) = ((A.u b h g (row r) d : ℝ) : EReal) := by
  rw [uB_at, hgt, hz, Attn.logistic_coe, ← EReal.coe_mul, ← EReal.coe_mul]
  rfl

include hgt hz ho in
theorem eB_eq (r : Fin 256) : (eB gt z o (ix2 0 r) : EReal) = ((A.delta b h g (row r) : ℝ) : EReal) := by
  rw [eB_at]
  refine (Finset.sum_congr rfl fun d _ => ?_).trans (Attn.coe_sum Finset.univ fun d => A.u b h g (row r) d * A.y b h g (row r) d)
  rw [ho, EReal.coe_mul]
  exact congrArg (· * _) (uB_eq A b h g row hgt hz r d)

include hgt hz ho in
theorem gB_eq (r : Fin 256) (d : Fin 128) : (gB gt z o (ix3 0 r d) : EReal) = ((A.dg b h g (row r) d : ℝ) : EReal) := by
  rw [gB_at, hgt, hz, ho, Attn.logistic_coe, Attn.ofBits_one, ← EReal.coe_mul, ← EReal.coe_sub, ← EReal.coe_mul, ← EReal.coe_add,
    ← EReal.coe_mul, ← EReal.coe_mul]
  rfl

end Rows

/-! ## A chunk of 1024 keys -/

/-- The scores in base 2. -/
def sL (q : FVec Ideal S256x128 .bf16) (k : Vec Ideal S1x1024x128 .bf16) : FVec Ideal S1024x256 .f32 :=
  mulf (matmul dot_S1024x128_S256x128_S1024x256_1_1_0_0_n_n none (shapeCast S1024x128 k shapeCasts_S1x1024x128_S1024x128 : FVec Ideal S1024x128 .bf16) q
    (constant S1024x256 .f32 0x00000000#32)) (broadcast S1024x256 (Named.named κ "c2" 0x3E0293EE#32))

/-- The weights' cotangents. -/
def cL (u : FVec Ideal S256x128 .bf16) (v : Vec Ideal S1x1024x128 .bf16) : FVec Ideal S1024x256 .f32 :=
  matmul dot_S1024x128_S256x128_S1024x256_1_1_0_0_n_n none (shapeCast S1024x128 v shapeCasts_S1x1024x128_S1024x128 : FVec Ideal S1024x128 .bf16) u
    (constant S1024x256 .f32 0x00000000#32)

/-- The weights. -/
def pL (z : FVec Ideal S1x256 .f32) (s : FVec Ideal S1024x256 .f32) : FVec Ideal S1024x256 .f32 :=
  exp2 (subf s (broadcastTo S1024x256 z broadcasts_S1x256_S1024x256))

/-- The scores' gradients. -/
def dL (z e : FVec Ideal S1x256 .f32) (s c : FVec Ideal S1024x256 .f32) : FVec Ideal S1024x256 .bf16 :=
  truncf .bf16 (mulf (pL z s) (subf c (broadcastTo S1024x256 e broadcasts_S1x256_S1024x256))) bitsLt_bf16_f32

/-- The values' gradient, added to what was there. -/
def vL (u : FVec Ideal S256x128 .bf16) (p : FVec Ideal S1024x256 .f32) (was : Vec Ideal S1x1024x128 .f32) : Vec Ideal S1x1024x128 .f32 :=
  shapeCast S1x1024x128 (addf (shapeCast S1024x128 was shapeCasts_S1x1024x128_S1024x128)
    (matmul dot_S1024x256_S256x128_S1024x128_1_0_0_1_n_n none (truncf .bf16 p bitsLt_bf16_f32) u (constant S1024x128 .f32 0x00000000#32)))
    shapeCasts_S1024x128_S1x1024x128

/-- The keys' gradient, added to what was there. -/
def kL (q : FVec Ideal S256x128 .bf16) (s : FVec Ideal S1024x256 .bf16) (was : Vec Ideal S1x1024x128 .f32) : Vec Ideal S1x1024x128 .f32 :=
  shapeCast S1x1024x128 (addf (shapeCast S1024x128 was shapeCasts_S1x1024x128_S1024x128)
    (mulf (matmul dot_S1024x256_S256x128_S1024x128_1_0_0_1_n_n none s q (constant S1024x128 .f32 0x00000000#32))
      (broadcast S1024x128 (Scalar.ofBits .f32 0x3DB504F3#32)))) shapeCasts_S1024x128_S1x1024x128

/-- The chunk's part of the queries' gradient, before scaling. -/
def qL (kt : FVec Ideal S128x1024 .bf16) (s : FVec Ideal S1024x256 .bf16) : FVec Ideal S128x256 .f32 :=
  matmul dot_S128x1024_S1024x256_S128x256_1_0_0_1_n_n none kt s (constant S128x256 .f32 0x00000000#32)

theorem sL_at (q : FVec Ideal S256x128 .bf16) (k : Vec Ideal S1x1024x128 .bf16) (j : Fin 1024) (r : Fin 256) :
    (sL q k (ix2 j r) : EReal)
      = (∑ d, (k (ix3 0 j d) : EReal) * (q (ix2 r d) : EReal)) * (Named.named κ "c2" 0x3E0293EE#32 : Ideal .f32) := by
  pointwise [sL]

theorem cL_at (u : FVec Ideal S256x128 .bf16) (v : Vec Ideal S1x1024x128 .bf16) (j : Fin 1024) (r : Fin 256) :
    (cL u v (ix2 j r) : EReal) = ∑ d, (v (ix3 0 j d) : EReal) * (u (ix2 r d) : EReal) := by
  pointwise [cL]

theorem pL_at (z : FVec Ideal S1x256 .f32) (s : FVec Ideal S1024x256 .f32) (j : Fin 1024) (r : Fin 256) :
    (pL z s (ix2 j r) : EReal) = Ideal.exp2 ((s (ix2 j r) : EReal) - (z (ix2 0 r) : EReal)) := by
  pointwise [pL]
  rfl

theorem dL_at (z e : FVec Ideal S1x256 .f32) (s c : FVec Ideal S1024x256 .f32) (j : Fin 1024) (r : Fin 256) :
    (dL z e s c (ix2 j r) : EReal) = (pL z s (ix2 j r) : EReal) * ((c (ix2 j r) : EReal) - (e (ix2 0 r) : EReal)) := by
  pointwise [dL]

theorem vL_at (u : FVec Ideal S256x128 .bf16) (p : FVec Ideal S1024x256 .f32) (was : Vec Ideal S1x1024x128 .f32) (j : Fin 1024) (d : Fin 128) :
    (vL u p was (ix3 0 j d) : EReal) = (was (ix3 0 j d) : EReal) + ∑ r, (p (ix2 j r) : EReal) * (u (ix2 r d) : EReal) := by
  pointwise [vL]

theorem kL_at (q : FVec Ideal S256x128 .bf16) (s : FVec Ideal S1024x256 .bf16) (was : Vec Ideal S1x1024x128 .f32) (j : Fin 1024) (d : Fin 128) :
    (kL q s was (ix3 0 j d) : EReal)
      = (was (ix3 0 j d) : EReal) + (∑ r, (s (ix2 j r) : EReal) * (q (ix2 r d) : EReal)) * Ideal.ofBits .f32 0x3DB504F3#32 := by
  pointwise [kL]

theorem qL_at (kt : FVec Ideal S128x1024 .bf16) (s : FVec Ideal S1024x256 .bf16) (d : Fin 128) (r : Fin 256) :
    (qL kt s (ix2 d r) : EReal) = ∑ j, (kt (ix2 d j) : EReal) * (s (ix2 j r) : EReal) := by
  pointwise [qL]

section AtL

variable (A : Attn.Args) (b h : Fin 2) (g : Fin 4) (row : Fin 256 → Fin 4352) (key : Fin 1024 → Fin 4352)
  (hkey : ∀ r j, (row r).val < 4096 ∨ 4096 ≤ (key j).val)
variable {q u : FVec Ideal S256x128 .bf16} {z e : FVec Ideal S1x256 .f32} {k v : Vec Ideal S1x1024x128 .bf16} {kt : FVec Ideal S128x1024 .bf16}
  (hq : ∀ r d, (q (ix2 r d) : EReal) = ((A.q b (row r) (Attn.qcol h g d) : ℝ) : EReal))
  (hu : ∀ r d, (u (ix2 r d) : EReal) = ((A.u b h g (row r) d : ℝ) : EReal))
  (hz : ∀ r, (z (ix2 0 r) : EReal) = ((A.lse2 b h g (row r) : ℝ) : EReal))
  (he : ∀ r, (e (ix2 0 r) : EReal) = ((A.delta b h g (row r) : ℝ) : EReal))
  (hk : ∀ j d, (k (ix3 0 j d) : EReal) = ((A.k b (key j) (Attn.kcol h d) : ℝ) : EReal))
  (hv : ∀ j d, (v (ix3 0 j d) : EReal) = ((A.v b (key j) (Attn.kcol h d) : ℝ) : EReal))
  (ht : ∀ d j, (kt (ix2 d j) : EReal) = ((A.k b (key j) (Attn.kcol h d) : ℝ) : EReal))

include hkey hq hk hz in
theorem pL_eq (j : Fin 1024) (r : Fin 256) : (pL z (sL q k) (ix2 j r) : EReal) = ((A.P b h g (row r) (key j) : ℝ) : EReal) := by
  rw [pL_at, sL_at, c2_eq]
  simp only [hk, hq, ← EReal.coe_mul, Attn.coe_sum]
  rw [hz, ← EReal.coe_sub, Attn.exp2_coe]
  exact congrArg _ (A.two_rpow b h g (row r) (key j) (hkey r j))

include hkey hq hk hz hu hv he in
theorem dL_eq (j : Fin 1024) (r : Fin 256) :
    (dL z e (sL q k) (cL u v) (ix2 j r) : EReal) = ((A.ds b h g (row r) (key j) : ℝ) : EReal) := by
  rw [dL_at, pL_eq A b h g row key hkey hq hz hk, cL_at]
  simp only [hv, hu, ← EReal.coe_mul, Attn.coe_sum]
  rw [he, ← EReal.coe_sub, ← EReal.coe_mul]
  simp only [Attn.Args.ds, Attn.Args.dp, mul_comm]

include hkey hq hk hz hu in
theorem vL_eq (was : Vec Ideal S1x1024x128 .f32) (j : Fin 1024) (d : Fin 128) :
    (vL u (pL z (sL q k)) was (ix3 0 j d) : EReal)
      = (was (ix3 0 j d) : EReal) + ((∑ r, A.P b h g (row r) (key j) * A.u b h g (row r) d : ℝ) : EReal) := by
  rw [vL_at]
  simp only [pL_eq A b h g row key hkey hq hz hk, hu, ← EReal.coe_mul, Attn.coe_sum]

include hkey hq hk hz hu hv he in
theorem kL_eq (was : Vec Ideal S1x1024x128 .f32) (j : Fin 1024) (d : Fin 128) :
    (kL q (dL z e (sL q k) (cL u v)) was (ix3 0 j d) : EReal)
      = (was (ix3 0 j d) : EReal) + ((∑ r, A.ds b h g (row r) (key j) * A.q b (row r) (Attn.qcol h g d) * Attn.sc : ℝ) : EReal) := by
  rw [kL_at, Attn.ofBits_sc]
  simp only [dL_eq A b h g row key hkey hq hu hz he hk hv, hq, ← EReal.coe_mul, Attn.coe_sum, Finset.sum_mul]

include hkey hq hk hz hu hv he ht in
theorem qL_eq (d : Fin 128) (r : Fin 256) :
    (qL kt (dL z e (sL q k) (cL u v)) (ix2 d r) : EReal)
      = ((∑ j, A.ds b h g (row r) (key j) * A.k b (key j) (Attn.kcol h d) : ℝ) : EReal) := by
  rw [qL_at]
  simp only [dL_eq A b h g row key hkey hq hu hz he hk hv, ht, ← EReal.coe_mul, Attn.coe_sum, mul_comm]

end AtL

/-! ## A chunk of 256 keys -/

/-- The scores in base 2. -/
def sC (q : FVec Ideal S256x128 .bf16) (k : Vec Ideal S1x256x128 .bf16) : FVec Ideal S256x256 .f32 :=
  mulf (matmul dot_S256x128_S256x128_S256x256_1_1_0_0_n_n none (shapeCast S256x128 k shapeCasts_S1x256x128_S256x128 : FVec Ideal S256x128 .bf16) q
    (constant S256x256 .f32 0x00000000#32)) (broadcast S256x256 (Named.named κ "c2" 0x3E0293EE#32))

/-- The weights' cotangents. -/
def cC (u : FVec Ideal S256x128 .bf16) (v : Vec Ideal S1x256x128 .bf16) : FVec Ideal S256x256 .f32 :=
  matmul dot_S256x128_S256x128_S256x256_1_1_0_0_n_n none (shapeCast S256x128 v shapeCasts_S1x256x128_S256x128 : FVec Ideal S256x128 .bf16) u
    (constant S256x256 .f32 0x00000000#32)

/-- The weights. -/
def pC (z : FVec Ideal S1x256 .f32) (s : FVec Ideal S256x256 .f32) : FVec Ideal S256x256 .f32 :=
  exp2 (subf s (broadcastTo S256x256 z broadcasts_S1x256_S256x256))

/-- The scores' gradients. -/
def dC (z e : FVec Ideal S1x256 .f32) (s c : FVec Ideal S256x256 .f32) : FVec Ideal S256x256 .bf16 :=
  truncf .bf16 (mulf (pC z s) (subf c (broadcastTo S256x256 e broadcasts_S1x256_S256x256))) bitsLt_bf16_f32

/-- The values' gradient, added to what was there. -/
def vC (u : FVec Ideal S256x128 .bf16) (p : FVec Ideal S256x256 .f32) (was : Vec Ideal S1x256x128 .f32) : Vec Ideal S1x256x128 .f32 :=
  shapeCast S1x256x128 (addf (shapeCast S256x128 was shapeCasts_S1x256x128_S256x128)
    (matmul dot_S256x256_S256x128_S256x128_1_0_0_1_n_n none (truncf .bf16 p bitsLt_bf16_f32) u (constant S256x128 .f32 0x00000000#32)))
    shapeCasts_S256x128_S1x256x128

/-- The keys' gradient, added to what was there. -/
def kC (q : FVec Ideal S256x128 .bf16) (s : FVec Ideal S256x256 .bf16) (was : Vec Ideal S1x256x128 .f32) : Vec Ideal S1x256x128 .f32 :=
  shapeCast S1x256x128 (addf (shapeCast S256x128 was shapeCasts_S1x256x128_S256x128)
    (mulf (matmul dot_S256x256_S256x128_S256x128_1_0_0_1_n_n none s q (constant S256x128 .f32 0x00000000#32))
      (broadcast S256x128 (Scalar.ofBits .f32 0x3DB504F3#32)))) shapeCasts_S256x128_S1x256x128

/-- The chunk's part of the queries' gradient, before scaling. -/
def qC (kt : FVec Ideal S128x256 .bf16) (s : FVec Ideal S256x256 .bf16) : FVec Ideal S128x256 .f32 :=
  matmul dot_S128x256_S256x256_S128x256_1_0_0_1_n_n none kt s (constant S128x256 .f32 0x00000000#32)

theorem sC_at (q : FVec Ideal S256x128 .bf16) (k : Vec Ideal S1x256x128 .bf16) (j : Fin 256) (r : Fin 256) :
    (sC q k (ix2 j r) : EReal)
      = (∑ d, (k (ix3 0 j d) : EReal) * (q (ix2 r d) : EReal)) * (Named.named κ "c2" 0x3E0293EE#32 : Ideal .f32) := by
  pointwise [sC]

theorem cC_at (u : FVec Ideal S256x128 .bf16) (v : Vec Ideal S1x256x128 .bf16) (j : Fin 256) (r : Fin 256) :
    (cC u v (ix2 j r) : EReal) = ∑ d, (v (ix3 0 j d) : EReal) * (u (ix2 r d) : EReal) := by
  pointwise [cC]

theorem pC_at (z : FVec Ideal S1x256 .f32) (s : FVec Ideal S256x256 .f32) (j : Fin 256) (r : Fin 256) :
    (pC z s (ix2 j r) : EReal) = Ideal.exp2 ((s (ix2 j r) : EReal) - (z (ix2 0 r) : EReal)) := by
  pointwise [pC]
  rfl

theorem dC_at (z e : FVec Ideal S1x256 .f32) (s c : FVec Ideal S256x256 .f32) (j : Fin 256) (r : Fin 256) :
    (dC z e s c (ix2 j r) : EReal) = (pC z s (ix2 j r) : EReal) * ((c (ix2 j r) : EReal) - (e (ix2 0 r) : EReal)) := by
  pointwise [dC]

theorem vC_at (u : FVec Ideal S256x128 .bf16) (p : FVec Ideal S256x256 .f32) (was : Vec Ideal S1x256x128 .f32) (j : Fin 256) (d : Fin 128) :
    (vC u p was (ix3 0 j d) : EReal) = (was (ix3 0 j d) : EReal) + ∑ r, (p (ix2 j r) : EReal) * (u (ix2 r d) : EReal) := by
  pointwise [vC]

theorem kC_at (q : FVec Ideal S256x128 .bf16) (s : FVec Ideal S256x256 .bf16) (was : Vec Ideal S1x256x128 .f32) (j : Fin 256) (d : Fin 128) :
    (kC q s was (ix3 0 j d) : EReal)
      = (was (ix3 0 j d) : EReal) + (∑ r, (s (ix2 j r) : EReal) * (q (ix2 r d) : EReal)) * Ideal.ofBits .f32 0x3DB504F3#32 := by
  pointwise [kC]

theorem qC_at (kt : FVec Ideal S128x256 .bf16) (s : FVec Ideal S256x256 .bf16) (d : Fin 128) (r : Fin 256) :
    (qC kt s (ix2 d r) : EReal) = ∑ j, (kt (ix2 d j) : EReal) * (s (ix2 j r) : EReal) := by
  pointwise [qC]

section AtC

variable (A : Attn.Args) (b h : Fin 2) (g : Fin 4) (row : Fin 256 → Fin 4352) (key : Fin 256 → Fin 4352)
  (hkey : ∀ r j, (row r).val < 4096 ∨ 4096 ≤ (key j).val)
variable {q u : FVec Ideal S256x128 .bf16} {z e : FVec Ideal S1x256 .f32} {k v : Vec Ideal S1x256x128 .bf16} {kt : FVec Ideal S128x256 .bf16}
  (hq : ∀ r d, (q (ix2 r d) : EReal) = ((A.q b (row r) (Attn.qcol h g d) : ℝ) : EReal))
  (hu : ∀ r d, (u (ix2 r d) : EReal) = ((A.u b h g (row r) d : ℝ) : EReal))
  (hz : ∀ r, (z (ix2 0 r) : EReal) = ((A.lse2 b h g (row r) : ℝ) : EReal))
  (he : ∀ r, (e (ix2 0 r) : EReal) = ((A.delta b h g (row r) : ℝ) : EReal))
  (hk : ∀ j d, (k (ix3 0 j d) : EReal) = ((A.k b (key j) (Attn.kcol h d) : ℝ) : EReal))
  (hv : ∀ j d, (v (ix3 0 j d) : EReal) = ((A.v b (key j) (Attn.kcol h d) : ℝ) : EReal))
  (ht : ∀ d j, (kt (ix2 d j) : EReal) = ((A.k b (key j) (Attn.kcol h d) : ℝ) : EReal))

include hkey hq hk hz in
theorem pC_eq (j : Fin 256) (r : Fin 256) : (pC z (sC q k) (ix2 j r) : EReal) = ((A.P b h g (row r) (key j) : ℝ) : EReal) := by
  rw [pC_at, sC_at, c2_eq]
  simp only [hk, hq, ← EReal.coe_mul, Attn.coe_sum]
  rw [hz, ← EReal.coe_sub, Attn.exp2_coe]
  exact congrArg _ (A.two_rpow b h g (row r) (key j) (hkey r j))

include hkey hq hk hz hu hv he in
theorem dC_eq (j : Fin 256) (r : Fin 256) :
    (dC z e (sC q k) (cC u v) (ix2 j r) : EReal) = ((A.ds b h g (row r) (key j) : ℝ) : EReal) := by
  rw [dC_at, pC_eq A b h g row key hkey hq hz hk, cC_at]
  simp only [hv, hu, ← EReal.coe_mul, Attn.coe_sum]
  rw [he, ← EReal.coe_sub, ← EReal.coe_mul]
  simp only [Attn.Args.ds, Attn.Args.dp, mul_comm]

include hkey hq hk hz hu in
theorem vC_eq (was : Vec Ideal S1x256x128 .f32) (j : Fin 256) (d : Fin 128) :
    (vC u (pC z (sC q k)) was (ix3 0 j d) : EReal)
      = (was (ix3 0 j d) : EReal) + ((∑ r, A.P b h g (row r) (key j) * A.u b h g (row r) d : ℝ) : EReal) := by
  rw [vC_at]
  simp only [pC_eq A b h g row key hkey hq hz hk, hu, ← EReal.coe_mul, Attn.coe_sum]

include hkey hq hk hz hu hv he in
theorem kC_eq (was : Vec Ideal S1x256x128 .f32) (j : Fin 256) (d : Fin 128) :
    (kC q (dC z e (sC q k) (cC u v)) was (ix3 0 j d) : EReal)
      = (was (ix3 0 j d) : EReal) + ((∑ r, A.ds b h g (row r) (key j) * A.q b (row r) (Attn.qcol h g d) * Attn.sc : ℝ) : EReal) := by
  rw [kC_at, Attn.ofBits_sc]
  simp only [dC_eq A b h g row key hkey hq hu hz he hk hv, hq, ← EReal.coe_mul, Attn.coe_sum, Finset.sum_mul]

include hkey hq hk hz hu hv he ht in
theorem qC_eq (d : Fin 128) (r : Fin 256) :
    (qC kt (dC z e (sC q k) (cC u v)) (ix2 d r) : EReal)
      = ((∑ j, A.ds b h g (row r) (key j) * A.k b (key j) (Attn.kcol h d) : ℝ) : EReal) := by
  rw [qC_at]
  simp only [dC_eq A b h g row key hkey hq hu hz he hk hv, ht, ← EReal.coe_mul, Attn.coe_sum, mul_comm]

end AtC

end Cert.KernelIdeal.Block
-- ==== Proof.Steps.lean ====
/- What one grid point makes of its blocks: the block of the queries' gradient, and what it adds to the gradients of the keys
   and of the values, chunk of keys by chunk of keys. -/
module

public import proofs.«01_k».proof.Proof.Block
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.KernelIdeal.Block

open Cert.KernelIdeal Cert.KernelIdeal.Gen

/-- 1024 keys from key `o` on are keys of the array. -/
abbrev InL (o : ℕ) : Prop := ∀ a, (![0, o, 0] : Fin 3 → ℕ) a + (![1, 1024, 128] : Fin 3 → ℕ) a ≤ S1x4352x128.size a

/-- 1024 keys from key `o` on. -/
abbrev rL (o : ℕ) (h : InL o) : Rect S1x4352x128 :=
  Rect.unit ![0, o, 0] ![1, 1024, 128] h

/-- The context's keys. -/
abbrev rC : Rect S1x4352x128 := Rect.unit ![0, 4096, 0] ![1, 256, 128] inb_S1x4352x128_S1x256x128_0_4096_0

/-- 1024 columns of the transposed keys. -/
abbrev tL (o : ℕ) (h : ∀ a, (![0, o] : Fin 2 → ℕ) a + (![128, 1024] : Fin 2 → ℕ) a ≤ S128x4352.size a) : Rect S128x4352 :=
  Rect.unit ![0, o] ![128, 1024] h

/-- The context's columns of the transposed keys. -/
abbrev tC : Rect S128x4352 := Rect.unit ![0, 4096] ![128, 256] inb_S128x4352_S128x256_0_4096

section Blocks

variable (x0 : Vec Ideal S1x256x128 .bf16) (x1 x2 : Vec Ideal S1x4352x128 .bf16) (x3 x4 x5 : Vec Ideal S1x256x128 .bf16)
  (x6 : Vec Ideal S1x1x1x256 .f32)

/-- A chunk's gradients of the scores. -/
def DL (o : ℕ) (h : InL o) : FVec Ideal S1024x256 .bf16 :=
  dL (zB x6) (eB x3 x4 x5) (sL (qB x0) (View.ld x1 (rL o h))) (cL (uB x3 x4) (View.ld x2 (rL o h)))

/-- The context chunk's. -/
def DC : FVec Ideal S256x256 .bf16 :=
  dC (zB x6) (eB x3 x4 x5) (sC (qB x0) (View.ld x1 rC)) (cC (uB x3 x4) (View.ld x2 rC))

/-- A chunk's piece of the keys' gradient over `was`. -/
def kPL (was : Vec Ideal S1x4352x128 .f32) (o : ℕ) (h : InL o) : View.Piece (Elt Ideal) S1x4352x128 .f32 :=
  ⟨rL o h, kL (qB x0) (DL x0 x1 x2 x3 x4 x5 x6 o h) (View.ld was (rL o h))⟩

def kPC (was : Vec Ideal S1x4352x128 .f32) : View.Piece (Elt Ideal) S1x4352x128 .f32 :=
  ⟨rC, kC (qB x0) (DC x0 x1 x2 x3 x4 x5 x6) (View.ld was rC)⟩

/-- All pieces, the last stored first. -/
def kPieces (was : Vec Ideal S1x4352x128 .f32) : List (View.Piece (Elt Ideal) S1x4352x128 .f32) :=
  [kPC x0 x1 x2 x3 x4 x5 x6 was,
   kPL x0 x1 x2 x3 x4 x5 x6 was 3072 inb_S1x4352x128_S1x1024x128_0_3072_0,
   kPL x0 x1 x2 x3 x4 x5 x6 was 2048 inb_S1x4352x128_S1x1024x128_0_2048_0,
   kPL x0 x1 x2 x3 x4 x5 x6 was 1024 inb_S1x4352x128_S1x1024x128_0_1024_0,
   kPL x0 x1 x2 x3 x4 x5 x6 was 0 inb_S1x4352x128_S1x1024x128_0_0_0]

/-- A chunk's piece of the values' gradient over `was`. -/
def vPL (was : Vec Ideal S1x4352x128 .f32) (o : ℕ) (h : InL o) : View.Piece (Elt Ideal) S1x4352x128 .f32 :=
  ⟨rL o h, vL (uB x3 x4) (pL (zB x6) (sL (qB x0) (View.ld x1 (rL o h)))) (View.ld was (rL o h))⟩

def vPC (was : Vec Ideal S1x4352x128 .f32) : View.Piece (Elt Ideal) S1x4352x128 .f32 :=
  ⟨rC, vC (uB x3 x4) (pC (zB x6) (sC (qB x0) (View.ld x1 rC))) (View.ld was rC)⟩

def vPieces (was : Vec Ideal S1x4352x128 .f32) : List (View.Piece (Elt Ideal) S1x4352x128 .f32) :=
  [vPC x0 x1 x3 x4 x6 was,
   vPL x0 x1 x3 x4 x6 was 3072 inb_S1x4352x128_S1x1024x128_0_3072_0,
   vPL x0 x1 x3 x4 x6 was 2048 inb_S1x4352x128_S1x1024x128_0_2048_0,
   vPL x0 x1 x3 x4 x6 was 1024 inb_S1x4352x128_S1x1024x128_0_1024_0,
   vPL x0 x1 x3 x4 x6 was 0 inb_S1x4352x128_S1x1024x128_0_0_0]

/-- The queries' gradient of a block of latent rows, from the transposed keys. -/
def qAll (kt : Vec Ideal S128x4352 .bf16) : Vec Ideal S1x256x128 .bf16 :=
  outB (addf (addf (addf (addf
    (qL (View.ld kt (tL 0 inb_S128x4352_S128x1024_0_0)) (DL x0 x1 x2 x3 x4 x5 x6 0 inb_S1x4352x128_S1x1024x128_0_0_0))
    (qL (View.ld kt (tL 1024 inb_S128x4352_S128x1024_0_1024)) (DL x0 x1 x2 x3 x4 x5 x6 1024 inb_S1x4352x128_S1x1024x128_0_1024_0)))
    (qL (View.ld kt (tL 2048 inb_S128x4352_S128x1024_0_2048)) (DL x0 x1 x2 x3 x4 x5 x6 2048 inb_S1x4352x128_S1x1024x128_0_2048_0)))
    (qL (View.ld kt (tL 3072 inb_S128x4352_S128x1024_0_3072)) (DL x0 x1 x2 x3 x4 x5 x6 3072 inb_S1x4352x128_S1x1024x128_0_3072_0)))
    (qC (View.ld kt tC) (DC x0 x1 x2 x3 x4 x5 x6)))

/-- The queries' gradient of the context's rows. -/
def qCtx (kt : Vec Ideal S128x4352 .bf16) : Vec Ideal S1x256x128 .bf16 :=
  outB (qC (View.ld kt tC) (DC x0 x1 x2 x3 x4 x5 x6))

end Blocks

/-! ## In the attention's numbers -/

/-- The blocks hold the attention's arguments at batch `b`, key head `h`, group `g` and the rows `row`. -/
structure Holds (A : Attn.Args) (b h : Fin 2) (g : Fin 4) (row : Fin 256 → Fin 4352) (x0 : Vec Ideal S1x256x128 .bf16)
    (x1 x2 : Vec Ideal S1x4352x128 .bf16) (x3 x4 x5 : Vec Ideal S1x256x128 .bf16) (x6 : Vec Ideal S1x1x1x256 .f32) : Prop where
  q : ∀ r d, (x0 (ix3 0 r d) : EReal) = ((A.q b (row r) (Attn.qcol h g d) : ℝ) : EReal)
  k : ∀ j d, (x1 (ix3 0 j d) : EReal) = ((A.k b j (Attn.kcol h d) : ℝ) : EReal)
  v : ∀ j d, (x2 (ix3 0 j d) : EReal) = ((A.v b j (Attn.kcol h d) : ℝ) : EReal)
  gate : ∀ r d, (x3 (ix3 0 r d) : EReal) = ((A.gate b (row r) (Attn.qcol h g d) : ℝ) : EReal)
  dz : ∀ r d, (x4 (ix3 0 r d) : EReal) = ((A.dz b (row r) (Attn.qcol h g d) : ℝ) : EReal)
  y : ∀ r d, (x5 (ix3 0 r d) : EReal) = ((A.y b h g (row r) d : ℝ) : EReal)
  lse : ∀ r, (x6 (ix4 0 0 0 r) : EReal) = ((A.lse2 b h g (row r) : ℝ) : EReal)

/-- Key `j` of the chunk from `o` on. -/
def at_ (n o : ℕ) (h : o + n ≤ 4352) (j : Fin n) : Fin 4352 := ⟨o + j.val, by omega⟩

theorem rL_emb (o : ℕ) (h) (ho : o + 1024 ≤ 4352) (j : Fin 1024) (d : Fin 128) :
    (rL o h).idx (ix3 0 j d) = ix3 0 (at_ 1024 o ho j) d := by
  funext a
  refine Fin.ext ?_
  rw [Rect.idx_unit_val]
  fin_cases a <;> simp [at_, ix3]

theorem rC_emb (j : Fin 256) (d : Fin 128) : rC.idx (ix3 0 j d) = ix3 0 (at_ 256 4096 (by omega) j) d := by
  funext a
  refine Fin.ext ?_
  rw [Rect.idx_unit_val]
  fin_cases a <;> simp [at_, ix3]

theorem tL_emb (o : ℕ) (h) (ho : o + 1024 ≤ 4352) (d : Fin 128) (j : Fin 1024) :
    (tL o h).idx (ix2 d j) = ix2 d (at_ 1024 o ho j) := by
  funext a
  refine Fin.ext ?_
  rw [Rect.idx_unit_val]
  fin_cases a <;> simp [at_, ix2]

theorem tC_emb (d : Fin 128) (j : Fin 256) : tC.idx (ix2 d j) = ix2 d (at_ 256 4096 (by omega) j) := by
  funext a
  refine Fin.ext ?_
  rw [Rect.idx_unit_val]
  fin_cases a <;> simp [at_, ix2]

/-- A sum over all keys, chunk by chunk. -/
theorem sum_chunks (f : Fin 4352 → ℝ) :
    ∑ j, f j = (((∑ j, f (at_ 1024 0 (by omega) j)) + ∑ j, f (at_ 1024 1024 (by omega) j))
      + ∑ j, f (at_ 1024 2048 (by omega) j)) + (∑ j, f (at_ 1024 3072 (by omega) j)) + ∑ j, f (at_ 256 4096 (by omega) j) := by
  rw [Fin.sum_univ_add (a := 4096) (b := 256) f, Fin.sum_univ_add (a := 3072) (b := 1024), Fin.sum_univ_add (a := 2048) (b := 1024),
    Fin.sum_univ_add (a := 1024) (b := 1024)]
  refine congrArg₂ _ (congrArg₂ _ (congrArg₂ _ (congrArg₂ _ ?_ ?_) ?_) ?_) ?_ <;>
    refine Finset.sum_congr rfl fun j _ => congrArg f (Fin.ext ?_) <;> simp [at_, add_comm]

section Numbers

variable {A : Attn.Args} {b h : Fin 2} {g : Fin 4} {row : Fin 256 → Fin 4352} {x0 : Vec Ideal S1x256x128 .bf16}
  {x1 x2 : Vec Ideal S1x4352x128 .bf16} {x3 x4 x5 : Vec Ideal S1x256x128 .bf16} {x6 : Vec Ideal S1x1x1x256 .f32}

/-- What the rows add to the keys' gradient. -/
def kT (A : Attn.Args) (b h : Fin 2) (g : Fin 4) (row : Fin 256 → Fin 4352) (j : Fin 4352) (d : Fin 128) : ℝ :=
  ∑ r, A.ds b h g (row r) j * A.q b (row r) (Attn.qcol h g d) * Attn.sc

/-- What the rows add to the values' gradient. -/
def vT (A : Attn.Args) (b h : Fin 2) (g : Fin 4) (row : Fin 256 → Fin 4352) (j : Fin 4352) (d : Fin 128) : ℝ :=
  ∑ r, A.P b h g (row r) j * A.u b h g (row r) d

variable (H : Holds A b h g row x0 x1 x2 x3 x4 x5 x6)
include H

theorem Holds.q' (r : Fin 256) (d : Fin 128) : (qB x0 (ix2 r d) : EReal) = ((A.q b (row r) (Attn.qcol h g d) : ℝ) : EReal) :=
  (qB_at x0 r d).trans (H.q r d)

theorem Holds.z' (r : Fin 256) : (zB x6 (ix2 0 r) : EReal) = ((A.lse2 b h g (row r) : ℝ) : EReal) :=
  (zB_at x6 r).trans (H.lse r)

theorem Holds.u' (r : Fin 256) (d : Fin 128) : (uB x3 x4 (ix2 r d) : EReal) = ((A.u b h g (row r) d : ℝ) : EReal) :=
  uB_eq A b h g row H.gate H.dz r d

theorem Holds.e' (r : Fin 256) : (eB x3 x4 x5 (ix2 0 r) : EReal) = ((A.delta b h g (row r) : ℝ) : EReal) :=
  eB_eq A b h g row H.gate H.dz H.y r

theorem Holds.kL' (o : ℕ) (hr) (ho : o + 1024 ≤ 4352) (j : Fin 1024) (d : Fin 128) :
    (View.ld x1 (rL o hr) (ix3 0 j d) : EReal) = ((A.k b (at_ 1024 o ho j) (Attn.kcol h d) : ℝ) : EReal) :=
  (congrArg x1 (rL_emb o hr ho j d)).trans (H.k _ d)

theorem Holds.vL' (o : ℕ) (hr) (ho : o + 1024 ≤ 4352) (j : Fin 1024) (d : Fin 128) :
    (View.ld x2 (rL o hr) (ix3 0 j d) : EReal) = ((A.v b (at_ 1024 o ho j) (Attn.kcol h d) : ℝ) : EReal) :=
  (congrArg x2 (rL_emb o hr ho j d)).trans (H.v _ d)

theorem Holds.kC' (j : Fin 256) (d : Fin 128) :
    (View.ld x1 rC (ix3 0 j d) : EReal) = ((A.k b (at_ 256 4096 (by omega) j) (Attn.kcol h d) : ℝ) : EReal) :=
  (congrArg x1 (rC_emb j d)).trans (H.k _ d)

theorem Holds.vC' (j : Fin 256) (d : Fin 128) :
    (View.ld x2 rC (ix3 0 j d) : EReal) = ((A.v b (at_ 256 4096 (by omega) j) (Attn.kcol h d) : ℝ) : EReal) :=
  (congrArg x2 (rC_emb j d)).trans (H.v _ d)

/-- A chunk's piece of the keys' gradient, for latent rows. -/
theorem Holds.kPL (hlat : ∀ r, (row r).val < 4096) (was : Vec Ideal S1x4352x128 .f32) (o : ℕ) (hr) (ho : o + 1024 ≤ 4352) (j : Fin 1024) (d : Fin 128) :
    ((Block.kPL x0 x1 x2 x3 x4 x5 x6 was o hr).2 (ix3 0 j d) : EReal)
      = (was (ix3 0 (at_ 1024 o ho j) d) : EReal) + ((kT A b h g row (at_ 1024 o ho j) d : ℝ) : EReal) :=
  (kL_eq A b h g row (at_ 1024 o ho) (fun r _ => .inl (hlat r)) H.q' H.u' H.z' H.e' (H.kL' o hr ho) (H.vL' o hr ho) _ j d).trans
    (congrArg (fun i => (was i : EReal) + _) (rL_emb o hr ho j d))

theorem Holds.kPC (was : Vec Ideal S1x4352x128 .f32) (j : Fin 256) (d : Fin 128) :
    ((Block.kPC x0 x1 x2 x3 x4 x5 x6 was).2 (ix3 0 j d) : EReal)
      = (was (ix3 0 (at_ 256 4096 (by omega) j) d) : EReal) + ((kT A b h g row (at_ 256 4096 (by omega) j) d : ℝ) : EReal) :=
  (kC_eq A b h g row (at_ 256 4096 (by omega)) (fun r j => .inr (Nat.le_add_right _ _)) H.q' H.u' H.z' H.e' H.kC' H.vC' _ j d).trans
    (congrArg (fun i => (was i : EReal) + _) (rC_emb j d))

theorem Holds.vPL (hlat : ∀ r, (row r).val < 4096) (was : Vec Ideal S1x4352x128 .f32) (o : ℕ) (hr) (ho : o + 1024 ≤ 4352) (j : Fin 1024) (d : Fin 128) :
    ((Block.vPL x0 x1 x3 x4 x6 was o hr).2 (ix3 0 j d) : EReal)
      = (was (ix3 0 (at_ 1024 o ho j) d) : EReal) + ((vT A b h g row (at_ 1024 o ho j) d : ℝ) : EReal) :=
  (vL_eq A b h g row (at_ 1024 o ho) (fun r _ => .inl (hlat r)) H.q' H.u' H.z' (H.kL' o hr ho) _ j d).trans
    (congrArg (fun i => (was i : EReal) + _) (rL_emb o hr ho j d))

theorem Holds.vPC (was : Vec Ideal S1x4352x128 .f32) (j : Fin 256) (d : Fin 128) :
    ((Block.vPC x0 x1 x3 x4 x6 was).2 (ix3 0 j d) : EReal)
      = (was (ix3 0 (at_ 256 4096 (by omega) j) d) : EReal) + ((vT A b h g row (at_ 256 4096 (by omega) j) d : ℝ) : EReal) :=
  (vC_eq A b h g row (at_ 256 4096 (by omega)) (fun r j => .inr (Nat.le_add_right _ _)) H.q' H.u' H.z' H.kC' _ j d).trans
    (congrArg (fun i => (was i : EReal) + _) (rC_emb j d))

end Numbers

/-! ## Pieces over what was there -/

/-- What was there, and a term of its own for each key and column. -/
def plus (was : Vec Ideal S1x4352x128 .f32) (T : Fin 4352 → Fin 128 → ℝ) : Vec Ideal S1x4352x128 .f32 :=
  fun i => (was i : EReal) + ((T (i 1) (i 2) : ℝ) : EReal)

theorem S1x1024x128_idx (x : S1x1024x128.Idx) : x = ix3 0 (x 1) (x 2) := by
  funext a
  fin_cases a
  · exact Subsingleton.elim (α := Fin 1) _ _
  · rfl
  · rfl

theorem S1x256x128_idx (x : S1x256x128.Idx) : x = ix3 0 (x 1) (x 2) := by
  funext a
  fin_cases a
  · exact Subsingleton.elim (α := Fin 1) _ _
  · rfl
  · rfl

/-- The stores of a list of pieces that covers the array, whatever was stored before them. -/
theorem canon_plus (was : Vec Ideal S1x4352x128 .f32) (T : Fin 4352 → Fin 128 → ℝ)
    (p0 p1 p2 p3 : S1x1024x128.Idx → Elt Ideal .f32) (pc : S1x256x128.Idx → Elt Ideal .f32) (L : List (View.Piece (Elt Ideal) S1x4352x128 .f32))
    (h0 : ∀ j d, p0 (ix3 0 j d) = plus was T (ix3 0 (at_ 1024 0 (by omega) j) d))
    (h1 : ∀ j d, p1 (ix3 0 j d) = plus was T (ix3 0 (at_ 1024 1024 (by omega) j) d))
    (h2 : ∀ j d, p2 (ix3 0 j d) = plus was T (ix3 0 (at_ 1024 2048 (by omega) j) d))
    (h3 : ∀ j d, p3 (ix3 0 j d) = plus was T (ix3 0 (at_ 1024 3072 (by omega) j) d))
    (hc : ∀ j d, pc (ix3 0 j d) = plus was T (ix3 0 (at_ 256 4096 (by omega) j) d)) :
    View.canon (([⟨rC, pc⟩, ⟨rL 3072 inb_S1x4352x128_S1x1024x128_0_3072_0, p3⟩, ⟨rL 2048 inb_S1x4352x128_S1x1024x128_0_2048_0, p2⟩,
      ⟨rL 1024 inb_S1x4352x128_S1x1024x128_0_1024_0, p1⟩, ⟨rL 0 inb_S1x4352x128_S1x1024x128_0_0_0, p0⟩]
        : List (View.Piece (Elt Ideal) S1x4352x128 .f32)) ++ L) = plus was T := by
  have hL : ∀ (o : ℕ) (hr) (ho : o + 1024 ≤ 4352) (p : S1x1024x128.Idx → Elt Ideal .f32),
      (∀ j d, p (ix3 0 j d) = plus was T (ix3 0 (at_ 1024 o ho j) d)) → ∀ x : (rL o hr).shape.Idx, p x = plus was T ((rL o hr).emb x) := by
    intro o hr ho p hp x
    have e := S1x1024x128_idx x
    refine (congrArg p e).trans ((hp _ _).trans (congrArg (plus was T) ?_))
    exact (rL_emb o hr ho _ _).symm.trans (congrArg (rL o hr).idx e.symm)
  funext y
  refine View.canon_append_of_piecesOf (plus was T) L [⟨rC, pc⟩, ⟨rL 3072 inb_S1x4352x128_S1x1024x128_0_3072_0, p3⟩,
    ⟨rL 2048 inb_S1x4352x128_S1x1024x128_0_2048_0, p2⟩, ⟨rL 1024 inb_S1x4352x128_S1x1024x128_0_1024_0, p1⟩,
    ⟨rL 0 inb_S1x4352x128_S1x1024x128_0_0_0, p0⟩] ⟨?_, hL _ inb_S1x4352x128_S1x1024x128_0_3072_0 _ _ h3, hL _ inb_S1x4352x128_S1x1024x128_0_2048_0 _ _ h2, hL _ inb_S1x4352x128_S1x1024x128_0_1024_0 _ _ h1, hL _ inb_S1x4352x128_S1x1024x128_0_0_0 _ _ h0, trivial⟩ y ?_
  · intro x
    have e := S1x256x128_idx x
    refine (congrArg pc e).trans ((hc _ _).trans (congrArg (plus was T) ?_))
    exact (rC_emb _ _).symm.trans (congrArg rC.idx e.symm)
  · have hy0 : (y 0 : ℕ) < 1 := (y 0).isLt
    have hy1 : (y 1 : ℕ) < 4352 := (y 1).isLt
    have hy2 : (y 2 : ℕ) < 128 := (y 2).isLt
    have hm : ∀ (o : ℕ) (hr), o ≤ (y 1 : ℕ) → (y 1 : ℕ) < o + 1024 → y ∈ (rL o hr).set := by
      intro o hr h1 h2
      rw [Rect.mem_set_unit]
      intro a
      fin_cases a
      · exact ⟨Nat.zero_le _, by show (y 0 : ℕ) < 0 + 1; omega⟩
      · exact ⟨h1, h2⟩
      · exact ⟨Nat.zero_le _, by show (y 2 : ℕ) < 0 + 128; omega⟩
    by_cases c : 4096 ≤ (y 1 : ℕ)
    · refine ⟨_, List.mem_cons_self, ?_⟩
      rw [Rect.mem_set_unit]
      intro a
      fin_cases a
      · exact ⟨Nat.zero_le _, by show (y 0 : ℕ) < 0 + 1; omega⟩
      · exact ⟨c, by show (y 1 : ℕ) < 4096 + 256; omega⟩
      · exact ⟨Nat.zero_le _, by show (y 2 : ℕ) < 0 + 128; omega⟩
    by_cases c : 3072 ≤ (y 1 : ℕ)
    · exact ⟨⟨rL 3072 inb_S1x4352x128_S1x1024x128_0_3072_0, p3⟩, by simp, hm _ inb_S1x4352x128_S1x1024x128_0_3072_0 c (by omega)⟩
    by_cases c : 2048 ≤ (y 1 : ℕ)
    · exact ⟨⟨rL 2048 inb_S1x4352x128_S1x1024x128_0_2048_0, p2⟩, by simp, hm _ inb_S1x4352x128_S1x1024x128_0_2048_0 c (by omega)⟩
    by_cases c : 1024 ≤ (y 1 : ℕ)
    · exact ⟨⟨rL 1024 inb_S1x4352x128_S1x1024x128_0_1024_0, p1⟩, by simp, hm _ inb_S1x4352x128_S1x1024x128_0_1024_0 c (by omega)⟩
    · exact ⟨⟨rL 0 inb_S1x4352x128_S1x1024x128_0_0_0, p0⟩, by simp, hm _ inb_S1x4352x128_S1x1024x128_0_0_0 (Nat.zero_le _) (by omega)⟩

/-- One store over the context's keys, where the term of the other keys is zero. -/
theorem writes_plus {κ : Kind} {sp : Space} (vw : View sig κ sp S1x4352x128 .f32) (f : vw.ty.Contents (Elt Ideal))
    (was : Vec Ideal S1x4352x128 .f32) (T : Fin 4352 → Fin 128 → ℝ) (pc : S1x256x128.Idx → Elt Ideal .f32)
    (hwas : vw.read (Elt Ideal) f = was)
    (hc : ∀ j d, pc (ix3 0 j d) = plus was T (ix3 0 (at_ 256 4096 (by omega) j) d)) (hz : ∀ j d, j.val < 4096 → T j d = 0) :
    vw.read (Elt Ideal) (vw.writes (Elt Ideal) f [⟨rC, pc⟩]) = plus was T := by
  funext y
  have hy0 : (y 0 : ℕ) < 1 := (y 0).isLt
  have hy1 : (y 1 : ℕ) < 4352 := (y 1).isLt
  by_cases h : 4096 ≤ (y 1 : ℕ)
  · have e : y = ix3 0 (at_ 256 4096 (by omega) ⟨(y 1 : ℕ) - 4096, by omega⟩) (y 2) := by
      funext a
      fin_cases a
      · exact Subsingleton.elim (α := Fin 1) _ _
      · exact Fin.ext (Nat.add_sub_cancel' h).symm
      · rfl
    refine (View.read_writes_cons_unit_of_mem vw f inb_S1x4352x128_S1x256x128_0_4096_0 pc [] y
      (ix3 0 ⟨(y 1 : ℕ) - 4096, by omega⟩ (y 2)) rfl ?_).trans ((hc _ _).trans (congrArg (plus was T) e.symm))
    intro a
    fin_cases a
    · show (y 0 : ℕ) = 0 + 0
      omega
    · exact (Nat.add_sub_cancel' h).symm
    · exact (Nat.zero_add _).symm
  · refine (View.read_writes_cons_unit_of_not_mem vw f inb_S1x4352x128_S1x256x128_0_4096_0 pc [] y rfl 1 (.inl (Nat.lt_of_not_le h))).trans ?_
    refine (congrFun hwas y).trans ?_
    unfold plus
    rw [hz (y 1) (y 2) (Nat.lt_of_not_le h), EReal.coe_zero, add_zero]

section Results

variable {A : Attn.Args} {b h : Fin 2} {g : Fin 4} {row : Fin 256 → Fin 4352} {x0 : Vec Ideal S1x256x128 .bf16}
  {x1 x2 : Vec Ideal S1x4352x128 .bf16} {x3 x4 x5 : Vec Ideal S1x256x128 .bf16} {x6 : Vec Ideal S1x1x1x256 .f32}
  (H : Holds A b h g row x0 x1 x2 x3 x4 x5 x6)
include H

/-- The keys' gradient after a point of latent rows. -/
theorem Holds.kPieces (hlat : ∀ r, (row r).val < 4096) (was : Vec Ideal S1x4352x128 .f32) (L) :
    View.canon (Block.kPieces x0 x1 x2 x3 x4 x5 x6 was ++ L) = plus was (kT A b h g row) :=
  canon_plus was _ _ _ _ _ _ L (H.kPL hlat was _ _ _) (H.kPL hlat was _ _ _) (H.kPL hlat was _ _ _) (H.kPL hlat was _ _ _) (H.kPC was)

/-- The values' gradient after a point of latent rows. -/
theorem Holds.vPieces (hlat : ∀ r, (row r).val < 4096) (was : Vec Ideal S1x4352x128 .f32) (L) :
    View.canon (Block.vPieces x0 x1 x3 x4 x6 was ++ L) = plus was (vT A b h g row) :=
  canon_plus was _ _ _ _ _ _ L (H.vPL hlat was _ _ _) (H.vPL hlat was _ _ _) (H.vPL hlat was _ _ _) (H.vPL hlat was _ _ _) (H.vPC was)

/-- The queries' gradient at a point of latent rows. -/
theorem Holds.qAll (hlat : ∀ r, (row r).val < 4096) (kt : Vec Ideal S128x4352 .bf16)
    (ht : ∀ d j, (kt (ix2 d j) : EReal) = ((A.k b j (Attn.kcol h d) : ℝ) : EReal)) (r : Fin 256) (d : Fin 128) :
    (Block.qAll x0 x1 x2 x3 x4 x5 x6 kt (ix3 0 r d) : EReal) = ((A.dq b h g (row r) d : ℝ) : EReal) := by
  have hq : ∀ (o : ℕ) (hr) (hs) (ho : o + 1024 ≤ 4352), (qL (View.ld kt (tL o hs)) (DL x0 x1 x2 x3 x4 x5 x6 o hr) (ix2 d r) : EReal)
      = ((∑ j, A.ds b h g (row r) (at_ 1024 o ho j) * A.k b (at_ 1024 o ho j) (Attn.kcol h d) : ℝ) : EReal) := fun o hr hs ho =>
    qL_eq A b h g row (at_ 1024 o ho) (fun r _ => .inl (hlat r)) H.q' H.u' H.z' H.e' (H.kL' o hr ho) (H.vL' o hr ho)
      (fun d j => (congrArg kt (tL_emb o hs ho d j)).trans (ht _ _)) d r
  have hc : (qC (View.ld kt tC) (DC x0 x1 x2 x3 x4 x5 x6) (ix2 d r) : EReal)
      = ((∑ j, A.ds b h g (row r) (at_ 256 4096 (by omega) j) * A.k b (at_ 256 4096 (by omega) j) (Attn.kcol h d) : ℝ) : EReal) :=
    qC_eq A b h g row (at_ 256 4096 (by omega)) (fun r j => .inr (Nat.le_add_right _ _)) H.q' H.u' H.z' H.e' H.kC' H.vC'
      (fun d j => (congrArg kt (tC_emb d j)).trans (ht _ _)) d r
  unfold Block.qAll
  rw [outB_at, Attn.ofBits_sc]
  refine (congrArg (· * _) (congrArg₂ (· + ·) (congrArg₂ (· + ·) (congrArg₂ (· + ·) (congrArg₂ (· + ·)
    (hq 0 _ _ (by omega)) (hq 1024 _ _ (by omega))) (hq 2048 _ _ (by omega))) (hq 3072 _ _ (by omega))) hc)).trans ?_
  rw [← EReal.coe_add, ← EReal.coe_add, ← EReal.coe_add, ← EReal.coe_add, ← EReal.coe_mul,
    ← sum_chunks fun j => A.ds b h g (row r) j * A.k b j (Attn.kcol h d)]
  rfl

/-- The queries' gradient at a point of context rows. -/
theorem Holds.qCtx (hctx : ∀ r, ¬(row r).val < 4096) (kt : Vec Ideal S128x4352 .bf16)
    (ht : ∀ d j, (kt (ix2 d j) : EReal) = ((A.k b j (Attn.kcol h d) : ℝ) : EReal)) (r : Fin 256) (d : Fin 128) :
    (Block.qCtx x0 x1 x2 x3 x4 x5 x6 kt (ix3 0 r d) : EReal) = ((A.dq b h g (row r) d : ℝ) : EReal) := by
  have hc : (qC (View.ld kt tC) (DC x0 x1 x2 x3 x4 x5 x6) (ix2 d r) : EReal)
      = ((∑ j, A.ds b h g (row r) (at_ 256 4096 (by omega) j) * A.k b (at_ 256 4096 (by omega) j) (Attn.kcol h d) : ℝ) : EReal) :=
    qC_eq A b h g row (at_ 256 4096 (by omega)) (fun r j => .inr (Nat.le_add_right _ _)) H.q' H.u' H.z' H.e' H.kC' H.vC'
      (fun d j => (congrArg kt (tC_emb d j)).trans (ht _ _)) d r
  unfold Block.qCtx
  rw [outB_at, Attn.ofBits_sc, hc, ← EReal.coe_mul]
  refine congrArg _ ?_
  unfold Attn.Args.dq
  rw [Attn.Args.sum_ctx (fun j => A.ds b h g (row r) j * A.k b j (Attn.kcol h d)) fun j hj => by rw [A.ds_zero b h g _ _ (hctx r) hj, zero_mul]]
  rfl

theorem Holds.kCtx {κ : Kind} {sp : Space} (hctx : ∀ r, ¬(row r).val < 4096) (vw : View sig κ sp S1x4352x128 .f32)
    (f : vw.ty.Contents (Elt Ideal)) (was : Vec Ideal S1x4352x128 .f32) (hwas : vw.read (Elt Ideal) f = was) :
    vw.read (Elt Ideal) (vw.writes (Elt Ideal) f [Block.kPC x0 x1 x2 x3 x4 x5 x6 was]) = plus was (kT A b h g row) :=
  writes_plus vw f was _ _ hwas (H.kPC was) fun j d hj => Finset.sum_eq_zero fun r _ => by
    rw [A.ds_zero b h g _ _ (hctx r) hj, zero_mul, zero_mul]

theorem Holds.vCtx {κ : Kind} {sp : Space} (hctx : ∀ r, ¬(row r).val < 4096) (vw : View sig κ sp S1x4352x128 .f32)
    (f : vw.ty.Contents (Elt Ideal)) (was : Vec Ideal S1x4352x128 .f32) (hwas : vw.read (Elt Ideal) f = was) :
    vw.read (Elt Ideal) (vw.writes (Elt Ideal) f [Block.vPC x0 x1 x3 x4 x6 was]) = plus was (vT A b h g row) :=
  writes_plus vw f was _ _ hwas (H.vPC was) fun j d hj => Finset.sum_eq_zero fun r _ => by
    rw [A.P_zero b h g _ _ (hctx r) hj, zero_mul]

/-- The gate's gradient. -/
theorem Holds.g' (r : Fin 256) (d : Fin 128) : (gB x3 x4 x5 (ix3 0 r d) : EReal) = ((A.dg b h g (row r) d : ℝ) : EReal) :=
  gB_eq A b h g row H.gate H.dz H.y r d

end Results

end Cert.KernelIdeal.Block
-- ==== Proof.HostOps.lean ====
/- What the host computes before the kernel: the attention's output and each row's log-sum, as the formulas of `Spec`. -/
module

public import proofs.«01_k».proof.Proof.Gen.KernelIdeal.Frame.Runs
public import proofs.«01_k».proof.Proof.Spec
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem

namespace Cert.KernelIdeal.Host

open Cert.KernelIdeal Cert.KernelIdeal.Gen

variable (q : FVec Ideal S2x4352x1024 .bf16) (k v : FVec Ideal S2x4352x256 .bf16)

/-! ## The operations -/

/-- The queries by head. -/
def qh : FVec Ideal S2x4352x2x4x128 .f32 :=
  shapeCast S2x4352x2x4x128 (extf .f32 q bitsLt_bf16_f32) shapeCasts_S2x4352x1024_S2x4352x2x4x128

/-- The keys, or the values, by head. -/
def kh : FVec Ideal S2x4352x2x128 .f32 :=
  shapeCast S2x4352x2x128 (extf .f32 k bitsLt_bf16_f32) shapeCasts_S2x4352x256_S2x4352x2x128
/-- The logarithm of two. -/
def logTwo : FVec Ideal S_ .f32 := Host.log (constant S_ .f32 0x40000000#32)

/-- The scaled scores of the latent rows. -/
def sLat : FVec Ideal S2x2x4x4096x4352 .f32 :=
  mulf (transpose S2x2x4x4096x4352 [0, 1, 4, 3, 2]
      (Host.dotGeneral dot_S2x4352x2x128_S2x4096x2x4x128_S2x2x4352x4096x4_3_4_1_13_02_02 none
        (kh k)
        (extractStridedSlice S2x4096x2x4x128 ![0, 0, 0, 0, 0] (qh q) slices_S2x4352x2x4x128_S2x4096x2x4x128_0_0_0_0_0))
      transposes_S2x2x4352x4096x4_S2x2x4x4096x4352_0_1_4_3_2)
    (broadcastInDim S2x2x4x4096x4352 ![] bcast_S_S2x2x4x4096x4352 (constant S_ .f32 0x3DB504F3#32))

/-- Each latent row's greatest score. -/
def mLat : FVec Ideal S2x2x4x4096x1 .f32 :=
  broadcastInDim S2x2x4x4096x1 ![0, 1, 2, 3] bcast_S2x2x4x4096_S2x2x4x4096x1_0_1_2_3
    (Host.reduce FloatOps.maximumf (sLat q k) (constant S_ .f32 0xFF800000#32) reducesTo_S2x2x4x4096x4352_S2x2x4x4096_d4 h_S_)

/-- The exponentials of the latent rows. -/
def eLat : FVec Ideal S2x2x4x4096x4352 .f32 :=
  Host.exp (subf (sLat q k)
    (broadcastInDim S2x2x4x4096x4352 ![0, 1, 2, 3, 4] bcast_S2x2x4x4096x1_S2x2x4x4096x4352_0_1_2_3_4 (mLat q k)))

/-- Each latent row's sum of exponentials. -/
def lLat : FVec Ideal S2x2x4x4096x1 .f32 :=
  broadcastInDim S2x2x4x4096x1 ![0, 1, 2, 3] bcast_S2x2x4x4096_S2x2x4x4096x1_0_1_2_3
    (Host.reduceAdd (eLat q k) (constant S_ .f32 0x00000000#32) reducesTo_S2x2x4x4096x4352_S2x2x4x4096_d4 h_S_)

/-- The latent rows' weighted values. -/
def oLat : FVec Ideal S2x4096x2x4x128 .f32 :=
  transpose S2x4096x2x4x128 [0, 4, 1, 3, 2]
    (Host.dotGeneral dot_S2x4352x2x128_S2x2x4x4096x4352_S2x2x128x4x4096_1_4_3_23_02_01 none
      (kh v)
      (Host.divf (eLat q k) (broadcastInDim S2x2x4x4096x4352 ![0, 1, 2, 3, 4] bcast_S2x2x4x4096x1_S2x2x4x4096x4352_0_1_2_3_4 (lLat q k))))
    transposes_S2x2x128x4x4096_S2x4096x2x4x128_0_4_1_3_2

/-- The latent rows' log-sums in base 2, in a column. -/
def cLat : FVec Ideal S2x2x4x4096x1 .f32 :=
  Host.divf (addf (mLat q k) (Host.log (lLat q k)))
    (broadcastInDim S2x2x4x4096x1 ![] bcast_S_S2x2x4x4096x1 logTwo)

/-- The latent rows' log-sums in base 2. -/
def zLat : FVec Ideal S2x2x4x4096 .f32 := shapeCast S2x2x4x4096 (cLat q k) shapeCasts_S2x2x4x4096x1_S2x2x4x4096

/-- The scaled scores of the context rows. -/
def sCtx : FVec Ideal S2x2x4x256x256 .f32 :=
  mulf (transpose S2x2x4x256x256 [0, 1, 4, 3, 2]
      (Host.dotGeneral dot_S2x256x2x128_S2x256x2x4x128_S2x2x256x256x4_3_4_1_13_02_02 none
        (extractStridedSlice S2x256x2x128 ![0, 4096, 0, 0] (kh k) slices_S2x4352x2x128_S2x256x2x128_0_4096_0_0)
        (extractStridedSlice S2x256x2x4x128 ![0, 4096, 0, 0, 0] (qh q) slices_S2x4352x2x4x128_S2x256x2x4x128_0_4096_0_0_0))
      transposes_S2x2x256x256x4_S2x2x4x256x256_0_1_4_3_2)
    (broadcastInDim S2x2x4x256x256 ![] bcast_S_S2x2x4x256x256 (constant S_ .f32 0x3DB504F3#32))

/-- Each context row's greatest score. -/
def mCtx : FVec Ideal S2x2x4x256x1 .f32 :=
  broadcastInDim S2x2x4x256x1 ![0, 1, 2, 3] bcast_S2x2x4x256_S2x2x4x256x1_0_1_2_3
    (Host.reduce FloatOps.maximumf (sCtx q k) (constant S_ .f32 0xFF800000#32) reducesTo_S2x2x4x256x256_S2x2x4x256_d4 h_S_)

/-- The exponentials of the context rows. -/
def eCtx : FVec Ideal S2x2x4x256x256 .f32 :=
  Host.exp (subf (sCtx q k)
    (broadcastInDim S2x2x4x256x256 ![0, 1, 2, 3, 4] bcast_S2x2x4x256x1_S2x2x4x256x256_0_1_2_3_4 (mCtx q k)))

/-- Each context row's sum of exponentials. -/
def lCtx : FVec Ideal S2x2x4x256x1 .f32 :=
  broadcastInDim S2x2x4x256x1 ![0, 1, 2, 3] bcast_S2x2x4x256_S2x2x4x256x1_0_1_2_3
    (Host.reduceAdd (eCtx q k) (constant S_ .f32 0x00000000#32) reducesTo_S2x2x4x256x256_S2x2x4x256_d4 h_S_)

/-- The context rows' weighted values. -/
def oCtx : FVec Ideal S2x256x2x4x128 .f32 :=
  transpose S2x256x2x4x128 [0, 4, 1, 3, 2]
    (Host.dotGeneral dot_S2x256x2x128_S2x2x4x256x256_S2x2x128x4x256_1_4_3_23_02_01 none
      (extractStridedSlice S2x256x2x128 ![0, 4096, 0, 0] (kh v) slices_S2x4352x2x128_S2x256x2x128_0_4096_0_0)
      (Host.divf (eCtx q k) (broadcastInDim S2x2x4x256x256 ![0, 1, 2, 3, 4] bcast_S2x2x4x256x1_S2x2x4x256x256_0_1_2_3_4 (lCtx q k))))
    transposes_S2x2x128x4x256_S2x256x2x4x128_0_4_1_3_2

/-- The context rows' log-sums in base 2, in a column. -/
def cCtx : FVec Ideal S2x2x4x256x1 .f32 :=
  Host.divf (addf (mCtx q k) (Host.log (lCtx q k)))
    (broadcastInDim S2x2x4x256x1 ![] bcast_S_S2x2x4x256x1 logTwo)

/-- The context rows' log-sums in base 2. -/
def zCtx : FVec Ideal S2x2x4x256 .f32 := shapeCast S2x2x4x256 (cCtx q k) shapeCasts_S2x2x4x256x1_S2x2x4x256

/-- The saved output, as the kernel receives it. -/
def saved : FVec Ideal S2x4352x1024 .bf16 :=
  truncf .bf16 (shapeCast S2x4352x1024
    (concatenate S2x4352x2x4x128 1 [⟨S2x4096x2x4x128, oLat q k v⟩, ⟨S2x256x2x4x128, oCtx q k v⟩]
      concatenates_S2x4096x2x4x128_S2x256x2x4x128_S2x4352x2x4x128_d1) shapeCasts_S2x4352x2x4x128_S2x4352x1024) bitsLt_bf16_f32

/-- The saved log-sums, as the kernel receives them. -/
def savedSum : FVec Ideal S2x8x1x4352 .f32 :=
  shapeCast S2x8x1x4352
    (concatenate S2x2x4x4352 3 [⟨S2x2x4x4096, zLat q k⟩, ⟨S2x2x4x256, zCtx q k⟩]
      concatenates_S2x2x4x4096_S2x2x4x256_S2x2x4x4352_d3) shapeCasts_S2x2x4x4352_S2x8x1x4352

/-! ## At an index -/

theorem qh_at (b : Fin 2) (t : Fin 4352) (h : Fin 2) (g : Fin 4) (d : Fin 128) :
    qh q (ix5 b t h g d) = q (ix3 b t (Attn.qcol h g d)) := by
  pointwise [qh]
  refine congrArg (fun c => q (ix3 b t c)) (Fin.ext ?_)
  show h.val * 512 + g.val * 128 + d.val = (h.val * 4 + g.val) * 128 + d.val
  omega

theorem kh_at (b : Fin 2) (t : Fin 4352) (h : Fin 2) (d : Fin 128) :
    kh k (ix4 b t h d) = k (ix3 b t (Attn.kcol h d)) := by
  pointwise [kh]
  rfl

theorem logTwo_at (i : S_.Idx) : (logTwo i : EReal) = ((Real.log 2 : ℝ) : EReal) := by
  have e : (logTwo i : EReal) = Ideal.log (Ideal.ofBits .f32 0x40000000#32) := rfl
  rw [e, Attn.ofBits_two, Attn.log_coe two_pos]

end Cert.KernelIdeal.Host
-- ==== Proof.HostRun.lean ====
/- The host's operations leave those values in the kernel's operands. -/
module

public import proofs.«01_k».proof.Proof.HostOps
public import proofs.«01_k».proof.Proof.Gen.KernelIdeal.Frame.Runs
public import Idealize.ShloMosaic.Lib.StableHlo.ReadAt

@[expose] public section

set_option maxRecDepth 16384

noncomputable section

open Idealize.ShloMosaic Idealize.ShloMosaic.TcCoe Idealize.SL.Sem

namespace Cert.KernelIdeal.Host

open Cert.KernelIdeal Cert.KernelIdeal.Gen

/-! ## In the kernel's operands -/

variable (m : (ℓ : Loc nD τ sig) → Buf (Elt Ideal) ℓ)

set_option maxHeartbeats 4000000 in
theorem read_oLat (c : Dev nD) : @Eq (FVec Ideal S2x4096x2x4x128 .f32)
    (StableHlo.upto hostOps0 (fun b => m (c, b)) 60 (Proc.tc.devRef main_v21))
    (oLat (m ((c : Thread nD τ).loc main_arg0)) (m ((c : Thread nD τ).loc main_arg1)) (m ((c : Thread nD τ).loc main_arg2))) := by
  after_reads_simp
  rfl

set_option maxHeartbeats 4000000 in
theorem read_zLat (c : Dev nD) : @Eq (FVec Ideal S2x2x4x4096 .f32)
    (StableHlo.upto hostOps0 (fun b => m (c, b)) 63 (Proc.tc.devRef main_v27))
    (zLat (m ((c : Thread nD τ).loc main_arg0)) (m ((c : Thread nD τ).loc main_arg1))) := by
  after_reads_simp
  rfl

set_option maxHeartbeats 4000000 in
theorem read_oCtx (c : Dev nD) : @Eq (FVec Ideal S2x256x2x4x128 .f32)
    (StableHlo.upto hostOps0 (fun b => m (c, b)) 60 (Proc.tc.devRef main_v45))
    (oCtx (m ((c : Thread nD τ).loc main_arg0)) (m ((c : Thread nD τ).loc main_arg1)) (m ((c : Thread nD τ).loc main_arg2))) := by
  after_reads_simp
  rfl

set_option maxHeartbeats 4000000 in
theorem read_zCtx (c : Dev nD) : @Eq (FVec Ideal S2x2x4x256 .f32)
    (StableHlo.upto hostOps0 (fun b => m (c, b)) 63 (Proc.tc.devRef main_v51))
    (zCtx (m ((c : Thread nD τ).loc main_arg0)) (m ((c : Thread nD τ).loc main_arg1))) := by
  after_reads_simp
  rfl

set_option maxHeartbeats 4000000 in
theorem V_saved (c : Dev nD) : @Eq (FVec Ideal S2x4352x1024 .bf16) (V m c main_v54)
    (saved (m ((c : Thread nD τ).loc main_arg0)) (m ((c : Thread nD τ).loc main_arg1)) (m ((c : Thread nD τ).loc main_arg2))) := by
  unfold V
  after_reads_simp
  rw [saved, ← read_oLat m c, ← read_oCtx m c]
  rfl

set_option maxHeartbeats 4000000 in
theorem V_savedSum (c : Dev nD) : @Eq (FVec Ideal S2x8x1x4352 .f32) (V m c main_v56)
    (savedSum (m ((c : Thread nD τ).loc main_arg0)) (m ((c : Thread nD τ).loc main_arg1))) := by
  unfold V
  after_reads_simp
  rw [savedSum, ← read_zLat m c, ← read_zCtx m c]
  rfl

end Cert.KernelIdeal.Host
-- ==== Proof.HostLat.lean ====
/- The host's latent rows at an index. -/
module

public import proofs.«01_k».proof.Proof.HostOps

@[expose] public section

set_option maxRecDepth 16384

noncomputable section

open Idealize.ShloMosaic Idealize.ShloMosaic.TcCoe Idealize.SL.Sem

namespace Cert.KernelIdeal.Host

open Cert.KernelIdeal Cert.KernelIdeal.Gen

variable (q : FVec Ideal S2x4352x1024 .bf16) (k v : FVec Ideal S2x4352x256 .bf16)
variable (A : Attn.Args) (hq : ∀ b t c, (q (ix3 b t c) : EReal) = ((A.q b t c : ℝ) : EReal))
  (hk : ∀ b t c, (k (ix3 b t c) : EReal) = ((A.k b t c : ℝ) : EReal))
  (hv : ∀ b t c, (v (ix3 b t c) : EReal) = ((A.v b t c : ℝ) : EReal))

include hq hk in
theorem sLat_at (b h : Fin 2) (g : Fin 4) (t : Fin 4096) (j : Fin 4352) :
    (sLat q k (ix5 b h g t j) : EReal) = ((A.latRow b h g (Attn.lat t) j : ℝ) : EReal) := by
  have e : (sLat q k (ix5 b h g t j) : EReal)
      = (∑ x, kh k (ix4 b j h x) * qh q (ix5 b (Attn.lat t) h g x)) * Ideal.ofBits .f32 0x3DB504F3#32 := by
    pointwise [sLat]
    rfl
  rw [e, Attn.ofBits_sc]
  simp only [kh_at, qh_at, hq, hk, ← EReal.coe_mul, Attn.coe_sum]
  rfl

include hq hk in
theorem mLat_at (b h : Fin 2) (g : Fin 4) (t : Fin 4096) (j : Fin 1) :
    (mLat q k (ix5 b h g t j) : EReal) = ((Attn.top (A.latRow b h g (Attn.lat t)) : ℝ) : EReal) := by
  pointwise [mLat]
  simp only [sLat_at q k A hq hk]
  exact (congrArg (fun z => Finset.univ.fold max z _) Attn.ofBits_neg_inf).trans (Attn.fold_max_coe _)

include hq hk in
theorem eLat_at (b h : Fin 2) (g : Fin 4) (t : Fin 4096) (j : Fin 4352) :
    (eLat q k (ix5 b h g t j) : EReal) = ((Attn.wgt (A.latRow b h g (Attn.lat t)) j : ℝ) : EReal) := by
  have e : (eLat q k (ix5 b h g t j) : EReal) = Ideal.exp ((sLat q k (ix5 b h g t j) : EReal) - (mLat q k (ix5 b h g t 0) : EReal)) := by
    pointwise [eLat]
  rw [e, sLat_at q k A hq hk, mLat_at q k A hq hk, ← EReal.coe_sub, Attn.exp_coe]
  rfl

include hq hk in
theorem lLat_at (b h : Fin 2) (g : Fin 4) (t : Fin 4096) (j : Fin 1) :
    (lLat q k (ix5 b h g t j) : EReal) = ((Attn.tot (A.latRow b h g (Attn.lat t)) : ℝ) : EReal) := by
  pointwise [lLat]
  simp only [eLat_at q k A hq hk, Attn.coe_sum]
  rfl

include hq hk in
/-- The weighted values, whatever the values are. -/
theorem oLat_weights (b : Fin 2) (t : Fin 4096) (h : Fin 2) (g : Fin 4) (d : Fin 128) :
    (oLat q k v (ix5 b t h g d) : EReal)
      = ∑ j : Fin 4352, (v (ix3 b j (Attn.kcol h d)) : EReal) * ((Attn.prob (A.latRow b h g (Attn.lat t)) j : ℝ) : EReal) := by
  have e : (oLat q k v (ix5 b t h g d) : EReal)
      = ∑ j : Fin 4352, (kh v (ix4 b j h d) : EReal) * Ideal.div (eLat q k (ix5 b h g t j)) (lLat q k (ix5 b h g t 0)) := by
    pointwise [oLat]
    all_goals rfl
  rw [e]
  simp only [kh_at, eLat_at q k A hq hk, lLat_at q k A hq hk, Attn.div_coe (Attn.tot_ne _)]
  rfl

include hq hk hv in
theorem oLat_at (b : Fin 2) (t : Fin 4096) (h : Fin 2) (g : Fin 4) (d : Fin 128) :
    (oLat q k v (ix5 b t h g d) : EReal)
      = ((∑ j : Fin 4352, A.v b j (Attn.kcol h d) * Attn.prob (A.latRow b h g (Attn.lat t)) j : ℝ) : EReal) := by
  refine (oLat_weights q k v A hq hk b t h g d).trans ?_
  simp only [hv, ← EReal.coe_mul, Attn.coe_sum]

theorem logLat (x y : FVec Ideal S2x2x4x4096x1 .f32) (z : FVec Ideal S_ .f32) (b h : Fin 2) (g : Fin 4) (t : Fin 4096) :
    (Host.divf (addf x (Host.log y)) (broadcastInDim S2x2x4x4096x1 ![] bcast_S_S2x2x4x4096x1 z) (ix5 b h g t 0) : EReal)
      = Ideal.div ((x (ix5 b h g t 0) : EReal) + Ideal.log (y (ix5 b h g t 0))) (z ix0) := by
  pointwise

include hq hk in
theorem cLat_at (b h : Fin 2) (g : Fin 4) (t : Fin 4096) :
    (cLat q k (ix5 b h g t 0) : EReal)
      = (((Attn.top (A.latRow b h g (Attn.lat t)) + Real.log (Attn.tot (A.latRow b h g (Attn.lat t)))) / Real.log 2 : ℝ) : EReal) := by
  refine (logLat (mLat q k) (lLat q k) logTwo b h g t).trans ?_
  rw [mLat_at q k A hq hk, lLat_at q k A hq hk, Attn.log_coe (Attn.tot_pos _), logTwo_at,
    ← EReal.coe_add, Attn.div_coe (Real.log_pos one_lt_two).ne']

theorem dropLat (x : FVec Ideal S2x2x4x4096x1 .f32) (b h : Fin 2) (g : Fin 4) (t : Fin 4096) :
    shapeCast S2x2x4x4096 x shapeCasts_S2x2x4x4096x1_S2x2x4x4096 (ix4 b h g t) = x (ix5 b h g t 0) := by
  pointwise

include hq hk in
theorem zLat_at (b h : Fin 2) (g : Fin 4) (t : Fin 4096) :
    (zLat q k (ix4 b h g t) : EReal)
      = (((Attn.top (A.latRow b h g (Attn.lat t)) + Real.log (Attn.tot (A.latRow b h g (Attn.lat t)))) / Real.log 2 : ℝ) : EReal) :=
  (dropLat _ b h g t).trans (cLat_at q k A hq hk b h g t)

end Cert.KernelIdeal.Host
-- ==== Proof.HostCtx.lean ====
/- The host's context rows at an index. -/
module

public import proofs.«01_k».proof.Proof.HostOps

@[expose] public section

set_option maxRecDepth 16384

noncomputable section

open Idealize.ShloMosaic Idealize.ShloMosaic.TcCoe Idealize.SL.Sem

namespace Cert.KernelIdeal.Host

open Cert.KernelIdeal Cert.KernelIdeal.Gen

variable (q : FVec Ideal S2x4352x1024 .bf16) (k v : FVec Ideal S2x4352x256 .bf16)
variable (A : Attn.Args) (hq : ∀ b t c, (q (ix3 b t c) : EReal) = ((A.q b t c : ℝ) : EReal))
  (hk : ∀ b t c, (k (ix3 b t c) : EReal) = ((A.k b t c : ℝ) : EReal))
  (hv : ∀ b t c, (v (ix3 b t c) : EReal) = ((A.v b t c : ℝ) : EReal))

include hq hk in
theorem sCtx_at (b h : Fin 2) (g : Fin 4) (t : Fin 256) (j : Fin 256) :
    (sCtx q k (ix5 b h g t j) : EReal) = ((A.ctxRow b h g (Attn.cx t) j : ℝ) : EReal) := by
  have e : (sCtx q k (ix5 b h g t j) : EReal)
      = (∑ x, kh k (ix4 b (Attn.cx j) h x) * qh q (ix5 b (Attn.cx t) h g x)) * Ideal.ofBits .f32 0x3DB504F3#32 := by
    pointwise [sCtx]
    rfl
  rw [e, Attn.ofBits_sc]
  simp only [kh_at, qh_at, hq, hk, ← EReal.coe_mul, Attn.coe_sum]
  rfl

include hq hk in
theorem mCtx_at (b h : Fin 2) (g : Fin 4) (t : Fin 256) (j : Fin 1) :
    (mCtx q k (ix5 b h g t j) : EReal) = ((Attn.top (A.ctxRow b h g (Attn.cx t)) : ℝ) : EReal) := by
  pointwise [mCtx]
  simp only [sCtx_at q k A hq hk]
  exact (congrArg (fun z => Finset.univ.fold max z _) Attn.ofBits_neg_inf).trans (Attn.fold_max_coe _)

include hq hk in
theorem eCtx_at (b h : Fin 2) (g : Fin 4) (t : Fin 256) (j : Fin 256) :
    (eCtx q k (ix5 b h g t j) : EReal) = ((Attn.wgt (A.ctxRow b h g (Attn.cx t)) j : ℝ) : EReal) := by
  have e : (eCtx q k (ix5 b h g t j) : EReal) = Ideal.exp ((sCtx q k (ix5 b h g t j) : EReal) - (mCtx q k (ix5 b h g t 0) : EReal)) := by
    pointwise [eCtx]
  rw [e, sCtx_at q k A hq hk, mCtx_at q k A hq hk, ← EReal.coe_sub, Attn.exp_coe]
  rfl

include hq hk in
theorem lCtx_at (b h : Fin 2) (g : Fin 4) (t : Fin 256) (j : Fin 1) :
    (lCtx q k (ix5 b h g t j) : EReal) = ((Attn.tot (A.ctxRow b h g (Attn.cx t)) : ℝ) : EReal) := by
  pointwise [lCtx]
  simp only [eCtx_at q k A hq hk, Attn.coe_sum]
  rfl

include hq hk in
/-- The weighted values, whatever the values are. -/
theorem oCtx_weights (b : Fin 2) (t : Fin 256) (h : Fin 2) (g : Fin 4) (d : Fin 128) :
    (oCtx q k v (ix5 b t h g d) : EReal)
      = ∑ j : Fin 256, (v (ix3 b (Attn.cx j) (Attn.kcol h d)) : EReal) * ((Attn.prob (A.ctxRow b h g (Attn.cx t)) j : ℝ) : EReal) := by
  have e : (oCtx q k v (ix5 b t h g d) : EReal)
      = ∑ j : Fin 256, (kh v (ix4 b (Attn.cx j) h d) : EReal) * Ideal.div (eCtx q k (ix5 b h g t j)) (lCtx q k (ix5 b h g t 0)) := by
    pointwise [oCtx]
    all_goals rfl
  rw [e]
  simp only [kh_at, eCtx_at q k A hq hk, lCtx_at q k A hq hk, Attn.div_coe (Attn.tot_ne _)]
  rfl

include hq hk hv in
theorem oCtx_at (b : Fin 2) (t : Fin 256) (h : Fin 2) (g : Fin 4) (d : Fin 128) :
    (oCtx q k v (ix5 b t h g d) : EReal)
      = ((∑ j : Fin 256, A.v b (Attn.cx j) (Attn.kcol h d) * Attn.prob (A.ctxRow b h g (Attn.cx t)) j : ℝ) : EReal) := by
  refine (oCtx_weights q k v A hq hk b t h g d).trans ?_
  simp only [hv, ← EReal.coe_mul, Attn.coe_sum]

theorem logCtx (x y : FVec Ideal S2x2x4x256x1 .f32) (z : FVec Ideal S_ .f32) (b h : Fin 2) (g : Fin 4) (t : Fin 256) :
    (Host.divf (addf x (Host.log y)) (broadcastInDim S2x2x4x256x1 ![] bcast_S_S2x2x4x256x1 z) (ix5 b h g t 0) : EReal)
      = Ideal.div ((x (ix5 b h g t 0) : EReal) + Ideal.log (y (ix5 b h g t 0))) (z ix0) := by
  pointwise

include hq hk in
theorem cCtx_at (b h : Fin 2) (g : Fin 4) (t : Fin 256) :
    (cCtx q k (ix5 b h g t 0) : EReal)
      = (((Attn.top (A.ctxRow b h g (Attn.cx t)) + Real.log (Attn.tot (A.ctxRow b h g (Attn.cx t)))) / Real.log 2 : ℝ) : EReal) := by
  refine (logCtx (mCtx q k) (lCtx q k) logTwo b h g t).trans ?_
  rw [mCtx_at q k A hq hk, lCtx_at q k A hq hk, Attn.log_coe (Attn.tot_pos _), logTwo_at,
    ← EReal.coe_add, Attn.div_coe (Real.log_pos one_lt_two).ne']

theorem dropCtx (x : FVec Ideal S2x2x4x256x1 .f32) (b h : Fin 2) (g : Fin 4) (t : Fin 256) :
    shapeCast S2x2x4x256 x shapeCasts_S2x2x4x256x1_S2x2x4x256 (ix4 b h g t) = x (ix5 b h g t 0) := by
  pointwise

include hq hk in
theorem zCtx_at (b h : Fin 2) (g : Fin 4) (t : Fin 256) :
    (zCtx q k (ix4 b h g t) : EReal)
      = (((Attn.top (A.ctxRow b h g (Attn.cx t)) + Real.log (Attn.tot (A.ctxRow b h g (Attn.cx t)))) / Real.log 2 : ℝ) : EReal) :=
  (dropCtx _ b h g t).trans (cCtx_at q k A hq hk b h g t)

end Cert.KernelIdeal.Host
-- ==== Proof.HostSaved.lean ====
/- What the kernel receives from the forward pass: the attention's output and the log-sums. -/
module

public import proofs.«01_k».proof.Proof.HostLat
public import proofs.«01_k».proof.Proof.HostCtx

@[expose] public section

set_option maxRecDepth 16384

noncomputable section

open Idealize.ShloMosaic Idealize.ShloMosaic.TcCoe Idealize.SL.Sem

namespace Cert.KernelIdeal.Host

open Cert.KernelIdeal Cert.KernelIdeal.Gen

variable (q : FVec Ideal S2x4352x1024 .bf16) (k v : FVec Ideal S2x4352x256 .bf16)
variable (A : Attn.Args) (hq : ∀ b t c, (q (ix3 b t c) : EReal) = ((A.q b t c : ℝ) : EReal))
  (hk : ∀ b t c, (k (ix3 b t c) : EReal) = ((A.k b t c : ℝ) : EReal))
  (hv : ∀ b t c, (v (ix3 b t c) : EReal) = ((A.v b t c : ℝ) : EReal))

theorem join_at (x : FVec Ideal S2x4096x2x4x128 .f32) (y : FVec Ideal S2x256x2x4x128 .f32) (b : Fin 2) (t : Fin 4352) (h : Fin 2)
    (g : Fin 4) (d : Fin 128) :
    shapeCast S2x4352x1024
      (concatenate S2x4352x2x4x128 1 [⟨S2x4096x2x4x128, x⟩, ⟨S2x256x2x4x128, y⟩]
        concatenates_S2x4096x2x4x128_S2x256x2x4x128_S2x4352x2x4x128_d1) shapeCasts_S2x4352x2x4x128_S2x4352x1024
      (ix3 b t (Attn.qcol h g d))
    = if ht : t.val < 4096 then x (ix5 b ⟨t.val, ht⟩ h g d) else y (ix5 b ⟨t.val - 4096, by omega⟩ h g d) := by
  have h1 : (⟨(Attn.qcol h g d).val / 512, by have := (Attn.qcol h g d).isLt; omega⟩ : Fin 2) = h := Fin.ext (by
    show ((h.val * 4 + g.val) * 128 + d.val) / 512 = h.val; omega)
  have h2 : (⟨(Attn.qcol h g d).val / 128 % 4, by omega⟩ : Fin 4) = g := Fin.ext (by
    show ((h.val * 4 + g.val) * 128 + d.val) / 128 % 4 = g.val; omega)
  have h3 : (⟨(Attn.qcol h g d).val % 128, by omega⟩ : Fin 128) = d := Fin.ext (by
    show ((h.val * 4 + g.val) * 128 + d.val) % 128 = d.val; omega)
  have e : ∀ {n : Nat} (a : Fin n), ix5 b a ⟨(Attn.qcol h g d).val / 512, by have := (Attn.qcol h g d).isLt; omega⟩
      ⟨(Attn.qcol h g d).val / 128 % 4, by omega⟩ ⟨(Attn.qcol h g d).val % 128, by omega⟩ = ix5 b a h g d := by
    intro n a; rw [h1, h2, h3]
  pointwise
  by_cases ht : t.val < 4096
  · rw [dif_pos ht, dif_pos ht]
    exact congrArg x (e _)
  · rw [dif_neg ht, dif_neg ht]
    exact congrArg y (e _)

theorem trunc_at (x : FVec Ideal S2x4352x1024 .f32) (i : S2x4352x1024.Idx) :
    (truncf .bf16 x bitsLt_bf16_f32 i : EReal) = x i := rfl

theorem joinSum_at (x : FVec Ideal S2x2x4x4096 .f32) (y : FVec Ideal S2x2x4x256 .f32) (b : Fin 2) (h : Fin 2) (g : Fin 4) (t : Fin 4352) :
    shapeCast S2x8x1x4352
      (concatenate S2x2x4x4352 3 [⟨S2x2x4x4096, x⟩, ⟨S2x2x4x256, y⟩]
        concatenates_S2x2x4x4096_S2x2x4x256_S2x2x4x4352_d3) shapeCasts_S2x2x4x4352_S2x8x1x4352
      (ix4 b ⟨h.val * 4 + g.val, by omega⟩ 0 t)
    = if ht : t.val < 4096 then x (ix4 b h g ⟨t.val, ht⟩) else y (ix4 b h g ⟨t.val - 4096, by omega⟩) := by
  pointwise

/-- A position of the first 4096 as a latent one, or of the last 256 as one of the context. -/
theorem lat_eq (t : Fin 4352) (ht : t.val < 4096) : Attn.lat ⟨t.val, ht⟩ = t := rfl
theorem cx_eq (t : Fin 4352) (ht : ¬ t.val < 4096) : Attn.cx ⟨t.val - 4096, by omega⟩ = t := Fin.ext (by
  show 4096 + (t.val - 4096) = t.val; omega)

include hq hk hv in
/-- The saved output is the attention's output. -/
theorem saved_at (b : Fin 2) (t : Fin 4352) (h : Fin 2) (g : Fin 4) (d : Fin 128) :
    (saved q k v (ix3 b t (Attn.qcol h g d)) : EReal) = ((A.y b h g t d : ℝ) : EReal) := by
  unfold saved
  refine (trunc_at _ _).trans ?_
  refine (join_at (oLat q k v) (oCtx q k v) b t h g d).trans ?_
  by_cases ht : t.val < 4096
  · rw [dif_pos ht]
    refine (oLat_at q k v A hq hk hv b _ h g d).trans (congrArg _ ?_)
    rw [lat_eq t ht]
    exact Finset.sum_congr rfl fun j _ => by rw [Attn.Args.P_lat A b h g t j ht]
  · rw [dif_neg ht]
    refine (oCtx_at q k v A hq hk hv b _ h g d).trans (congrArg _ ?_)
    rw [cx_eq t ht, Attn.Args.y, Attn.Args.sum_ctx _ (fun j hj => by rw [Attn.Args.P_zero A b h g t j ht hj, mul_zero])]
    exact Finset.sum_congr rfl fun j _ => by rw [Attn.Args.P_cx A b h g t j ht]

include hq hk in
/-- The saved log-sum is the row's log-sum in base 2. -/
theorem savedSum_at (b : Fin 2) (h : Fin 2) (g : Fin 4) (t : Fin 4352) :
    (savedSum q k (ix4 b ⟨h.val * 4 + g.val, by omega⟩ 0 t) : EReal) = ((A.lse2 b h g t : ℝ) : EReal) := by
  refine (joinSum_at (zLat q k) (zCtx q k) b h g t).trans ?_
  by_cases ht : t.val < 4096
  · rw [dif_pos ht]
    refine (zLat_at q k A hq hk b h g _).trans (congrArg _ ?_)
    rw [lat_eq t ht, Attn.Args.lse2, if_pos ht]
  · rw [dif_neg ht]
    refine (zCtx_at q k A hq hk b h g _).trans (congrArg _ ?_)
    rw [cx_eq t ht, Attn.Args.lse2, if_neg ht]

end Cert.KernelIdeal.Host
-- ==== Proof.Grid.lean ====
/- Where a grid point stands, and what its blocks hold. -/
module

public import proofs.«01_k».proof.Proof.Steps
public import proofs.«01_k».proof.Proof.HostRun
public import proofs.«01_k».proof.Proof.HostSaved
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

theorem lt_N (t : Fin cfg0.N) : t.val < 272 := lt_of_lt_of_eq t.isLt N_0

/-- The batch, the key head, the group and the rows of point `n`. -/
def bOf (n : ℕ) : Fin 2 := ⟨n / 136 % 2, Nat.mod_lt _ (by omega)⟩
def hOf (n : ℕ) : Fin 2 := ⟨n / 68 % 2, Nat.mod_lt _ (by omega)⟩
def gOf (n : ℕ) : Fin 4 := ⟨n / 17 % 4, Nat.mod_lt _ (by omega)⟩
def rowOf (n : ℕ) (r : Fin 256) : Fin 4352 := ⟨n % 17 * 256 + r.val, by have := Nat.mod_lt n (show 0 < 17 by omega); omega⟩

theorem idxQ : ∀ t : Fin cfg0.N, win0_0.index t = ![t.val / 136, t.val % 17, t.val / 17 % 8]
    ∧ win0_3.index t = ![t.val / 136, t.val % 17, t.val / 17 % 8]
    ∧ win0_4.index t = ![t.val / 136, t.val % 17, t.val / 17 % 8]
    ∧ win0_5.index t = ![t.val / 136, t.val % 17, t.val / 17 % 8]
    ∧ win0_7.index t = ![t.val / 136, t.val % 17, t.val / 17 % 8]
    ∧ win0_10.index t = ![t.val / 136, t.val % 17, t.val / 17 % 8] :=
  (by decide +kernel : ∀ t : Fin grid0.N, _)

theorem idxK : ∀ t : Fin cfg0.N, win0_1.index t = ![t.val / 136, 0, t.val / 68 % 2]
    ∧ win0_2.index t = ![t.val / 136, 0, t.val / 68 % 2]
    ∧ win0_8.index t = ![t.val / 136, 0, t.val / 68 % 2]
    ∧ win0_9.index t = ![t.val / 136, 0, t.val / 68 % 2]
    ∧ win0_6.index t = ![t.val / 136, t.val / 17 % 8, 0, t.val % 17] :=
  (by decide +kernel : ∀ t : Fin grid0.N, _)

section Reads

variable (c : Dev nD) (t : Fin cfg0.N)

theorem q_read (r : Fin 256) (d : Fin 128) :
    ((iblk m c 0 t : Vec Ideal S1x256x128 .bf16) (ix3 0 r d) : EReal)
      = ((m (c.tc.loc main_arg0) : FVec Ideal S2x4352x1024 .bf16) (ix3 (bOf t) (rowOf t r) (Attn.qcol (hOf t) (gOf t) d)) : EReal) := by
  have ht := lt_N t
  blk_point [iblk, V, idxQ t, bOf, hOf, gOf, rowOf, Attn.qcol]

theorem k_read (j : Fin 4352) (d : Fin 128) :
    ((iblk m c 1 t : Vec Ideal S1x4352x128 .bf16) (ix3 0 j d) : EReal)
      = ((m (c.tc.loc main_arg1) : FVec Ideal S2x4352x256 .bf16) (ix3 (bOf t) j (Attn.kcol (hOf t) d)) : EReal) := by
  have ht := lt_N t
  blk_point [iblk, V, idxK t, bOf, hOf, Attn.kcol]

theorem v_read (j : Fin 4352) (d : Fin 128) :
    ((iblk m c 2 t : Vec Ideal S1x4352x128 .bf16) (ix3 0 j d) : EReal)
      = ((m (c.tc.loc main_arg2) : FVec Ideal S2x4352x256 .bf16) (ix3 (bOf t) j (Attn.kcol (hOf t) d)) : EReal) := by
  have ht := lt_N t
  blk_point [iblk, V, idxK t, bOf, hOf, Attn.kcol]

theorem gate_read (r : Fin 256) (d : Fin 128) :
    ((iblk m c 3 t : Vec Ideal S1x256x128 .bf16) (ix3 0 r d) : EReal)
      = ((m (c.tc.loc main_arg3) : FVec Ideal S2x4352x1024 .bf16) (ix3 (bOf t) (rowOf t r) (Attn.qcol (hOf t) (gOf t) d)) : EReal) := by
  have ht := lt_N t
  blk_point [iblk, V, idxQ t, bOf, hOf, gOf, rowOf, Attn.qcol]

theorem dz_read (r : Fin 256) (d : Fin 128) :
    ((iblk m c 4 t : Vec Ideal S1x256x128 .bf16) (ix3 0 r d) : EReal)
      = ((m (c.tc.loc main_arg4) : FVec Ideal S2x4352x1024 .bf16) (ix3 (bOf t) (rowOf t r) (Attn.qcol (hOf t) (gOf t) d)) : EReal) := by
  have ht := lt_N t
  blk_point [iblk, V, idxQ t, bOf, hOf, gOf, rowOf, Attn.qcol]

/-- A block of the saved output. -/
theorem y_read (r : Fin 256) (d : Fin 128) :
    ((iblk m c 5 t : Vec Ideal S1x256x128 .bf16) (ix3 0 r d) : EReal)
      = ((V m c main_v54 : FVec Ideal S2x4352x1024 .bf16) (ix3 (bOf t) (rowOf t r) (Attn.qcol (hOf t) (gOf t) d)) : EReal) := by
  have ht := lt_N t
  unfold iblk
  show (((cfg0.win 5).blk t).view.read (Elt Ideal) (V m c main_v54)) _ = _
  generalize V m c main_v54 = X
  rw [View.read_apply]
  refine (cast_eq _ _).trans (congrArg X ?_)
  blk_ext [idxQ t, bOf, hOf, gOf, rowOf, Attn.qcol]

theorem lse_read (r : Fin 256) :
    ((iblk m c 6 t : Vec Ideal S1x1x1x256 .f32) (ix4 0 0 0 r) : EReal)
      = ((V m c main_v56 : FVec Ideal S2x8x1x4352 .f32)
          (ix4 (bOf t) ⟨(hOf t).val * 4 + (gOf t).val, by have := (hOf t).isLt; have := (gOf t).isLt; omega⟩ 0 (rowOf t r)) : EReal) := by
  have ht := lt_N t
  unfold iblk
  show (((cfg0.win 6).blk t).view.read (Elt Ideal) (V m c main_v56)) _ = _
  generalize V m c main_v56 = X
  blk_point [idxK t, bOf, hOf, gOf, rowOf]

end Reads

/-- The arguments hold real numbers. -/
structure Reals (A : Attn.Args) (c : Dev nD) : Prop where
  q : ∀ b t i, ((m (c.tc.loc main_arg0) : FVec Ideal S2x4352x1024 .bf16) (ix3 b t i) : EReal) = ((A.q b t i : ℝ) : EReal)
  k : ∀ b t i, ((m (c.tc.loc main_arg1) : FVec Ideal S2x4352x256 .bf16) (ix3 b t i) : EReal) = ((A.k b t i : ℝ) : EReal)
  v : ∀ b t i, ((m (c.tc.loc main_arg2) : FVec Ideal S2x4352x256 .bf16) (ix3 b t i) : EReal) = ((A.v b t i : ℝ) : EReal)
  gate : ∀ b t i, ((m (c.tc.loc main_arg3) : FVec Ideal S2x4352x1024 .bf16) (ix3 b t i) : EReal) = ((A.gate b t i : ℝ) : EReal)
  dz : ∀ b t i, ((m (c.tc.loc main_arg4) : FVec Ideal S2x4352x1024 .bf16) (ix3 b t i) : EReal) = ((A.dz b t i : ℝ) : EReal)

/-- Every point's blocks hold the attention's numbers. -/
theorem holds {A : Attn.Args} {c : Dev nD} (R : Reals m A c) (t : Fin cfg0.N) :
    Block.Holds A (bOf t) (hOf t) (gOf t) (rowOf t) (iblk m c 0 t) (iblk m c 1 t) (iblk m c 2 t) (iblk m c 3 t) (iblk m c 4 t)
      (iblk m c 5 t) (iblk m c 6 t) where
  q r d := (q_read m c t r d).trans (R.q _ _ _)
  k j d := (k_read m c t j d).trans (R.k _ _ _)
  v j d := (v_read m c t j d).trans (R.v _ _ _)
  gate r d := (gate_read m c t r d).trans (R.gate _ _ _)
  dz r d := (dz_read m c t r d).trans (R.dz _ _ _)
  y r d := (y_read m c t r d).trans ((congrFun (Host.V_saved m c) _).trans (Host.saved_at _ _ _ A R.q R.k R.v _ _ _ _ _))
  lse r := (lse_read m c t r).trans ((congrFun (Host.V_savedSum m c) _).trans (Host.savedSum_at _ _ A R.q R.k _ _ _ _))

/-- The rows of a point are latent, or of the context. -/
theorem rowOf_lat (n : ℕ) (h : n % 17 ≤ 15) (r : Fin 256) : (rowOf n r).val < 4096 := by show n % 17 * 256 + r.val < 4096; omega
theorem rowOf_ctx (n : ℕ) (h : n % 17 = 16) (r : Fin 256) : ¬(rowOf n r).val < 4096 := by show ¬(n % 17 * 256 + r.val < 4096); omega

end Cert.KernelIdeal.Value
-- ==== Proof.PointQ.lean ====
/- The block of the queries' gradient each grid point stores. -/
module

public import proofs.«01_k».proof.Proof.Gen.KernelIdeal.Frame
public import proofs.«01_k».proof.Proof.Spec
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

theorem q_A (c : Dev nD) (t : Fin cfg0.N) (h0 : t.val % 68 = 0) (h1 : t.val % 17 ≤ 15) (h2 : ¬t.val % 17 = 16) :
    (outsAt0 m c t.val t.isLt).1 = Block.qAll (iblk m c 0 t) (iblk m c 1 t) (iblk m c 2 t) (iblk m c 3 t) (iblk m c 4 t) (iblk m c 5 t) (iblk m c 6 t) (k0_pay3 (iblk m c 1 t)) := by
  rw [outsAt0_A m c t h0 h1 h2]
  frame_out
  simp (disch := decide) only [↓ View.readCov_skip, ↓ View.readCov_cons_toLoadRect, ↓ View.readCov_fill]
  rfl

theorem q_B (c : Dev nD) (t : Fin cfg0.N) (h0 : ¬t.val % 68 = 0) (h1 : t.val % 17 ≤ 15) (h2 : ¬t.val % 17 = 16) :
    (outsAt0 m c t.val t.isLt).1 = Block.qAll (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2 := by
  rw [outsAt0_B m c t h0 h1 h2]
  frame_out
  simp only [read_unread_whole]
  rfl

theorem q_C (c : Dev nD) (t : Fin cfg0.N) (h0 : ¬t.val % 68 = 0) (h1 : ¬t.val % 17 ≤ 15) (h2 : t.val % 17 = 16) :
    (outsAt0 m c t.val t.isLt).1 = Block.qCtx (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2 := by
  rw [outsAt0_C m c t h0 h1 h2]
  frame_out
  simp only [read_unread_whole]
  rfl

end Cert.KernelIdeal.Value
-- ==== Proof.PointK.lean ====
/- What each grid point leaves of the keys' gradient. -/
module

public import proofs.«01_k».proof.Proof.Gen.KernelIdeal.Frame
public import proofs.«01_k».proof.Proof.Spec
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

theorem k_A (c : Dev nD) (t : Fin cfg0.N) (h0 : t.val % 68 = 0) (h1 : t.val % 17 ≤ 15) (h2 : ¬t.val % 17 = 16) :
    (outsAt0 m c t.val t.isLt).2.1 = View.canon (Block.kPieces (iblk m c 0 t) (iblk m c 1 t) (iblk m c 2 t) (iblk m c 3 t) (iblk m c 4 t) (iblk m c 5 t) (iblk m c 6 t) (k0_pay1 (F := Ideal)) ++ [⟨Rect.unit ![0, 0, 0] ![1, 4352, 128] inb_S1x4352x128_S1x4352x128_0_0_0, k0_pay1 (F := Ideal)⟩]) := by
  rw [outsAt0_A m c t h0 h1 h2]
  frame_out
  simp (disch := decide) only [↓ View.readCov_skip, ↓ View.readCov_cons_toLoadRect, ↓ View.readCov_fill]
  rfl

theorem k_B (c : Dev nD) (t : Fin cfg0.N) (h0 : ¬t.val % 68 = 0) (h1 : t.val % 17 ≤ 15) (h2 : ¬t.val % 17 = 16) :
    (outsAt0 m c t.val t.isLt).2.1 = View.canon (Block.kPieces (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 ++ []) := by
  rw [outsAt0_B m c t h0 h1 h2]
  frame_out
  rfl

theorem k_C (c : Dev nD) (t : Fin cfg0.N) (h0 : ¬t.val % 68 = 0) (h1 : ¬t.val % 17 ≤ 15) (h2 : t.val % 17 = 16) :
    (outsAt0 m c t.val t.isLt).2.1 = (ms0_8 t).view.read (Elt Ideal) ((ms0_8 t).view.writes (Elt Ideal) ((hs0_8 t).unread (outsAt0 m c (t.val - 1) (Nat.lt_of_le_of_lt (Nat.sub_le _ _) t.isLt)).2.1) [Block.kPC (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1]) := by
  rw [outsAt0_C m c t h0 h1 h2]
  frame_out
  rfl

end Cert.KernelIdeal.Value
-- ==== Proof.PointV.lean ====
/- What each grid point leaves of the values' gradient. -/
module

public import proofs.«01_k».proof.Proof.Gen.KernelIdeal.Frame
public import proofs.«01_k».proof.Proof.Spec
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

theorem v_A (c : Dev nD) (t : Fin cfg0.N) (h0 : t.val % 68 = 0) (h1 : t.val % 17 ≤ 15) (h2 : ¬t.val % 17 = 16) :
    (outsAt0 m c t.val t.isLt).2.2.1 = View.canon (Block.vPieces (iblk m c 0 t) (iblk m c 1 t) (iblk m c 3 t) (iblk m c 4 t) (iblk m c 6 t) (k0_pay2 (F := Ideal)) ++ [⟨Rect.unit ![0, 0, 0] ![1, 4352, 128] inb_S1x4352x128_S1x4352x128_0_0_0, k0_pay2 (F := Ideal)⟩]) := by
  rw [outsAt0_A m c t h0 h1 h2]
  frame_out
  simp (disch := decide) only [↓ View.readCov_skip, ↓ View.readCov_cons_toLoadRect, ↓ View.readCov_fill]
  rfl

theorem v_B (c : Dev nD) (t : Fin cfg0.N) (h0 : ¬t.val % 68 = 0) (h1 : t.val % 17 ≤ 15) (h2 : ¬t.val % 17 = 16) :
    (outsAt0 m c t.val t.isLt).2.2.1 = View.canon (Block.vPieces (iblk m c 0 t) (iblk m c 1 t) (iblk m c 3 t) (iblk m c 4 t) (iblk m c 6 t) (outsAt0 m c (t.val - 1) (Nat.lt_of_le_of_lt (Nat.sub_le _ _) t.isLt)).2.2.1 ++ []) := by
  rw [outsAt0_B m c t h0 h1 h2]
  frame_out
  rfl

theorem v_C (c : Dev nD) (t : Fin cfg0.N) (h0 : ¬t.val % 68 = 0) (h1 : ¬t.val % 17 ≤ 15) (h2 : t.val % 17 = 16) :
    (outsAt0 m c t.val t.isLt).2.2.1 = (ms0_9 t).view.read (Elt Ideal) ((ms0_9 t).view.writes (Elt Ideal) ((hs0_9 t).unread (outsAt0 m c (t.val - 1) (Nat.lt_of_le_of_lt (Nat.sub_le _ _) t.isLt)).2.2.1) [Block.vPC (iblk m c 0 t) (iblk m c 1 t) (iblk m c 3 t) (iblk m c 4 t) (iblk m c 6 t) (outsAt0 m c (t.val - 1) (Nat.lt_of_le_of_lt (Nat.sub_le _ _) t.isLt)).2.2.1]) := by
  rw [outsAt0_C m c t h0 h1 h2]
  frame_out
  rfl

end Cert.KernelIdeal.Value
-- ==== Proof.PointG.lean ====
/- The block of the gate's gradient each grid point stores, and the transposed keys it leaves. -/
module

public import proofs.«01_k».proof.Proof.Gen.KernelIdeal.Frame
public import proofs.«01_k».proof.Proof.Spec
public import proofs.«01_k».proof.Proof.Steps
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

theorem g_A (c : Dev nD) (t : Fin cfg0.N) (h0 : t.val % 68 = 0) (h1 : t.val % 17 ≤ 15) (h2 : ¬t.val % 17 = 16) :
    (outsAt0 m c t.val t.isLt).2.2.2.1 = Block.gB (iblk m c 3 t) (iblk m c 4 t) (iblk m c 5 t) := by
  rw [outsAt0_A m c t h0 h1 h2]
  frame_out
  rfl

theorem g_B (c : Dev nD) (t : Fin cfg0.N) (h0 : ¬t.val % 68 = 0) (h1 : t.val % 17 ≤ 15) (h2 : ¬t.val % 17 = 16) :
    (outsAt0 m c t.val t.isLt).2.2.2.1 = Block.gB (iblk m c 3 t) (iblk m c 4 t) (iblk m c 5 t) := by
  rw [outsAt0_B m c t h0 h1 h2]
  frame_out
  rfl

theorem g_C (c : Dev nD) (t : Fin cfg0.N) (h0 : ¬t.val % 68 = 0) (h1 : ¬t.val % 17 ≤ 15) (h2 : t.val % 17 = 16) :
    (outsAt0 m c t.val t.isLt).2.2.2.1 = Block.gB (iblk m c 3 t) (iblk m c 4 t) (iblk m c 5 t) := by
  rw [outsAt0_C m c t h0 h1 h2]
  frame_out
  rfl

theorem kt_A (c : Dev nD) (t : Fin cfg0.N) (h0 : t.val % 68 = 0) (h1 : t.val % 17 ≤ 15) (h2 : ¬t.val % 17 = 16) :
    (outsAt0 m c t.val t.isLt).2.2.2.2 = k0_pay3 (iblk m c 1 t) := by
  rw [outsAt0_A m c t h0 h1 h2]
  frame_out

theorem kt_B (c : Dev nD) (t : Fin cfg0.N) (h0 : ¬t.val % 68 = 0) (h1 : t.val % 17 ≤ 15) (h2 : ¬t.val % 17 = 16) :
    (outsAt0 m c t.val t.isLt).2.2.2.2 = (outsAt0 m c (t.val - 1) (Nat.lt_of_le_of_lt (Nat.sub_le _ _) t.isLt)).2.2.2.2 := by
  rw [outsAt0_B m c t h0 h1 h2]
  frame_out
  rfl

theorem kt_C (c : Dev nD) (t : Fin cfg0.N) (h0 : ¬t.val % 68 = 0) (h1 : ¬t.val % 17 ≤ 15) (h2 : t.val % 17 = 16) :
    (outsAt0 m c t.val t.isLt).2.2.2.2 = (outsAt0 m c (t.val - 1) (Nat.lt_of_le_of_lt (Nat.sub_le _ _) t.isLt)).2.2.2.2 := by
  rw [outsAt0_C m c t h0 h1 h2]
  frame_out
  rfl

end Cert.KernelIdeal.Value
-- ==== Proof.Arrays.lean ====
/- The four arrays the kernel leaves: the gradients of the queries, of the keys, of the values and of the gate. -/
module

public import proofs.«01_k».proof.Proof.Grid
public import proofs.«01_k».proof.Proof.PointQ
public import proofs.«01_k».proof.Proof.PointK
public import proofs.«01_k».proof.Proof.PointV
public import proofs.«01_k».proof.Proof.PointG
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

theorem pay1_at (i : S1x4352x128.Idx) : ((k0_pay1 (F := Ideal) : Vec Ideal S1x4352x128 .f32) i : EReal) = 0 := by
  idx_vars i
  pointwise [k0_pay1]

theorem pay2_at (i : S1x4352x128.Idx) : ((k0_pay2 (F := Ideal) : Vec Ideal S1x4352x128 .f32) i : EReal) = 0 := by
  idx_vars i
  pointwise [k0_pay2]

theorem pay3_at (x : Vec Ideal S1x4352x128 .bf16) (d : Fin 128) (j : Fin 4352) : (k0_pay3 x (ix2 d j) : EReal) = x (ix3 0 j d) := by
  pointwise [k0_pay3]

section Reals

variable {A : Attn.Args} {c : Dev nD} (R : Reals m A c)
include R

/-- The transposed keys, at every point. -/
theorem kt_eq : ∀ (n : ℕ) (hn : n < cfg0.N) (d : Fin 128) (j : Fin 4352),
    (((outsAt0 m c n hn).2.2.2.2 : Vec Ideal S128x4352 .bf16) (ix2 d j) : EReal) = ((A.k (bOf n) j (Attn.kcol (hOf n) d) : ℝ) : EReal) := by
  intro n
  induction n with
  | zero =>
    intro hn d j
    refine (congrFun (kt_A m c ⟨0, hn⟩ (by show 0 % 68 = 0; omega) (by show 0 % 17 ≤ 15; omega) (by show ¬0 % 17 = 16; omega)) _).trans ?_
    exact (pay3_at _ d j).trans ((holds m R ⟨0, hn⟩).k j d)
  | succ n ih =>
    intro hn d j
    by_cases h0 : (n + 1) % 68 = 0
    · refine (congrFun (kt_A m c ⟨n + 1, hn⟩ h0 (by show (n + 1) % 17 ≤ 15; omega) (by show ¬(n + 1) % 17 = 16; omega)) _).trans ?_
      exact (pay3_at _ d j).trans ((holds m R ⟨n + 1, hn⟩).k j d)
    · have eb : bOf (n + 1) = bOf n := Fin.ext (by show (n + 1) / 136 % 2 = n / 136 % 2; omega)
      have eh : hOf (n + 1) = hOf n := Fin.ext (by show (n + 1) / 68 % 2 = n / 68 % 2; omega)
      rw [eb, eh]
      by_cases h1 : (n + 1) % 17 ≤ 15
      · refine (congrFun (kt_B m c ⟨n + 1, hn⟩ h0 h1 (by show ¬(n + 1) % 17 = 16; omega)) _).trans ?_
        exact ih _ d j
      · refine (congrFun (kt_C m c ⟨n + 1, hn⟩ h0 h1 (by show (n + 1) % 17 = 16; omega)) _).trans ?_
        exact ih _ d j

/-- The transposed keys a point finds. -/
theorem kt_prev (t : Fin cfg0.N) (h0 : ¬t.val % 68 = 0) (hn) (d : Fin 128) (j : Fin 4352) :
    (((outsAt0 m c (t.val - 1) hn).2.2.2.2 : Vec Ideal S128x4352 .bf16) (ix2 d j) : EReal)
      = ((A.k (bOf t) j (Attn.kcol (hOf t) d) : ℝ) : EReal) := by
  have eb : bOf (t.val - 1) = bOf t := Fin.ext (by show (t.val - 1) / 136 % 2 = t.val / 136 % 2; omega)
  have eh : hOf (t.val - 1) = hOf t := Fin.ext (by show (t.val - 1) / 68 % 2 = t.val / 68 % 2; omega)
  rw [← eb, ← eh]
  exact kt_eq m R _ hn d j

/-- The queries' gradient a point stores. -/
theorem q_eq (t : Fin cfg0.N) (r : Fin 256) (d : Fin 128) :
    (((outsAt0 m c t.val t.isLt).1 : Vec Ideal S1x256x128 .bf16) (ix3 0 r d) : EReal)
      = ((A.dq (bOf t) (hOf t) (gOf t) (rowOf t r) d : ℝ) : EReal) := by
  by_cases h0 : t.val % 68 = 0
  · have h1 : t.val % 17 ≤ 15 := by omega
    refine (congrFun (q_A m c t h0 h1 (by omega)) _).trans ?_
    exact (holds m R t).qAll (rowOf_lat t.val h1) _ (fun d j => (pay3_at _ d j).trans ((holds m R t).k j d)) r d
  · by_cases h1 : t.val % 17 ≤ 15
    · refine (congrFun (q_B m c t h0 h1 (by omega)) _).trans ?_
      exact (holds m R t).qAll (rowOf_lat t.val h1) _ (kt_prev m R t h0 _) r d
    · have h2 : t.val % 17 = 16 := by omega
      refine (congrFun (q_C m c t h0 h1 h2) _).trans ?_
      exact (holds m R t).qCtx (rowOf_ctx t.val h2) _ (kt_prev m R t h0 _) r d

/-- The gate's gradient a point stores. -/
theorem g_eq (t : Fin cfg0.N) (r : Fin 256) (d : Fin 128) :
    (((outsAt0 m c t.val t.isLt).2.2.2.1 : Vec Ideal S1x256x128 .bf16) (ix3 0 r d) : EReal)
      = ((A.dg (bOf t) (hOf t) (gOf t) (rowOf t r) d : ℝ) : EReal) := by
  by_cases h0 : t.val % 68 = 0
  · exact (congrFun (g_A m c t h0 (by omega) (by omega)) _).trans ((holds m R t).g' r d)
  · by_cases h1 : t.val % 17 ≤ 15
    · exact (congrFun (g_B m c t h0 h1 (by omega)) _).trans ((holds m R t).g' r d)
    · exact (congrFun (g_C m c t h0 h1 (by omega)) _).trans ((holds m R t).g' r d)

/-- What point `n` adds to the keys' gradient. -/
def kTerm (A : Attn.Args) (n : ℕ) (i : S1x4352x128.Idx) : EReal :=
  ((Block.kT A (bOf n) (hOf n) (gOf n) (rowOf n) (i 1) (i 2) : ℝ) : EReal)

/-- What point `n` adds to the values' gradient. -/
def vTerm (A : Attn.Args) (n : ℕ) (i : S1x4352x128.Idx) : EReal :=
  ((Block.vT A (bOf n) (hOf n) (gOf n) (rowOf n) (i 1) (i 2) : ℝ) : EReal)

/-- The keys' gradient after any point: the sum over the points of its batch and key head so far. -/
theorem k_eq (t : Fin cfg0.N) (i : S1x4352x128.Idx) :
    (((outsAt0 m c t.val t.isLt).2.1 : Vec Ideal S1x4352x128 .f32) i : EReal)
      = 0 + ∑ k ∈ Finset.range (t.val % 68 + 1), kTerm A (68 * (t.val / 68) + k) i := by
  refine Pipeline.eq_sum_of_reset_step_apply (M := EReal) (fun n h => (outsAt0 m c n h).2.1) 68 (fun _ => 0) (kTerm A) ?_ ?_ t i
  · intro t h0 i
    have h1 : t.val % 17 ≤ 15 := by omega
    refine (congrFun ((k_A m c t h0 h1 (by omega)).trans ((holds m R t).kPieces (rowOf_lat t.val h1) _ _)) i).trans ?_
    exact congrArg (fun z : EReal => z + kTerm A t.val i) (pay1_at i)
  · intro t h0 i
    by_cases h1 : t.val % 17 ≤ 15
    · exact congrFun ((k_B m c t h0 h1 (by omega)).trans ((holds m R t).kPieces (rowOf_lat t.val h1) _ _)) i
    · have h2 : t.val % 17 = 16 := by omega
      exact congrFun ((k_C m c t h0 h1 h2).trans
        ((holds m R t).kCtx (rowOf_ctx t.val h2) _ _ _ ((hs0_8 t).read_unread _))) i

/-- The values' gradient after any point. -/
theorem v_eq (t : Fin cfg0.N) (i : S1x4352x128.Idx) :
    (((outsAt0 m c t.val t.isLt).2.2.1 : Vec Ideal S1x4352x128 .f32) i : EReal)
      = 0 + ∑ k ∈ Finset.range (t.val % 68 + 1), vTerm A (68 * (t.val / 68) + k) i := by
  refine Pipeline.eq_sum_of_reset_step_apply (M := EReal) (fun n h => (outsAt0 m c n h).2.2.1) 68 (fun _ => 0) (vTerm A) ?_ ?_ t i
  · intro t h0 i
    have h1 : t.val % 17 ≤ 15 := by omega
    refine (congrFun ((v_A m c t h0 h1 (by omega)).trans ((holds m R t).vPieces (rowOf_lat t.val h1) _ _)) i).trans ?_
    exact congrArg (fun z : EReal => z + vTerm A t.val i) (pay2_at i)
  · intro t h0 i
    by_cases h1 : t.val % 17 ≤ 15
    · exact congrFun ((v_B m c t h0 h1 (by omega)).trans ((holds m R t).vPieces (rowOf_lat t.val h1) _ _)) i
    · have h2 : t.val % 17 = 16 := by omega
      exact congrFun ((v_C m c t h0 h1 h2).trans
        ((holds m R t).vCtx (rowOf_ctx t.val h2) _ _ _ ((hs0_9 t).read_unread _))) i

end Reals

/-- A run's points are the groups and their rows. -/
theorem run_sum (F : Fin 4 → Fin 4352 → ℝ) (s : ℕ) :
    ∑ k ∈ Finset.range 68, ∑ r : Fin 256, F (gOf (68 * s + k)) (rowOf (68 * s + k) r) = ∑ g, ∑ t, F g t := by
  rw [Finset.sum_range]
  refine (Finset.sum_congr rfl fun k _ => Finset.sum_congr rfl fun r _ => ?_).trans
    (Fin.sum_points_lanes_fin (N := 68) (n := 256) 17 F)
  refine congrArg₂ F (Fin.ext ?_) (Fin.ext ?_)
  · show (68 * s + k.val) / 17 % 4 = k.val / 17
    omega
  · show (68 * s + k.val) % 17 * 256 + r.val = k.val % 17 * 256 + r.val
    omega

theorem bOf_run (n k : ℕ) (hk : k < 68) : bOf (68 * (n / 68) + k) = bOf n :=
  Fin.ext (by show (68 * (n / 68) + k) / 136 % 2 = n / 136 % 2; omega)

theorem hOf_run (n k : ℕ) (hk : k < 68) : hOf (68 * (n / 68) + k) = hOf n :=
  Fin.ext (by show (68 * (n / 68) + k) / 68 % 2 = n / 68 % 2; omega)

theorem kTerm_sum (A : Attn.Args) (n : ℕ) (i : S1x4352x128.Idx) :
    0 + ∑ k ∈ Finset.range 68, kTerm A (68 * (n / 68) + k) i = ((A.dk (bOf n) (hOf n) (i 1) (i 2) : ℝ) : EReal) := by
  rw [zero_add]
  refine (Attn.coe_sum _ _).trans (congrArg _ ?_)
  refine (Finset.sum_congr rfl fun k hk => ?_).trans
    (run_sum (fun g t => A.ds (bOf n) (hOf n) g t (i 1) * A.q (bOf n) t (Attn.qcol (hOf n) g (i 2)) * Attn.sc) (n / 68))
  unfold Block.kT
  rw [bOf_run n k (Finset.mem_range.mp hk), hOf_run n k (Finset.mem_range.mp hk)]

theorem vTerm_sum (A : Attn.Args) (n : ℕ) (i : S1x4352x128.Idx) :
    0 + ∑ k ∈ Finset.range 68, vTerm A (68 * (n / 68) + k) i = ((A.dv (bOf n) (hOf n) (i 1) (i 2) : ℝ) : EReal) := by
  rw [zero_add]
  refine (Attn.coe_sum _ _).trans (congrArg _ ?_)
  refine (Finset.sum_congr rfl fun k hk => ?_).trans
    (run_sum (fun g t => A.P (bOf n) (hOf n) g t (i 1) * A.u (bOf n) (hOf n) g t (i 2)) (n / 68))
  unfold Block.vT
  rw [bOf_run n k (Finset.mem_range.mp hk), hOf_run n k (Finset.mem_range.mp hk)]

/-! ## The arrays -/

/-- The head, group and column of a column of the queries. -/
def hq (c : Fin 1024) : Fin 2 := ⟨c.val / 512, by omega⟩
def gq (c : Fin 1024) : Fin 4 := ⟨c.val / 128 % 4, by omega⟩
def dq' (c : Fin 1024) : Fin 128 := ⟨c.val % 128, by omega⟩
def hk' (c : Fin 256) : Fin 2 := ⟨c.val / 128, by omega⟩
def dk' (c : Fin 256) : Fin 128 := ⟨c.val % 128, by omega⟩

def arrQ (A : Attn.Args) : FVec Ideal S2x4352x1024 .bf16 := fun i => ((A.dq (i 0) (hq (i 2)) (gq (i 2)) (i 1) (dq' (i 2)) : ℝ) : EReal)
def arrG (A : Attn.Args) : FVec Ideal S2x4352x1024 .bf16 := fun i => ((A.dg (i 0) (hq (i 2)) (gq (i 2)) (i 1) (dq' (i 2)) : ℝ) : EReal)
def arrK (A : Attn.Args) : FVec Ideal S2x4352x256 .f32 := fun i => ((A.dk (i 0) (hk' (i 2)) (i 1) (dk' (i 2)) : ℝ) : EReal)
def arrV (A : Attn.Args) : FVec Ideal S2x4352x256 .f32 := fun i => ((A.dv (i 0) (hk' (i 2)) (i 1) (dk' (i 2)) : ℝ) : EReal)

theorem hq_qcol (h : Fin 2) (g : Fin 4) (d : Fin 128) : hq (Attn.qcol h g d) = h :=
  Fin.ext (by show ((h.val * 4 + g.val) * 128 + d.val) / 512 = h.val; omega)
theorem gq_qcol (h : Fin 2) (g : Fin 4) (d : Fin 128) : gq (Attn.qcol h g d) = g :=
  Fin.ext (by show ((h.val * 4 + g.val) * 128 + d.val) / 128 % 4 = g.val; omega)
theorem dq_qcol (h : Fin 2) (g : Fin 4) (d : Fin 128) : dq' (Attn.qcol h g d) = d :=
  Fin.ext (by show ((h.val * 4 + g.val) * 128 + d.val) % 128 = d.val; omega)
theorem hk_kcol (h : Fin 2) (d : Fin 128) : hk' (Attn.kcol h d) = h :=
  Fin.ext (by show (h.val * 128 + d.val) / 128 = h.val; omega)
theorem dk_kcol (h : Fin 2) (d : Fin 128) : dk' (Attn.kcol h d) = d :=
  Fin.ext (by show (h.val * 128 + d.val) % 128 = d.val; omega)
theorem qcol_eq (i : Fin 1024) : Attn.qcol (hq i) (gq i) (dq' i) = i :=
  Fin.ext (by show (i.val / 512 * 4 + i.val / 128 % 4) * 128 + i.val % 128 = i.val; omega)
theorem kcol_eq (i : Fin 256) : Attn.kcol (hk' i) (dk' i) = i :=
  Fin.ext (by show i.val / 128 * 128 + i.val % 128 = i.val; omega)

theorem arrQ_at (A : Attn.Args) (b h : Fin 2) (g : Fin 4) (t : Fin 4352) (d : Fin 128) :
    (arrQ A (ix3 b t (Attn.qcol h g d)) : EReal) = ((A.dq b h g t d : ℝ) : EReal) := by
  show ((A.dq b (hq (Attn.qcol h g d)) (gq (Attn.qcol h g d)) t (dq' (Attn.qcol h g d)) : ℝ) : EReal) = _
  rw [hq_qcol, gq_qcol, dq_qcol]

theorem arrG_at (A : Attn.Args) (b h : Fin 2) (g : Fin 4) (t : Fin 4352) (d : Fin 128) :
    (arrG A (ix3 b t (Attn.qcol h g d)) : EReal) = ((A.dg b h g t d : ℝ) : EReal) := by
  show ((A.dg b (hq (Attn.qcol h g d)) (gq (Attn.qcol h g d)) t (dq' (Attn.qcol h g d)) : ℝ) : EReal) = _
  rw [hq_qcol, gq_qcol, dq_qcol]

theorem arrK_at (A : Attn.Args) (b h : Fin 2) (j : Fin 4352) (d : Fin 128) :
    (arrK A (ix3 b j (Attn.kcol h d)) : EReal) = ((A.dk b h j d : ℝ) : EReal) := by
  show ((A.dk b (hk' (Attn.kcol h d)) j (dk' (Attn.kcol h d)) : ℝ) : EReal) = _
  rw [hk_kcol, dk_kcol]

theorem arrV_at (A : Attn.Args) (b h : Fin 2) (j : Fin 4352) (d : Fin 128) :
    (arrV A (ix3 b j (Attn.kcol h d)) : EReal) = ((A.dv b h j d : ℝ) : EReal) := by
  show ((A.dv b (hk' (Attn.kcol h d)) j (dk' (Attn.kcol h d)) : ℝ) : EReal) = _
  rw [hk_kcol, dk_kcol]

theorem S1x4352x128_idx (x : S1x4352x128.Idx) : x = ix3 0 (x 1) (x 2) := by
  funext a
  fin_cases a
  · exact Subsingleton.elim (α := Fin 1) _ _
  · rfl
  · rfl

theorem emb7 (t : Fin cfg0.N) (r : Fin 256) (d : Fin 128) :
    (win0_7.blk t).view.emb (ix3 0 r d) = ix3 (bOf t) (rowOf t r) (Attn.qcol (hOf t) (gOf t) d) := by
  have ht := lt_N t
  blk_ext [idxQ t, bOf, hOf, gOf, rowOf, Attn.qcol]

theorem emb10 (t : Fin cfg0.N) (r : Fin 256) (d : Fin 128) :
    (win0_10.blk t).view.emb (ix3 0 r d) = ix3 (bOf t) (rowOf t r) (Attn.qcol (hOf t) (gOf t) d) := by
  have ht := lt_N t
  blk_ext [idxQ t, bOf, hOf, gOf, rowOf, Attn.qcol]

theorem emb8 (t : Fin cfg0.N) (j : Fin 4352) (d : Fin 128) :
    (win0_8.blk t).view.emb (ix3 0 j d) = ix3 (bOf t) j (Attn.kcol (hOf t) d) := by
  have ht := lt_N t
  blk_ext [idxK t, bOf, hOf, Attn.kcol]

theorem emb9 (t : Fin cfg0.N) (j : Fin 4352) (d : Fin 128) :
    (win0_9.blk t).view.emb (ix3 0 j d) = ix3 (bOf t) j (Attn.kcol (hOf t) d) := by
  have ht := lt_N t
  blk_ext [idxK t, bOf, hOf, Attn.kcol]

section Final

variable {A : Attn.Args} {c : Dev nD} (R : Reals m A c)
include R

theorem final_q : @Eq (FVec Ideal S2x4352x1024 .bf16) ((dats m 0 c).arrAt 7 cfg0.N) (arrQ A) := by
  refine (dats m 0 c).arrAt_eq_of_covers 7 _ (by decide +kernel) fun t hf y => ?_
  blk_simp
  rw [after0_7]
  have e : y = ix3 0 (y 1) (y 2) := Block.S1x256x128_idx y
  refine (congrArg (outsAt0 m c t.val t.isLt).1 e).trans ((q_eq m R t _ _).trans ?_)
  refine Eq.trans ?_ (congrArg (arrQ A) ((emb7 t (y 1) (y 2)).symm.trans (congrArg (win0_7.blk t).view.emb e.symm)))
  exact (arrQ_at A _ _ _ _ _).symm

theorem final_k : @Eq (FVec Ideal S2x4352x256 .f32) ((dats m 0 c).arrAt 8 cfg0.N) (arrK A) := by
  refine (dats m 0 c).arrAt_eq_of_covers 8 _ (by decide +kernel) fun t hf y => ?_
  have ht : t.val % 68 + 1 = 68 := by have := (flush0_8 t).mp hf; omega
  blk_simp
  rw [after0_8]
  have e : y = ix3 0 (y 1) (y 2) := S1x4352x128_idx y
  refine (k_eq m R t y).trans ?_
  rw [ht]
  refine (kTerm_sum A t.val y).trans ?_
  refine Eq.trans ?_ (congrArg (arrK A) ((emb8 t (y 1) (y 2)).symm.trans (congrArg (win0_8.blk t).view.emb e.symm)))
  exact (arrK_at A _ _ _ _).symm

theorem final_v : @Eq (FVec Ideal S2x4352x256 .f32) ((dats m 0 c).arrAt 9 cfg0.N) (arrV A) := by
  refine (dats m 0 c).arrAt_eq_of_covers 9 _ (by decide +kernel) fun t hf y => ?_
  have ht : t.val % 68 + 1 = 68 := by have := (flush0_9 t).mp hf; omega
  blk_simp
  rw [after0_9]
  have e : y = ix3 0 (y 1) (y 2) := S1x4352x128_idx y
  refine (v_eq m R t y).trans ?_
  rw [ht]
  refine (vTerm_sum A t.val y).trans ?_
  refine Eq.trans ?_ (congrArg (arrV A) ((emb9 t (y 1) (y 2)).symm.trans (congrArg (win0_9.blk t).view.emb e.symm)))
  exact (arrV_at A _ _ _ _).symm

theorem final_g : @Eq (FVec Ideal S2x4352x1024 .bf16) ((dats m 0 c).arrAt 10 cfg0.N) (arrG A) := by
  refine (dats m 0 c).arrAt_eq_of_covers 10 _ (by decide +kernel) fun t hf y => ?_
  blk_simp
  rw [after0_10]
  have e : y = ix3 0 (y 1) (y 2) := Block.S1x256x128_idx y
  refine (congrArg (outsAt0 m c t.val t.isLt).2.2.2.1 e).trans ((g_eq m R t _ _).trans ?_)
  refine Eq.trans ?_ (congrArg (arrG A) ((emb10 t (y 1) (y 2)).symm.trans (congrArg (win0_10.blk t).view.emb e.symm)))
  exact (arrG_at A _ _ _ _ _).symm

end Final

end Cert.KernelIdeal.Value
-- ==== Proof.RefInputs.lean ====
/- The reference's arguments as real arrays, and its reshapes by head. -/
module

public import proofs.«01_k».proof.Proof.Gen.ReferenceIdeal.Read
public import proofs.«01_k».proof.Proof.Spec
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem

namespace Cert.ReferenceIdeal.Stage

open Cert.ReferenceIdeal Cert.ReferenceIdeal.Gen Cert.ReferenceIdeal.Read

/-- The five arguments hold the real numbers of `A`. -/
structure Inputs (x0 : FVec Ideal S2x4352x1024 .bf16) (x1 x2 : FVec Ideal S2x4352x256 .bf16)
    (x3 x4 : FVec Ideal S2x4352x1024 .bf16) (A : Attn.Args) : Prop where
  q : ∀ b t c, (x0 (ix3 b t c) : EReal) = ((A.q b t c : ℝ) : EReal)
  k : ∀ b t c, (x1 (ix3 b t c) : EReal) = ((A.k b t c : ℝ) : EReal)
  v : ∀ b t c, (x2 (ix3 b t c) : EReal) = ((A.v b t c : ℝ) : EReal)
  gate : ∀ b t c, (x3 (ix3 b t c) : EReal) = ((A.gate b t c : ℝ) : EReal)
  dz : ∀ b t c, (x4 (ix3 b t c) : EReal) = ((A.dz b t c : ℝ) : EReal)

/-- Arithmetic at an index. -/
theorem mul_at {S : Shape} (x y : FVec Ideal S .f32) (i : S.Idx) : (mulf x y i : EReal) = (x i : EReal) * (y i : EReal) := rfl

theorem add_at {S : Shape} (x y : FVec Ideal S .f32) (i : S.Idx) : (addf x y i : EReal) = (x i : EReal) + (y i : EReal) := rfl

theorem sub_at {S : Shape} (x y : FVec Ideal S .f32) (i : S.Idx) : (subf x y i : EReal) = (x i : EReal) - (y i : EReal) := rfl

theorem div_at {S : Shape} (x y : FVec Ideal S .f32) (i : S.Idx) : (Host.divf x y i : EReal) = Ideal.div (x i) (y i) := rfl

theorem exp_at {S : Shape} (x : FVec Ideal S .f32) (i : S.Idx) : (Host.exp x i : EReal) = Ideal.exp (x i) := rfl

theorem neg_at {S : Shape} (x : FVec Ideal S .f32) (i : S.Idx) : (Host.negf x i : EReal) = -(x i : EReal) := rfl

/-- A maximum of two arrays at an index. -/
theorem max_at {S : Shape} (x y : FVec Ideal S .f32) (i : S.Idx) : (maximumf x y i : EReal) = max (x i : EReal) (y i) := rfl

theorem isLat (t : Fin 4096) : (Attn.lat t).val < 4096 := t.isLt

theorem not_lat (t : Fin 256) : ¬ (Attn.cx t).val < 4096 := Nat.not_lt.mpr (Nat.le_add_right _ _)

/-- A row of 1024 by head. -/
theorem heads5 (x : FVec Ideal S2x4352x1024 .f32) (b : Fin 2) (t : Fin 4352) (h : Fin 2) (g : Fin 4) (d : Fin 128) :
    shapeCast S2x4352x2x4x128 x shapeCasts_S2x4352x1024_S2x4352x2x4x128 (ix5 b t h g d) = x (ix3 b t (Attn.qcol h g d)) := by
  pointwise
  refine congrArg (fun c => x (ix3 b t c)) (Fin.ext ?_)
  show h.val * 512 + g.val * 128 + d.val = (h.val * 4 + g.val) * 128 + d.val
  omega

/-- A row of 256 by head. -/
theorem heads4 (x : FVec Ideal S2x4352x256 .f32) (b : Fin 2) (t : Fin 4352) (h : Fin 2) (d : Fin 128) :
    shapeCast S2x4352x2x128 x shapeCasts_S2x4352x256_S2x4352x2x128 (ix4 b t h d) = x (ix3 b t (Attn.kcol h d)) := by
  pointwise
  rfl

/-- Heads laid out in a row of 1024. -/
theorem rows5 (x : FVec Ideal S2x4352x2x4x128 .f32) (b : Fin 2) (t : Fin 4352) (h : Fin 2) (g : Fin 4) (d : Fin 128) :
    shapeCast S2x4352x1024 x shapeCasts_S2x4352x2x4x128_S2x4352x1024 (ix3 b t (Attn.qcol h g d)) = x (ix5 b t h g d) := by
  pointwise
  have e1 : (⟨(Attn.qcol h g d).val / 512, by have := (Attn.qcol h g d).isLt; omega⟩ : Fin 2) = h := Fin.ext (by
    show ((h.val * 4 + g.val) * 128 + d.val) / 512 = h.val; omega)
  have e2 : (⟨(Attn.qcol h g d).val / 128 % 4, by omega⟩ : Fin 4) = g := Fin.ext (by
    show ((h.val * 4 + g.val) * 128 + d.val) / 128 % 4 = g.val; omega)
  have e3 : (⟨(Attn.qcol h g d).val % 128, by omega⟩ : Fin 128) = d := Fin.ext (by
    show ((h.val * 4 + g.val) * 128 + d.val) % 128 = d.val; omega)
  rw [e1, e2, e3]

/-- Heads laid out in a row of 256. -/
theorem rows4 (x : FVec Ideal S2x4352x2x128 .f32) (b : Fin 2) (t : Fin 4352) (h : Fin 2) (d : Fin 128) :
    shapeCast S2x4352x256 x shapeCasts_S2x4352x2x128_S2x4352x256 (ix3 b t (Attn.kcol h d)) = x (ix4 b t h d) := by
  pointwise
  have e1 : (⟨(Attn.kcol h d).val / 128, by have := (Attn.kcol h d).isLt; omega⟩ : Fin 2) = h := Fin.ext (by
    show (h.val * 128 + d.val) / 128 = h.val; omega)
  have e3 : (⟨(Attn.kcol h d).val % 128, by omega⟩ : Fin 128) = d := Fin.ext (by
    show (h.val * 128 + d.val) % 128 = d.val; omega)
  rw [e1, e3]

/-- The row's common part as a sum over the keys, latent rows. -/
theorem delta_lat (A : Attn.Args) (b h : Fin 2) (g : Fin 4) (t : Fin 4096) :
    A.delta b h g (Attn.lat t)
      = ∑ j, Attn.prob (A.latRow b h g (Attn.lat t)) j * A.dp b h g (Attn.lat t) j := by
  unfold Attn.Args.delta Attn.Args.y Attn.Args.dp
  rw [Attn.delta_eq]
  simp only [Attn.Args.P_lat A b h g _ _ (isLat t)]

/-- The row's common part as a sum over the keys, context rows. -/
theorem delta_cx (A : Attn.Args) (b h : Fin 2) (g : Fin 4) (t : Fin 256) :
    A.delta b h g (Attn.cx t)
      = ∑ j, Attn.prob (A.ctxRow b h g (Attn.cx t)) j * A.dp b h g (Attn.cx t) (Attn.cx j) := by
  unfold Attn.Args.delta Attn.Args.y
  rw [Attn.delta_eq, Attn.Args.sum_ctx _ (fun j hj => by rw [A.P_zero b h g _ j (not_lat t) hj, zero_mul])]
  simp only [Attn.Args.P_cx A b h g _ _ (not_lat t)]
  rfl

end Cert.ReferenceIdeal.Stage
-- ==== Proof.RefLat.lean ====
/- The reference's forward pass on the latent rows. -/
module

public import proofs.«01_k».proof.Proof.RefInputs

@[expose] public section

set_option maxRecDepth 16384

noncomputable section

open Idealize.ShloMosaic Idealize.ShloMosaic.TcCoe Idealize.SL.Sem

namespace Cert.ReferenceIdeal.Stage

open Cert.ReferenceIdeal Cert.ReferenceIdeal.Gen Cert.ReferenceIdeal.Read

variable {x0 : FVec Ideal S2x4352x1024 .bf16} {x1 x2 : FVec Ideal S2x4352x256 .bf16} {x3 x4 : FVec Ideal S2x4352x1024 .bf16}
  {A : Attn.Args} (H : Inputs x0 x1 x2 x3 x4 A)

include H in
/-- The queries by head. -/
theorem v4_eq (b : Fin 2) (t : Fin 4352) (h : Fin 2) (g : Fin 4) (d : Fin 128) :
    (val_main_v4 (F := Ideal) x0 (ix5 b t h g d) : EReal)
      = ((A.q b t (Attn.qcol h g d) : ℝ) : EReal) := by
  have e : (val_main_v4 (F := Ideal) x0 (ix5 b t h g d) : EReal)
      = (val_main_v0 (F := Ideal) x0 (ix3 b t (Attn.qcol h g d)) : EReal) := by
    unfold val_main_v4
    generalize val_main_v0 (F := Ideal) x0 = z0
    exact heads5 z0 b t h g d
  rw [e]
  exact H.q _ _ _

include H in
/-- The keys by head. -/
theorem v5_eq (b : Fin 2) (t : Fin 4352) (h : Fin 2) (d : Fin 128) :
    (val_main_v5 (F := Ideal) x1 (ix4 b t h d) : EReal)
      = ((A.k b t (Attn.kcol h d) : ℝ) : EReal) := by
  have e : (val_main_v5 (F := Ideal) x1 (ix4 b t h d) : EReal)
      = (val_main_v1 (F := Ideal) x1 (ix3 b t (Attn.kcol h d)) : EReal) := by
    unfold val_main_v5
    generalize val_main_v1 (F := Ideal) x1 = z0
    exact heads4 z0 b t h d
  rw [e]
  exact H.k _ _ _

include H in
/-- The values by head. -/
theorem v6_eq (b : Fin 2) (t : Fin 4352) (h : Fin 2) (d : Fin 128) :
    (val_main_v6 (F := Ideal) x2 (ix4 b t h d) : EReal)
      = ((A.v b t (Attn.kcol h d) : ℝ) : EReal) := by
  have e : (val_main_v6 (F := Ideal) x2 (ix4 b t h d) : EReal)
      = (val_main_v2 (F := Ideal) x2 (ix3 b t (Attn.kcol h d)) : EReal) := by
    unfold val_main_v6
    generalize val_main_v2 (F := Ideal) x2 = z0
    exact heads4 z0 b t h d
  rw [e]
  exact H.v _ _ _

include H in
/-- The latent queries. -/
theorem v7_eq (b : Fin 2) (t : Fin 4096) (h : Fin 2) (g : Fin 4) (d : Fin 128) :
    (val_main_v7 (F := Ideal) x0 (ix5 b t h g d) : EReal)
      = ((A.q b (Attn.lat t) (Attn.qcol h g d) : ℝ) : EReal) := by
  have e : (val_main_v7 (F := Ideal) x0 (ix5 b t h g d) : EReal)
      = (val_main_v4 (F := Ideal) x0 (ix5 b (Attn.lat t) h g d) : EReal) := by
    unfold val_main_v7
    generalize val_main_v4 (F := Ideal) x0 = z0
    pointwise
    all_goals rfl
  rw [e]
  exact v4_eq H _ _ _ _ _

include H in
/-- The latent rows' products with the keys. -/
theorem v8_eq (b h : Fin 2) (j : Fin 4352) (t : Fin 4096) (g : Fin 4) :
    (val_main_v8 (F := Ideal) x0 x1 (ix5 b h j t g) : EReal)
      = ((A.dot b h g (Attn.lat t) j : ℝ) : EReal) := by
  have e : (val_main_v8 (F := Ideal) x0 x1 (ix5 b h j t g) : EReal)
      = ∑ d : Fin 128, (val_main_v5 (F := Ideal) x1 (ix4 b j h d) : EReal) * (val_main_v7 (F := Ideal) x0 (ix5 b t h g d) : EReal) := by
    unfold val_main_v8
    generalize val_main_v5 (F := Ideal) x1 = z0
    generalize val_main_v7 (F := Ideal) x0 = z1
    pointwise
  rw [e]
  simp only [v5_eq H, v7_eq H, ← EReal.coe_mul, Attn.coe_sum]
  rfl

include H in
theorem v9_eq (b h : Fin 2) (g : Fin 4) (t : Fin 4096) (j : Fin 4352) :
    (val_main_v9 (F := Ideal) x0 x1 (ix5 b h g t j) : EReal)
      = ((A.dot b h g (Attn.lat t) j : ℝ) : EReal) := by
  have e : (val_main_v9 (F := Ideal) x0 x1 (ix5 b h g t j) : EReal)
      = (val_main_v8 (F := Ideal) x0 x1 (ix5 b h j t g) : EReal) := by
    unfold val_main_v9
    generalize val_main_v8 (F := Ideal) x0 x1 = z0
    pointwise
  rw [e]
  exact v8_eq H _ _ _ _ _

include H in
/-- The scaled scores. -/
theorem v11_eq (b h : Fin 2) (g : Fin 4) (t : Fin 4096) (j : Fin 4352) :
    (val_main_v11 (F := Ideal) x0 x1 (ix5 b h g t j) : EReal)
      = (((A.latRow b h g (Attn.lat t)) j : ℝ) : EReal) := by
  have e : (val_main_v11 (F := Ideal) x0 x1 (ix5 b h g t j) : EReal)
      = (val_main_v9 (F := Ideal) x0 x1 (ix5 b h g t j) : EReal) * Ideal.ofBits .f32 0x3DB504F3#32 := by
    unfold val_main_v11 val_main_v10 val_main_cst
    generalize val_main_v9 (F := Ideal) x0 x1 = z0
    pointwise
    all_goals rfl
  rw [e]
  simp only [v9_eq H, Attn.ofBits_sc, ← EReal.coe_mul]
  rfl

include H in
/-- A row's greatest score. -/
theorem v12_eq (b h : Fin 2) (g : Fin 4) (t : Fin 4096) :
    (val_main_v12 (F := Ideal) x0 x1 (ix4 b h g t) : EReal) = ((Attn.top (A.latRow b h g (Attn.lat t)) : ℝ) : EReal) := by
  have e : (val_main_v12 (F := Ideal) x0 x1 (ix4 b h g t) : EReal)
      = Finset.fold max (Ideal.ofBits .f32 0xFF800000#32) (fun j : Fin 4352 => (val_main_v11 (F := Ideal) x0 x1 (ix5 b h g t j) : EReal)) Finset.univ := by
    unfold val_main_v12 val_main_cst_0
    generalize val_main_v11 (F := Ideal) x0 x1 = z
    pointwise
  rw [e]
  simp only [v11_eq H]
  exact (congrArg (fun z => Finset.univ.fold max z _) Attn.ofBits_neg_inf).trans (Attn.fold_max_coe _)

theorem v18_at (i : S2x2x4x4096.Idx) : (val_main_v18 (F := Ideal) i : EReal) = ⊥ :=
  (val_main_v18_apply i).trans ((val_main_cst_2_apply _).trans Attn.ofBits_neg_inf)

theorem v19_at (x0 : FVec Ideal S2x4352x1024 .bf16) (x1 : FVec Ideal S2x4352x256 .bf16) (i : S2x2x4x4096.Idx) :
    (val_main_v19 (F := Ideal) x0 x1 (i) : EReal) = max ((val_main_v18 (F := Ideal) (i) : EReal)) (val_main_v12 (F := Ideal) x0 x1 (i) : EReal) := by
  unfold val_main_v19
  exact max_at _ _ i

include H in
theorem v19_eq (b h : Fin 2) (g : Fin 4) (t : Fin 4096) :
    (val_main_v19 (F := Ideal) x0 x1 (ix4 b h g t) : EReal) = ((Attn.top (A.latRow b h g (Attn.lat t)) : ℝ) : EReal) := by
  rw [v19_at, v18_at, v12_eq H]
  exact max_eq_right bot_le

include H in
theorem v29_eq (b h : Fin 2) (g : Fin 4) (t : Fin 4096) (o : Fin 1) :
    (val_main_v29 (F := Ideal) x0 x1 (ix5 b h g t o) : EReal)
      = ((Attn.top (A.latRow b h g (Attn.lat t)) : ℝ) : EReal) := by
  have e : (val_main_v29 (F := Ideal) x0 x1 (ix5 b h g t o) : EReal)
      = (val_main_v19 (F := Ideal) x0 x1 (ix4 b h g t) : EReal) := by
    unfold val_main_v29
    generalize val_main_v19 (F := Ideal) x0 x1 = z0
    pointwise
  rw [e]
  exact v19_eq H _ _ _ _

include H in
theorem v30_eq (b h : Fin 2) (g : Fin 4) (t : Fin 4096) (j : Fin 4352) :
    (val_main_v30 (F := Ideal) x0 x1 (ix5 b h g t j) : EReal)
      = ((Attn.top (A.latRow b h g (Attn.lat t)) : ℝ) : EReal) := by
  have e : (val_main_v30 (F := Ideal) x0 x1 (ix5 b h g t j) : EReal)
      = (val_main_v29 (F := Ideal) x0 x1 (ix5 b h g t 0) : EReal) := by
    unfold val_main_v30
    generalize val_main_v29 (F := Ideal) x0 x1 = z0
    pointwise
  rw [e]
  exact v29_eq H _ _ _ _ _

include H in
theorem v31_eq (b h : Fin 2) (g : Fin 4) (t : Fin 4096) (j : Fin 4352) :
    (val_main_v31 (F := Ideal) x0 x1 (ix5 b h g t j) : EReal)
      = (((A.latRow b h g (Attn.lat t)) j - Attn.top (A.latRow b h g (Attn.lat t)) : ℝ) : EReal) := by
  have e : (val_main_v31 (F := Ideal) x0 x1 (ix5 b h g t j) : EReal)
      = (val_main_v11 (F := Ideal) x0 x1 (ix5 b h g t j) : EReal) - (val_main_v30 (F := Ideal) x0 x1 (ix5 b h g t j) : EReal) := by
    unfold val_main_v31
    generalize val_main_v11 (F := Ideal) x0 x1 = z0
    generalize val_main_v30 (F := Ideal) x0 x1 = z1
    pointwise
  rw [e]
  simp only [v11_eq H, v30_eq H, ← EReal.coe_sub]

include H in
/-- The exponentials. -/
theorem v32_eq (b h : Fin 2) (g : Fin 4) (t : Fin 4096) (j : Fin 4352) :
    (val_main_v32 (F := Ideal) x0 x1 (ix5 b h g t j) : EReal)
      = ((Attn.wgt (A.latRow b h g (Attn.lat t)) j : ℝ) : EReal) := by
  have e : (val_main_v32 (F := Ideal) x0 x1 (ix5 b h g t j) : EReal)
      = Ideal.exp (val_main_v31 (F := Ideal) x0 x1 (ix5 b h g t j) : EReal) := by
    unfold val_main_v32
    generalize val_main_v31 (F := Ideal) x0 x1 = z0
    exact exp_at _ _
  rw [e]
  rw [v31_eq H, Attn.exp_coe]
  rfl

include H in
/-- Their sums. -/
theorem v33_eq (b h : Fin 2) (g : Fin 4) (t : Fin 4096) :
    (val_main_v33 (F := Ideal) x0 x1 (ix4 b h g t) : EReal)
      = ((Attn.tot (A.latRow b h g (Attn.lat t)) : ℝ) : EReal) := by
  have e : (val_main_v33 (F := Ideal) x0 x1 (ix4 b h g t) : EReal)
      = ∑ j : Fin 4352, (val_main_v32 (F := Ideal) x0 x1 (ix5 b h g t j) : EReal) := by
    unfold val_main_v33 val_main_cst_8
    generalize val_main_v32 (F := Ideal) x0 x1 = z0
    pointwise
  rw [e]
  simp only [v32_eq H, Attn.coe_sum]
  rfl

include H in
theorem v34_eq (b h : Fin 2) (g : Fin 4) (t : Fin 4096) (o : Fin 1) :
    (val_main_v34 (F := Ideal) x0 x1 (ix5 b h g t o) : EReal)
      = ((Attn.tot (A.latRow b h g (Attn.lat t)) : ℝ) : EReal) := by
  have e : (val_main_v34 (F := Ideal) x0 x1 (ix5 b h g t o) : EReal)
      = (val_main_v33 (F := Ideal) x0 x1 (ix4 b h g t) : EReal) := by
    unfold val_main_v34
    generalize val_main_v33 (F := Ideal) x0 x1 = z0
    pointwise
  rw [e]
  exact v33_eq H _ _ _ _

include H in
theorem v35_eq (b h : Fin 2) (g : Fin 4) (t : Fin 4096) (j : Fin 4352) :
    (val_main_v35 (F := Ideal) x0 x1 (ix5 b h g t j) : EReal)
      = ((Attn.tot (A.latRow b h g (Attn.lat t)) : ℝ) : EReal) := by
  have e : (val_main_v35 (F := Ideal) x0 x1 (ix5 b h g t j) : EReal)
      = (val_main_v34 (F := Ideal) x0 x1 (ix5 b h g t 0) : EReal) := by
    unfold val_main_v35
    generalize val_main_v34 (F := Ideal) x0 x1 = z0
    pointwise
  rw [e]
  exact v34_eq H _ _ _ _ _

include H in
/-- The softmax. -/
theorem v36_eq (b h : Fin 2) (g : Fin 4) (t : Fin 4096) (j : Fin 4352) :
    (val_main_v36 (F := Ideal) x0 x1 (ix5 b h g t j) : EReal)
      = ((Attn.prob (A.latRow b h g (Attn.lat t)) j : ℝ) : EReal) := by
  have e : (val_main_v36 (F := Ideal) x0 x1 (ix5 b h g t j) : EReal)
      = Ideal.div (val_main_v32 (F := Ideal) x0 x1 (ix5 b h g t j) : EReal) (val_main_v35 (F := Ideal) x0 x1 (ix5 b h g t j) : EReal) := by
    unfold val_main_v36
    generalize val_main_v32 (F := Ideal) x0 x1 = z0
    generalize val_main_v35 (F := Ideal) x0 x1 = z1
    exact div_at _ _ _
  rw [e]
  rw [v32_eq H, v35_eq H, Attn.div_coe (Attn.tot_ne _)]
  rfl

include H in
theorem v37_eq (b h : Fin 2) (g : Fin 4) (t : Fin 4096) (o : Fin 1) :
    (val_main_v37 (F := Ideal) x0 x1 (ix5 b h g t o) : EReal)
      = ((Attn.tot (A.latRow b h g (Attn.lat t)) * Attn.tot (A.latRow b h g (Attn.lat t)) : ℝ) : EReal) := by
  have e : (val_main_v37 (F := Ideal) x0 x1 (ix5 b h g t o) : EReal)
      = (val_main_v34 (F := Ideal) x0 x1 (ix5 b h g t o) : EReal) * (val_main_v34 (F := Ideal) x0 x1 (ix5 b h g t o) : EReal) := by
    unfold val_main_v37
    generalize val_main_v34 (F := Ideal) x0 x1 = z0
    exact mul_at _ _ _
  rw [e]
  simp only [v34_eq H, ← EReal.coe_mul]

include H in
theorem v39_eq (b h : Fin 2) (g : Fin 4) (t : Fin 4096) (o : Fin 1) :
    (val_main_v39 (F := Ideal) x0 x1 (ix5 b h g t o) : EReal)
      = ((1 / (Attn.tot (A.latRow b h g (Attn.lat t)) * Attn.tot (A.latRow b h g (Attn.lat t))) : ℝ) : EReal) := by
  have e : (val_main_v39 (F := Ideal) x0 x1 (ix5 b h g t o) : EReal)
      = Ideal.div (Ideal.ofBits .f32 0x3F800000#32) (val_main_v37 (F := Ideal) x0 x1 (ix5 b h g t o) : EReal) := by
    unfold val_main_v39 val_main_v38 val_main_cst_9
    generalize val_main_v37 (F := Ideal) x0 x1 = z0
    pointwise
    all_goals rfl
  rw [e]
  rw [v37_eq H, Attn.ofBits_one, Attn.div_coe (mul_ne_zero (Attn.tot_ne _) (Attn.tot_ne _))]

include H in
/-- The weighted values. -/
theorem v40_eq (b h : Fin 2) (d : Fin 128) (g : Fin 4) (t : Fin 4096) :
    (val_main_v40 (F := Ideal) x0 x1 x2 (ix5 b h d g t) : EReal)
      = ((A.y b h g (Attn.lat t) d : ℝ) : EReal) := by
  have e : (val_main_v40 (F := Ideal) x0 x1 x2 (ix5 b h d g t) : EReal)
      = ∑ j : Fin 4352, (val_main_v6 (F := Ideal) x2 (ix4 b j h d) : EReal) * (val_main_v36 (F := Ideal) x0 x1 (ix5 b h g t j) : EReal) := by
    unfold val_main_v40
    generalize val_main_v36 (F := Ideal) x0 x1 = z0
    generalize val_main_v6 (F := Ideal) x2 = z1
    pointwise
  rw [e]
  simp only [v6_eq H, v36_eq H, ← EReal.coe_mul, Attn.coe_sum]
  unfold Attn.Args.y
  simp only [Attn.Args.P_lat A b h g (Attn.lat t) _ t.isLt]

include H in
theorem v41_eq (b : Fin 2) (t : Fin 4096) (h : Fin 2) (g : Fin 4) (d : Fin 128) :
    (val_main_v41 (F := Ideal) x0 x1 x2 (ix5 b t h g d) : EReal)
      = ((A.y b h g (Attn.lat t) d : ℝ) : EReal) := by
  have e : (val_main_v41 (F := Ideal) x0 x1 x2 (ix5 b t h g d) : EReal)
      = (val_main_v40 (F := Ideal) x0 x1 x2 (ix5 b h d g t) : EReal) := by
    unfold val_main_v41
    generalize val_main_v40 (F := Ideal) x0 x1 x2 = z0
    pointwise
  rw [e]
  exact v40_eq H _ _ _ _ _

end Cert.ReferenceIdeal.Stage
-- ==== Proof.RefCtx.lean ====
/- The reference's forward pass on the context rows. -/
module

public import proofs.«01_k».proof.Proof.RefLat

@[expose] public section

set_option maxRecDepth 16384

noncomputable section

open Idealize.ShloMosaic Idealize.ShloMosaic.TcCoe Idealize.SL.Sem

namespace Cert.ReferenceIdeal.Stage

open Cert.ReferenceIdeal Cert.ReferenceIdeal.Gen Cert.ReferenceIdeal.Read

variable {x0 : FVec Ideal S2x4352x1024 .bf16} {x1 x2 : FVec Ideal S2x4352x256 .bf16} {x3 x4 : FVec Ideal S2x4352x1024 .bf16}
  {A : Attn.Args} (H : Inputs x0 x1 x2 x3 x4 A)

include H in
/-- The context queries. -/
theorem v42_eq (b : Fin 2) (t : Fin 256) (h : Fin 2) (g : Fin 4) (d : Fin 128) :
    (val_main_v42 (F := Ideal) x0 (ix5 b t h g d) : EReal)
      = ((A.q b (Attn.cx t) (Attn.qcol h g d) : ℝ) : EReal) := by
  have e : (val_main_v42 (F := Ideal) x0 (ix5 b t h g d) : EReal)
      = (val_main_v4 (F := Ideal) x0 (ix5 b (Attn.cx t) h g d) : EReal) := by
    unfold val_main_v42
    generalize val_main_v4 (F := Ideal) x0 = z0
    pointwise
    all_goals rfl
  rw [e]
  exact v4_eq H _ _ _ _ _

include H in
/-- The context keys. -/
theorem v43_eq (b : Fin 2) (j : Fin 256) (h : Fin 2) (d : Fin 128) :
    (val_main_v43 (F := Ideal) x1 (ix4 b j h d) : EReal)
      = ((A.k b (Attn.cx j) (Attn.kcol h d) : ℝ) : EReal) := by
  have e : (val_main_v43 (F := Ideal) x1 (ix4 b j h d) : EReal)
      = (val_main_v5 (F := Ideal) x1 (ix4 b (Attn.cx j) h d) : EReal) := by
    unfold val_main_v43
    generalize val_main_v5 (F := Ideal) x1 = z0
    pointwise
    all_goals rfl
  rw [e]
  exact v5_eq H _ _ _ _

include H in
/-- The context values. -/
theorem v44_eq (b : Fin 2) (j : Fin 256) (h : Fin 2) (d : Fin 128) :
    (val_main_v44 (F := Ideal) x2 (ix4 b j h d) : EReal)
      = ((A.v b (Attn.cx j) (Attn.kcol h d) : ℝ) : EReal) := by
  have e : (val_main_v44 (F := Ideal) x2 (ix4 b j h d) : EReal)
      = (val_main_v6 (F := Ideal) x2 (ix4 b (Attn.cx j) h d) : EReal) := by
    unfold val_main_v44
    generalize val_main_v6 (F := Ideal) x2 = z0
    pointwise
    all_goals rfl
  rw [e]
  exact v6_eq H _ _ _ _

include H in
/-- The context rows' products with the keys. -/
theorem v45_eq (b h : Fin 2) (j : Fin 256) (t : Fin 256) (g : Fin 4) :
    (val_main_v45 (F := Ideal) x0 x1 (ix5 b h j t g) : EReal)
      = ((A.dot b h g (Attn.cx t) (Attn.cx j) : ℝ) : EReal) := by
  have e : (val_main_v45 (F := Ideal) x0 x1 (ix5 b h j t g) : EReal)
      = ∑ d : Fin 128, (val_main_v43 (F := Ideal) x1 (ix4 b j h d) : EReal) * (val_main_v42 (F := Ideal) x0 (ix5 b t h g d) : EReal) := by
    unfold val_main_v45
    generalize val_main_v43 (F := Ideal) x1 = z0
    generalize val_main_v42 (F := Ideal) x0 = z1
    pointwise
  rw [e]
  simp only [v43_eq H, v42_eq H, ← EReal.coe_mul, Attn.coe_sum]
  rfl

include H in
theorem v46_eq (b h : Fin 2) (g : Fin 4) (t : Fin 256) (j : Fin 256) :
    (val_main_v46 (F := Ideal) x0 x1 (ix5 b h g t j) : EReal)
      = ((A.dot b h g (Attn.cx t) (Attn.cx j) : ℝ) : EReal) := by
  have e : (val_main_v46 (F := Ideal) x0 x1 (ix5 b h g t j) : EReal)
      = (val_main_v45 (F := Ideal) x0 x1 (ix5 b h j t g) : EReal) := by
    unfold val_main_v46
    generalize val_main_v45 (F := Ideal) x0 x1 = z0
    pointwise
  rw [e]
  exact v45_eq H _ _ _ _ _

include H in
/-- The scaled scores. -/
theorem v48_eq (b h : Fin 2) (g : Fin 4) (t : Fin 256) (j : Fin 256) :
    (val_main_v48 (F := Ideal) x0 x1 (ix5 b h g t j) : EReal)
      = (((A.ctxRow b h g (Attn.cx t)) j : ℝ) : EReal) := by
  have e : (val_main_v48 (F := Ideal) x0 x1 (ix5 b h g t j) : EReal)
      = (val_main_v46 (F := Ideal) x0 x1 (ix5 b h g t j) : EReal) * Ideal.ofBits .f32 0x3DB504F3#32 := by
    unfold val_main_v48 val_main_v47 val_main_cst_10
    generalize val_main_v46 (F := Ideal) x0 x1 = z0
    pointwise
    all_goals rfl
  rw [e]
  simp only [v46_eq H, Attn.ofBits_sc, ← EReal.coe_mul]
  rfl

include H in
/-- A row's greatest score. -/
theorem v49_eq (b h : Fin 2) (g : Fin 4) (t : Fin 256) :
    (val_main_v49 (F := Ideal) x0 x1 (ix4 b h g t) : EReal) = ((Attn.top (A.ctxRow b h g (Attn.cx t)) : ℝ) : EReal) := by
  have e : (val_main_v49 (F := Ideal) x0 x1 (ix4 b h g t) : EReal)
      = Finset.fold max (Ideal.ofBits .f32 0xFF800000#32) (fun j : Fin 256 => (val_main_v48 (F := Ideal) x0 x1 (ix5 b h g t j) : EReal)) Finset.univ := by
    unfold val_main_v49 val_main_cst_11
    generalize val_main_v48 (F := Ideal) x0 x1 = z
    pointwise
  rw [e]
  simp only [v48_eq H]
  exact (congrArg (fun z => Finset.univ.fold max z _) Attn.ofBits_neg_inf).trans (Attn.fold_max_coe _)

theorem v55_at (i : S2x2x4x256.Idx) : (val_main_v55 (F := Ideal) i : EReal) = ⊥ :=
  (val_main_v55_apply i).trans ((val_main_cst_13_apply _).trans Attn.ofBits_neg_inf)

theorem v56_at (x0 : FVec Ideal S2x4352x1024 .bf16) (x1 : FVec Ideal S2x4352x256 .bf16) (i : S2x2x4x256.Idx) :
    (val_main_v56 (F := Ideal) x0 x1 (i) : EReal) = max ((val_main_v55 (F := Ideal) (i) : EReal)) (val_main_v49 (F := Ideal) x0 x1 (i) : EReal) := by
  unfold val_main_v56
  exact max_at _ _ i

include H in
theorem v56_eq (b h : Fin 2) (g : Fin 4) (t : Fin 256) :
    (val_main_v56 (F := Ideal) x0 x1 (ix4 b h g t) : EReal) = ((Attn.top (A.ctxRow b h g (Attn.cx t)) : ℝ) : EReal) := by
  rw [v56_at, v55_at, v49_eq H]
  exact max_eq_right bot_le

include H in
theorem v66_eq (b h : Fin 2) (g : Fin 4) (t : Fin 256) (o : Fin 1) :
    (val_main_v66 (F := Ideal) x0 x1 (ix5 b h g t o) : EReal)
      = ((Attn.top (A.ctxRow b h g (Attn.cx t)) : ℝ) : EReal) := by
  have e : (val_main_v66 (F := Ideal) x0 x1 (ix5 b h g t o) : EReal)
      = (val_main_v56 (F := Ideal) x0 x1 (ix4 b h g t) : EReal) := by
    unfold val_main_v66
    generalize val_main_v56 (F := Ideal) x0 x1 = z0
    pointwise
  rw [e]
  exact v56_eq H _ _ _ _

include H in
theorem v67_eq (b h : Fin 2) (g : Fin 4) (t : Fin 256) (j : Fin 256) :
    (val_main_v67 (F := Ideal) x0 x1 (ix5 b h g t j) : EReal)
      = ((Attn.top (A.ctxRow b h g (Attn.cx t)) : ℝ) : EReal) := by
  have e : (val_main_v67 (F := Ideal) x0 x1 (ix5 b h g t j) : EReal)
      = (val_main_v66 (F := Ideal) x0 x1 (ix5 b h g t 0) : EReal) := by
    unfold val_main_v67
    generalize val_main_v66 (F := Ideal) x0 x1 = z0
    pointwise
  rw [e]
  exact v66_eq H _ _ _ _ _

include H in
theorem v68_eq (b h : Fin 2) (g : Fin 4) (t : Fin 256) (j : Fin 256) :
    (val_main_v68 (F := Ideal) x0 x1 (ix5 b h g t j) : EReal)
      = (((A.ctxRow b h g (Attn.cx t)) j - Attn.top (A.ctxRow b h g (Attn.cx t)) : ℝ) : EReal) := by
  have e : (val_main_v68 (F := Ideal) x0 x1 (ix5 b h g t j) : EReal)
      = (val_main_v48 (F := Ideal) x0 x1 (ix5 b h g t j) : EReal) - (val_main_v67 (F := Ideal) x0 x1 (ix5 b h g t j) : EReal) := by
    unfold val_main_v68
    generalize val_main_v48 (F := Ideal) x0 x1 = z0
    generalize val_main_v67 (F := Ideal) x0 x1 = z1
    pointwise
  rw [e]
  simp only [v48_eq H, v67_eq H, ← EReal.coe_sub]

include H in
/-- The exponentials. -/
theorem v69_eq (b h : Fin 2) (g : Fin 4) (t : Fin 256) (j : Fin 256) :
    (val_main_v69 (F := Ideal) x0 x1 (ix5 b h g t j) : EReal)
      = ((Attn.wgt (A.ctxRow b h g (Attn.cx t)) j : ℝ) : EReal) := by
  have e : (val_main_v69 (F := Ideal) x0 x1 (ix5 b h g t j) : EReal)
      = Ideal.exp (val_main_v68 (F := Ideal) x0 x1 (ix5 b h g t j) : EReal) := by
    unfold val_main_v69
    generalize val_main_v68 (F := Ideal) x0 x1 = z0
    exact exp_at _ _
  rw [e]
  rw [v68_eq H, Attn.exp_coe]
  rfl

include H in
/-- Their sums. -/
theorem v70_eq (b h : Fin 2) (g : Fin 4) (t : Fin 256) :
    (val_main_v70 (F := Ideal) x0 x1 (ix4 b h g t) : EReal)
      = ((Attn.tot (A.ctxRow b h g (Attn.cx t)) : ℝ) : EReal) := by
  have e : (val_main_v70 (F := Ideal) x0 x1 (ix4 b h g t) : EReal)
      = ∑ j : Fin 256, (val_main_v69 (F := Ideal) x0 x1 (ix5 b h g t j) : EReal) := by
    unfold val_main_v70 val_main_cst_19
    generalize val_main_v69 (F := Ideal) x0 x1 = z0
    pointwise
  rw [e]
  simp only [v69_eq H, Attn.coe_sum]
  rfl

include H in
theorem v71_eq (b h : Fin 2) (g : Fin 4) (t : Fin 256) (o : Fin 1) :
    (val_main_v71 (F := Ideal) x0 x1 (ix5 b h g t o) : EReal)
      = ((Attn.tot (A.ctxRow b h g (Attn.cx t)) : ℝ) : EReal) := by
  have e : (val_main_v71 (F := Ideal) x0 x1 (ix5 b h g t o) : EReal)
      = (val_main_v70 (F := Ideal) x0 x1 (ix4 b h g t) : EReal) := by
    unfold val_main_v71
    generalize val_main_v70 (F := Ideal) x0 x1 = z0
    pointwise
  rw [e]
  exact v70_eq H _ _ _ _

include H in
theorem v72_eq (b h : Fin 2) (g : Fin 4) (t : Fin 256) (j : Fin 256) :
    (val_main_v72 (F := Ideal) x0 x1 (ix5 b h g t j) : EReal)
      = ((Attn.tot (A.ctxRow b h g (Attn.cx t)) : ℝ) : EReal) := by
  have e : (val_main_v72 (F := Ideal) x0 x1 (ix5 b h g t j) : EReal)
      = (val_main_v71 (F := Ideal) x0 x1 (ix5 b h g t 0) : EReal) := by
    unfold val_main_v72
    generalize val_main_v71 (F := Ideal) x0 x1 = z0
    pointwise
  rw [e]
  exact v71_eq H _ _ _ _ _

include H in
/-- The softmax. -/
theorem v73_eq (b h : Fin 2) (g : Fin 4) (t : Fin 256) (j : Fin 256) :
    (val_main_v73 (F := Ideal) x0 x1 (ix5 b h g t j) : EReal)
      = ((Attn.prob (A.ctxRow b h g (Attn.cx t)) j : ℝ) : EReal) := by
  have e : (val_main_v73 (F := Ideal) x0 x1 (ix5 b h g t j) : EReal)
      = Ideal.div (val_main_v69 (F := Ideal) x0 x1 (ix5 b h g t j) : EReal) (val_main_v72 (F := Ideal) x0 x1 (ix5 b h g t j) : EReal) := by
    unfold val_main_v73
    generalize val_main_v69 (F := Ideal) x0 x1 = z0
    generalize val_main_v72 (F := Ideal) x0 x1 = z1
    exact div_at _ _ _
  rw [e]
  rw [v69_eq H, v72_eq H, Attn.div_coe (Attn.tot_ne _)]
  rfl

include H in
theorem v74_eq (b h : Fin 2) (g : Fin 4) (t : Fin 256) (o : Fin 1) :
    (val_main_v74 (F := Ideal) x0 x1 (ix5 b h g t o) : EReal)
      = ((Attn.tot (A.ctxRow b h g (Attn.cx t)) * Attn.tot (A.ctxRow b h g (Attn.cx t)) : ℝ) : EReal) := by
  have e : (val_main_v74 (F := Ideal) x0 x1 (ix5 b h g t o) : EReal)
      = (val_main_v71 (F := Ideal) x0 x1 (ix5 b h g t o) : EReal) * (val_main_v71 (F := Ideal) x0 x1 (ix5 b h g t o) : EReal) := by
    unfold val_main_v74
    generalize val_main_v71 (F := Ideal) x0 x1 = z0
    exact mul_at _ _ _
  rw [e]
  simp only [v71_eq H, ← EReal.coe_mul]

include H in
theorem v76_eq (b h : Fin 2) (g : Fin 4) (t : Fin 256) (o : Fin 1) :
    (val_main_v76 (F := Ideal) x0 x1 (ix5 b h g t o) : EReal)
      = ((1 / (Attn.tot (A.ctxRow b h g (Attn.cx t)) * Attn.tot (A.ctxRow b h g (Attn.cx t))) : ℝ) : EReal) := by
  have e : (val_main_v76 (F := Ideal) x0 x1 (ix5 b h g t o) : EReal)
      = Ideal.div (Ideal.ofBits .f32 0x3F800000#32) (val_main_v74 (F := Ideal) x0 x1 (ix5 b h g t o) : EReal) := by
    unfold val_main_v76 val_main_v75 val_main_cst_20
    generalize val_main_v74 (F := Ideal) x0 x1 = z0
    pointwise
    all_goals rfl
  rw [e]
  rw [v74_eq H, Attn.ofBits_one, Attn.div_coe (mul_ne_zero (Attn.tot_ne _) (Attn.tot_ne _))]

include H in
/-- The weighted values. -/
theorem v77_eq (b h : Fin 2) (d : Fin 128) (g : Fin 4) (t : Fin 256) :
    (val_main_v77 (F := Ideal) x0 x1 x2 (ix5 b h d g t) : EReal)
      = ((A.y b h g (Attn.cx t) d : ℝ) : EReal) := by
  have e : (val_main_v77 (F := Ideal) x0 x1 x2 (ix5 b h d g t) : EReal)
      = ∑ j : Fin 256, (val_main_v44 (F := Ideal) x2 (ix4 b j h d) : EReal) * (val_main_v73 (F := Ideal) x0 x1 (ix5 b h g t j) : EReal) := by
    unfold val_main_v77
    generalize val_main_v73 (F := Ideal) x0 x1 = z0
    generalize val_main_v44 (F := Ideal) x2 = z1
    pointwise
  rw [e]
  simp only [v44_eq H, v73_eq H, ← EReal.coe_mul, Attn.coe_sum]
  unfold Attn.Args.y
  rw [Attn.Args.sum_ctx _ (fun j hj => by rw [A.P_zero b h g _ j (not_lat t) hj, mul_zero])]
  simp only [A.P_cx b h g _ _ (not_lat t)]

include H in
theorem v78_eq (b : Fin 2) (t : Fin 256) (h : Fin 2) (g : Fin 4) (d : Fin 128) :
    (val_main_v78 (F := Ideal) x0 x1 x2 (ix5 b t h g d) : EReal)
      = ((A.y b h g (Attn.cx t) d : ℝ) : EReal) := by
  have e : (val_main_v78 (F := Ideal) x0 x1 x2 (ix5 b t h g d) : EReal)
      = (val_main_v77 (F := Ideal) x0 x1 x2 (ix5 b h d g t) : EReal) := by
    unfold val_main_v78
    generalize val_main_v77 (F := Ideal) x0 x1 x2 = z0
    pointwise
  rw [e]
  exact v77_eq H _ _ _ _ _

end Cert.ReferenceIdeal.Stage
-- ==== Proof.RefGate.lean ====
/- The reference's gate: the attention's output in rows, the gate's gradient and the cotangent behind the gate. -/
module

public import proofs.«01_k».proof.Proof.RefCtx

@[expose] public section

set_option maxRecDepth 16384

noncomputable section

open Idealize.ShloMosaic Idealize.ShloMosaic.TcCoe Idealize.SL.Sem

namespace Cert.ReferenceIdeal.Stage

open Cert.ReferenceIdeal Cert.ReferenceIdeal.Gen Cert.ReferenceIdeal.Read

variable {x0 : FVec Ideal S2x4352x1024 .bf16} {x1 x2 : FVec Ideal S2x4352x256 .bf16} {x3 x4 : FVec Ideal S2x4352x1024 .bf16}
  {A : Attn.Args} (H : Inputs x0 x1 x2 x3 x4 A)

include H in
/-- The attention's output. -/
theorem v79_eq (b : Fin 2) (t : Fin 4352) (h : Fin 2) (g : Fin 4) (d : Fin 128) :
    (val_main_v79 (F := Ideal) x0 x1 x2 (ix5 b t h g d) : EReal)
      = ((A.y b h g t d : ℝ) : EReal) := by
  have e : (val_main_v79 (F := Ideal) x0 x1 x2 (ix5 b t h g d) : EReal)
      = if hc : t.val < 4096 then (val_main_v41 (F := Ideal) x0 x1 x2 (ix5 b ⟨t.val, hc⟩ h g d) : EReal) else (val_main_v78 (F := Ideal) x0 x1 x2 (ix5 b ⟨t.val - 4096, by omega⟩ h g d) : EReal) := by
    unfold val_main_v79
    generalize val_main_v41 (F := Ideal) x0 x1 x2 = z0
    generalize val_main_v78 (F := Ideal) x0 x1 x2 = z1
    pointwise
  rw [e]
  split
  · next hc => exact v41_eq H _ _ _ _ _
  · next hc =>
    rw [v78_eq H]
    exact congrArg (fun s => ((A.y b h g s d : ℝ) : EReal)) (Fin.ext (Nat.add_sub_cancel' (Nat.not_lt.mp hc)))

include H in
theorem v80_eq (b : Fin 2) (t : Fin 4352) (h : Fin 2) (g : Fin 4) (d : Fin 128) :
    (val_main_v80 (F := Ideal) x0 x1 x2 (ix3 b t (Attn.qcol h g d)) : EReal)
      = ((A.y b h g t d : ℝ) : EReal) := by
  have e : (val_main_v80 (F := Ideal) x0 x1 x2 (ix3 b t (Attn.qcol h g d)) : EReal)
      = (val_main_v79 (F := Ideal) x0 x1 x2 (ix5 b t h g d) : EReal) := by
    unfold val_main_v80
    generalize val_main_v79 (F := Ideal) x0 x1 x2 = z0
    exact rows5 z0 b t h g d
  rw [e]
  exact v79_eq H _ _ _ _ _

include H in
theorem v3_eq (b : Fin 2) (t : Fin 4352) (c : Fin 1024) :
    (val_main_v3 (F := Ideal) x3 (ix3 b t c) : EReal)
      = ((A.gate b t c : ℝ) : EReal) := by
  exact H.gate _ _ _

include H in
/-- The gate's logistic. -/
theorem v81_2_eq (b : Fin 2) (t : Fin 4352) (c : Fin 1024) :
    (val_main_v81_2 (F := Ideal) x3 (ix3 b t c) : EReal) = ((Attn.sig (A.gate b t c) : ℝ) : EReal) := by
  have e : (val_main_v81_2 (F := Ideal) x3 (ix3 b t c) : EReal)
      = Ideal.div (Ideal.ofBits .f32 0x3F800000#32) (Ideal.ofBits .f32 0x3F800000#32 + Ideal.exp (-(x3 (ix3 b t c) : EReal))) := by
    unfold val_main_v81_2 val_main_call0_v4 val_main_call0_cst_0 val_main_call0_v3 val_main_call0_v2 val_main_call0_cst val_main_call0_v1 val_main_call0_v0 val_main_v3
    pointwise
    all_goals rfl
  rw [e, H.gate, Attn.ofBits_one, ← EReal.coe_neg, Attn.exp_coe, ← EReal.coe_add, Attn.div_coe (Attn.one_add_exp_ne _)]
  rfl

include H in
theorem v81_0_eq (b : Fin 2) (t : Fin 4352) (c : Fin 1024) :
    (val_main_v81_0 (F := Ideal) x3 (ix3 b t c) : EReal)
      = ((A.gate b t c * Attn.sig (A.gate b t c) : ℝ) : EReal) := by
  have e : (val_main_v81_0 (F := Ideal) x3 (ix3 b t c) : EReal)
      = (val_main_v3 (F := Ideal) x3 (ix3 b t c) : EReal) * (val_main_v81_2 (F := Ideal) x3 (ix3 b t c) : EReal) := by
    unfold val_main_v81_0
    generalize val_main_v3 (F := Ideal) x3 = z0
    generalize val_main_v81_2 (F := Ideal) x3 = z1
    exact mul_at _ _ _
  rw [e]
  rw [v3_eq H, v81_2_eq H, ← EReal.coe_mul]

include H in
theorem v81_1_eq (b : Fin 2) (t : Fin 4352) (c : Fin 1024) :
    (val_main_v81_1 (F := Ideal) x3 (ix3 b t c) : EReal)
      = ((Attn.sig (A.gate b t c) * (1 - Attn.sig (A.gate b t c)) : ℝ) : EReal) := by
  have e : (val_main_v81_1 (F := Ideal) x3 (ix3 b t c) : EReal)
      = (val_main_v81_2 (F := Ideal) x3 (ix3 b t c) : EReal) * (Ideal.ofBits .f32 0x3F800000#32 - (val_main_v81_2 (F := Ideal) x3 (ix3 b t c) : EReal)) := by
    unfold val_main_v81_1 val_main_call0_v7 val_main_call0_v6 val_main_call0_cst_1
    generalize val_main_v81_2 (F := Ideal) x3 = z0
    pointwise
    all_goals rfl
  rw [e]
  rw [v81_2_eq H, Attn.ofBits_one, ← EReal.coe_sub, ← EReal.coe_mul]

include H in
theorem v83_eq (b : Fin 2) (t : Fin 4352) (c : Fin 1024) :
    (val_main_v83 (F := Ideal) x4 (ix3 b t c) : EReal)
      = ((A.dz b t c : ℝ) : EReal) := by
  exact H.dz _ _ _

include H in
theorem v84_eq (b : Fin 2) (t : Fin 4352) (h : Fin 2) (g : Fin 4) (d : Fin 128) :
    (val_main_v84 (F := Ideal) x0 x1 x2 x4 (ix3 b t (Attn.qcol h g d)) : EReal)
      = ((A.y b h g t d * A.dz b t (Attn.qcol h g d) : ℝ) : EReal) := by
  have e : (val_main_v84 (F := Ideal) x0 x1 x2 x4 (ix3 b t (Attn.qcol h g d)) : EReal)
      = (val_main_v80 (F := Ideal) x0 x1 x2 (ix3 b t (Attn.qcol h g d)) : EReal) * (val_main_v83 (F := Ideal) x4 (ix3 b t (Attn.qcol h g d)) : EReal) := by
    unfold val_main_v84
    generalize val_main_v80 (F := Ideal) x0 x1 x2 = z0
    generalize val_main_v83 (F := Ideal) x4 = z1
    exact mul_at _ _ _
  rw [e]
  rw [v80_eq H, v83_eq H, ← EReal.coe_mul]

include H in
/-- The cotangent that reaches the attention's output. -/
theorem v85_eq (b : Fin 2) (t : Fin 4352) (h : Fin 2) (g : Fin 4) (d : Fin 128) :
    (val_main_v85 (F := Ideal) x3 x4 (ix3 b t (Attn.qcol h g d)) : EReal)
      = ((A.u b h g t d : ℝ) : EReal) := by
  have e : (val_main_v85 (F := Ideal) x3 x4 (ix3 b t (Attn.qcol h g d)) : EReal)
      = (val_main_v83 (F := Ideal) x4 (ix3 b t (Attn.qcol h g d)) : EReal) * (val_main_v81_0 (F := Ideal) x3 (ix3 b t (Attn.qcol h g d)) : EReal) := by
    unfold val_main_v85
    generalize val_main_v83 (F := Ideal) x4 = z0
    generalize val_main_v81_0 (F := Ideal) x3 = z1
    exact mul_at _ _ _
  rw [e]
  rw [v83_eq H, v81_0_eq H, ← EReal.coe_mul]
  rfl

include H in
/-- The gate's gradient. -/
theorem v86_eq (b : Fin 2) (t : Fin 4352) (h : Fin 2) (g : Fin 4) (d : Fin 128) :
    (val_main_v86 (F := Ideal) x0 x1 x2 x3 x4 (ix3 b t (Attn.qcol h g d)) : EReal)
      = ((A.dg b h g t d : ℝ) : EReal) := by
  have e : (val_main_v86 (F := Ideal) x0 x1 x2 x3 x4 (ix3 b t (Attn.qcol h g d)) : EReal)
      = (val_main_v84 (F := Ideal) x0 x1 x2 x4 (ix3 b t (Attn.qcol h g d)) : EReal) * (val_main_v81_2 (F := Ideal) x3 (ix3 b t (Attn.qcol h g d)) : EReal) + (val_main_v3 (F := Ideal) x3 (ix3 b t (Attn.qcol h g d)) : EReal) * (val_main_v84 (F := Ideal) x0 x1 x2 x4 (ix3 b t (Attn.qcol h g d)) : EReal) * (val_main_v81_1 (F := Ideal) x3 (ix3 b t (Attn.qcol h g d)) : EReal) := by
    unfold val_main_v86 val_main_call1_v1 val_main_call1_v2 val_main_call1_v0
    generalize val_main_v3 (F := Ideal) x3 = z0
    generalize val_main_v84 (F := Ideal) x0 x1 x2 x4 = z1
    generalize val_main_v81_2 (F := Ideal) x3 = z2
    generalize val_main_v81_1 (F := Ideal) x3 = z3
    rw [add_at, mul_at, mul_at, mul_at]
  rw [e]
  rw [v3_eq H, v84_eq H, v81_2_eq H, v81_1_eq H, ← EReal.coe_mul, ← EReal.coe_mul, ← EReal.coe_mul, ← EReal.coe_add]
  unfold Attn.Args.dg
  exact congrArg _ (by ring)

include H in
theorem v147_eq (b : Fin 2) (t : Fin 4352) (h : Fin 2) (g : Fin 4) (d : Fin 128) :
    (val_main_v147 (F := Ideal) x0 x1 x2 x3 x4 (ix3 b t (Attn.qcol h g d)) : EReal)
      = ((A.dg b h g t d : ℝ) : EReal) := by
  exact v86_eq H _ _ _ _ _

include H in
theorem v87_eq (b : Fin 2) (t : Fin 4352) (h : Fin 2) (g : Fin 4) (d : Fin 128) :
    (val_main_v87 (F := Ideal) x3 x4 (ix5 b t h g d) : EReal)
      = ((A.u b h g t d : ℝ) : EReal) := by
  have e : (val_main_v87 (F := Ideal) x3 x4 (ix5 b t h g d) : EReal)
      = (val_main_v85 (F := Ideal) x3 x4 (ix3 b t (Attn.qcol h g d)) : EReal) := by
    unfold val_main_v87
    generalize val_main_v85 (F := Ideal) x3 x4 = z0
    exact heads5 z0 b t h g d
  rw [e]
  exact v85_eq H _ _ _ _ _

end Cert.ReferenceIdeal.Stage
-- ==== Proof.RefBackCtx.lean ====
/- The reference's backward pass on the context rows. -/
module

public import proofs.«01_k».proof.Proof.RefGate

@[expose] public section

set_option maxRecDepth 16384

noncomputable section

open Idealize.ShloMosaic Idealize.ShloMosaic.TcCoe Idealize.SL.Sem

namespace Cert.ReferenceIdeal.Stage

open Cert.ReferenceIdeal Cert.ReferenceIdeal.Gen Cert.ReferenceIdeal.Read

variable {x0 : FVec Ideal S2x4352x1024 .bf16} {x1 x2 : FVec Ideal S2x4352x256 .bf16} {x3 x4 : FVec Ideal S2x4352x1024 .bf16}
  {A : Attn.Args} (H : Inputs x0 x1 x2 x3 x4 A)

include H in
/-- The cotangent of the context rows. -/
theorem v89_eq (b : Fin 2) (t : Fin 256) (h : Fin 2) (g : Fin 4) (d : Fin 128) :
    (val_main_v89 (F := Ideal) x3 x4 (ix5 b t h g d) : EReal)
      = ((A.u b h g (Attn.cx t) d : ℝ) : EReal) := by
  have e : (val_main_v89 (F := Ideal) x3 x4 (ix5 b t h g d) : EReal)
      = (val_main_v87 (F := Ideal) x3 x4 (ix5 b (Attn.cx t) h g d) : EReal) := by
    unfold val_main_v89
    generalize val_main_v87 (F := Ideal) x3 x4 = z0
    pointwise
    all_goals rfl
  rw [e]
  exact v87_eq H _ _ _ _ _

include H in
theorem v90_eq (b h : Fin 2) (d : Fin 128) (g : Fin 4) (t : Fin 256) :
    (val_main_v90 (F := Ideal) x3 x4 (ix5 b h d g t) : EReal)
      = ((A.u b h g (Attn.cx t) d : ℝ) : EReal) := by
  have e : (val_main_v90 (F := Ideal) x3 x4 (ix5 b h d g t) : EReal)
      = (val_main_v89 (F := Ideal) x3 x4 (ix5 b t h g d) : EReal) := by
    unfold val_main_v90
    generalize val_main_v89 (F := Ideal) x3 x4 = z0
    pointwise
  rw [e]
  exact v89_eq H _ _ _ _ _

include H in
/-- The weights' cotangent. -/
theorem v91_eq (b h : Fin 2) (g : Fin 4) (t : Fin 256) (j : Fin 256) :
    (val_main_v91 (F := Ideal) x2 x3 x4 (ix5 b h g t j) : EReal)
      = ((A.dp b h g (Attn.cx t) (Attn.cx j) : ℝ) : EReal) := by
  have e : (val_main_v91 (F := Ideal) x2 x3 x4 (ix5 b h g t j) : EReal)
      = ∑ d : Fin 128, (val_main_v90 (F := Ideal) x3 x4 (ix5 b h d g t) : EReal) * (val_main_v44 (F := Ideal) x2 (ix4 b j h d) : EReal) := by
    unfold val_main_v91
    generalize val_main_v90 (F := Ideal) x3 x4 = z0
    generalize val_main_v44 (F := Ideal) x2 = z1
    pointwise
  rw [e]
  simp only [v90_eq H, v44_eq H, ← EReal.coe_mul, Attn.coe_sum]
  rfl

include H in
/-- The values' share of the gradient. -/
theorem v92_eq (b h : Fin 2) (d : Fin 128) (j : Fin 256) :
    (val_main_v92 (F := Ideal) x0 x1 x3 x4 (ix4 b h d j) : EReal)
      = ((∑ g : Fin 4, ∑ t : Fin 256, A.P b h g (Attn.cx t) (Attn.cx j) * A.u b h g (Attn.cx t) d : ℝ) : EReal) := by
  have e : (val_main_v92 (F := Ideal) x0 x1 x3 x4 (ix4 b h d j) : EReal)
      = ∑ g : Fin 4, ∑ t : Fin 256, (val_main_v90 (F := Ideal) x3 x4 (ix5 b h d g t) : EReal) * (val_main_v73 (F := Ideal) x0 x1 (ix5 b h g t j) : EReal) := by
    unfold val_main_v92
    generalize val_main_v73 (F := Ideal) x0 x1 = z0
    generalize val_main_v90 (F := Ideal) x3 x4 = z1
    pointwise
  rw [e]
  simp only [v90_eq H, v73_eq H, ← EReal.coe_mul, Attn.coe_sum, Attn.Args.P_cx A _ _ _ _ _ (not_lat _)]
  simp only [mul_comm]

include H in
theorem v93_eq (b : Fin 2) (j : Fin 256) (h : Fin 2) (d : Fin 128) :
    (val_main_v93 (F := Ideal) x0 x1 x3 x4 (ix4 b j h d) : EReal)
      = ((∑ g : Fin 4, ∑ t : Fin 256, A.P b h g (Attn.cx t) (Attn.cx j) * A.u b h g (Attn.cx t) d : ℝ) : EReal) := by
  have e : (val_main_v93 (F := Ideal) x0 x1 x3 x4 (ix4 b j h d) : EReal)
      = (val_main_v92 (F := Ideal) x0 x1 x3 x4 (ix4 b h d j) : EReal) := by
    unfold val_main_v93
    generalize val_main_v92 (F := Ideal) x0 x1 x3 x4 = z0
    pointwise
  rw [e]
  exact v92_eq H _ _ _ _

include H in
theorem v94_eq (b h : Fin 2) (g : Fin 4) (t : Fin 256) (j : Fin 256) :
    (val_main_v94 (F := Ideal) x0 x1 (ix5 b h g t j) : EReal)
      = ((1 / (Attn.tot (A.ctxRow b h g (Attn.cx t)) * Attn.tot (A.ctxRow b h g (Attn.cx t))) : ℝ) : EReal) := by
  have e : (val_main_v94 (F := Ideal) x0 x1 (ix5 b h g t j) : EReal)
      = (val_main_v76 (F := Ideal) x0 x1 (ix5 b h g t 0) : EReal) := by
    unfold val_main_v94
    generalize val_main_v76 (F := Ideal) x0 x1 = z0
    pointwise
  rw [e]
  exact v76_eq H _ _ _ _ _

include H in
theorem v95_eq (b h : Fin 2) (g : Fin 4) (t : Fin 256) (j : Fin 256) :
    (val_main_v95 (F := Ideal) x0 x1 x2 x3 x4 (ix5 b h g t j) : EReal)
      = ((A.dp b h g (Attn.cx t) (Attn.cx j) * (1 / (Attn.tot (A.ctxRow b h g (Attn.cx t)) * Attn.tot (A.ctxRow b h g (Attn.cx t)))) : ℝ) : EReal) := by
  have e : (val_main_v95 (F := Ideal) x0 x1 x2 x3 x4 (ix5 b h g t j) : EReal)
      = (val_main_v91 (F := Ideal) x2 x3 x4 (ix5 b h g t j) : EReal) * (val_main_v94 (F := Ideal) x0 x1 (ix5 b h g t j) : EReal) := by
    unfold val_main_v95
    generalize val_main_v91 (F := Ideal) x2 x3 x4 = z0
    generalize val_main_v94 (F := Ideal) x0 x1 = z1
    exact mul_at _ _ _
  rw [e]
  simp only [v91_eq H, v94_eq H, ← EReal.coe_mul]

include H in
theorem v96_eq (b h : Fin 2) (g : Fin 4) (t : Fin 256) (j : Fin 256) :
    (val_main_v96 (F := Ideal) x0 x1 x2 x3 x4 (ix5 b h g t j) : EReal)
      = ((A.dp b h g (Attn.cx t) (Attn.cx j) * (1 / (Attn.tot (A.ctxRow b h g (Attn.cx t)) * Attn.tot (A.ctxRow b h g (Attn.cx t)))) * Attn.wgt (A.ctxRow b h g (Attn.cx t)) j : ℝ) : EReal) := by
  have e : (val_main_v96 (F := Ideal) x0 x1 x2 x3 x4 (ix5 b h g t j) : EReal)
      = (val_main_v95 (F := Ideal) x0 x1 x2 x3 x4 (ix5 b h g t j) : EReal) * (val_main_v69 (F := Ideal) x0 x1 (ix5 b h g t j) : EReal) := by
    unfold val_main_v96
    generalize val_main_v95 (F := Ideal) x0 x1 x2 x3 x4 = z0
    generalize val_main_v69 (F := Ideal) x0 x1 = z1
    exact mul_at _ _ _
  rw [e]
  simp only [v95_eq H, v69_eq H, ← EReal.coe_mul]

include H in
/-- The row's common part. -/
theorem v97_eq (b h : Fin 2) (g : Fin 4) (t : Fin 256) :
    (val_main_v97 (F := Ideal) x0 x1 x2 x3 x4 (ix4 b h g t) : EReal)
      = ((∑ j : Fin 256, A.dp b h g (Attn.cx t) (Attn.cx j) * (1 / (Attn.tot (A.ctxRow b h g (Attn.cx t)) * Attn.tot (A.ctxRow b h g (Attn.cx t)))) * Attn.wgt (A.ctxRow b h g (Attn.cx t)) j : ℝ) : EReal) := by
  have e : (val_main_v97 (F := Ideal) x0 x1 x2 x3 x4 (ix4 b h g t) : EReal)
      = ∑ j : Fin 256, (val_main_v96 (F := Ideal) x0 x1 x2 x3 x4 (ix5 b h g t j) : EReal) := by
    unfold val_main_v97 val_main_cst_21
    generalize val_main_v96 (F := Ideal) x0 x1 x2 x3 x4 = z0
    pointwise
  rw [e]
  simp only [v96_eq H, Attn.coe_sum]

include H in
theorem v98_eq (b h : Fin 2) (g : Fin 4) (t : Fin 256) (o : Fin 1) :
    (val_main_v98 (F := Ideal) x0 x1 x2 x3 x4 (ix5 b h g t o) : EReal)
      = ((∑ j : Fin 256, A.dp b h g (Attn.cx t) (Attn.cx j) * (1 / (Attn.tot (A.ctxRow b h g (Attn.cx t)) * Attn.tot (A.ctxRow b h g (Attn.cx t)))) * Attn.wgt (A.ctxRow b h g (Attn.cx t)) j : ℝ) : EReal) := by
  have e : (val_main_v98 (F := Ideal) x0 x1 x2 x3 x4 (ix5 b h g t o) : EReal)
      = (val_main_v97 (F := Ideal) x0 x1 x2 x3 x4 (ix4 b h g t) : EReal) := by
    unfold val_main_v98
    generalize val_main_v97 (F := Ideal) x0 x1 x2 x3 x4 = z0
    pointwise
  rw [e]
  exact v97_eq H _ _ _ _

include H in
theorem v99_eq (b h : Fin 2) (g : Fin 4) (t : Fin 256) (o : Fin 1) :
    (val_main_v99 (F := Ideal) x0 x1 x2 x3 x4 (ix5 b h g t o) : EReal)
      = ((-(∑ j : Fin 256, A.dp b h g (Attn.cx t) (Attn.cx j) * (1 / (Attn.tot (A.ctxRow b h g (Attn.cx t)) * Attn.tot (A.ctxRow b h g (Attn.cx t)))) * Attn.wgt (A.ctxRow b h g (Attn.cx t)) j) : ℝ) : EReal) := by
  have e : (val_main_v99 (F := Ideal) x0 x1 x2 x3 x4 (ix5 b h g t o) : EReal)
      = -(val_main_v98 (F := Ideal) x0 x1 x2 x3 x4 (ix5 b h g t o) : EReal) := by
    unfold val_main_v99
    generalize val_main_v98 (F := Ideal) x0 x1 x2 x3 x4 = z0
    exact neg_at _ _
  rw [e]
  rw [v98_eq H, ← EReal.coe_neg]

include H in
theorem v100_eq (b h : Fin 2) (g : Fin 4) (t : Fin 256) (j : Fin 256) :
    (val_main_v100 (F := Ideal) x0 x1 (ix5 b h g t j) : EReal)
      = ((Attn.tot (A.ctxRow b h g (Attn.cx t)) : ℝ) : EReal) := by
  have e : (val_main_v100 (F := Ideal) x0 x1 (ix5 b h g t j) : EReal)
      = (val_main_v71 (F := Ideal) x0 x1 (ix5 b h g t 0) : EReal) := by
    unfold val_main_v100
    generalize val_main_v71 (F := Ideal) x0 x1 = z0
    pointwise
  rw [e]
  exact v71_eq H _ _ _ _ _

include H in
theorem v101_eq (b h : Fin 2) (g : Fin 4) (t : Fin 256) (j : Fin 256) :
    (val_main_v101 (F := Ideal) x0 x1 x2 x3 x4 (ix5 b h g t j) : EReal)
      = ((A.dp b h g (Attn.cx t) (Attn.cx j) / Attn.tot (A.ctxRow b h g (Attn.cx t)) : ℝ) : EReal) := by
  have e : (val_main_v101 (F := Ideal) x0 x1 x2 x3 x4 (ix5 b h g t j) : EReal)
      = Ideal.div (val_main_v91 (F := Ideal) x2 x3 x4 (ix5 b h g t j) : EReal) (val_main_v100 (F := Ideal) x0 x1 (ix5 b h g t j) : EReal) := by
    unfold val_main_v101
    generalize val_main_v91 (F := Ideal) x2 x3 x4 = z0
    generalize val_main_v100 (F := Ideal) x0 x1 = z1
    exact div_at _ _ _
  rw [e]
  rw [v91_eq H, v100_eq H, Attn.div_coe (Attn.tot_ne _)]

include H in
theorem v102_eq (b h : Fin 2) (g : Fin 4) (t : Fin 256) :
    (val_main_v102 (F := Ideal) x0 x1 x2 x3 x4 (ix4 b h g t) : EReal)
      = ((-(∑ j : Fin 256, A.dp b h g (Attn.cx t) (Attn.cx j) * (1 / (Attn.tot (A.ctxRow b h g (Attn.cx t)) * Attn.tot (A.ctxRow b h g (Attn.cx t)))) * Attn.wgt (A.ctxRow b h g (Attn.cx t)) j) : ℝ) : EReal) := by
  have e : (val_main_v102 (F := Ideal) x0 x1 x2 x3 x4 (ix4 b h g t) : EReal)
      = ∑ o : Fin 1, (val_main_v99 (F := Ideal) x0 x1 x2 x3 x4 (ix5 b h g t o) : EReal) := by
    unfold val_main_v102 val_main_cst_22
    generalize val_main_v99 (F := Ideal) x0 x1 x2 x3 x4 = z0
    pointwise
  rw [e]
  rw [Fin.sum_univ_one, v99_eq H]

include H in
theorem v103_eq (b h : Fin 2) (g : Fin 4) (t : Fin 256) (j : Fin 256) :
    (val_main_v103 (F := Ideal) x0 x1 x2 x3 x4 (ix5 b h g t j) : EReal)
      = ((-(∑ j : Fin 256, A.dp b h g (Attn.cx t) (Attn.cx j) * (1 / (Attn.tot (A.ctxRow b h g (Attn.cx t)) * Attn.tot (A.ctxRow b h g (Attn.cx t)))) * Attn.wgt (A.ctxRow b h g (Attn.cx t)) j) : ℝ) : EReal) := by
  have e : (val_main_v103 (F := Ideal) x0 x1 x2 x3 x4 (ix5 b h g t j) : EReal)
      = (val_main_v102 (F := Ideal) x0 x1 x2 x3 x4 (ix4 b h g t) : EReal) := by
    unfold val_main_v103
    generalize val_main_v102 (F := Ideal) x0 x1 x2 x3 x4 = z0
    pointwise
  rw [e]
  exact v102_eq H _ _ _ _

include H in
theorem v104_eq (b h : Fin 2) (g : Fin 4) (t : Fin 256) (j : Fin 256) :
    (val_main_v104 (F := Ideal) x0 x1 x2 x3 x4 (ix5 b h g t j) : EReal)
      = ((A.dp b h g (Attn.cx t) (Attn.cx j) / Attn.tot (A.ctxRow b h g (Attn.cx t)) + -(∑ j : Fin 256, A.dp b h g (Attn.cx t) (Attn.cx j) * (1 / (Attn.tot (A.ctxRow b h g (Attn.cx t)) * Attn.tot (A.ctxRow b h g (Attn.cx t)))) * Attn.wgt (A.ctxRow b h g (Attn.cx t)) j) : ℝ) : EReal) := by
  have e : (val_main_v104 (F := Ideal) x0 x1 x2 x3 x4 (ix5 b h g t j) : EReal)
      = (val_main_v101 (F := Ideal) x0 x1 x2 x3 x4 (ix5 b h g t j) : EReal) + (val_main_v103 (F := Ideal) x0 x1 x2 x3 x4 (ix5 b h g t j) : EReal) := by
    unfold val_main_v104
    generalize val_main_v101 (F := Ideal) x0 x1 x2 x3 x4 = z0
    generalize val_main_v103 (F := Ideal) x0 x1 x2 x3 x4 = z1
    exact add_at _ _ _
  rw [e]
  rw [v101_eq H, v103_eq H, ← EReal.coe_add]

include H in
/-- The scaled scores' gradient. -/
theorem v105_eq (b h : Fin 2) (g : Fin 4) (t : Fin 256) (j : Fin 256) :
    (val_main_v105 (F := Ideal) x0 x1 x2 x3 x4 (ix5 b h g t j) : EReal)
      = ((A.ds b h g (Attn.cx t) (Attn.cx j) : ℝ) : EReal) := by
  have e : (val_main_v105 (F := Ideal) x0 x1 x2 x3 x4 (ix5 b h g t j) : EReal)
      = (val_main_v104 (F := Ideal) x0 x1 x2 x3 x4 (ix5 b h g t j) : EReal) * (val_main_v69 (F := Ideal) x0 x1 (ix5 b h g t j) : EReal) := by
    unfold val_main_v105
    generalize val_main_v104 (F := Ideal) x0 x1 x2 x3 x4 = z0
    generalize val_main_v69 (F := Ideal) x0 x1 = z1
    exact mul_at _ _ _
  rw [e]
  rw [v104_eq H, v69_eq H, ← EReal.coe_mul]
  refine congrArg _ ((Attn.score_grad (A.ctxRow b h g (Attn.cx t)) (fun j => A.dp b h g (Attn.cx t) (Attn.cx j)) j).trans ?_)
  unfold Attn.Args.ds
  rw [delta_cx, A.P_cx b h g _ j (not_lat t)]

include H in
theorem v107_eq (b h : Fin 2) (g : Fin 4) (t : Fin 256) (j : Fin 256) :
    (val_main_v107 (F := Ideal) x0 x1 x2 x3 x4 (ix5 b h g t j) : EReal)
      = ((A.ds b h g (Attn.cx t) (Attn.cx j) * Attn.sc : ℝ) : EReal) := by
  have e : (val_main_v107 (F := Ideal) x0 x1 x2 x3 x4 (ix5 b h g t j) : EReal)
      = (val_main_v105 (F := Ideal) x0 x1 x2 x3 x4 (ix5 b h g t j) : EReal) * Ideal.ofBits .f32 0x3DB504F3#32 := by
    unfold val_main_v107 val_main_v106 val_main_cst_23
    generalize val_main_v105 (F := Ideal) x0 x1 x2 x3 x4 = z0
    pointwise
    all_goals rfl
  rw [e]
  simp only [v105_eq H, Attn.ofBits_sc, ← EReal.coe_mul]

include H in
theorem v108_eq (b h : Fin 2) (j : Fin 256) (t : Fin 256) (g : Fin 4) :
    (val_main_v108 (F := Ideal) x0 x1 x2 x3 x4 (ix5 b h j t g) : EReal)
      = ((A.ds b h g (Attn.cx t) (Attn.cx j) * Attn.sc : ℝ) : EReal) := by
  have e : (val_main_v108 (F := Ideal) x0 x1 x2 x3 x4 (ix5 b h j t g) : EReal)
      = (val_main_v107 (F := Ideal) x0 x1 x2 x3 x4 (ix5 b h g t j) : EReal) := by
    unfold val_main_v108
    generalize val_main_v107 (F := Ideal) x0 x1 x2 x3 x4 = z0
    pointwise
  rw [e]
  exact v107_eq H _ _ _ _ _

include H in
/-- The query's gradient. -/
theorem v109_eq (b h : Fin 2) (t : Fin 256) (g : Fin 4) (d : Fin 128) :
    (val_main_v109 (F := Ideal) x0 x1 x2 x3 x4 (ix5 b h t g d) : EReal)
      = ((A.dq b h g (Attn.cx t) d : ℝ) : EReal) := by
  have e : (val_main_v109 (F := Ideal) x0 x1 x2 x3 x4 (ix5 b h t g d) : EReal)
      = ∑ j : Fin 256, (val_main_v108 (F := Ideal) x0 x1 x2 x3 x4 (ix5 b h j t g) : EReal) * (val_main_v43 (F := Ideal) x1 (ix4 b j h d) : EReal) := by
    unfold val_main_v109
    generalize val_main_v108 (F := Ideal) x0 x1 x2 x3 x4 = z0
    generalize val_main_v43 (F := Ideal) x1 = z1
    pointwise
  rw [e]
  simp only [v108_eq H, v43_eq H, ← EReal.coe_mul, Attn.coe_sum]
  refine congrArg _ ?_
  unfold Attn.Args.dq
  rw [Attn.Args.sum_ctx _ (fun j hj => by rw [A.ds_zero b h g _ j (not_lat t) hj, zero_mul]), Finset.sum_mul]
  exact Finset.sum_congr rfl fun j _ => by ring

include H in
theorem v110_eq (b : Fin 2) (t : Fin 256) (h : Fin 2) (g : Fin 4) (d : Fin 128) :
    (val_main_v110 (F := Ideal) x0 x1 x2 x3 x4 (ix5 b t h g d) : EReal)
      = ((A.dq b h g (Attn.cx t) d : ℝ) : EReal) := by
  have e : (val_main_v110 (F := Ideal) x0 x1 x2 x3 x4 (ix5 b t h g d) : EReal)
      = (val_main_v109 (F := Ideal) x0 x1 x2 x3 x4 (ix5 b h t g d) : EReal) := by
    unfold val_main_v110
    generalize val_main_v109 (F := Ideal) x0 x1 x2 x3 x4 = z0
    pointwise
  rw [e]
  exact v109_eq H _ _ _ _ _

include H in
/-- The keys' share of the gradient. -/
theorem v111_eq (b h : Fin 2) (j : Fin 256) (d : Fin 128) :
    (val_main_v111 (F := Ideal) x0 x1 x2 x3 x4 (ix4 b h j d) : EReal)
      = ((∑ g : Fin 4, ∑ t : Fin 256, A.ds b h g (Attn.cx t) (Attn.cx j) * A.q b (Attn.cx t) (Attn.qcol h g d) * Attn.sc : ℝ) : EReal) := by
  have e : (val_main_v111 (F := Ideal) x0 x1 x2 x3 x4 (ix4 b h j d) : EReal)
      = ∑ t : Fin 256, ∑ g : Fin 4, (val_main_v108 (F := Ideal) x0 x1 x2 x3 x4 (ix5 b h j t g) : EReal) * (val_main_v42 (F := Ideal) x0 (ix5 b t h g d) : EReal) := by
    unfold val_main_v111
    generalize val_main_v108 (F := Ideal) x0 x1 x2 x3 x4 = z0
    generalize val_main_v42 (F := Ideal) x0 = z1
    pointwise
  rw [e]
  simp only [v108_eq H, v42_eq H, ← EReal.coe_mul, Attn.coe_sum]
  rw [Finset.sum_comm]
  refine congrArg _ (Finset.sum_congr rfl fun g _ => Finset.sum_congr rfl fun t _ => by ring)

include H in
theorem v112_eq (b : Fin 2) (j : Fin 256) (h : Fin 2) (d : Fin 128) :
    (val_main_v112 (F := Ideal) x0 x1 x2 x3 x4 (ix4 b j h d) : EReal)
      = ((∑ g : Fin 4, ∑ t : Fin 256, A.ds b h g (Attn.cx t) (Attn.cx j) * A.q b (Attn.cx t) (Attn.qcol h g d) * Attn.sc : ℝ) : EReal) := by
  have e : (val_main_v112 (F := Ideal) x0 x1 x2 x3 x4 (ix4 b j h d) : EReal)
      = (val_main_v111 (F := Ideal) x0 x1 x2 x3 x4 (ix4 b h j d) : EReal) := by
    unfold val_main_v112
    generalize val_main_v111 (F := Ideal) x0 x1 x2 x3 x4 = z0
    pointwise
  rw [e]
  exact v111_eq H _ _ _ _

end Cert.ReferenceIdeal.Stage
-- ==== Proof.RefBackLat.lean ====
/- The reference's backward pass on the latent rows. -/
module

public import proofs.«01_k».proof.Proof.RefGate

@[expose] public section

set_option maxRecDepth 16384

noncomputable section

open Idealize.ShloMosaic Idealize.ShloMosaic.TcCoe Idealize.SL.Sem

namespace Cert.ReferenceIdeal.Stage

open Cert.ReferenceIdeal Cert.ReferenceIdeal.Gen Cert.ReferenceIdeal.Read

variable {x0 : FVec Ideal S2x4352x1024 .bf16} {x1 x2 : FVec Ideal S2x4352x256 .bf16} {x3 x4 : FVec Ideal S2x4352x1024 .bf16}
  {A : Attn.Args} (H : Inputs x0 x1 x2 x3 x4 A)

include H in
/-- The cotangent of the latent rows. -/
theorem v88_eq (b : Fin 2) (t : Fin 4096) (h : Fin 2) (g : Fin 4) (d : Fin 128) :
    (val_main_v88 (F := Ideal) x3 x4 (ix5 b t h g d) : EReal)
      = ((A.u b h g (Attn.lat t) d : ℝ) : EReal) := by
  have e : (val_main_v88 (F := Ideal) x3 x4 (ix5 b t h g d) : EReal)
      = (val_main_v87 (F := Ideal) x3 x4 (ix5 b (Attn.lat t) h g d) : EReal) := by
    unfold val_main_v88
    generalize val_main_v87 (F := Ideal) x3 x4 = z0
    pointwise
    all_goals rfl
  rw [e]
  exact v87_eq H _ _ _ _ _

include H in
theorem v116_eq (b h : Fin 2) (d : Fin 128) (g : Fin 4) (t : Fin 4096) :
    (val_main_v116 (F := Ideal) x3 x4 (ix5 b h d g t) : EReal)
      = ((A.u b h g (Attn.lat t) d : ℝ) : EReal) := by
  have e : (val_main_v116 (F := Ideal) x3 x4 (ix5 b h d g t) : EReal)
      = (val_main_v88 (F := Ideal) x3 x4 (ix5 b t h g d) : EReal) := by
    unfold val_main_v116
    generalize val_main_v88 (F := Ideal) x3 x4 = z0
    pointwise
  rw [e]
  exact v88_eq H _ _ _ _ _

include H in
/-- The weights' cotangent. -/
theorem v117_eq (b h : Fin 2) (g : Fin 4) (t : Fin 4096) (j : Fin 4352) :
    (val_main_v117 (F := Ideal) x2 x3 x4 (ix5 b h g t j) : EReal)
      = ((A.dp b h g (Attn.lat t) j : ℝ) : EReal) := by
  have e : (val_main_v117 (F := Ideal) x2 x3 x4 (ix5 b h g t j) : EReal)
      = ∑ d : Fin 128, (val_main_v116 (F := Ideal) x3 x4 (ix5 b h d g t) : EReal) * (val_main_v6 (F := Ideal) x2 (ix4 b j h d) : EReal) := by
    unfold val_main_v117
    generalize val_main_v116 (F := Ideal) x3 x4 = z0
    generalize val_main_v6 (F := Ideal) x2 = z1
    pointwise
  rw [e]
  simp only [v116_eq H, v6_eq H, ← EReal.coe_mul, Attn.coe_sum]
  rfl

include H in
/-- The values' share of the gradient. -/
theorem v118_eq (b h : Fin 2) (d : Fin 128) (j : Fin 4352) :
    (val_main_v118 (F := Ideal) x0 x1 x3 x4 (ix4 b h d j) : EReal)
      = ((∑ g : Fin 4, ∑ t : Fin 4096, A.P b h g (Attn.lat t) j * A.u b h g (Attn.lat t) d : ℝ) : EReal) := by
  have e : (val_main_v118 (F := Ideal) x0 x1 x3 x4 (ix4 b h d j) : EReal)
      = ∑ g : Fin 4, ∑ t : Fin 4096, (val_main_v116 (F := Ideal) x3 x4 (ix5 b h d g t) : EReal) * (val_main_v36 (F := Ideal) x0 x1 (ix5 b h g t j) : EReal) := by
    unfold val_main_v118
    generalize val_main_v36 (F := Ideal) x0 x1 = z0
    generalize val_main_v116 (F := Ideal) x3 x4 = z1
    pointwise
  rw [e]
  simp only [v116_eq H, v36_eq H, ← EReal.coe_mul, Attn.coe_sum, Attn.Args.P_lat A _ _ _ _ _ (isLat _)]
  simp only [mul_comm]

include H in
theorem v119_eq (b : Fin 2) (j : Fin 4352) (h : Fin 2) (d : Fin 128) :
    (val_main_v119 (F := Ideal) x0 x1 x3 x4 (ix4 b j h d) : EReal)
      = ((∑ g : Fin 4, ∑ t : Fin 4096, A.P b h g (Attn.lat t) j * A.u b h g (Attn.lat t) d : ℝ) : EReal) := by
  have e : (val_main_v119 (F := Ideal) x0 x1 x3 x4 (ix4 b j h d) : EReal)
      = (val_main_v118 (F := Ideal) x0 x1 x3 x4 (ix4 b h d j) : EReal) := by
    unfold val_main_v119
    generalize val_main_v118 (F := Ideal) x0 x1 x3 x4 = z0
    pointwise
  rw [e]
  exact v118_eq H _ _ _ _

include H in
theorem v121_eq (b h : Fin 2) (g : Fin 4) (t : Fin 4096) (j : Fin 4352) :
    (val_main_v121 (F := Ideal) x0 x1 (ix5 b h g t j) : EReal)
      = ((1 / (Attn.tot (A.latRow b h g (Attn.lat t)) * Attn.tot (A.latRow b h g (Attn.lat t))) : ℝ) : EReal) := by
  have e : (val_main_v121 (F := Ideal) x0 x1 (ix5 b h g t j) : EReal)
      = (val_main_v39 (F := Ideal) x0 x1 (ix5 b h g t 0) : EReal) := by
    unfold val_main_v121
    generalize val_main_v39 (F := Ideal) x0 x1 = z0
    pointwise
  rw [e]
  exact v39_eq H _ _ _ _ _

include H in
theorem v122_eq (b h : Fin 2) (g : Fin 4) (t : Fin 4096) (j : Fin 4352) :
    (val_main_v122 (F := Ideal) x0 x1 x2 x3 x4 (ix5 b h g t j) : EReal)
      = ((A.dp b h g (Attn.lat t) j * (1 / (Attn.tot (A.latRow b h g (Attn.lat t)) * Attn.tot (A.latRow b h g (Attn.lat t)))) : ℝ) : EReal) := by
  have e : (val_main_v122 (F := Ideal) x0 x1 x2 x3 x4 (ix5 b h g t j) : EReal)
      = (val_main_v117 (F := Ideal) x2 x3 x4 (ix5 b h g t j) : EReal) * (val_main_v121 (F := Ideal) x0 x1 (ix5 b h g t j) : EReal) := by
    unfold val_main_v122
    generalize val_main_v117 (F := Ideal) x2 x3 x4 = z0
    generalize val_main_v121 (F := Ideal) x0 x1 = z1
    exact mul_at _ _ _
  rw [e]
  simp only [v117_eq H, v121_eq H, ← EReal.coe_mul]

include H in
theorem v123_eq (b h : Fin 2) (g : Fin 4) (t : Fin 4096) (j : Fin 4352) :
    (val_main_v123 (F := Ideal) x0 x1 x2 x3 x4 (ix5 b h g t j) : EReal)
      = ((A.dp b h g (Attn.lat t) j * (1 / (Attn.tot (A.latRow b h g (Attn.lat t)) * Attn.tot (A.latRow b h g (Attn.lat t)))) * Attn.wgt (A.latRow b h g (Attn.lat t)) j : ℝ) : EReal) := by
  have e : (val_main_v123 (F := Ideal) x0 x1 x2 x3 x4 (ix5 b h g t j) : EReal)
      = (val_main_v122 (F := Ideal) x0 x1 x2 x3 x4 (ix5 b h g t j) : EReal) * (val_main_v32 (F := Ideal) x0 x1 (ix5 b h g t j) : EReal) := by
    unfold val_main_v123
    generalize val_main_v122 (F := Ideal) x0 x1 x2 x3 x4 = z0
    generalize val_main_v32 (F := Ideal) x0 x1 = z1
    exact mul_at _ _ _
  rw [e]
  simp only [v122_eq H, v32_eq H, ← EReal.coe_mul]

include H in
/-- The row's common part. -/
theorem v124_eq (b h : Fin 2) (g : Fin 4) (t : Fin 4096) :
    (val_main_v124 (F := Ideal) x0 x1 x2 x3 x4 (ix4 b h g t) : EReal)
      = ((∑ j : Fin 4352, A.dp b h g (Attn.lat t) j * (1 / (Attn.tot (A.latRow b h g (Attn.lat t)) * Attn.tot (A.latRow b h g (Attn.lat t)))) * Attn.wgt (A.latRow b h g (Attn.lat t)) j : ℝ) : EReal) := by
  have e : (val_main_v124 (F := Ideal) x0 x1 x2 x3 x4 (ix4 b h g t) : EReal)
      = ∑ j : Fin 4352, (val_main_v123 (F := Ideal) x0 x1 x2 x3 x4 (ix5 b h g t j) : EReal) := by
    unfold val_main_v124 val_main_cst_27
    generalize val_main_v123 (F := Ideal) x0 x1 x2 x3 x4 = z0
    pointwise
  rw [e]
  simp only [v123_eq H, Attn.coe_sum]

include H in
theorem v125_eq (b h : Fin 2) (g : Fin 4) (t : Fin 4096) (o : Fin 1) :
    (val_main_v125 (F := Ideal) x0 x1 x2 x3 x4 (ix5 b h g t o) : EReal)
      = ((∑ j : Fin 4352, A.dp b h g (Attn.lat t) j * (1 / (Attn.tot (A.latRow b h g (Attn.lat t)) * Attn.tot (A.latRow b h g (Attn.lat t)))) * Attn.wgt (A.latRow b h g (Attn.lat t)) j : ℝ) : EReal) := by
  have e : (val_main_v125 (F := Ideal) x0 x1 x2 x3 x4 (ix5 b h g t o) : EReal)
      = (val_main_v124 (F := Ideal) x0 x1 x2 x3 x4 (ix4 b h g t) : EReal) := by
    unfold val_main_v125
    generalize val_main_v124 (F := Ideal) x0 x1 x2 x3 x4 = z0
    pointwise
  rw [e]
  exact v124_eq H _ _ _ _

include H in
theorem v126_eq (b h : Fin 2) (g : Fin 4) (t : Fin 4096) (o : Fin 1) :
    (val_main_v126 (F := Ideal) x0 x1 x2 x3 x4 (ix5 b h g t o) : EReal)
      = ((-(∑ j : Fin 4352, A.dp b h g (Attn.lat t) j * (1 / (Attn.tot (A.latRow b h g (Attn.lat t)) * Attn.tot (A.latRow b h g (Attn.lat t)))) * Attn.wgt (A.latRow b h g (Attn.lat t)) j) : ℝ) : EReal) := by
  have e : (val_main_v126 (F := Ideal) x0 x1 x2 x3 x4 (ix5 b h g t o) : EReal)
      = -(val_main_v125 (F := Ideal) x0 x1 x2 x3 x4 (ix5 b h g t o) : EReal) := by
    unfold val_main_v126
    generalize val_main_v125 (F := Ideal) x0 x1 x2 x3 x4 = z0
    exact neg_at _ _
  rw [e]
  rw [v125_eq H, ← EReal.coe_neg]

include H in
theorem v127_eq (b h : Fin 2) (g : Fin 4) (t : Fin 4096) (j : Fin 4352) :
    (val_main_v127 (F := Ideal) x0 x1 (ix5 b h g t j) : EReal)
      = ((Attn.tot (A.latRow b h g (Attn.lat t)) : ℝ) : EReal) := by
  have e : (val_main_v127 (F := Ideal) x0 x1 (ix5 b h g t j) : EReal)
      = (val_main_v34 (F := Ideal) x0 x1 (ix5 b h g t 0) : EReal) := by
    unfold val_main_v127
    generalize val_main_v34 (F := Ideal) x0 x1 = z0
    pointwise
  rw [e]
  exact v34_eq H _ _ _ _ _

include H in
theorem v128_eq (b h : Fin 2) (g : Fin 4) (t : Fin 4096) (j : Fin 4352) :
    (val_main_v128 (F := Ideal) x0 x1 x2 x3 x4 (ix5 b h g t j) : EReal)
      = ((A.dp b h g (Attn.lat t) j / Attn.tot (A.latRow b h g (Attn.lat t)) : ℝ) : EReal) := by
  have e : (val_main_v128 (F := Ideal) x0 x1 x2 x3 x4 (ix5 b h g t j) : EReal)
      = Ideal.div (val_main_v117 (F := Ideal) x2 x3 x4 (ix5 b h g t j) : EReal) (val_main_v127 (F := Ideal) x0 x1 (ix5 b h g t j) : EReal) := by
    unfold val_main_v128
    generalize val_main_v117 (F := Ideal) x2 x3 x4 = z0
    generalize val_main_v127 (F := Ideal) x0 x1 = z1
    exact div_at _ _ _
  rw [e]
  rw [v117_eq H, v127_eq H, Attn.div_coe (Attn.tot_ne _)]

include H in
theorem v129_eq (b h : Fin 2) (g : Fin 4) (t : Fin 4096) :
    (val_main_v129 (F := Ideal) x0 x1 x2 x3 x4 (ix4 b h g t) : EReal)
      = ((-(∑ j : Fin 4352, A.dp b h g (Attn.lat t) j * (1 / (Attn.tot (A.latRow b h g (Attn.lat t)) * Attn.tot (A.latRow b h g (Attn.lat t)))) * Attn.wgt (A.latRow b h g (Attn.lat t)) j) : ℝ) : EReal) := by
  have e : (val_main_v129 (F := Ideal) x0 x1 x2 x3 x4 (ix4 b h g t) : EReal)
      = ∑ o : Fin 1, (val_main_v126 (F := Ideal) x0 x1 x2 x3 x4 (ix5 b h g t o) : EReal) := by
    unfold val_main_v129 val_main_cst_28
    generalize val_main_v126 (F := Ideal) x0 x1 x2 x3 x4 = z0
    pointwise
  rw [e]
  rw [Fin.sum_univ_one, v126_eq H]

include H in
theorem v130_eq (b h : Fin 2) (g : Fin 4) (t : Fin 4096) (j : Fin 4352) :
    (val_main_v130 (F := Ideal) x0 x1 x2 x3 x4 (ix5 b h g t j) : EReal)
      = ((-(∑ j : Fin 4352, A.dp b h g (Attn.lat t) j * (1 / (Attn.tot (A.latRow b h g (Attn.lat t)) * Attn.tot (A.latRow b h g (Attn.lat t)))) * Attn.wgt (A.latRow b h g (Attn.lat t)) j) : ℝ) : EReal) := by
  have e : (val_main_v130 (F := Ideal) x0 x1 x2 x3 x4 (ix5 b h g t j) : EReal)
      = (val_main_v129 (F := Ideal) x0 x1 x2 x3 x4 (ix4 b h g t) : EReal) := by
    unfold val_main_v130
    generalize val_main_v129 (F := Ideal) x0 x1 x2 x3 x4 = z0
    pointwise
  rw [e]
  exact v129_eq H _ _ _ _

include H in
theorem v131_eq (b h : Fin 2) (g : Fin 4) (t : Fin 4096) (j : Fin 4352) :
    (val_main_v131 (F := Ideal) x0 x1 x2 x3 x4 (ix5 b h g t j) : EReal)
      = ((A.dp b h g (Attn.lat t) j / Attn.tot (A.latRow b h g (Attn.lat t)) + -(∑ j : Fin 4352, A.dp b h g (Attn.lat t) j * (1 / (Attn.tot (A.latRow b h g (Attn.lat t)) * Attn.tot (A.latRow b h g (Attn.lat t)))) * Attn.wgt (A.latRow b h g (Attn.lat t)) j) : ℝ) : EReal) := by
  have e : (val_main_v131 (F := Ideal) x0 x1 x2 x3 x4 (ix5 b h g t j) : EReal)
      = (val_main_v128 (F := Ideal) x0 x1 x2 x3 x4 (ix5 b h g t j) : EReal) + (val_main_v130 (F := Ideal) x0 x1 x2 x3 x4 (ix5 b h g t j) : EReal) := by
    unfold val_main_v131
    generalize val_main_v128 (F := Ideal) x0 x1 x2 x3 x4 = z0
    generalize val_main_v130 (F := Ideal) x0 x1 x2 x3 x4 = z1
    exact add_at _ _ _
  rw [e]
  rw [v128_eq H, v130_eq H, ← EReal.coe_add]

include H in
/-- The scaled scores' gradient. -/
theorem v132_eq (b h : Fin 2) (g : Fin 4) (t : Fin 4096) (j : Fin 4352) :
    (val_main_v132 (F := Ideal) x0 x1 x2 x3 x4 (ix5 b h g t j) : EReal)
      = ((A.ds b h g (Attn.lat t) j : ℝ) : EReal) := by
  have e : (val_main_v132 (F := Ideal) x0 x1 x2 x3 x4 (ix5 b h g t j) : EReal)
      = (val_main_v131 (F := Ideal) x0 x1 x2 x3 x4 (ix5 b h g t j) : EReal) * (val_main_v32 (F := Ideal) x0 x1 (ix5 b h g t j) : EReal) := by
    unfold val_main_v132
    generalize val_main_v131 (F := Ideal) x0 x1 x2 x3 x4 = z0
    generalize val_main_v32 (F := Ideal) x0 x1 = z1
    exact mul_at _ _ _
  rw [e]
  rw [v131_eq H, v32_eq H, ← EReal.coe_mul]
  refine congrArg _ ((Attn.score_grad (A.latRow b h g (Attn.lat t)) (fun j => A.dp b h g (Attn.lat t) j) j).trans ?_)
  unfold Attn.Args.ds
  rw [delta_lat, A.P_lat b h g _ j (isLat t)]

include H in
theorem v134_eq (b h : Fin 2) (g : Fin 4) (t : Fin 4096) (j : Fin 4352) :
    (val_main_v134 (F := Ideal) x0 x1 x2 x3 x4 (ix5 b h g t j) : EReal)
      = ((A.ds b h g (Attn.lat t) j * Attn.sc : ℝ) : EReal) := by
  have e : (val_main_v134 (F := Ideal) x0 x1 x2 x3 x4 (ix5 b h g t j) : EReal)
      = (val_main_v132 (F := Ideal) x0 x1 x2 x3 x4 (ix5 b h g t j) : EReal) * Ideal.ofBits .f32 0x3DB504F3#32 := by
    unfold val_main_v134 val_main_v133 val_main_cst_29
    generalize val_main_v132 (F := Ideal) x0 x1 x2 x3 x4 = z0
    pointwise
    all_goals rfl
  rw [e]
  simp only [v132_eq H, Attn.ofBits_sc, ← EReal.coe_mul]

include H in
theorem v135_eq (b h : Fin 2) (j : Fin 4352) (t : Fin 4096) (g : Fin 4) :
    (val_main_v135 (F := Ideal) x0 x1 x2 x3 x4 (ix5 b h j t g) : EReal)
      = ((A.ds b h g (Attn.lat t) j * Attn.sc : ℝ) : EReal) := by
  have e : (val_main_v135 (F := Ideal) x0 x1 x2 x3 x4 (ix5 b h j t g) : EReal)
      = (val_main_v134 (F := Ideal) x0 x1 x2 x3 x4 (ix5 b h g t j) : EReal) := by
    unfold val_main_v135
    generalize val_main_v134 (F := Ideal) x0 x1 x2 x3 x4 = z0
    pointwise
  rw [e]
  exact v134_eq H _ _ _ _ _

include H in
/-- The query's gradient. -/
theorem v136_eq (b h : Fin 2) (t : Fin 4096) (g : Fin 4) (d : Fin 128) :
    (val_main_v136 (F := Ideal) x0 x1 x2 x3 x4 (ix5 b h t g d) : EReal)
      = ((A.dq b h g (Attn.lat t) d : ℝ) : EReal) := by
  have e : (val_main_v136 (F := Ideal) x0 x1 x2 x3 x4 (ix5 b h t g d) : EReal)
      = ∑ j : Fin 4352, (val_main_v135 (F := Ideal) x0 x1 x2 x3 x4 (ix5 b h j t g) : EReal) * (val_main_v5 (F := Ideal) x1 (ix4 b j h d) : EReal) := by
    unfold val_main_v136
    generalize val_main_v135 (F := Ideal) x0 x1 x2 x3 x4 = z0
    generalize val_main_v5 (F := Ideal) x1 = z1
    pointwise
  rw [e]
  simp only [v135_eq H, v5_eq H, ← EReal.coe_mul, Attn.coe_sum]
  refine congrArg _ ?_
  unfold Attn.Args.dq
  rw [Finset.sum_mul]
  exact Finset.sum_congr rfl fun j _ => by ring

include H in
theorem v137_eq (b : Fin 2) (t : Fin 4096) (h : Fin 2) (g : Fin 4) (d : Fin 128) :
    (val_main_v137 (F := Ideal) x0 x1 x2 x3 x4 (ix5 b t h g d) : EReal)
      = ((A.dq b h g (Attn.lat t) d : ℝ) : EReal) := by
  have e : (val_main_v137 (F := Ideal) x0 x1 x2 x3 x4 (ix5 b t h g d) : EReal)
      = (val_main_v136 (F := Ideal) x0 x1 x2 x3 x4 (ix5 b h t g d) : EReal) := by
    unfold val_main_v137
    generalize val_main_v136 (F := Ideal) x0 x1 x2 x3 x4 = z0
    pointwise
  rw [e]
  exact v136_eq H _ _ _ _ _

include H in
/-- The keys' share of the gradient. -/
theorem v138_eq (b h : Fin 2) (j : Fin 4352) (d : Fin 128) :
    (val_main_v138 (F := Ideal) x0 x1 x2 x3 x4 (ix4 b h j d) : EReal)
      = ((∑ g : Fin 4, ∑ t : Fin 4096, A.ds b h g (Attn.lat t) j * A.q b (Attn.lat t) (Attn.qcol h g d) * Attn.sc : ℝ) : EReal) := by
  have e : (val_main_v138 (F := Ideal) x0 x1 x2 x3 x4 (ix4 b h j d) : EReal)
      = ∑ t : Fin 4096, ∑ g : Fin 4, (val_main_v135 (F := Ideal) x0 x1 x2 x3 x4 (ix5 b h j t g) : EReal) * (val_main_v7 (F := Ideal) x0 (ix5 b t h g d) : EReal) := by
    unfold val_main_v138
    generalize val_main_v135 (F := Ideal) x0 x1 x2 x3 x4 = z0
    generalize val_main_v7 (F := Ideal) x0 = z1
    pointwise
  rw [e]
  simp only [v135_eq H, v7_eq H, ← EReal.coe_mul, Attn.coe_sum]
  rw [Finset.sum_comm]
  refine congrArg _ (Finset.sum_congr rfl fun g _ => Finset.sum_congr rfl fun t _ => by ring)

include H in
theorem v139_eq (b : Fin 2) (j : Fin 4352) (h : Fin 2) (d : Fin 128) :
    (val_main_v139 (F := Ideal) x0 x1 x2 x3 x4 (ix4 b j h d) : EReal)
      = ((∑ g : Fin 4, ∑ t : Fin 4096, A.ds b h g (Attn.lat t) j * A.q b (Attn.lat t) (Attn.qcol h g d) * Attn.sc : ℝ) : EReal) := by
  have e : (val_main_v139 (F := Ideal) x0 x1 x2 x3 x4 (ix4 b j h d) : EReal)
      = (val_main_v138 (F := Ideal) x0 x1 x2 x3 x4 (ix4 b h j d) : EReal) := by
    unfold val_main_v139
    generalize val_main_v138 (F := Ideal) x0 x1 x2 x3 x4 = z0
    pointwise
  rw [e]
  exact v138_eq H _ _ _ _

end Cert.ReferenceIdeal.Stage
-- ==== Proof.RefOut.lean ====
/- The reference's four results are the formulas of `Spec`. -/
module

public import proofs.«01_k».proof.Proof.RefBackCtx
public import proofs.«01_k».proof.Proof.RefBackLat

@[expose] public section

set_option maxRecDepth 16384

noncomputable section

open Idealize.ShloMosaic Idealize.ShloMosaic.TcCoe Idealize.SL.Sem

namespace Cert.ReferenceIdeal.Stage

open Cert.ReferenceIdeal Cert.ReferenceIdeal.Gen Cert.ReferenceIdeal.Read

variable {x0 : FVec Ideal S2x4352x1024 .bf16} {x1 x2 : FVec Ideal S2x4352x256 .bf16} {x3 x4 : FVec Ideal S2x4352x1024 .bf16}
  {A : Attn.Args} (H : Inputs x0 x1 x2 x3 x4 A)

theorem cx_sub (t : Fin 4352) (hc : 4096 ≤ t.val) (h2 : t.val - 4096 < 256) : Attn.cx ⟨t.val - 4096, h2⟩ = t :=
  Fin.ext (Nat.add_sub_cancel' hc)

/-- The values' gradient: the context rows reach only the context's keys. -/
theorem dv_split (A : Attn.Args) (b h : Fin 2) (t : Fin 4352) (d : Fin 128) :
    A.dv b h t d = (if 4096 ≤ t.val then ∑ g : Fin 4, ∑ s : Fin 256, A.P b h g (Attn.cx s) t * A.u b h g (Attn.cx s) d else 0)
      + ∑ g : Fin 4, ∑ s : Fin 4096, A.P b h g (Attn.lat s) t * A.u b h g (Attn.lat s) d := by
  unfold Attn.Args.dv Attn.Args.dvOf
  simp only [Attn.Args.sum_split]
  rw [Finset.sum_add_distrib, add_comm]
  split
  · rfl
  · next hc =>
    congr 1
    exact Finset.sum_eq_zero fun g _ => Finset.sum_eq_zero fun s _ => by
      rw [A.P_zero b h g _ t (not_lat s) (Nat.not_le.mp hc), zero_mul]

/-- The keys' gradient: the context rows reach only the context's keys. -/
theorem dk_split (A : Attn.Args) (b h : Fin 2) (t : Fin 4352) (d : Fin 128) :
    A.dk b h t d = (if 4096 ≤ t.val then ∑ g : Fin 4, ∑ s : Fin 256, A.ds b h g (Attn.cx s) t * A.q b (Attn.cx s) (Attn.qcol h g d) * Attn.sc else 0)
      + ∑ g : Fin 4, ∑ s : Fin 4096, A.ds b h g (Attn.lat s) t * A.q b (Attn.lat s) (Attn.qcol h g d) * Attn.sc := by
  unfold Attn.Args.dk Attn.Args.dkOf
  simp only [Attn.Args.sum_split]
  rw [Finset.sum_add_distrib, add_comm]
  split
  · rfl
  · next hc =>
    congr 1
    exact Finset.sum_eq_zero fun g _ => Finset.sum_eq_zero fun s _ => by
      rw [A.ds_zero b h g _ t (not_lat s) (Nat.not_le.mp hc), zero_mul, zero_mul]

include H in
/-- The context rows' share of the values' gradient, over all keys. -/
theorem v113_eq (b : Fin 2) (t : Fin 4352) (h : Fin 2) (d : Fin 128) :
    (val_main_v113 (F := Ideal) x0 x1 x3 x4 (ix4 b t h d) : EReal)
      = ((if 4096 ≤ t.val then ∑ g : Fin 4, ∑ s : Fin 256, A.P b h g (Attn.cx s) t * A.u b h g (Attn.cx s) d else 0 : ℝ) : EReal) := by
  have e : (val_main_v113 (F := Ideal) x0 x1 x3 x4 (ix4 b t h d) : EReal)
      = if hc : 4096 ≤ t.val ∧ t.val - 4096 < 256 then (val_main_v93 (F := Ideal) x0 x1 x3 x4 (ix4 b ⟨t.val - 4096, hc.2⟩ h d) : EReal) else 0 := by
    unfold val_main_v113 val_main_cst_24
    generalize val_main_v93 (F := Ideal) x0 x1 x3 x4 = z0
    pointwise
  rw [e]
  by_cases hc : 4096 ≤ t.val
  · have h2 : t.val - 4096 < 256 := by omega
    rw [dif_pos ⟨hc, h2⟩, if_pos hc, v93_eq H, cx_sub t hc h2]
  · rw [dif_neg (fun w => hc w.1), if_neg hc, EReal.coe_zero]

include H in
/-- The context rows' share of the keys' gradient, over all keys. -/
theorem v114_eq (b : Fin 2) (t : Fin 4352) (h : Fin 2) (d : Fin 128) :
    (val_main_v114 (F := Ideal) x0 x1 x2 x3 x4 (ix4 b t h d) : EReal)
      = ((if 4096 ≤ t.val then ∑ g : Fin 4, ∑ s : Fin 256, A.ds b h g (Attn.cx s) t * A.q b (Attn.cx s) (Attn.qcol h g d) * Attn.sc else 0 : ℝ) : EReal) := by
  have e : (val_main_v114 (F := Ideal) x0 x1 x2 x3 x4 (ix4 b t h d) : EReal)
      = if hc : 4096 ≤ t.val ∧ t.val - 4096 < 256 then (val_main_v112 (F := Ideal) x0 x1 x2 x3 x4 (ix4 b ⟨t.val - 4096, hc.2⟩ h d) : EReal) else 0 := by
    unfold val_main_v114 val_main_cst_25
    generalize val_main_v112 (F := Ideal) x0 x1 x2 x3 x4 = z0
    pointwise
  rw [e]
  by_cases hc : 4096 ≤ t.val
  · have h2 : t.val - 4096 < 256 := by omega
    rw [dif_pos ⟨hc, h2⟩, if_pos hc, v112_eq H, cx_sub t hc h2]
  · rw [dif_neg (fun w => hc w.1), if_neg hc, EReal.coe_zero]

include H in
/-- The values' gradient. -/
theorem v120_eq (b : Fin 2) (t : Fin 4352) (h : Fin 2) (d : Fin 128) :
    (val_main_v120 (F := Ideal) x0 x1 x3 x4 (ix4 b t h d) : EReal)
      = ((A.dv b h t d : ℝ) : EReal) := by
  have e : (val_main_v120 (F := Ideal) x0 x1 x3 x4 (ix4 b t h d) : EReal)
      = (val_main_v113 (F := Ideal) x0 x1 x3 x4 (ix4 b t h d) : EReal) + (val_main_v119 (F := Ideal) x0 x1 x3 x4 (ix4 b t h d) : EReal) := by
    unfold val_main_v120
    generalize val_main_v113 (F := Ideal) x0 x1 x3 x4 = z0
    generalize val_main_v119 (F := Ideal) x0 x1 x3 x4 = z1
    exact add_at _ _ _
  rw [e]
  rw [v113_eq H, v119_eq H, ← EReal.coe_add]
  exact congrArg _ (dv_split A b h t d).symm

include H in
/-- The keys' gradient. -/
theorem v140_eq (b : Fin 2) (t : Fin 4352) (h : Fin 2) (d : Fin 128) :
    (val_main_v140 (F := Ideal) x0 x1 x2 x3 x4 (ix4 b t h d) : EReal)
      = ((A.dk b h t d : ℝ) : EReal) := by
  have e : (val_main_v140 (F := Ideal) x0 x1 x2 x3 x4 (ix4 b t h d) : EReal)
      = (val_main_v114 (F := Ideal) x0 x1 x2 x3 x4 (ix4 b t h d) : EReal) + (val_main_v139 (F := Ideal) x0 x1 x2 x3 x4 (ix4 b t h d) : EReal) := by
    unfold val_main_v140
    generalize val_main_v114 (F := Ideal) x0 x1 x2 x3 x4 = z0
    generalize val_main_v139 (F := Ideal) x0 x1 x2 x3 x4 = z1
    exact add_at _ _ _
  rw [e]
  rw [v114_eq H, v139_eq H, ← EReal.coe_add]
  exact congrArg _ (dk_split A b h t d).symm

include H in
/-- The queries' gradient. -/
theorem v142_eq (b : Fin 2) (t : Fin 4352) (h : Fin 2) (g : Fin 4) (d : Fin 128) :
    (val_main_v142 (F := Ideal) x0 x1 x2 x3 x4 (ix5 b t h g d) : EReal)
      = ((A.dq b h g t d : ℝ) : EReal) := by
  have e : (val_main_v142 (F := Ideal) x0 x1 x2 x3 x4 (ix5 b t h g d) : EReal)
      = (if hc : 4096 ≤ t.val ∧ t.val - 4096 < 256 then (val_main_v110 (F := Ideal) x0 x1 x2 x3 x4 (ix5 b ⟨t.val - 4096, hc.2⟩ h g d) : EReal) else 0) + (if hc : t.val < 4096 then (val_main_v137 (F := Ideal) x0 x1 x2 x3 x4 (ix5 b ⟨t.val, hc⟩ h g d) : EReal) else 0) := by
    unfold val_main_v142 val_main_v115 val_main_cst_26 val_main_v141 val_main_cst_30
    generalize val_main_v110 (F := Ideal) x0 x1 x2 x3 x4 = z0
    generalize val_main_v137 (F := Ideal) x0 x1 x2 x3 x4 = z1
    pointwise
  rw [e]
  by_cases hc : 4096 ≤ t.val
  · have h2 : t.val - 4096 < 256 := by omega
    rw [dif_pos ⟨hc, h2⟩, dif_neg (Nat.not_lt.mpr hc), add_zero, v110_eq H, cx_sub t hc h2]
  · have h2 : t.val < 4096 := Nat.not_le.mp hc
    rw [dif_neg (fun w => hc w.1), dif_pos h2, zero_add, v137_eq H]
    rfl

include H in
theorem v143_eq (b : Fin 2) (t : Fin 4352) (h : Fin 2) (d : Fin 128) :
    (val_main_v143 (F := Ideal) x0 x1 x3 x4 (ix3 b t (Attn.kcol h d)) : EReal)
      = ((A.dv b h t d : ℝ) : EReal) := by
  have e : (val_main_v143 (F := Ideal) x0 x1 x3 x4 (ix3 b t (Attn.kcol h d)) : EReal)
      = (val_main_v120 (F := Ideal) x0 x1 x3 x4 (ix4 b t h d) : EReal) := by
    unfold val_main_v143
    generalize val_main_v120 (F := Ideal) x0 x1 x3 x4 = z0
    exact rows4 z0 b t h d
  rw [e]
  exact v120_eq H _ _ _ _

include H in
theorem v144_eq (b : Fin 2) (t : Fin 4352) (h : Fin 2) (d : Fin 128) :
    (val_main_v144 (F := Ideal) x0 x1 x2 x3 x4 (ix3 b t (Attn.kcol h d)) : EReal)
      = ((A.dk b h t d : ℝ) : EReal) := by
  have e : (val_main_v144 (F := Ideal) x0 x1 x2 x3 x4 (ix3 b t (Attn.kcol h d)) : EReal)
      = (val_main_v140 (F := Ideal) x0 x1 x2 x3 x4 (ix4 b t h d) : EReal) := by
    unfold val_main_v144
    generalize val_main_v140 (F := Ideal) x0 x1 x2 x3 x4 = z0
    exact rows4 z0 b t h d
  rw [e]
  exact v140_eq H _ _ _ _

include H in
theorem v145_eq (b : Fin 2) (t : Fin 4352) (h : Fin 2) (g : Fin 4) (d : Fin 128) :
    (val_main_v145 (F := Ideal) x0 x1 x2 x3 x4 (ix3 b t (Attn.qcol h g d)) : EReal)
      = ((A.dq b h g t d : ℝ) : EReal) := by
  have e : (val_main_v145 (F := Ideal) x0 x1 x2 x3 x4 (ix3 b t (Attn.qcol h g d)) : EReal)
      = (val_main_v142 (F := Ideal) x0 x1 x2 x3 x4 (ix5 b t h g d) : EReal) := by
    unfold val_main_v145
    generalize val_main_v142 (F := Ideal) x0 x1 x2 x3 x4 = z0
    exact rows5 z0 b t h g d
  rw [e]
  exact v142_eq H _ _ _ _ _

include H in
theorem v146_eq (b : Fin 2) (t : Fin 4352) (h : Fin 2) (g : Fin 4) (d : Fin 128) :
    (val_main_v146 (F := Ideal) x0 x1 x2 x3 x4 (ix3 b t (Attn.qcol h g d)) : EReal)
      = ((A.dq b h g t d : ℝ) : EReal) := by
  exact v145_eq H _ _ _ _ _

end Cert.ReferenceIdeal.Stage
-- ==== Proof.Finite.lean ====
/- The precondition: five arrays of finite numbers are arrays of real numbers. -/
module

public import proofs.«01_k».proof.Defs
public import proofs.«01_k».proof.Proof.Gen.Pre_finite
public import proofs.«01_k».proof.Proof.Arrays
public import proofs.«01_k».proof.Proof.RefOut

@[expose] public section

noncomputable section

open Idealize.ShloMosaic Idealize.ShloMosaic.TcCoe Idealize.SL.Sem

namespace Cert.Proof

/-- The comparison of the precondition says a number is finite. -/
theorem real_of_test {x : EReal} (h : Ideal.cmp .olt (max x (-x)) (Ideal.ofBits .f32 0x7F800000#32) = 1#1) :
    x = ((x.toReal : ℝ) : EReal) := by
  rw [Attn.ofBits_inf] at h
  have hlt : max x (-x) < ⊤ := by
    by_contra hn
    have : Ideal.cmp .olt (max x (-x)) ⊤ = 0#1 := by
      simp [Ideal.cmp, hn]
    rw [this] at h
    exact absurd h (by decide)
  have h1 : x ≠ ⊤ := fun e => by simp [e] at hlt
  have h2 : x ≠ ⊥ := fun e => by simp [e] at hlt
  exact (EReal.coe_toReal h1 h2).symm

theorem test_q (x : FVec Ideal Cert.Pre_finite.S2x4352x1024 .bf16)
    (h : (cmpf .olt (Host.absf (extf .f32 x Cert.Pre_finite.Gen.bitsLt_bf16_f32 : FVec Ideal Cert.Pre_finite.S2x4352x1024 .f32))
      (broadcastInDim Cert.Pre_finite.S2x4352x1024 ![] Cert.Pre_finite.Gen.bcast_S_S2x4352x1024
        (constant Cert.Pre_finite.S_ .f32 0x7F800000#32 : FVec Ideal Cert.Pre_finite.S_ .f32))) = fun _ => 1#1)
    (b : Fin 2) (t : Fin 4352) (c : Fin 1024) : (x (ix3 b t c) : EReal) = (((x (ix3 b t c) : EReal).toReal : ℝ) : EReal) :=
  real_of_test (congrFun h (ix3 b t c))

theorem test_k (x : FVec Ideal Cert.Pre_finite.S2x4352x256 .bf16)
    (h : (cmpf .olt (Host.absf (extf .f32 x Cert.Pre_finite.Gen.bitsLt_bf16_f32 : FVec Ideal Cert.Pre_finite.S2x4352x256 .f32))
      (broadcastInDim Cert.Pre_finite.S2x4352x256 ![] Cert.Pre_finite.Gen.bcast_S_S2x4352x256
        (constant Cert.Pre_finite.S_ .f32 0x7F800000#32 : FVec Ideal Cert.Pre_finite.S_ .f32))) = fun _ => 1#1)
    (b : Fin 2) (t : Fin 4352) (c : Fin 256) : (x (ix3 b t c) : EReal) = (((x (ix3 b t c) : EReal).toReal : ℝ) : EReal) :=
  real_of_test (congrFun h (ix3 b t c))

open Cert.KernelIdeal

/-- The real numbers that the argument arrays hold. -/
def argsOf (m : (ℓ : Loc nD τ sig) → Buf (Elt Ideal) ℓ) (c : Dev nD) : Attn.Args where
  q b t i := ((m (c.tc.loc main_arg0) : FVec Ideal S2x4352x1024 .bf16) (ix3 b t i) : EReal).toReal
  k b t i := ((m (c.tc.loc main_arg1) : FVec Ideal S2x4352x256 .bf16) (ix3 b t i) : EReal).toReal
  v b t i := ((m (c.tc.loc main_arg2) : FVec Ideal S2x4352x256 .bf16) (ix3 b t i) : EReal).toReal
  gate b t i := ((m (c.tc.loc main_arg3) : FVec Ideal S2x4352x1024 .bf16) (ix3 b t i) : EReal).toReal
  dz b t i := ((m (c.tc.loc main_arg4) : FVec Ideal S2x4352x1024 .bf16) (ix3 b t i) : EReal).toReal

theorem reals (m : (ℓ : Loc nD τ sig) → Buf (Elt Ideal) ℓ) (h : Pre_KernelIdeal_finite (hPre_finite := Cert.Pre_finite.Gen.facts) m)
    (c : Dev nD) : Cert.KernelIdeal.Value.Reals m (argsOf m c) c := by
  obtain ⟨h0, h1, h2, h3, h4⟩ := h c
  exact ⟨test_q _ h0, test_k _ h1, test_k _ h2, test_q _ h3, test_q _ h4⟩

end Cert.Proof
-- ==== Proof.Results.lean ====
/- The reference's four results are the arrays that the kernel leaves. -/
module

public import proofs.«01_k».proof.Proof.Finite

@[expose] public section

noncomputable section

open Idealize.ShloMosaic Idealize.ShloMosaic.TcCoe Idealize.SL.Sem

namespace Cert.Proof

open Cert.ReferenceIdeal Cert.ReferenceIdeal.Read Cert.ReferenceIdeal.Stage

variable {x0 : FVec Ideal S2x4352x1024 .bf16} {x1 x2 : FVec Ideal S2x4352x256 .bf16} {x3 x4 : FVec Ideal S2x4352x1024 .bf16}
  {A : Attn.Args} (H : Inputs x0 x1 x2 x3 x4 A)

/-- Two rows of 1024 that agree head by head agree. -/
theorem ext_q {φ : FTy} (x y : FVec Ideal S2x4352x1024 φ)
    (h : ∀ b t h g d, x (ix3 b t (Attn.qcol h g d)) = y (ix3 b t (Attn.qcol h g d))) : x = y := by
  have key : ∀ (b : Fin 2) (t : Fin 4352) (c : Fin 1024), x (ix3 b t c) = y (ix3 b t c) := fun b t c => by
    rw [← Cert.KernelIdeal.Value.qcol_eq c]
    exact h _ _ _ _ _
  funext i
  have e : i = ix3 (i 0) (i 1) (i 2) := by
    funext a
    match a with
    | ⟨0, _⟩ => rfl
    | ⟨1, _⟩ => rfl
    | ⟨2, _⟩ => rfl
  rw [e]
  exact key _ _ _

/-- Two rows of 256 that agree head by head agree. -/
theorem ext_k {φ : FTy} (x y : FVec Ideal S2x4352x256 φ)
    (h : ∀ b t h d, x (ix3 b t (Attn.kcol h d)) = y (ix3 b t (Attn.kcol h d))) : x = y := by
  have key : ∀ (b : Fin 2) (t : Fin 4352) (c : Fin 256), x (ix3 b t c) = y (ix3 b t c) := fun b t c => by
    rw [← Cert.KernelIdeal.Value.kcol_eq c]
    exact h _ _ _ _
  funext i
  have e : i = ix3 (i 0) (i 1) (i 2) := by
    funext a
    match a with
    | ⟨0, _⟩ => rfl
    | ⟨1, _⟩ => rfl
    | ⟨2, _⟩ => rfl
  rw [e]
  exact key _ _ _

include H in
theorem ref_q : @Eq (FVec Ideal S2x4352x1024 .bf16) (val_main_v146 (F := Ideal) x0 x1 x2 x3 x4) (Cert.KernelIdeal.Value.arrQ A) :=
  ext_q _ _ fun b t h g d => (v146_eq H b t h g d).trans (Cert.KernelIdeal.Value.arrQ_at A b h g t d).symm

include H in
theorem ref_g : @Eq (FVec Ideal S2x4352x1024 .bf16) (val_main_v147 (F := Ideal) x0 x1 x2 x3 x4) (Cert.KernelIdeal.Value.arrG A) :=
  ext_q _ _ fun b t h g d => (v147_eq H b t h g d).trans (Cert.KernelIdeal.Value.arrG_at A b h g t d).symm

include H in
theorem ref_k : @Eq (FVec Ideal S2x4352x256 .f32) (val_main_v144 (F := Ideal) x0 x1 x2 x3 x4) (Cert.KernelIdeal.Value.arrK A) :=
  ext_k _ _ fun b t h d => (v144_eq H b t h d).trans (Cert.KernelIdeal.Value.arrK_at A b h t d).symm

include H in
theorem ref_v : @Eq (FVec Ideal S2x4352x256 .f32) (val_main_v143 (F := Ideal) x0 x1 x3 x4) (Cert.KernelIdeal.Value.arrV A) :=
  ext_k _ _ fun b t h d => (v143_eq H b t h d).trans (Cert.KernelIdeal.Value.arrV_at A b h t d).symm

end Cert.Proof
-- ==== Proof.Runs.lean ====
/- Sums along a row that is cut in pieces: arrays side by side, and blocks one after another. -/
module

public import Mathlib.Data.EReal.Basic
public import Mathlib.Algebra.BigOperators.Fin
public import Mathlib.Algebra.BigOperators.Intervals

@[expose] public section

noncomputable section

namespace Cert.Runs

/-- A row of `n` numbers read at any column, 0 beyond its end. -/
def ext {n : ℕ} (f : Fin n → EReal) (j : ℕ) : EReal := if h : j < n then f ⟨j, h⟩ else 0

theorem ext_lt {n : ℕ} (f : Fin n → EReal) (j : ℕ) (h : j < n) : ext f j = f ⟨j, h⟩ := dif_pos h

theorem ext_fin {n : ℕ} (f : Fin n → EReal) (j : Fin n) : ext f j.val = f j := dif_pos j.isLt

/-- The row `f` of `n` columns with the row `g` to its right. -/
def cat (n : ℕ) (f g : ℕ → EReal) (j : ℕ) : EReal := if j < n then f j else g (j - n)

theorem cat_lt (n : ℕ) (f g : ℕ → EReal) (j : ℕ) (h : j < n) : cat n f g j = f j := if_pos h

theorem cat_ge (n : ℕ) (f g : ℕ → EReal) (j : ℕ) : cat n f g (n + j) = g j := by
  unfold cat
  rw [if_neg (by omega), Nat.add_sub_cancel_left]

/-- A sum of products along two rows side by side is the sum of the two sums. -/
theorem sum_cat (n m o : ℕ) (f g v : ℕ → EReal) :
    ∑ j ∈ Finset.range (n + m), cat n f g j * v (o + j)
      = ∑ j ∈ Finset.range n, f j * v (o + j) + ∑ j ∈ Finset.range m, g j * v (o + n + j) := by
  rw [Finset.sum_range_add]
  refine congrArg₂ _ (Finset.sum_congr rfl fun j hj => ?_) (Finset.sum_congr rfl fun j _ => ?_)
  · rw [cat_lt n f g j (Finset.mem_range.mp hj)]
  · rw [cat_ge, Nat.add_assoc]

/-- The product of a row of `n` numbers with the `n` columns from column `o` on of a row of `K`. -/
def dot {n K : ℕ} (f : Fin n → EReal) (v : Fin K → EReal) (o : ℕ) (h : o + n ≤ K) : EReal :=
  ∑ j : Fin n, f j * v ⟨o + j.val, by omega⟩

theorem sum_ext {n K : ℕ} (f : Fin n → EReal) (v : Fin K → EReal) (o : ℕ) (h : o + n ≤ K) :
    ∑ j ∈ Finset.range n, ext f j * ext v (o + j) = dot f v o h := by
  rw [Finset.sum_range]
  exact Finset.sum_congr rfl fun j _ => by rw [ext_fin, ext_lt v (o + j.val) (by omega)]

/-- `J` blocks of `B` columns one after another are a row of `B * J`. -/
theorem sum_blocks (B : ℕ) (F : ℕ → EReal) (J : ℕ) :
    ∑ k ∈ Finset.range J, ∑ t : Fin B, F (B * k + t.val) = ∑ j ∈ Finset.range (B * J), F j := by
  induction J with
  | zero => rfl
  | succ J ih => rw [Finset.sum_range_succ, ih, Nat.mul_succ, Finset.sum_range_add, ← Finset.sum_range (fun t => F (B * J + t))]

end Cert.Runs
-- ==== Proof.FirstSum.lean ====
/- The rows' gradient from the first five column blocks: what each grid point adds, and the array the call leaves. -/
module

public import proofs.«01_k».proof.Proof.Runs
public import proofs.«01_k».proof.Proof.Gen.Kernel2Ideal.Value
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

variable (m : (ℓ : Loc nD τ sig) → Buf (Elt Ideal) ℓ)

/-- The sum of the five gradients' products with their columns of the weights. -/
def five (g0 : FVec Ideal S8704x1024 .f32) (g1 g2 : FVec Ideal S8704x1024 .bf16) (g3 : FVec Ideal S8704x512 .bf16)
    (g4 : FVec Ideal S8704x1024 .bf16) (w : FVec Ideal S1024x10240 .bf16) (r : Fin 8704) (d : Fin 1024) : EReal :=
  Runs.dot (fun k : Fin 1024 => g0 (ix2 r k)) (fun k : Fin 10240 => w (ix2 d k)) 0 (by omega)
    + (Runs.dot (fun k : Fin 1024 => g1 (ix2 r k)) (fun k : Fin 10240 => w (ix2 d k)) 1024 (by omega)
    + (Runs.dot (fun k : Fin 1024 => g2 (ix2 r k)) (fun k : Fin 10240 => w (ix2 d k)) 2048 (by omega)
    + (Runs.dot (fun k : Fin 512 => g3 (ix2 r k)) (fun k : Fin 10240 => w (ix2 d k)) 3072 (by omega)
    + Runs.dot (fun k : Fin 1024 => g4 (ix2 r k)) (fun k : Fin 10240 => w (ix2 d k)) 3584 (by omega))))

section Adds

variable (p : Vec Ideal S1088x1024 .f32) (w : Vec Ideal S1024x512 .bf16) (r : Fin 1088) (d : Fin 1024)

/-- A row's product with row `d` of a block of the weights. -/
abbrev prod (a : Fin 512 → EReal) : EReal := ∑ k : Fin 512, a k * (w (ix2 d k) : EReal)

theorem pay1_at : ((k0_pay1 (F := Ideal) : Vec Ideal S1088x1024 .f32) (ix2 r d) : EReal) = 0 := by
  pointwise [k0_pay1]

theorem pay2_at (a : Vec Ideal S1088x512 .f32) : (k0_pay2 p a w (ix2 r d) : EReal) = (p (ix2 r d) : EReal) + prod w d (fun k => a (ix2 r k)) := by
  pointwise [k0_pay2, zero_add]

theorem pay3_at (a : Vec Ideal S1088x512 .bf16) : (k0_pay3 p a w (ix2 r d) : EReal) = (p (ix2 r d) : EReal) + prod w d (fun k => a (ix2 r k)) := by
  pointwise [k0_pay3, zero_add]

end Adds

section Steps

variable (c : Dev nD) (t : Fin cfg0.N)

/-- The sums the point before left. -/
abbrev before : Vec Ideal S1088x1024 .f32 := (outsAt0 m c (t.val - 1) (Nat.lt_of_le_of_lt (Nat.sub_le _ _) t.isLt)).2

theorem keep_before : View.read (Elt Ideal) (View.whole cc0_scratch0) ((Memref.isWhole_whole cc0_scratch0).unread (before m c t)) = before m c t :=
  (Memref.isWhole_whole cc0_scratch0).read_unread _

theorem s_A (h0 : t.val % 9 = 0) :
    (outsAt0 m c t.val t.isLt).2 = k0_pay2 (k0_pay1 (F := Ideal)) (iblk m c 0 t) (iblk m c 5 t) := by
  rw [outsAt0_A m c t h0 (by omega) (by omega) (by omega) (by omega) (by omega) (by omega)]
  frame_out

theorem s_B (h1 : t.val % 9 = 1) :
    (outsAt0 m c t.val t.isLt).2 = k0_pay2 (before m c t) (iblk m c 0 t) (iblk m c 5 t) := by
  rw [outsAt0_B m c t (by omega) (by omega) (by omega) (by omega) (by omega) (by omega) (by omega)]
  frame_out
  rw [keep_before]

theorem s_C (h2 : 2 ≤ t.val % 9 ∧ t.val % 9 ≤ 3) :
    (outsAt0 m c t.val t.isLt).2 = k0_pay3 (before m c t) (iblk m c 1 t) (iblk m c 5 t) := by
  rw [outsAt0_C m c t (by omega) (by omega) h2 (by omega) (by omega) (by omega) (by omega)]
  frame_out
  rw [keep_before]

theorem s_D (h3 : 4 ≤ t.val % 9 ∧ t.val % 9 ≤ 5) :
    (outsAt0 m c t.val t.isLt).2 = k0_pay3 (before m c t) (iblk m c 2 t) (iblk m c 5 t) := by
  rw [outsAt0_D m c t (by omega) (by omega) (by omega) h3 (by omega) (by omega) (by omega)]
  frame_out
  rw [keep_before]
  rfl

theorem s_E (h4 : t.val % 9 = 6) :
    (outsAt0 m c t.val t.isLt).2 = k0_pay3 (before m c t) (iblk m c 3 t) (iblk m c 5 t) := by
  rw [outsAt0_E m c t (by omega) (by omega) (by omega) (by omega) h4 (by omega) (by omega)]
  frame_out
  rw [keep_before]
  rfl

theorem s_F (h5 : t.val % 9 = 7) :
    (outsAt0 m c t.val t.isLt).2 = k0_pay3 (before m c t) (iblk m c 4 t) (iblk m c 5 t) := by
  rw [outsAt0_F m c t (by omega) (by omega) (by omega) (by omega) (by omega) (by omega) (by omega)]
  frame_out
  rw [keep_before]
  rfl

theorem s_G (h6 : t.val % 9 = 8) :
    (outsAt0 m c t.val t.isLt).2 = k0_pay3 (before m c t) (iblk m c 4 t) (iblk m c 5 t) := by
  rw [outsAt0_G m c t (by omega) (by omega) (by omega) (by omega) (by omega) (by omega) h6]
  frame_out
  rw [keep_before]
  rfl

/-- The last point of a run writes its sums out. -/
theorem o_G (h6 : t.val % 9 = 8) : (outsAt0 m c t.val t.isLt).1 = (outsAt0 m c t.val t.isLt).2 := by
  rw [outsAt0_G m c t (by omega) (by omega) (by omega) (by omega) (by omega) (by omega) h6]
  frame_out

end Steps

theorem lt_N (t : Fin cfg0.N) : t.val < 72 := lt_of_lt_of_eq t.isLt N_0

/-- The rows of point `n`. -/
def rowOf (n : ℕ) (r : Fin 1088) : Fin 8704 := ⟨n / 9 % 8 * 1088 + r.val, by have := Nat.mod_lt (n / 9) (show 0 < 8 by omega); omega⟩

theorem idxA : ∀ t : Fin cfg0.N, (t.val % 9 ≤ 1 → win0_0.index t = ![t.val / 9, t.val % 9])
    ∧ (2 ≤ t.val % 9 ∧ t.val % 9 ≤ 3 → win0_1.index t = ![t.val / 9, t.val % 9 - 2])
    ∧ (4 ≤ t.val % 9 ∧ t.val % 9 ≤ 5 → win0_2.index t = ![t.val / 9, t.val % 9 - 4])
    ∧ (t.val % 9 = 6 → win0_3.index t = ![t.val / 9, 0])
    ∧ (7 ≤ t.val % 9 → win0_4.index t = ![t.val / 9, t.val % 9 - 7])
    ∧ win0_5.index t = ![0, t.val % 9]
    ∧ win0_6.index t = ![t.val / 9, 0] :=
  (by decide +kernel : ∀ t : Fin grid0.N, _)

section Reads

variable (c : Dev nD) (t : Fin cfg0.N) (r : Fin 1088) (k : Fin 512) (d : Fin 1024)

/-- Column `512 * j + k` of an array of `n` columns. -/
abbrev colOf {n : ℕ} (j : ℕ) (k : Fin 512) (h : 512 * j + 512 ≤ n) : Fin n := ⟨512 * j + k.val, by omega⟩

theorem read0 (h : t.val % 9 ≤ 1) : ((iblk m c 0 t : Vec Ideal S1088x512 .f32) (ix2 r k) : EReal)
    = ((m (c.tc.loc main_arg0) : FVec Ideal S8704x1024 .f32) (ix2 (rowOf t r) (colOf (t.val % 9) k (by omega))) : EReal) := by
  have ht := lt_N t
  blk_point [iblk, V, (idxA t).1 h, rowOf]

theorem read1 (h : 2 ≤ t.val % 9 ∧ t.val % 9 ≤ 3) : ((iblk m c 1 t : Vec Ideal S1088x512 .bf16) (ix2 r k) : EReal)
    = ((m (c.tc.loc main_arg1) : FVec Ideal S8704x1024 .bf16) (ix2 (rowOf t r) (colOf (t.val % 9 - 2) k (by omega))) : EReal) := by
  have ht := lt_N t
  blk_point [iblk, V, (idxA t).2.1 h, rowOf]

theorem read2 (h : 4 ≤ t.val % 9 ∧ t.val % 9 ≤ 5) : ((iblk m c 2 t : Vec Ideal S1088x512 .bf16) (ix2 r k) : EReal)
    = ((m (c.tc.loc main_arg2) : FVec Ideal S8704x1024 .bf16) (ix2 (rowOf t r) (colOf (t.val % 9 - 4) k (by omega))) : EReal) := by
  have ht := lt_N t
  blk_point [iblk, V, (idxA t).2.2.1 h, rowOf]

theorem read3 (h : t.val % 9 = 6) : ((iblk m c 3 t : Vec Ideal S1088x512 .bf16) (ix2 r k) : EReal)
    = ((m (c.tc.loc main_arg3) : FVec Ideal S8704x512 .bf16) (ix2 (rowOf t r) k) : EReal) := by
  have ht := lt_N t
  blk_point [iblk, V, (idxA t).2.2.2.1 h, rowOf]

theorem read4 (h : 7 ≤ t.val % 9) : ((iblk m c 4 t : Vec Ideal S1088x512 .bf16) (ix2 r k) : EReal)
    = ((m (c.tc.loc main_arg4) : FVec Ideal S8704x1024 .bf16) (ix2 (rowOf t r) (colOf (t.val % 9 - 7) k (by omega))) : EReal) := by
  have ht := lt_N t
  blk_point [iblk, V, (idxA t).2.2.2.2.1 h, rowOf]

theorem read5 : ((iblk m c 5 t : Vec Ideal S1024x512 .bf16) (ix2 d k) : EReal)
    = ((m (c.tc.loc main_arg5) : FVec Ideal S1024x10240 .bf16) (ix2 d (colOf (t.val % 9) k (by omega))) : EReal) := by
  have ht := lt_N t
  blk_point [iblk, V, (idxA t).2.2.2.2.2.1]

end Reads

/-! ## The sums -/

section Sums

variable (c : Dev nD)

/-- A row of the five gradients side by side. -/
def gradRow (r : Fin 8704) : ℕ → EReal :=
  Runs.cat 1024 (Runs.ext fun k => (m (c.tc.loc main_arg0) : FVec Ideal S8704x1024 .f32) (ix2 r k))
    (Runs.cat 1024 (Runs.ext fun k => (m (c.tc.loc main_arg1) : FVec Ideal S8704x1024 .bf16) (ix2 r k))
      (Runs.cat 1024 (Runs.ext fun k => (m (c.tc.loc main_arg2) : FVec Ideal S8704x1024 .bf16) (ix2 r k))
        (Runs.cat 512 (Runs.ext fun k => (m (c.tc.loc main_arg3) : FVec Ideal S8704x512 .bf16) (ix2 r k))
          (Runs.ext fun k => (m (c.tc.loc main_arg4) : FVec Ideal S8704x1024 .bf16) (ix2 r k)))))

/-- A row of the weights. -/
def weightRow (d : Fin 1024) : ℕ → EReal :=
  Runs.ext fun k => (m (c.tc.loc main_arg5) : FVec Ideal S1024x10240 .bf16) (ix2 d k)

theorem weight_at (d : Fin 1024) (j : ℕ) (h : j < 10240) :
    weightRow m c d j = ((m (c.tc.loc main_arg5) : FVec Ideal S1024x10240 .bf16) (ix2 d ⟨j, h⟩) : EReal) := by
  rw [weightRow, Runs.ext_lt _ _ h]

/-- What point `n` adds. -/
def term (n : ℕ) (i : S1088x1024.Idx) : EReal :=
  ∑ k : Fin 512, gradRow m c (rowOf n (i 0)) (512 * (n % 9) + k.val) * weightRow m c (i 1) (512 * (n % 9) + k.val)

variable (t : Fin cfg0.N)

theorem row0 (h : t.val % 9 ≤ 1) (r : Fin 1088) (k : Fin 512) :
    ((iblk m c 0 t : Vec Ideal S1088x512 .f32) (ix2 r k) : EReal) = gradRow m c (rowOf t r) (512 * (t.val % 9) + k.val) := by
  rw [read0 m c t r k h, gradRow, Runs.cat_lt _ _ _ _ (by omega), Runs.ext_lt _ _ (by omega)]

theorem row1 (h : 2 ≤ t.val % 9 ∧ t.val % 9 ≤ 3) (r : Fin 1088) (k : Fin 512) :
    ((iblk m c 1 t : Vec Ideal S1088x512 .bf16) (ix2 r k) : EReal) = gradRow m c (rowOf t r) (512 * (t.val % 9) + k.val) := by
  rw [read1 m c t r k h, gradRow, show 512 * (t.val % 9) + k.val = 1024 + (512 * (t.val % 9 - 2) + k.val) by omega,
    Runs.cat_ge, Runs.cat_lt _ _ _ _ (by omega), Runs.ext_lt _ _ (by omega)]

theorem row2 (h : 4 ≤ t.val % 9 ∧ t.val % 9 ≤ 5) (r : Fin 1088) (k : Fin 512) :
    ((iblk m c 2 t : Vec Ideal S1088x512 .bf16) (ix2 r k) : EReal) = gradRow m c (rowOf t r) (512 * (t.val % 9) + k.val) := by
  rw [read2 m c t r k h, gradRow, show 512 * (t.val % 9) + k.val = 1024 + (1024 + (512 * (t.val % 9 - 4) + k.val)) by omega,
    Runs.cat_ge, Runs.cat_ge, Runs.cat_lt _ _ _ _ (by omega), Runs.ext_lt _ _ (by omega)]

theorem row3 (h : t.val % 9 = 6) (r : Fin 1088) (k : Fin 512) :
    ((iblk m c 3 t : Vec Ideal S1088x512 .bf16) (ix2 r k) : EReal) = gradRow m c (rowOf t r) (512 * (t.val % 9) + k.val) := by
  rw [read3 m c t r k h, gradRow, show 512 * (t.val % 9) + k.val = 1024 + (1024 + (1024 + k.val)) by omega,
    Runs.cat_ge, Runs.cat_ge, Runs.cat_ge, Runs.cat_lt _ _ _ _ (by omega), Runs.ext_lt _ _ (by omega)]

theorem row4 (h : 7 ≤ t.val % 9) (r : Fin 1088) (k : Fin 512) :
    ((iblk m c 4 t : Vec Ideal S1088x512 .bf16) (ix2 r k) : EReal) = gradRow m c (rowOf t r) (512 * (t.val % 9) + k.val) := by
  rw [read4 m c t r k h, gradRow, show 512 * (t.val % 9) + k.val = 1024 + (1024 + (1024 + (512 + (512 * (t.val % 9 - 7) + k.val)))) by omega,
    Runs.cat_ge, Runs.cat_ge, Runs.cat_ge, Runs.cat_ge, Runs.ext_lt _ _ (by omega)]

/-- A block that holds the point's columns of the gradients adds the point's term. -/
theorem prod_term (a : Fin 512 → EReal) (r : Fin 1088) (d : Fin 1024)
    (ha : ∀ k, a k = gradRow m c (rowOf t r) (512 * (t.val % 9) + k.val)) :
    prod (iblk m c 5 t) d a = term m c t.val (ix2 r d) :=
  Finset.sum_congr rfl fun k _ => congrArg₂ (fun x y : EReal => x * y) (ha k)
    ((read5 m c t k d).trans (weight_at m c d (512 * (t.val % 9) + k.val) (by omega)).symm)

theorem idx_eta (i : S1088x1024.Idx) : i = ix2 (i 0) (i 1) := by
  funext a
  match a with
  | ⟨0, _⟩ => rfl
  | ⟨1, _⟩ => rfl

/-- The sums after any point. -/
theorem sums (i : S1088x1024.Idx) :
    (((outsAt0 m c t.val t.isLt).2 : Vec Ideal S1088x1024 .f32) i : EReal)
      = 0 + ∑ k ∈ Finset.range (t.val % 9 + 1), term m c (9 * (t.val / 9) + k) i := by
  refine Pipeline.eq_sum_of_reset_step_apply (M := EReal) (fun n h => (outsAt0 m c n h).2) 9 (fun _ => 0) (term m c) ?_ ?_ t i
  · intro t h0 i
    rw [idx_eta i]
    refine (congrFun (s_A m c t h0) _).trans ((pay2_at _ _ _ _ _).trans ?_)
    exact congrArg₂ (fun x y : EReal => x + y) (pay1_at _ _) (prod_term m c t _ _ _ (row0 m c t (by omega) _))
  · intro t h0 i
    rw [idx_eta i]
    by_cases h1 : t.val % 9 = 1
    · refine (congrFun (s_B m c t h1) _).trans ((pay2_at _ _ _ _ _).trans ?_)
      exact congrArg (fun y : EReal => _ + y) (prod_term m c t _ _ _ (row0 m c t (by omega) _))
    · by_cases h2 : t.val % 9 ≤ 3
      · refine (congrFun (s_C m c t (by omega)) _).trans ((pay3_at _ _ _ _ _).trans ?_)
        exact congrArg (fun y : EReal => _ + y) (prod_term m c t _ _ _ (row1 m c t (by omega) _))
      · by_cases h3 : t.val % 9 ≤ 5
        · refine (congrFun (s_D m c t (by omega)) _).trans ((pay3_at _ _ _ _ _).trans ?_)
          exact congrArg (fun y : EReal => _ + y) (prod_term m c t _ _ _ (row2 m c t (by omega) _))
        · by_cases h4 : t.val % 9 = 6
          · refine (congrFun (s_E m c t h4) _).trans ((pay3_at _ _ _ _ _).trans ?_)
            exact congrArg (fun y : EReal => _ + y) (prod_term m c t _ _ _ (row3 m c t h4 _))
          · refine Eq.trans ?_ (congrArg (fun y : EReal => _ + y) (prod_term m c t _ _ _ (row4 m c t (by omega) _)))
            refine Eq.trans ?_ (pay3_at _ _ _ _ _)
            by_cases h5 : t.val % 9 = 7
            · exact congrFun (s_F m c t h5) _
            · exact congrFun (s_G m c t (by omega)) _

/-- A run's terms are the whole row of the gradients times the row of the weights. -/
theorem run_term (i : S1088x1024.Idx) :
    ∑ k ∈ Finset.range 9, term m c (9 * (t.val / 9) + k) i
      = ∑ j ∈ Finset.range 4608, gradRow m c (rowOf t (i 0)) j * weightRow m c (i 1) j := by
  refine Eq.trans (Finset.sum_congr rfl fun k hk => ?_)
    (Runs.sum_blocks 512 (fun j => gradRow m c (rowOf t (i 0)) j * weightRow m c (i 1) j) 9)
  have hk := Finset.mem_range.mp hk
  have e : rowOf (9 * (t.val / 9) + k) (i 0) = rowOf t (i 0) :=
    Fin.ext (by show (9 * (t.val / 9) + k) / 9 % 8 * 1088 + (i 0).val = t.val / 9 % 8 * 1088 + (i 0).val; omega)
  unfold term
  rw [e, show (9 * (t.val / 9) + k) % 9 = k by omega]

/-- The array the call leaves. -/
def arr : FVec Ideal S8704x1024 .f32 := fun i => ∑ j ∈ Finset.range 4608, gradRow m c (i 0) j * weightRow m c (i 1) j

theorem arr_at (r : Fin 8704) (d : Fin 1024) :
    (arr m c (ix2 r d) : EReal) = ∑ j ∈ Finset.range 4608, gradRow m c r j * weightRow m c d j := rfl

/-- It is the sum of the five products. -/
theorem arr_parts (r : Fin 8704) (d : Fin 1024) : (arr m c (ix2 r d) : EReal)
    = five (m (c.tc.loc main_arg0)) (m (c.tc.loc main_arg1)) (m (c.tc.loc main_arg2)) (m (c.tc.loc main_arg3))
        (m (c.tc.loc main_arg4)) (m (c.tc.loc main_arg5)) r d := by
  have e : (arr m c (ix2 r d) : EReal) = ∑ j ∈ Finset.range 4608, gradRow m c r j * weightRow m c d (0 + j) := by
    simp only [Nat.zero_add]
    rfl
  rw [e, gradRow, weightRow, show (4608 : ℕ) = 1024 + (1024 + (1024 + (512 + 1024))) from rfl, Runs.sum_cat, Runs.sum_cat,
    Runs.sum_cat, Runs.sum_cat, Runs.sum_ext _ _ _ (by omega), Runs.sum_ext _ _ _ (by omega), Runs.sum_ext _ _ _ (by omega),
    Runs.sum_ext _ _ _ (by omega), Runs.sum_ext _ _ _ (by omega)]
  rfl

theorem emb6 (r : Fin 1088) (d : Fin 1024) : (win0_6.blk t).view.emb (ix2 r d) = ix2 (rowOf t r) d := by
  have ht := lt_N t
  blk_ext [(idxA t).2.2.2.2.2.2, rowOf]

theorem final : @Eq (FVec Ideal S8704x1024 .f32) ((dats m 0 c).arrAt 6 cfg0.N) (arr m c) := by
  refine (dats m 0 c).arrAt_eq_of_covers 6 _ (by decide +kernel) fun t hf y => ?_
  have ht : t.val % 9 = 8 := by have := (flush0_6 t).mp hf; omega
  blk_simp
  rw [after0_6]
  refine (congrFun (o_G m c t ht) y).trans ((sums m c t y).trans ?_)
  rw [ht, zero_add]
  refine (run_term m c t y).trans ?_
  refine Eq.trans ?_ (congrArg (arr m c) ((emb6 t (y 0) (y 1)).symm.trans (congrArg (win0_6.blk t).view.emb (idx_eta y).symm)))
  exact (arr_at m c _ _).symm

end Sums

end Cert.Kernel2Ideal.Value
-- ==== Proof.RefFirst.lean ====
/- The reference's rows' gradient from the first five column blocks, element by element. -/
module

public import proofs.«01_k».proof.Proof.Gen.Reference2Ideal.Read
public import proofs.«01_k».proof.Proof.FirstSum
public import Idealize.ShloMosaic.Lib.Pointwise

@[expose] public section

set_option maxRecDepth 16384

noncomputable section

open Idealize.ShloMosaic Idealize.ShloMosaic.TcCoe Idealize.SL.Sem

namespace Cert.Reference2Ideal.Value

open Cert.Reference2Ideal Cert.Reference2Ideal.Read

variable (x0 : FVec Ideal S8704x1024 .f32) (x1 x2 x4 : FVec Ideal S8704x1024 .bf16) (x3 : FVec Ideal S8704x512 .bf16)
  (x5 : FVec Ideal S1024x10240 .bf16) (r : Fin 8704) (d : Fin 1024)

theorem v24_at : (val_main_v24 (F := Ideal) x4 x5 (ix2 r d) : EReal)
    = Runs.dot (fun k : Fin 1024 => x4 (ix2 r k)) (fun k : Fin 10240 => x5 (ix2 d k)) 3584 (by omega) := by
  pointwise [val_main_v24, val_main_v3, val_main_v10, val_main_v5, Runs.dot]

theorem v25_at : (val_main_v25 (F := Ideal) x3 x5 (ix2 r d) : EReal)
    = Runs.dot (fun k : Fin 512 => x3 (ix2 r k)) (fun k : Fin 10240 => x5 (ix2 d k)) 3072 (by omega) := by
  pointwise [val_main_v25, val_main_v2, val_main_v9, val_main_v5, Runs.dot]

theorem v27_at : (val_main_v27 (F := Ideal) x2 x5 (ix2 r d) : EReal)
    = Runs.dot (fun k : Fin 1024 => x2 (ix2 r k)) (fun k : Fin 10240 => x5 (ix2 d k)) 2048 (by omega) := by
  pointwise [val_main_v27, val_main_v1, val_main_v8, val_main_v5, Runs.dot]

theorem v29_at : (val_main_v29 (F := Ideal) x1 x5 (ix2 r d) : EReal)
    = Runs.dot (fun k : Fin 1024 => x1 (ix2 r k)) (fun k : Fin 10240 => x5 (ix2 d k)) 1024 (by omega) := by
  pointwise [val_main_v29, val_main_v0, val_main_v7, val_main_v5, Runs.dot]

theorem v31_at : (val_main_v31 (F := Ideal) x0 x5 (ix2 r d) : EReal)
    = Runs.dot (fun k : Fin 1024 => x0 (ix2 r k)) (fun k : Fin 10240 => x5 (ix2 d k)) 0 (by omega) := by
  pointwise [val_main_v31, val_main_v6, val_main_v5, Runs.dot]

/-- The reference's sum is the same five products, added in another order. -/
theorem v32_at : (val_main_v32 (F := Ideal) x0 x1 x2 x3 x4 x5 (ix2 r d) : EReal) = Cert.Kernel2Ideal.Value.five x0 x1 x2 x3 x4 x5 r d := by
  have e : (val_main_v32 (F := Ideal) x0 x1 x2 x3 x4 x5 (ix2 r d) : EReal)
      = (((val_main_v24 (F := Ideal) x4 x5 (ix2 r d) : EReal) + (val_main_v25 (F := Ideal) x3 x5 (ix2 r d) : EReal) + (val_main_v27 (F := Ideal) x2 x5 (ix2 r d) : EReal))
        + (val_main_v29 (F := Ideal) x1 x5 (ix2 r d) : EReal)) + (val_main_v31 (F := Ideal) x0 x5 (ix2 r d) : EReal) := by
    pointwise [val_main_v32, val_main_v30, val_main_v28, val_main_v26]
  rw [e, v24_at, v25_at, v27_at, v29_at, v31_at]
  unfold Cert.Kernel2Ideal.Value.five
  ac_rfl

/-- The reference's array is the kernel's. -/
theorem result (m : (ℓ : Loc Cert.Kernel2Ideal.nD Cert.Kernel2Ideal.τ Cert.Kernel2Ideal.sig) → Buf (Elt Ideal) ℓ)
    (c : Dev Cert.Kernel2Ideal.nD)
    (h0 : x0 = m (c.tc.loc Cert.Kernel2Ideal.main_arg0)) (h1 : x1 = m (c.tc.loc Cert.Kernel2Ideal.main_arg1))
    (h2 : x2 = m (c.tc.loc Cert.Kernel2Ideal.main_arg2)) (h3 : x3 = m (c.tc.loc Cert.Kernel2Ideal.main_arg3))
    (h4 : x4 = m (c.tc.loc Cert.Kernel2Ideal.main_arg4)) (h5 : x5 = m (c.tc.loc Cert.Kernel2Ideal.main_arg5)) :
    @Eq (FVec Ideal S8704x1024 .f32) (val_main_v32 (F := Ideal) x0 x1 x2 x3 x4 x5) (Cert.Kernel2Ideal.Value.arr m c) := by
  subst h0 h1 h2 h3 h4 h5
  funext i
  have e : i = ix2 (i 0) (i 1) := by
    funext a
    match a with
    | ⟨0, _⟩ => rfl
    | ⟨1, _⟩ => rfl
  rw [e]
  exact (v32_at _ _ _ _ _ _ _ _).trans (Cert.Kernel2Ideal.Value.arr_parts m c _ _).symm

end Cert.Reference2Ideal.Value
-- ==== Proof.SecondSum.lean ====
/- The rows' gradient from the last four column blocks, added to what the first five gave: what each grid point adds, and the
   array the call leaves. -/
module

public import proofs.«01_k».proof.Proof.Runs
public import proofs.«01_k».proof.Proof.Gen.Kernel3Ideal.Value
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen

variable (m : (ℓ : Loc nD τ sig) → Buf (Elt Ideal) ℓ)

/-- The sum so far plus the four gradients' products with their columns of the weights. -/
def four (g5 : FVec Ideal S8704x1024 .bf16) (g6 : FVec Ideal S8704x512 .bf16) (g7 : FVec Ideal S8704x1024 .bf16)
    (g8 : FVec Ideal S8704x3072 .bf16) (w : FVec Ideal S1024x10240 .bf16) (s : FVec Ideal S8704x1024 .f32)
    (r : Fin 8704) (d : Fin 1024) : EReal :=
  (s (ix2 r d) : EReal) + (Runs.dot (fun k : Fin 1024 => g5 (ix2 r k)) (fun k : Fin 10240 => w (ix2 d k)) 4608 (by omega)
    + (Runs.dot (fun k : Fin 512 => g6 (ix2 r k)) (fun k : Fin 10240 => w (ix2 d k)) 5632 (by omega)
    + (Runs.dot (fun k : Fin 1024 => g7 (ix2 r k)) (fun k : Fin 10240 => w (ix2 d k)) 6144 (by omega)
    + Runs.dot (fun k : Fin 3072 => g8 (ix2 r k)) (fun k : Fin 10240 => w (ix2 d k)) 7168 (by omega))))

section Adds

variable (p : Vec Ideal S1088x1024 .f32) (w : Vec Ideal S1024x512 .bf16) (r : Fin 1088) (d : Fin 1024)

/-- A row's product with row `d` of a block of the weights. -/
abbrev prod (a : Fin 512 → EReal) : EReal := ∑ k : Fin 512, a k * (w (ix2 d k) : EReal)

theorem pay1_at : (k0_pay1 p (ix2 r d) : EReal) = p (ix2 r d) := by
  pointwise [k0_pay1]

theorem pay2_at (a : Vec Ideal S1088x512 .bf16) :
    (k0_pay2 p a w (ix2 r d) : EReal) = (p (ix2 r d) : EReal) + prod w d (fun k => a (ix2 r k)) := by
  pointwise [k0_pay2, zero_add]

theorem pay6_at : (k0_pay6 p (ix2 r d) : EReal) = p (ix2 r d) := by
  pointwise [k0_pay6]

end Adds

section Steps

variable (c : Dev nD) (t : Fin cfg0.N)

/-- The sums the point before left. -/
abbrev before : Vec Ideal S1088x1024 .f32 := (outsAt0 m c (t.val - 1) (Nat.lt_of_le_of_lt (Nat.sub_le _ _) t.isLt)).2

theorem keep_before : View.read (Elt Ideal) (View.whole cc0_scratch0) ((Memref.isWhole_whole cc0_scratch0).unread (before m c t)) = before m c t :=
  (Memref.isWhole_whole cc0_scratch0).read_unread _

theorem s_A (h0 : t.val % 11 = 0) :
    (outsAt0 m c t.val t.isLt).2 = k0_pay2 (k0_pay1 (iblk m c 5 t)) (iblk m c 0 t) (iblk m c 4 t) := by
  rw [outsAt0_A m c t h0 (by omega) (by omega) (by omega) (by omega) (by omega)]
  frame_out

theorem s_B (h1 : t.val % 11 = 1) :
    (outsAt0 m c t.val t.isLt).2 = k0_pay2 (before m c t) (iblk m c 0 t) (iblk m c 4 t) := by
  rw [outsAt0_B m c t (by omega) (by omega) (by omega) (by omega) (by omega) (by omega)]
  frame_out
  rw [keep_before]

theorem s_C (h2 : t.val % 11 = 2) :
    (outsAt0 m c t.val t.isLt).2 = k0_pay2 (before m c t) (iblk m c 1 t) (iblk m c 4 t) := by
  rw [outsAt0_C m c t (by omega) (by omega) h2 (by omega) (by omega) (by omega)]
  frame_out
  rw [keep_before]
  rfl

theorem s_D (h3 : 3 ≤ t.val % 11 ∧ t.val % 11 ≤ 4) :
    (outsAt0 m c t.val t.isLt).2 = k0_pay2 (before m c t) (iblk m c 2 t) (iblk m c 4 t) := by
  rw [outsAt0_D m c t (by omega) (by omega) (by omega) h3 (by omega) (by omega)]
  frame_out
  rw [keep_before]
  rfl

theorem s_E (h4 : 5 ≤ t.val % 11) (h5 : ¬t.val % 11 = 10) :
    (outsAt0 m c t.val t.isLt).2 = k0_pay2 (before m c t) (iblk m c 3 t) (iblk m c 4 t) := by
  rw [outsAt0_E m c t (by omega) (by omega) (by omega) (by omega) h4 h5]
  frame_out
  rw [keep_before]
  rfl

theorem s_F (h5 : t.val % 11 = 10) :
    (outsAt0 m c t.val t.isLt).2 = k0_pay2 (before m c t) (iblk m c 3 t) (iblk m c 4 t) := by
  rw [outsAt0_F m c t (by omega) (by omega) (by omega) (by omega) (by omega) h5]
  frame_out
  rw [keep_before]
  rfl

/-- The last point of a run writes its sums out. -/
theorem o_F (h5 : t.val % 11 = 10) : (outsAt0 m c t.val t.isLt).1 = k0_pay6 (outsAt0 m c t.val t.isLt).2 := by
  rw [outsAt0_F m c t (by omega) (by omega) (by omega) (by omega) (by omega) h5]
  frame_out

end Steps

theorem lt_N (t : Fin cfg0.N) : t.val < 88 := lt_of_lt_of_eq t.isLt N_0

/-- The rows of point `n`. -/
def rowOf (n : ℕ) (r : Fin 1088) : Fin 8704 := ⟨n / 11 % 8 * 1088 + r.val, by have := Nat.mod_lt (n / 11) (show 0 < 8 by omega); omega⟩

theorem idxA : ∀ t : Fin cfg0.N, (t.val % 11 ≤ 1 → win0_0.index t = ![t.val / 11, t.val % 11])
    ∧ (t.val % 11 = 2 → win0_1.index t = ![t.val / 11, 0])
    ∧ (3 ≤ t.val % 11 ∧ t.val % 11 ≤ 4 → win0_2.index t = ![t.val / 11, t.val % 11 - 3])
    ∧ (5 ≤ t.val % 11 → win0_3.index t = ![t.val / 11, t.val % 11 - 5])
    ∧ win0_4.index t = ![0, 9 + t.val % 11]
    ∧ win0_5.index t = ![t.val / 11, 0]
    ∧ win0_6.index t = ![t.val / 11, 0] :=
  (by decide +kernel : ∀ t : Fin grid0.N, _)

section Reads

variable (c : Dev nD) (t : Fin cfg0.N) (r : Fin 1088) (k : Fin 512) (d : Fin 1024)

/-- Column `512 * j + k` of an array of `n` columns. -/
abbrev colOf {n : ℕ} (j : ℕ) (k : Fin 512) (h : 512 * j + 512 ≤ n) : Fin n := ⟨512 * j + k.val, by omega⟩

theorem read0 (h : t.val % 11 ≤ 1) : ((iblk m c 0 t : Vec Ideal S1088x512 .bf16) (ix2 r k) : EReal)
    = ((m (c.tc.loc main_arg0) : FVec Ideal S8704x1024 .bf16) (ix2 (rowOf t r) (colOf (t.val % 11) k (by omega))) : EReal) := by
  have ht := lt_N t
  blk_point [iblk, V, (idxA t).1 h, rowOf]

theorem read1 (h : t.val % 11 = 2) : ((iblk m c 1 t : Vec Ideal S1088x512 .bf16) (ix2 r k) : EReal)
    = ((m (c.tc.loc main_arg1) : FVec Ideal S8704x512 .bf16) (ix2 (rowOf t r) k) : EReal) := by
  have ht := lt_N t
  blk_point [iblk, V, (idxA t).2.1 h, rowOf]

theorem read2 (h : 3 ≤ t.val % 11 ∧ t.val % 11 ≤ 4) : ((iblk m c 2 t : Vec Ideal S1088x512 .bf16) (ix2 r k) : EReal)
    = ((m (c.tc.loc main_arg2) : FVec Ideal S8704x1024 .bf16) (ix2 (rowOf t r) (colOf (t.val % 11 - 3) k (by omega))) : EReal) := by
  have ht := lt_N t
  blk_point [iblk, V, (idxA t).2.2.1 h, rowOf]

theorem read3 (h : 5 ≤ t.val % 11) : ((iblk m c 3 t : Vec Ideal S1088x512 .bf16) (ix2 r k) : EReal)
    = ((m (c.tc.loc main_arg3) : FVec Ideal S8704x3072 .bf16) (ix2 (rowOf t r) (colOf (t.val % 11 - 5) k (by omega))) : EReal) := by
  have ht := lt_N t
  blk_point [iblk, V, (idxA t).2.2.2.1 h, rowOf]

theorem read4 : ((iblk m c 4 t : Vec Ideal S1024x512 .bf16) (ix2 d k) : EReal)
    = ((m (c.tc.loc main_arg4) : FVec Ideal S1024x10240 .bf16) (ix2 d (colOf (9 + t.val % 11) k (by omega))) : EReal) := by
  have ht := lt_N t
  blk_point [iblk, V, (idxA t).2.2.2.2.1]

theorem read5 : ((iblk m c 5 t : Vec Ideal S1088x1024 .f32) (ix2 r d) : EReal)
    = ((m (c.tc.loc main_arg5) : FVec Ideal S8704x1024 .f32) (ix2 (rowOf t r) d) : EReal) := by
  have ht := lt_N t
  blk_point [iblk, V, (idxA t).2.2.2.2.2.1, rowOf]

end Reads

/-! ## The sums -/

section Sums

variable (c : Dev nD)

/-- A row of the four gradients side by side. -/
def gradRow (r : Fin 8704) : ℕ → EReal :=
  Runs.cat 1024 (Runs.ext fun k => (m (c.tc.loc main_arg0) : FVec Ideal S8704x1024 .bf16) (ix2 r k))
    (Runs.cat 512 (Runs.ext fun k => (m (c.tc.loc main_arg1) : FVec Ideal S8704x512 .bf16) (ix2 r k))
      (Runs.cat 1024 (Runs.ext fun k => (m (c.tc.loc main_arg2) : FVec Ideal S8704x1024 .bf16) (ix2 r k))
        (Runs.ext fun k => (m (c.tc.loc main_arg3) : FVec Ideal S8704x3072 .bf16) (ix2 r k))))

/-- A row of the weights. -/
def weightRow (d : Fin 1024) : ℕ → EReal :=
  Runs.ext fun k => (m (c.tc.loc main_arg4) : FVec Ideal S1024x10240 .bf16) (ix2 d k)

/-- The sum so far. -/
def start (r : Fin 8704) (d : Fin 1024) : EReal := (m (c.tc.loc main_arg5) : FVec Ideal S8704x1024 .f32) (ix2 r d)

theorem weight_at (d : Fin 1024) (j : ℕ) (h : j < 10240) :
    weightRow m c d j = ((m (c.tc.loc main_arg4) : FVec Ideal S1024x10240 .bf16) (ix2 d ⟨j, h⟩) : EReal) := by
  rw [weightRow, Runs.ext_lt _ _ h]

/-- The product point `n` adds. -/
def product (n : ℕ) (i : S1088x1024.Idx) : EReal :=
  ∑ k : Fin 512, gradRow m c (rowOf n (i 0)) (512 * (n % 11) + k.val) * weightRow m c (i 1) (4608 + (512 * (n % 11) + k.val))

/-- What point `n` adds: its product, the first point of a run also the sum so far. -/
def term (n : ℕ) (i : S1088x1024.Idx) : EReal := (if n % 11 = 0 then start m c (rowOf n (i 0)) (i 1) else 0) + product m c n i

variable (t : Fin cfg0.N)

theorem row0 (h : t.val % 11 ≤ 1) (r : Fin 1088) (k : Fin 512) :
    ((iblk m c 0 t : Vec Ideal S1088x512 .bf16) (ix2 r k) : EReal) = gradRow m c (rowOf t r) (512 * (t.val % 11) + k.val) := by
  rw [read0 m c t r k h, gradRow, Runs.cat_lt _ _ _ _ (by omega), Runs.ext_lt _ _ (by omega)]

theorem row1 (h : t.val % 11 = 2) (r : Fin 1088) (k : Fin 512) :
    ((iblk m c 1 t : Vec Ideal S1088x512 .bf16) (ix2 r k) : EReal) = gradRow m c (rowOf t r) (512 * (t.val % 11) + k.val) := by
  rw [read1 m c t r k h, gradRow, show 512 * (t.val % 11) + k.val = 1024 + k.val by omega,
    Runs.cat_ge, Runs.cat_lt _ _ _ _ (by omega), Runs.ext_lt _ _ (by omega)]

theorem row2 (h : 3 ≤ t.val % 11 ∧ t.val % 11 ≤ 4) (r : Fin 1088) (k : Fin 512) :
    ((iblk m c 2 t : Vec Ideal S1088x512 .bf16) (ix2 r k) : EReal) = gradRow m c (rowOf t r) (512 * (t.val % 11) + k.val) := by
  rw [read2 m c t r k h, gradRow, show 512 * (t.val % 11) + k.val = 1024 + (512 + (512 * (t.val % 11 - 3) + k.val)) by omega,
    Runs.cat_ge, Runs.cat_ge, Runs.cat_lt _ _ _ _ (by omega), Runs.ext_lt _ _ (by omega)]

theorem row3 (h : 5 ≤ t.val % 11) (r : Fin 1088) (k : Fin 512) :
    ((iblk m c 3 t : Vec Ideal S1088x512 .bf16) (ix2 r k) : EReal) = gradRow m c (rowOf t r) (512 * (t.val % 11) + k.val) := by
  rw [read3 m c t r k h, gradRow, show 512 * (t.val % 11) + k.val = 1024 + (512 + (1024 + (512 * (t.val % 11 - 5) + k.val))) by omega,
    Runs.cat_ge, Runs.cat_ge, Runs.cat_ge, Runs.ext_lt _ _ (by omega)]

/-- A block that holds the point's columns of the gradients adds the point's product. -/
theorem prod_eq (a : Fin 512 → EReal) (r : Fin 1088) (d : Fin 1024)
    (ha : ∀ k, a k = gradRow m c (rowOf t r) (512 * (t.val % 11) + k.val)) :
    prod (iblk m c 4 t) d a = product m c t.val (ix2 r d) :=
  Finset.sum_congr rfl fun k _ => congrArg₂ (fun x y : EReal => x * y) (ha k)
    ((read4 m c t k d).trans ((congrArg (fun j => (m (c.tc.loc main_arg4) : FVec Ideal S1024x10240 .bf16) (ix2 d j))
      (Fin.ext (by show 512 * (9 + t.val % 11) + k.val = 4608 + (512 * (t.val % 11) + k.val); omega))).trans
      (weight_at m c d (4608 + (512 * (t.val % 11) + k.val)) (by omega)).symm))

theorem prod_term (h : ¬t.val % 11 = 0) (a : Fin 512 → EReal) (r : Fin 1088) (d : Fin 1024)
    (ha : ∀ k, a k = gradRow m c (rowOf t r) (512 * (t.val % 11) + k.val)) :
    prod (iblk m c 4 t) d a = term m c t.val (ix2 r d) := by
  rw [prod_eq m c t a r d ha, term, if_neg h, zero_add]

theorem term_first (h : t.val % 11 = 0) (r : Fin 1088) (d : Fin 1024) :
    term m c t.val (ix2 r d) = start m c (rowOf t r) d + product m c t.val (ix2 r d) := by
  rw [term, if_pos h]
  rfl

theorem idx_eta (i : S1088x1024.Idx) : i = ix2 (i 0) (i 1) := by
  funext a
  match a with
  | ⟨0, _⟩ => rfl
  | ⟨1, _⟩ => rfl

/-- The sums after any point. -/
theorem sums (i : S1088x1024.Idx) :
    (((outsAt0 m c t.val t.isLt).2 : Vec Ideal S1088x1024 .f32) i : EReal)
      = 0 + ∑ k ∈ Finset.range (t.val % 11 + 1), term m c (11 * (t.val / 11) + k) i := by
  refine Pipeline.eq_sum_of_reset_step_apply (M := EReal) (fun n h => (outsAt0 m c n h).2) 11 (fun _ => 0) (term m c) ?_ ?_ t i
  · intro t h0 i
    rw [idx_eta i]
    refine (congrFun (s_A m c t h0) _).trans ((pay2_at _ _ _ _ _).trans ?_)
    refine Eq.trans ?_ ((term_first m c t h0 _ _).symm.trans (zero_add _).symm)
    exact congrArg₂ (fun x y : EReal => x + y) ((pay1_at _ _ _).trans (read5 m c t _ _)) (prod_eq m c t _ _ _ (row0 m c t (by omega) _))
  · intro t h0 i
    rw [idx_eta i]
    by_cases h1 : t.val % 11 = 1
    · refine (congrFun (s_B m c t h1) _).trans ((pay2_at _ _ _ _ _).trans ?_)
      exact congrArg (fun y : EReal => _ + y) (prod_term m c t h0 _ _ _ (row0 m c t (by omega) _))
    · by_cases h2 : t.val % 11 = 2
      · refine (congrFun (s_C m c t h2) _).trans ((pay2_at _ _ _ _ _).trans ?_)
        exact congrArg (fun y : EReal => _ + y) (prod_term m c t h0 _ _ _ (row1 m c t h2 _))
      · by_cases h3 : t.val % 11 ≤ 4
        · refine (congrFun (s_D m c t (by omega)) _).trans ((pay2_at _ _ _ _ _).trans ?_)
          exact congrArg (fun y : EReal => _ + y) (prod_term m c t h0 _ _ _ (row2 m c t (by omega) _))
        · refine Eq.trans ?_ (congrArg (fun y : EReal => _ + y) (prod_term m c t h0 _ _ _ (row3 m c t (by omega) _)))
          refine Eq.trans ?_ (pay2_at _ _ _ _ _)
          by_cases h5 : t.val % 11 = 10
          · exact congrFun (s_F m c t h5) _
          · exact congrFun (s_E m c t (by omega) h5) _

/-- A run's terms are the sum so far and the whole row of the gradients times the row of the weights. -/
theorem run_term (i : S1088x1024.Idx) :
    ∑ k ∈ Finset.range 11, term m c (11 * (t.val / 11) + k) i
      = start m c (rowOf t (i 0)) (i 1)
        + ∑ j ∈ Finset.range 5632, gradRow m c (rowOf t (i 0)) j * weightRow m c (i 1) (4608 + j) := by
  have row : ∀ k, k < 11 → rowOf (11 * (t.val / 11) + k) (i 0) = rowOf t (i 0) := fun k hk =>
    Fin.ext (by show (11 * (t.val / 11) + k) / 11 % 8 * 1088 + (i 0).val = t.val / 11 % 8 * 1088 + (i 0).val; omega)
  refine (Finset.sum_add_distrib (M := EReal)).trans (congrArg₂ (fun x y : EReal => x + y) ?_ ?_)
  · refine (Finset.sum_eq_single 0 (fun k hk h0 => if_neg ?_) (fun h => absurd (Finset.mem_range.mpr (by omega)) h)).trans ?_
    · have := Finset.mem_range.mp hk
      omega
    · rw [if_pos (by omega), row 0 (by omega)]
  · refine Eq.trans (Finset.sum_congr rfl fun k hk => ?_)
      (Runs.sum_blocks 512 (fun j => gradRow m c (rowOf t (i 0)) j * weightRow m c (i 1) (4608 + j)) 11)
    have hk := Finset.mem_range.mp hk
    unfold product
    rw [row k hk, show (11 * (t.val / 11) + k) % 11 = k by omega]

/-- The array the call leaves. -/
def arr : FVec Ideal S8704x1024 .bf16 := fun i =>
  start m c (i 0) (i 1) + ∑ j ∈ Finset.range 5632, gradRow m c (i 0) j * weightRow m c (i 1) (4608 + j)

theorem arr_at (r : Fin 8704) (d : Fin 1024) : (arr m c (ix2 r d) : EReal)
    = start m c r d + ∑ j ∈ Finset.range 5632, gradRow m c r j * weightRow m c d (4608 + j) := rfl

/-- It is the sum so far and the four products. -/
theorem arr_parts (r : Fin 8704) (d : Fin 1024) : (arr m c (ix2 r d) : EReal)
    = four (m (c.tc.loc main_arg0)) (m (c.tc.loc main_arg1)) (m (c.tc.loc main_arg2)) (m (c.tc.loc main_arg3))
        (m (c.tc.loc main_arg4)) (m (c.tc.loc main_arg5)) r d := by
  rw [arr_at, gradRow, weightRow, show (5632 : ℕ) = 1024 + (512 + (1024 + 3072)) from rfl, Runs.sum_cat, Runs.sum_cat,
    Runs.sum_cat, Runs.sum_ext _ _ _ (by omega), Runs.sum_ext _ _ _ (by omega), Runs.sum_ext _ _ _ (by omega),
    Runs.sum_ext _ _ _ (by omega)]
  rfl

theorem emb6 (r : Fin 1088) (d : Fin 1024) : (win0_6.blk t).view.emb (ix2 r d) = ix2 (rowOf t r) d := by
  have ht := lt_N t
  blk_ext [(idxA t).2.2.2.2.2.2, rowOf]

theorem final : @Eq (FVec Ideal S8704x1024 .bf16) ((dats m 0 c).arrAt 6 cfg0.N) (arr m c) := by
  refine (dats m 0 c).arrAt_eq_of_covers 6 _ (by decide +kernel) fun t hf y => ?_
  have ht : t.val % 11 = 10 := by have := (flush0_6 t).mp hf; omega
  blk_simp
  rw [after0_6]
  refine (congrFun (o_F m c t ht) y).trans (Eq.trans ?_ ((sums m c t y).trans ?_))
  · rw [idx_eta y]
    exact pay6_at _ _ _
  rw [ht, zero_add]
  refine (run_term m c t y).trans ?_
  refine Eq.trans ?_ (congrArg (arr m c) ((emb6 t (y 0) (y 1)).symm.trans (congrArg (win0_6.blk t).view.emb (idx_eta y).symm)))
  exact (arr_at m c _ _).symm

end Sums

end Cert.Kernel3Ideal.Value
-- ==== Proof.RefSecond.lean ====
/- The reference's rows' gradient from the last four column blocks, element by element. -/
module

public import proofs.«01_k».proof.Proof.Gen.Reference3Ideal.Read
public import proofs.«01_k».proof.Proof.SecondSum
public import Idealize.ShloMosaic.Lib.Pointwise

@[expose] public section

set_option maxRecDepth 16384

noncomputable section

open Idealize.ShloMosaic Idealize.ShloMosaic.TcCoe Idealize.SL.Sem

namespace Cert.Reference3Ideal.Value

open Cert.Reference3Ideal Cert.Reference3Ideal.Read

variable (x0 x2 : FVec Ideal S8704x1024 .bf16) (x1 : FVec Ideal S8704x512 .bf16) (x3 : FVec Ideal S8704x3072 .bf16)
  (x4 : FVec Ideal S1024x10240 .bf16) (x5 : FVec Ideal S8704x1024 .f32) (r : Fin 8704) (d : Fin 1024)

theorem v24_at : (val_main_v24 (F := Ideal) x3 x4 (ix2 r d) : EReal)
    = Runs.dot (fun k : Fin 3072 => x3 (ix2 r k)) (fun k : Fin 10240 => x4 (ix2 d k)) 7168 (by omega) := by
  pointwise [val_main_v24, val_main_v3, val_main_v14, val_main_v5, Runs.dot]

theorem v25_at : (val_main_v25 (F := Ideal) x2 x4 (ix2 r d) : EReal)
    = Runs.dot (fun k : Fin 1024 => x2 (ix2 r k)) (fun k : Fin 10240 => x4 (ix2 d k)) 6144 (by omega) := by
  pointwise [val_main_v25, val_main_v2, val_main_v13, val_main_v5, Runs.dot]

theorem v27_at : (val_main_v27 (F := Ideal) x1 x4 (ix2 r d) : EReal)
    = Runs.dot (fun k : Fin 512 => x1 (ix2 r k)) (fun k : Fin 10240 => x4 (ix2 d k)) 5632 (by omega) := by
  pointwise [val_main_v27, val_main_v1, val_main_v12, val_main_v5, Runs.dot]

theorem v29_at : (val_main_v29 (F := Ideal) x0 x4 (ix2 r d) : EReal)
    = Runs.dot (fun k : Fin 1024 => x0 (ix2 r k)) (fun k : Fin 10240 => x4 (ix2 d k)) 4608 (by omega) := by
  pointwise [val_main_v29, val_main_v0, val_main_v11, val_main_v5, Runs.dot]

/-- The reference's sum is the same products, added in another order. -/
theorem v32_at : (val_main_v32 (F := Ideal) x0 x1 x2 x3 x4 x5 (ix2 r d) : EReal) = Cert.Kernel3Ideal.Value.four x0 x1 x2 x3 x4 x5 r d := by
  have e : (val_main_v32 (F := Ideal) x0 x1 x2 x3 x4 x5 (ix2 r d) : EReal)
      = (x5 (ix2 r d) : EReal) + (((val_main_v24 (F := Ideal) x3 x4 (ix2 r d) : EReal) + (val_main_v25 (F := Ideal) x2 x4 (ix2 r d) : EReal)
        + (val_main_v27 (F := Ideal) x1 x4 (ix2 r d) : EReal)) + (val_main_v29 (F := Ideal) x0 x4 (ix2 r d) : EReal)) := by
    pointwise [val_main_v32, val_main_v31, val_main_v30, val_main_v28, val_main_v26]
  rw [e, v24_at, v25_at, v27_at, v29_at]
  unfold Cert.Kernel3Ideal.Value.four
  ac_rfl

/-- The reference's array is the kernel's. -/
theorem result (m : (ℓ : Loc Cert.Kernel3Ideal.nD Cert.Kernel3Ideal.τ Cert.Kernel3Ideal.sig) → Buf (Elt Ideal) ℓ)
    (c : Dev Cert.Kernel3Ideal.nD)
    (h0 : x0 = m (c.tc.loc Cert.Kernel3Ideal.main_arg0)) (h1 : x1 = m (c.tc.loc Cert.Kernel3Ideal.main_arg1))
    (h2 : x2 = m (c.tc.loc Cert.Kernel3Ideal.main_arg2)) (h3 : x3 = m (c.tc.loc Cert.Kernel3Ideal.main_arg3))
    (h4 : x4 = m (c.tc.loc Cert.Kernel3Ideal.main_arg4)) (h5 : x5 = m (c.tc.loc Cert.Kernel3Ideal.main_arg5)) :
    @Eq (FVec Ideal S8704x1024 .bf16) (val_main_v32 (F := Ideal) x0 x1 x2 x3 x4 x5) (Cert.Kernel3Ideal.Value.arr m c) := by
  subst h0 h1 h2 h3 h4 h5
  funext i
  have e : i = ix2 (i 0) (i 1) := by
    funext a
    match a with
    | ⟨0, _⟩ => rfl
    | ⟨1, _⟩ => rfl
  rw [e]
  exact (v32_at _ _ _ _ _ _ _ _).trans (Cert.Kernel3Ideal.Value.arr_parts m c _ _).symm

end Cert.Reference3Ideal.Value
-- ==== Proof.Fold.lean ====
/- Products of two arrays, and a product summed block by block over the points of a run. -/
module

public import proofs.«01_k».proof.Proof.Runs
public import Idealize.ShloMosaic.Lib.Pipeline.ValueKit

@[expose] public section

noncomputable section

open Idealize.ShloMosaic

namespace Cert.Runs

/-- An index of two axes is its two coordinates. -/
theorem eta {n0 n1 : ℕ} (i : (⟨2, ![n0, n1]⟩ : Shape).Idx) : i = ix2 (i 0) (i 1) := by
  funext a
  match a with
  | ⟨0, _⟩ => rfl
  | ⟨1, _⟩ => rfl

/-- Two arrays of two axes that agree element by element. -/
theorem ext_ix2 {n0 n1 : ℕ} {x y : (⟨2, ![n0, n1]⟩ : Shape).Idx → EReal} (h : ∀ r d, x (ix2 r d) = y (ix2 r d)) : x = y := by
  funext i
  rw [eta i]
  exact h _ _

section Products

variable {n0 n1 n2 : ℕ}

/-- Rows times columns. -/
def rowsCols (a : (⟨2, ![n0, n1]⟩ : Shape).Idx → EReal) (b : (⟨2, ![n1, n2]⟩ : Shape).Idx → EReal) : (⟨2, ![n0, n2]⟩ : Shape).Idx → EReal :=
  fun i => ∑ k : Fin n1, a (ix2 (i 0) k) * b (ix2 k (i 1))

/-- Rows times rows. -/
def rowsRows (a : (⟨2, ![n0, n1]⟩ : Shape).Idx → EReal) (b : (⟨2, ![n2, n1]⟩ : Shape).Idx → EReal) : (⟨2, ![n0, n2]⟩ : Shape).Idx → EReal :=
  fun i => ∑ k : Fin n1, a (ix2 (i 0) k) * b (ix2 (i 1) k)

/-- Columns times columns. -/
def colsCols (a : (⟨2, ![n1, n0]⟩ : Shape).Idx → EReal) (b : (⟨2, ![n1, n2]⟩ : Shape).Idx → EReal) : (⟨2, ![n0, n2]⟩ : Shape).Idx → EReal :=
  fun i => ∑ k : Fin n1, a (ix2 k (i 0)) * b (ix2 k (i 1))

end Products

/-- Two rows' product, `n` columns long. -/
theorem sum_ext₂ {n : ℕ} (f g : Fin n → EReal) : ∑ j ∈ Finset.range n, ext f j * ext g j = ∑ j : Fin n, f j * g j := by
  rw [Finset.sum_range]
  exact Finset.sum_congr rfl fun j _ => by rw [ext_fin, ext_fin]

/-- What the point `n` of a run of `J` adds: block `n % J`, of `B` columns, of the product of two rows of `K`. -/
def blockSum (J B : ℕ) {K : ℕ} (f g : Fin K → EReal) (n : ℕ) : EReal :=
  ∑ k : Fin B, ext f (B * (n % J) + k.val) * ext g (B * (n % J) + k.val)

theorem blockSum_eq (J B : ℕ) {K : ℕ} (f g : Fin K → EReal) (n : ℕ) (h : ∀ k : Fin B, B * (n % J) + k.val < K) :
    ∑ k : Fin B, f ⟨B * (n % J) + k.val, h k⟩ * g ⟨B * (n % J) + k.val, h k⟩ = blockSum J B f g n :=
  Finset.sum_congr rfl fun k _ => by rw [ext_lt f _ (h k), ext_lt g _ (h k)]

/-- Where the first point of a run stores its block's sum and every other adds its own to what it finds, the last point
    of the run holds the product of the whole rows. -/
theorem fold {N : ℕ} {ι : Type} (J B K : ℕ) (hJ : 0 < J) (hK : B * J = K) (acc : (n : ℕ) → n < N → ι → EReal)
    (f g : ℕ → ι → Fin K → EReal)
    (first : ∀ t : Fin N, t.val % J = 0 → ∀ i, acc t.val t.isLt i = blockSum J B (f (t.val / J) i) (g (t.val / J) i) t.val)
    (next : ∀ t : Fin N, ¬t.val % J = 0 → ∀ i,
      acc t.val t.isLt i = acc (t.val - 1) (Nat.lt_of_le_of_lt (Nat.sub_le _ _) t.isLt) i + blockSum J B (f (t.val / J) i) (g (t.val / J) i) t.val)
    (t : Fin N) (ht : t.val % J + 1 = J) (i : ι) :
    acc t.val t.isLt i = ∑ k : Fin K, f (t.val / J) i k * g (t.val / J) i k := by
  have e := Pipeline.eq_sum_of_reset_step_apply (M := EReal) acc J (fun _ => 0)
    (fun n i => blockSum J B (f (n / J) i) (g (n / J) i) n)
    (fun t h i => (first t h i).trans (zero_add _).symm) next t i
  rw [e, ht, zero_add]
  refine Eq.trans (Finset.sum_congr rfl fun k hk => ?_)
    ((sum_blocks B (fun j => ext (f (t.val / J) i) j * ext (g (t.val / J) i) j) J).trans ?_)
  · have hk := Finset.mem_range.mp hk
    have hd : (J * (t.val / J) + k) / J = t.val / J := by
      rw [Nat.mul_add_div hJ, Nat.div_eq_of_lt hk, Nat.add_zero]
    have hm : (J * (t.val / J) + k) % J = k := by
      rw [Nat.mul_add_mod, Nat.mod_eq_of_lt hk]
    show blockSum J B (f ((J * (t.val / J) + k) / J) i) (g ((J * (t.val / J) + k) / J) i) (J * (t.val / J) + k) = _
    rw [hd]
    unfold blockSum
    rw [hm]
  · rw [hK]
    exact sum_ext₂ _ _

/-- Where each point of a run of `J` multiplies its own `B` rows of `A` and of the run's columns of `G`, the last point
    holds those columns of the whole product. -/
theorem fold_cols {N n0 n2 w : ℕ} (J B K : ℕ) (hJ : 0 < J) (hK : B * J = K) (col : ℕ → Fin w → Fin n2)
    (A : (⟨2, ![K, n0]⟩ : Shape).Idx → EReal) (G : (⟨2, ![K, n2]⟩ : Shape).Idx → EReal)
    (acc : (n : ℕ) → n < N → (⟨2, ![n0, w]⟩ : Shape).Idx → EReal)
    (a : Fin N → (⟨2, ![B, n0]⟩ : Shape).Idx → EReal) (g : Fin N → (⟨2, ![B, w]⟩ : Shape).Idx → EReal)
    (first : ∀ t : Fin N, t.val % J = 0 → ∀ r d, acc t.val t.isLt (ix2 r d) = colsCols (a t) (g t) (ix2 r d))
    (next : ∀ t : Fin N, ¬t.val % J = 0 → ∀ r d, acc t.val t.isLt (ix2 r d)
      = acc (t.val - 1) (Nat.lt_of_le_of_lt (Nat.sub_le _ _) t.isLt) (ix2 r d) + colsCols (a t) (g t) (ix2 r d))
    (ha : ∀ (t : Fin N) (k : Fin B) (r : Fin n0) (h : B * (t.val % J) + k.val < K),
      a t (ix2 k r) = A (ix2 ⟨B * (t.val % J) + k.val, h⟩ r))
    (hg : ∀ (t : Fin N) (k : Fin B) (d : Fin w) (h : B * (t.val % J) + k.val < K),
      g t (ix2 k d) = G (ix2 ⟨B * (t.val % J) + k.val, h⟩ (col (t.val / J) d)))
    (t : Fin N) (ht : t.val % J + 1 = J) (r : Fin n0) (d : Fin w) :
    acc t.val t.isLt (ix2 r d) = colsCols A G (ix2 r (col (t.val / J) d)) := by
  have hlt : ∀ (n : ℕ) (k : Fin B), B * (n % J) + k.val < K := fun n k => by
    have h1 : B * (n % J) + B ≤ B * J := by
      rw [← Nat.mul_succ]
      exact Nat.mul_le_mul_left _ (Nat.mod_lt n hJ)
    have h2 := k.isLt
    omega
  have block : ∀ (t : Fin N) (i : (⟨2, ![n0, w]⟩ : Shape).Idx), colsCols (a t) (g t) i
      = blockSum J B (fun k => A (ix2 k (i 0))) (fun k => G (ix2 k (col (t.val / J) (i 1)))) t.val := fun t i =>
    Eq.trans (Finset.sum_congr rfl fun k _ => congrArg₂ (fun x y : EReal => x * y) (ha t k (i 0) (hlt _ k)) (hg t k (i 1) (hlt _ k)))
      (blockSum_eq J B (fun k => A (ix2 k (i 0))) (fun k => G (ix2 k (col (t.val / J) (i 1)))) t.val (hlt _))
  refine fold J B K hJ hK acc (fun _ i k => A (ix2 k (i 0))) (fun n i k => G (ix2 k (col n (i 1))))
    (fun t h i => ?_) (fun t h i => ?_) t ht (ix2 r d)
  · refine Eq.trans ?_ (block t i)
    rw [eta i]
    exact first t h _ _
  · refine Eq.trans ?_ (congrArg (fun y : EReal => _ + y) (block t i))
    rw [eta i]
    exact next t h _ _

end Cert.Runs
-- ==== Proof.Weights4.lean ====
/- The weights' gradient of the first column block: the array the call leaves, and the reference's. -/
module

public import proofs.«01_k».proof.Proof.Fold
public import proofs.«01_k».proof.Proof.Gen.Kernel4Ideal.Value
public import proofs.«01_k».proof.Proof.Gen.Reference4Ideal.Read
public import Idealize.ShloMosaic.Lib.WritesUnit
public import Idealize.ShloMosaic.Lib.Pointwise

@[expose] public section

set_option maxRecDepth 16384

noncomputable section

open Idealize.ShloMosaic Idealize.ShloMosaic.TcCoe Idealize.SL.Sem

namespace Cert.Kernel4Ideal.Value

open Cert.Kernel4Ideal Cert.Kernel4Ideal.Gen Cert.Reference4Ideal.Read

section Adds

variable (a : Vec Ideal S2176x1024 .bf16) (b : Vec Ideal S2176x1024 .f32) (p : Vec Ideal S1024x1024 .f32) (r d : Fin 1024)

theorem pay2_at : (k0_pay2 a b (ix2 r d) : EReal) = Runs.colsCols a b (ix2 r d) := by
  pointwise [k0_pay2, k0_pay1, zero_add, Runs.colsCols]

theorem pay3_at : (k0_pay3 a b p (ix2 r d) : EReal) = (p (ix2 r d) : EReal) + Runs.colsCols a b (ix2 r d) := by
  pointwise [k0_pay3, k0_pay1, zero_add, Runs.colsCols]

theorem pay4_at : (k0_pay4 p (ix2 r d) : EReal) = (p (ix2 r d) : EReal) := by
  pointwise [k0_pay4]

end Adds

variable (m : (ℓ : Loc nD τ sig) → Buf (Elt Ideal) ℓ) (c : Dev nD)

section Steps

variable (t : Fin cfg0.N)

theorem lt_N : t.val < 4 := lt_of_lt_of_eq t.isLt N_0

theorem s_first (h : t.val % 4 = 0) : (outsAt0 m c t.val t.isLt).2 = k0_pay2 (iblk m c 0 t) (iblk m c 1 t) := by
  have ht := lt_N t
  rw [outsAt0_A m c t h (by omega) (by omega)]
  frame_out

theorem s_next (h : ¬t.val % 4 = 0) : (outsAt0 m c t.val t.isLt).2 = k0_pay3 (iblk m c 0 t) (iblk m c 1 t)
    (outsAt0 m c (t.val - 1) (Nat.lt_of_le_of_lt (Nat.sub_le _ _) t.isLt)).2 := by
  by_cases h3 : t.val % 4 = 3
  · rw [outsAt0_C m c t h (by omega) h3]
    frame_out
    rw [(Memref.isWhole_whole cc0_scratch0).read_unread]
  · rw [outsAt0_B m c t h (by omega) h3]
    frame_out
    rw [(Memref.isWhole_whole cc0_scratch0).read_unread]

theorem o_last (h : t.val % 4 = 3) : (outsAt0 m c t.val t.isLt).1 = k0_pay4 (outsAt0 m c t.val t.isLt).2 := by
  rw [outsAt0_C m c t (by omega) (by omega) h]
  frame_out

theorem idx : ∀ t : Fin cfg0.N, win0_0.index t = ![t.val % 4, 0] ∧ win0_1.index t = ![t.val % 4, 0] ∧ win0_2.index t = ![0, 0] :=
  (by decide +kernel : ∀ t : Fin grid0.N, _)

theorem read0 (k : Fin 2176) (r : Fin 1024) (h : 2176 * (t.val % 4) + k.val < 8704) :
    ((iblk m c 0 t : Vec Ideal S2176x1024 .bf16) (ix2 k r) : EReal)
      = ((m (c.tc.loc main_arg0) : FVec Ideal S8704x1024 .bf16) (ix2 ⟨2176 * (t.val % 4) + k.val, h⟩ r) : EReal) := by
  blk_point [iblk, V, (idx t).1]

theorem read1 (k : Fin 2176) (d : Fin 1024) (h : 2176 * (t.val % 4) + k.val < 8704) :
    ((iblk m c 1 t : Vec Ideal S2176x1024 .f32) (ix2 k d) : EReal)
      = ((m (c.tc.loc main_arg1) : FVec Ideal S8704x1024 .f32) (ix2 ⟨2176 * (t.val % 4) + k.val, h⟩ d) : EReal) := by
  blk_point [iblk, V, (idx t).2.1]

theorem emb2 (r d : Fin 1024) : (win0_2.blk t).view.emb (ix2 r d) = ix2 r d := by
  blk_ext [(idx t).2.2]

end Steps

/-- The array the call leaves. -/
def arr : FVec Ideal S1024x1024 .bf16 := Runs.colsCols (m (c.tc.loc main_arg0)) (m (c.tc.loc main_arg1))

theorem sums (t : Fin cfg0.N) (h : t.val % 4 + 1 = 4) (r d : Fin 1024) :
    (((outsAt0 m c t.val t.isLt).2 : Vec Ideal S1024x1024 .f32) (ix2 r d) : EReal) = arr m c (ix2 r d) :=
  Runs.fold_cols (N := cfg0.N) 4 2176 8704 (by omega) (by omega) (fun _ d => d) (m (c.tc.loc main_arg0)) (m (c.tc.loc main_arg1))
    (fun n h => (outsAt0 m c n h).2) (fun t => iblk m c 0 t) (fun t => iblk m c 1 t)
    (fun t h r d => (congrFun (s_first m c t h) _).trans (pay2_at _ _ r d))
    (fun t h r d => (congrFun (s_next m c t h) _).trans (pay3_at _ _ _ r d)) (read0 m c) (read1 m c) t h r d

theorem final : @Eq (FVec Ideal S1024x1024 .bf16) ((dats m 0 c).arrAt 2 cfg0.N) (arr m c) := by
  refine (dats m 0 c).arrAt_eq_of_covers 2 _ (by decide +kernel) fun t hf y => ?_
  have ht : t.val % 4 = 3 := (flush0_2 t).mp hf
  blk_simp
  rw [after0_2, Runs.eta y]
  refine (congrFun (o_last m c t ht) _).trans ((pay4_at _ _ _).trans ((sums m c t (by omega) _ _).trans ?_))
  exact congrArg (arr m c) (emb2 t (y 0) (y 1)).symm

theorem ref_at (x0 : FVec Ideal S8704x1024 .bf16) (x1 : FVec Ideal S8704x1024 .f32) (r : Fin 1024) (d : Fin 1024) :
    (val_main_v5 (F := Ideal) x0 x1 (ix2 r d) : EReal) = Runs.colsCols x0 x1 (ix2 r d) := by
  pointwise [val_main_v5, val_main_v4, val_main_v3, val_main_v1, Runs.colsCols, mul_comm]

/-- The reference's array is the kernel's. -/
theorem result (x0 : FVec Ideal S8704x1024 .bf16) (x1 : FVec Ideal S8704x1024 .f32)
    (h0 : x0 = m (c.tc.loc main_arg0)) (h1 : x1 = m (c.tc.loc main_arg1)) :
    @Eq (FVec Ideal S1024x1024 .bf16) (val_main_v5 (F := Ideal) x0 x1) (arr m c) := by
  subst h0 h1
  exact Runs.ext_ix2 (ref_at _ _)

end Cert.Kernel4Ideal.Value
-- ==== Proof.Weights5.lean ====
/- The weights' gradient of a column block of 1024: the array the call leaves, and the reference's. -/
module

public import proofs.«01_k».proof.Proof.Fold
public import proofs.«01_k».proof.Proof.Gen.Kernel5Ideal.Value
public import proofs.«01_k».proof.Proof.Gen.Reference5Ideal.Read
public import Idealize.ShloMosaic.Lib.WritesUnit
public import Idealize.ShloMosaic.Lib.Pointwise

@[expose] public section

set_option maxRecDepth 16384

noncomputable section

open Idealize.ShloMosaic Idealize.ShloMosaic.TcCoe Idealize.SL.Sem

namespace Cert.Kernel5Ideal.Value

open Cert.Kernel5Ideal Cert.Kernel5Ideal.Gen Cert.Reference5Ideal.Read

section Adds

variable (a b : Vec Ideal S2176x1024 .bf16) (p : Vec Ideal S1024x1024 .f32) (r d : Fin 1024)

theorem pay2_at : (k0_pay2 a b (ix2 r d) : EReal) = Runs.colsCols a b (ix2 r d) := by
  pointwise [k0_pay2, k0_pay1, zero_add, Runs.colsCols]

theorem pay3_at : (k0_pay3 a b p (ix2 r d) : EReal) = (p (ix2 r d) : EReal) + Runs.colsCols a b (ix2 r d) := by
  pointwise [k0_pay3, k0_pay1, zero_add, Runs.colsCols]

theorem pay4_at : (k0_pay4 p (ix2 r d) : EReal) = (p (ix2 r d) : EReal) := by
  pointwise [k0_pay4]

end Adds

variable (m : (ℓ : Loc nD τ sig) → Buf (Elt Ideal) ℓ) (c : Dev nD)

section Steps

variable (t : Fin cfg0.N)

theorem lt_N : t.val < 4 := lt_of_lt_of_eq t.isLt N_0

theorem s_first (h : t.val % 4 = 0) : (outsAt0 m c t.val t.isLt).2 = k0_pay2 (iblk m c 0 t) (iblk m c 1 t) := by
  have ht := lt_N t
  rw [outsAt0_A m c t h (by omega) (by omega)]
  frame_out

theorem s_next (h : ¬t.val % 4 = 0) : (outsAt0 m c t.val t.isLt).2 = k0_pay3 (iblk m c 0 t) (iblk m c 1 t)
    (outsAt0 m c (t.val - 1) (Nat.lt_of_le_of_lt (Nat.sub_le _ _) t.isLt)).2 := by
  by_cases h3 : t.val % 4 = 3
  · rw [outsAt0_C m c t h (by omega) h3]
    frame_out
    rw [(Memref.isWhole_whole cc0_scratch0).read_unread]
  · rw [outsAt0_B m c t h (by omega) h3]
    frame_out
    rw [(Memref.isWhole_whole cc0_scratch0).read_unread]

theorem o_last (h : t.val % 4 = 3) : (outsAt0 m c t.val t.isLt).1 = k0_pay4 (outsAt0 m c t.val t.isLt).2 := by
  rw [outsAt0_C m c t (by omega) (by omega) h]
  frame_out

theorem idx : ∀ t : Fin cfg0.N, win0_0.index t = ![t.val % 4, 0] ∧ win0_1.index t = ![t.val % 4, 0] ∧ win0_2.index t = ![0, 0] :=
  (by decide +kernel : ∀ t : Fin grid0.N, _)

theorem read0 (k : Fin 2176) (r : Fin 1024) (h : 2176 * (t.val % 4) + k.val < 8704) :
    ((iblk m c 0 t : Vec Ideal S2176x1024 .bf16) (ix2 k r) : EReal)
      = ((m (c.tc.loc main_arg0) : FVec Ideal S8704x1024 .bf16) (ix2 ⟨2176 * (t.val % 4) + k.val, h⟩ r) : EReal) := by
  blk_point [iblk, V, (idx t).1]

theorem read1 (k : Fin 2176) (d : Fin 1024) (h : 2176 * (t.val % 4) + k.val < 8704) :
    ((iblk m c 1 t : Vec Ideal S2176x1024 .bf16) (ix2 k d) : EReal)
      = ((m (c.tc.loc main_arg1) : FVec Ideal S8704x1024 .bf16) (ix2 ⟨2176 * (t.val % 4) + k.val, h⟩ d) : EReal) := by
  blk_point [iblk, V, (idx t).2.1]

theorem emb2 (r d : Fin 1024) : (win0_2.blk t).view.emb (ix2 r d) = ix2 r d := by
  blk_ext [(idx t).2.2]

end Steps

/-- The array the call leaves. -/
def arr : FVec Ideal S1024x1024 .bf16 := Runs.colsCols (m (c.tc.loc main_arg0)) (m (c.tc.loc main_arg1))

theorem sums (t : Fin cfg0.N) (h : t.val % 4 + 1 = 4) (r d : Fin 1024) :
    (((outsAt0 m c t.val t.isLt).2 : Vec Ideal S1024x1024 .f32) (ix2 r d) : EReal) = arr m c (ix2 r d) :=
  Runs.fold_cols (N := cfg0.N) 4 2176 8704 (by omega) (by omega) (fun _ d => d) (m (c.tc.loc main_arg0)) (m (c.tc.loc main_arg1))
    (fun n h => (outsAt0 m c n h).2) (fun t => iblk m c 0 t) (fun t => iblk m c 1 t)
    (fun t h r d => (congrFun (s_first m c t h) _).trans (pay2_at _ _ r d))
    (fun t h r d => (congrFun (s_next m c t h) _).trans (pay3_at _ _ _ r d)) (read0 m c) (read1 m c) t h r d

theorem final : @Eq (FVec Ideal S1024x1024 .bf16) ((dats m 0 c).arrAt 2 cfg0.N) (arr m c) := by
  refine (dats m 0 c).arrAt_eq_of_covers 2 _ (by decide +kernel) fun t hf y => ?_
  have ht : t.val % 4 = 3 := (flush0_2 t).mp hf
  blk_simp
  rw [after0_2, Runs.eta y]
  refine (congrFun (o_last m c t ht) _).trans ((pay4_at _ _ _).trans ((sums m c t (by omega) _ _).trans ?_))
  exact congrArg (arr m c) (emb2 t (y 0) (y 1)).symm

theorem ref_at (x0 : FVec Ideal S8704x1024 .bf16) (x1 : FVec Ideal S8704x1024 .bf16) (r : Fin 1024) (d : Fin 1024) :
    (val_main_v6 (F := Ideal) x0 x1 (ix2 r d) : EReal) = Runs.colsCols x0 x1 (ix2 r d) := by
  pointwise [val_main_v6, val_main_v5, val_main_v4, val_main_v3, val_main_v1, Runs.colsCols, mul_comm]

/-- The reference's array is the kernel's. -/
theorem result (x0 : FVec Ideal S8704x1024 .bf16) (x1 : FVec Ideal S8704x1024 .bf16)
    (h0 : x0 = m (c.tc.loc main_arg0)) (h1 : x1 = m (c.tc.loc main_arg1)) :
    @Eq (FVec Ideal S1024x1024 .bf16) (val_main_v6 (F := Ideal) x0 x1) (arr m c) := by
  subst h0 h1
  exact Runs.ext_ix2 (ref_at _ _)

end Cert.Kernel5Ideal.Value
-- ==== Proof.Weights6.lean ====
/- The weights' gradient of a column block of 512: the array the call leaves, and the reference's. -/
module

public import proofs.«01_k».proof.Proof.Fold
public import proofs.«01_k».proof.Proof.Gen.Kernel6Ideal.Value
public import proofs.«01_k».proof.Proof.Gen.Reference6Ideal.Read
public import Idealize.ShloMosaic.Lib.WritesUnit
public import Idealize.ShloMosaic.Lib.Pointwise

@[expose] public section

set_option maxRecDepth 16384

noncomputable section

open Idealize.ShloMosaic Idealize.ShloMosaic.TcCoe Idealize.SL.Sem

namespace Cert.Kernel6Ideal.Value

open Cert.Kernel6Ideal Cert.Kernel6Ideal.Gen Cert.Reference6Ideal.Read

section Adds

variable (a : Vec Ideal S2176x1024 .bf16) (b : Vec Ideal S2176x512 .bf16) (p : Vec Ideal S1024x512 .f32) (r : Fin 1024) (d : Fin 512)

theorem pay2_at : (k0_pay2 a b (ix2 r d) : EReal) = Runs.colsCols a b (ix2 r d) := by
  pointwise [k0_pay2, k0_pay1, zero_add, Runs.colsCols]

theorem pay3_at : (k0_pay3 a b p (ix2 r d) : EReal) = (p (ix2 r d) : EReal) + Runs.colsCols a b (ix2 r d) := by
  pointwise [k0_pay3, k0_pay1, zero_add, Runs.colsCols]

theorem pay4_at : (k0_pay4 p (ix2 r d) : EReal) = (p (ix2 r d) : EReal) := by
  pointwise [k0_pay4]

end Adds

variable (m : (ℓ : Loc nD τ sig) → Buf (Elt Ideal) ℓ) (c : Dev nD)

section Steps

variable (t : Fin cfg0.N)

theorem lt_N : t.val < 4 := lt_of_lt_of_eq t.isLt N_0

theorem s_first (h : t.val % 4 = 0) : (outsAt0 m c t.val t.isLt).2 = k0_pay2 (iblk m c 0 t) (iblk m c 1 t) := by
  have ht := lt_N t
  rw [outsAt0_A m c t h (by omega) (by omega)]
  frame_out

theorem s_next (h : ¬t.val % 4 = 0) : (outsAt0 m c t.val t.isLt).2 = k0_pay3 (iblk m c 0 t) (iblk m c 1 t)
    (outsAt0 m c (t.val - 1) (Nat.lt_of_le_of_lt (Nat.sub_le _ _) t.isLt)).2 := by
  by_cases h3 : t.val % 4 = 3
  · rw [outsAt0_C m c t h (by omega) h3]
    frame_out
    rw [(Memref.isWhole_whole cc0_scratch0).read_unread]
  · rw [outsAt0_B m c t h (by omega) h3]
    frame_out
    rw [(Memref.isWhole_whole cc0_scratch0).read_unread]

theorem o_last (h : t.val % 4 = 3) : (outsAt0 m c t.val t.isLt).1 = k0_pay4 (outsAt0 m c t.val t.isLt).2 := by
  rw [outsAt0_C m c t (by omega) (by omega) h]
  frame_out

theorem idx : ∀ t : Fin cfg0.N, win0_0.index t = ![t.val % 4, 0] ∧ win0_1.index t = ![t.val % 4, 0] ∧ win0_2.index t = ![0, 0] :=
  (by decide +kernel : ∀ t : Fin grid0.N, _)

theorem read0 (k : Fin 2176) (r : Fin 1024) (h : 2176 * (t.val % 4) + k.val < 8704) :
    ((iblk m c 0 t : Vec Ideal S2176x1024 .bf16) (ix2 k r) : EReal)
      = ((m (c.tc.loc main_arg0) : FVec Ideal S8704x1024 .bf16) (ix2 ⟨2176 * (t.val % 4) + k.val, h⟩ r) : EReal) := by
  blk_point [iblk, V, (idx t).1]

theorem read1 (k : Fin 2176) (d : Fin 512) (h : 2176 * (t.val % 4) + k.val < 8704) :
    ((iblk m c 1 t : Vec Ideal S2176x512 .bf16) (ix2 k d) : EReal)
      = ((m (c.tc.loc main_arg1) : FVec Ideal S8704x512 .bf16) (ix2 ⟨2176 * (t.val % 4) + k.val, h⟩ d) : EReal) := by
  blk_point [iblk, V, (idx t).2.1]

theorem emb2 (r : Fin 1024) (d : Fin 512) : (win0_2.blk t).view.emb (ix2 r d) = ix2 r d := by
  blk_ext [(idx t).2.2]

end Steps

/-- The array the call leaves. -/
def arr : FVec Ideal S1024x512 .bf16 := Runs.colsCols (m (c.tc.loc main_arg0)) (m (c.tc.loc main_arg1))

theorem sums (t : Fin cfg0.N) (h : t.val % 4 + 1 = 4) (r : Fin 1024) (d : Fin 512) :
    (((outsAt0 m c t.val t.isLt).2 : Vec Ideal S1024x512 .f32) (ix2 r d) : EReal) = arr m c (ix2 r d) :=
  Runs.fold_cols (N := cfg0.N) 4 2176 8704 (by omega) (by omega) (fun _ d => d) (m (c.tc.loc main_arg0)) (m (c.tc.loc main_arg1))
    (fun n h => (outsAt0 m c n h).2) (fun t => iblk m c 0 t) (fun t => iblk m c 1 t)
    (fun t h r d => (congrFun (s_first m c t h) _).trans (pay2_at _ _ r d))
    (fun t h r d => (congrFun (s_next m c t h) _).trans (pay3_at _ _ _ r d)) (read0 m c) (read1 m c) t h r d

theorem final : @Eq (FVec Ideal S1024x512 .bf16) ((dats m 0 c).arrAt 2 cfg0.N) (arr m c) := by
  refine (dats m 0 c).arrAt_eq_of_covers 2 _ (by decide +kernel) fun t hf y => ?_
  have ht : t.val % 4 = 3 := (flush0_2 t).mp hf
  blk_simp
  rw [after0_2, Runs.eta y]
  refine (congrFun (o_last m c t ht) _).trans ((pay4_at _ _ _).trans ((sums m c t (by omega) _ _).trans ?_))
  exact congrArg (arr m c) (emb2 t (y 0) (y 1)).symm

theorem ref_at (x0 : FVec Ideal S8704x1024 .bf16) (x1 : FVec Ideal S8704x512 .bf16) (r : Fin 1024) (d : Fin 512) :
    (val_main_v6 (F := Ideal) x0 x1 (ix2 r d) : EReal) = Runs.colsCols x0 x1 (ix2 r d) := by
  pointwise [val_main_v6, val_main_v5, val_main_v4, val_main_v3, val_main_v1, Runs.colsCols, mul_comm]

/-- The reference's array is the kernel's. -/
theorem result (x0 : FVec Ideal S8704x1024 .bf16) (x1 : FVec Ideal S8704x512 .bf16)
    (h0 : x0 = m (c.tc.loc main_arg0)) (h1 : x1 = m (c.tc.loc main_arg1)) :
    @Eq (FVec Ideal S1024x512 .bf16) (val_main_v6 (F := Ideal) x0 x1) (arr m c) := by
  subst h0 h1
  exact Runs.ext_ix2 (ref_at _ _)

end Cert.Kernel6Ideal.Value
-- ==== Proof.Weights7.lean ====
/- The weights' gradient of the column block of 3072: the array the call leaves, and the reference's. -/
module

public import proofs.«01_k».proof.Proof.Fold
public import proofs.«01_k».proof.Proof.Gen.Kernel7Ideal.Value
public import proofs.«01_k».proof.Proof.Gen.Reference7Ideal.Read
public import Idealize.ShloMosaic.Lib.WritesUnit
public import Idealize.ShloMosaic.Lib.Pointwise

@[expose] public section

set_option maxRecDepth 16384

noncomputable section

open Idealize.ShloMosaic Idealize.ShloMosaic.TcCoe Idealize.SL.Sem

namespace Cert.Kernel7Ideal.Value

open Cert.Kernel7Ideal Cert.Kernel7Ideal.Gen Cert.Reference7Ideal.Read

section Adds

variable (a b : Vec Ideal S2176x1024 .bf16) (p : Vec Ideal S1024x1024 .f32) (r d : Fin 1024)

theorem pay2_at : (k0_pay2 a b (ix2 r d) : EReal) = Runs.colsCols a b (ix2 r d) := by
  pointwise [k0_pay2, k0_pay1, zero_add, Runs.colsCols]

theorem pay3_at : (k0_pay3 a b p (ix2 r d) : EReal) = (p (ix2 r d) : EReal) + Runs.colsCols a b (ix2 r d) := by
  pointwise [k0_pay3, k0_pay1, zero_add, Runs.colsCols]

theorem pay4_at : (k0_pay4 p (ix2 r d) : EReal) = (p (ix2 r d) : EReal) := by
  pointwise [k0_pay4]

end Adds

variable (m : (ℓ : Loc nD τ sig) → Buf (Elt Ideal) ℓ) (c : Dev nD)

section Steps

variable (t : Fin cfg0.N)

theorem lt_N : t.val < 12 := lt_of_lt_of_eq t.isLt N_0

theorem s_first (h : t.val % 4 = 0) : (outsAt0 m c t.val t.isLt).2 = k0_pay2 (iblk m c 0 t) (iblk m c 1 t) := by
  have ht := lt_N t
  rw [outsAt0_A m c t h (by omega) (by omega)]
  frame_out

theorem s_next (h : ¬t.val % 4 = 0) : (outsAt0 m c t.val t.isLt).2 = k0_pay3 (iblk m c 0 t) (iblk m c 1 t)
    (outsAt0 m c (t.val - 1) (Nat.lt_of_le_of_lt (Nat.sub_le _ _) t.isLt)).2 := by
  by_cases h3 : t.val % 4 = 3
  · rw [outsAt0_C m c t h (by omega) h3]
    frame_out
    rw [(Memref.isWhole_whole cc0_scratch0).read_unread]
  · rw [outsAt0_B m c t h (by omega) h3]
    frame_out
    rw [(Memref.isWhole_whole cc0_scratch0).read_unread]

theorem o_last (h : t.val % 4 = 3) : (outsAt0 m c t.val t.isLt).1 = k0_pay4 (outsAt0 m c t.val t.isLt).2 := by
  rw [outsAt0_C m c t (by omega) (by omega) h]
  frame_out

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The columns of run `n`. -/
def colOf (n : ℕ) (d : Fin 1024) : Fin 3072 := ⟨n % 3 * 1024 + d.val, by have := Nat.mod_lt n (show 0 < 3 by omega); omega⟩

theorem read0 (k : Fin 2176) (r : Fin 1024) (h : 2176 * (t.val % 4) + k.val < 8704) :
    ((iblk m c 0 t : Vec Ideal S2176x1024 .bf16) (ix2 k r) : EReal)
      = ((m (c.tc.loc main_arg0) : FVec Ideal S8704x1024 .bf16) (ix2 ⟨2176 * (t.val % 4) + k.val, h⟩ r) : EReal) := by
  blk_point [iblk, V, (idx t).1]

theorem read1 (k : Fin 2176) (d : Fin 1024) (h : 2176 * (t.val % 4) + k.val < 8704) :
    ((iblk m c 1 t : Vec Ideal S2176x1024 .bf16) (ix2 k d) : EReal)
      = ((m (c.tc.loc main_arg1) : FVec Ideal S8704x3072 .bf16) (ix2 ⟨2176 * (t.val % 4) + k.val, h⟩ (colOf (t.val / 4) d)) : EReal) := by
  have ht := lt_N t
  blk_point [iblk, V, (idx t).2.1, colOf]

theorem emb2 (r d : Fin 1024) : (win0_2.blk t).view.emb (ix2 r d) = ix2 r (colOf (t.val / 4) d) := by
  have ht := lt_N t
  blk_ext [(idx t).2.2, colOf]

end Steps

/-- The array the call leaves. -/
def arr : FVec Ideal S1024x3072 .bf16 := Runs.colsCols (m (c.tc.loc main_arg0)) (m (c.tc.loc main_arg1))

theorem sums (t : Fin cfg0.N) (h : t.val % 4 + 1 = 4) (r d : Fin 1024) :
    (((outsAt0 m c t.val t.isLt).2 : Vec Ideal S1024x1024 .f32) (ix2 r d) : EReal) = arr m c (ix2 r (colOf (t.val / 4) d)) :=
  Runs.fold_cols (N := cfg0.N) 4 2176 8704 (by omega) (by omega) colOf (m (c.tc.loc main_arg0)) (m (c.tc.loc main_arg1))
    (fun n h => (outsAt0 m c n h).2) (fun t => iblk m c 0 t) (fun t => iblk m c 1 t)
    (fun t h r d => (congrFun (s_first m c t h) _).trans (pay2_at _ _ r d))
    (fun t h r d => (congrFun (s_next m c t h) _).trans (pay3_at _ _ _ r d)) (read0 m c) (read1 m c) t h r d

theorem final : @Eq (FVec Ideal S1024x3072 .bf16) ((dats m 0 c).arrAt 2 cfg0.N) (arr m c) := by
  refine (dats m 0 c).arrAt_eq_of_covers 2 _ (by decide +kernel) fun t hf y => ?_
  have ht : t.val % 4 = 3 := (flush0_2 t).mp hf
  blk_simp
  rw [after0_2, Runs.eta y]
  refine (congrFun (o_last m c t ht) _).trans ((pay4_at _ _ _).trans ((sums m c t (by omega) _ _).trans ?_))
  exact congrArg (arr m c) (emb2 t (y 0) (y 1)).symm

theorem ref_at (x0 : FVec Ideal S8704x1024 .bf16) (x1 : FVec Ideal S8704x3072 .bf16) (r : Fin 1024) (d : Fin 3072) :
    (val_main_v6 (F := Ideal) x0 x1 (ix2 r d) : EReal) = Runs.colsCols x0 x1 (ix2 r d) := by
  pointwise [val_main_v6, val_main_v5, val_main_v4, val_main_v3, val_main_v1, Runs.colsCols, mul_comm]

/-- The reference's array is the kernel's. -/
theorem result (x0 : FVec Ideal S8704x1024 .bf16) (x1 : FVec Ideal S8704x3072 .bf16)
    (h0 : x0 = m (c.tc.loc main_arg0)) (h1 : x1 = m (c.tc.loc main_arg1)) :
    @Eq (FVec Ideal S1024x3072 .bf16) (val_main_v6 (F := Ideal) x0 x1) (arr m c) := by
  subst h0 h1
  exact Runs.ext_ix2 (ref_at _ _)

end Cert.Kernel7Ideal.Value
-- ==== Proof.Weights8.lean ====
/- The weights' gradient of a product with 1024 by 1024 weights: the array the call leaves, and the reference's. -/
module

public import proofs.«01_k».proof.Proof.Fold
public import proofs.«01_k».proof.Proof.Gen.Kernel8Ideal.Value
public import proofs.«01_k».proof.Proof.Gen.Reference8Ideal.Read
public import Idealize.ShloMosaic.Lib.WritesUnit
public import Idealize.ShloMosaic.Lib.Pointwise

@[expose] public section

set_option maxRecDepth 16384

noncomputable section

open Idealize.ShloMosaic Idealize.ShloMosaic.TcCoe Idealize.SL.Sem

namespace Cert.Kernel8Ideal.Value

open Cert.Kernel8Ideal Cert.Kernel8Ideal.Gen Cert.Reference8Ideal.Read

section Adds

variable (a b : Vec Ideal S1088x1024 .bf16) (p : Vec Ideal S1024x1024 .f32) (r d : Fin 1024)

theorem pay2_at : (k0_pay2 a b (ix2 r d) : EReal) = Runs.colsCols a b (ix2 r d) := by
  pointwise [k0_pay2, k0_pay1, zero_add, Runs.colsCols]

theorem pay3_at : (k0_pay3 a b p (ix2 r d) : EReal) = (p (ix2 r d) : EReal) + Runs.colsCols a b (ix2 r d) := by
  pointwise [k0_pay3, k0_pay1, zero_add, Runs.colsCols]

theorem pay4_at : (k0_pay4 p (ix2 r d) : EReal) = (p (ix2 r d) : EReal) := by
  pointwise [k0_pay4]

end Adds

variable (m : (ℓ : Loc nD τ sig) → Buf (Elt Ideal) ℓ) (c : Dev nD)

section Steps

variable (t : Fin cfg0.N)

theorem lt_N : t.val < 8 := lt_of_lt_of_eq t.isLt N_0

theorem s_first (h : t.val % 8 = 0) : (outsAt0 m c t.val t.isLt).2 = k0_pay2 (iblk m c 0 t) (iblk m c 1 t) := by
  have ht := lt_N t
  rw [outsAt0_A m c t h (by omega) (by omega)]
  frame_out

theorem s_next (h : ¬t.val % 8 = 0) : (outsAt0 m c t.val t.isLt).2 = k0_pay3 (iblk m c 0 t) (iblk m c 1 t)
    (outsAt0 m c (t.val - 1) (Nat.lt_of_le_of_lt (Nat.sub_le _ _) t.isLt)).2 := by
  by_cases h3 : t.val % 8 = 7
  · rw [outsAt0_C m c t h (by omega) h3]
    frame_out
    rw [(Memref.isWhole_whole cc0_scratch0).read_unread]
  · rw [outsAt0_B m c t h (by omega) h3]
    frame_out
    rw [(Memref.isWhole_whole cc0_scratch0).read_unread]

theorem o_last (h : t.val % 8 = 7) : (outsAt0 m c t.val t.isLt).1 = k0_pay4 (outsAt0 m c t.val t.isLt).2 := by
  rw [outsAt0_C m c t (by omega) (by omega) h]
  frame_out

theorem idx : ∀ t : Fin cfg0.N, win0_0.index t = ![t.val % 8, 0] ∧ win0_1.index t = ![t.val % 8, 0] ∧ win0_2.index t = ![0, 0] :=
  (by decide +kernel : ∀ t : Fin grid0.N, _)

theorem read0 (k : Fin 1088) (r : Fin 1024) (h : 1088 * (t.val % 8) + k.val < 8704) :
    ((iblk m c 0 t : Vec Ideal S1088x1024 .bf16) (ix2 k r) : EReal)
      = ((m (c.tc.loc main_arg0) : FVec Ideal S8704x1024 .bf16) (ix2 ⟨1088 * (t.val % 8) + k.val, h⟩ r) : EReal) := by
  blk_point [iblk, V, (idx t).1]

theorem read1 (k : Fin 1088) (d : Fin 1024) (h : 1088 * (t.val % 8) + k.val < 8704) :
    ((iblk m c 1 t : Vec Ideal S1088x1024 .bf16) (ix2 k d) : EReal)
      = ((m (c.tc.loc main_arg1) : FVec Ideal S8704x1024 .bf16) (ix2 ⟨1088 * (t.val % 8) + k.val, h⟩ d) : EReal) := by
  blk_point [iblk, V, (idx t).2.1]

theorem emb2 (r d : Fin 1024) : (win0_2.blk t).view.emb (ix2 r d) = ix2 r d := by
  blk_ext [(idx t).2.2]

end Steps

/-- The array the call leaves. -/
def arr : FVec Ideal S1024x1024 .bf16 := Runs.colsCols (m (c.tc.loc main_arg0)) (m (c.tc.loc main_arg1))

theorem sums (t : Fin cfg0.N) (h : t.val % 8 + 1 = 8) (r d : Fin 1024) :
    (((outsAt0 m c t.val t.isLt).2 : Vec Ideal S1024x1024 .f32) (ix2 r d) : EReal) = arr m c (ix2 r d) :=
  Runs.fold_cols (N := cfg0.N) 8 1088 8704 (by omega) (by omega) (fun _ d => d) (m (c.tc.loc main_arg0)) (m (c.tc.loc main_arg1))
    (fun n h => (outsAt0 m c n h).2) (fun t => iblk m c 0 t) (fun t => iblk m c 1 t)
    (fun t h r d => (congrFun (s_first m c t h) _).trans (pay2_at _ _ r d))
    (fun t h r d => (congrFun (s_next m c t h) _).trans (pay3_at _ _ _ r d)) (read0 m c) (read1 m c) t h r d

theorem final : @Eq (FVec Ideal S1024x1024 .bf16) ((dats m 0 c).arrAt 2 cfg0.N) (arr m c) := by
  refine (dats m 0 c).arrAt_eq_of_covers 2 _ (by decide +kernel) fun t hf y => ?_
  have ht : t.val % 8 = 7 := (flush0_2 t).mp hf
  blk_simp
  rw [after0_2, Runs.eta y]
  refine (congrFun (o_last m c t ht) _).trans ((pay4_at _ _ _).trans ((sums m c t (by omega) _ _).trans ?_))
  exact congrArg (arr m c) (emb2 t (y 0) (y 1)).symm

theorem ref_at (x0 : FVec Ideal S8704x1024 .bf16) (x1 : FVec Ideal S8704x1024 .bf16) (r : Fin 1024) (d : Fin 1024) :
    (val_main_v6 (F := Ideal) x0 x1 (ix2 r d) : EReal) = Runs.colsCols x0 x1 (ix2 r d) := by
  pointwise [val_main_v6, val_main_v5, val_main_v4, val_main_v3, val_main_v1, Runs.colsCols, mul_comm]

/-- The reference's array is the kernel's. -/
theorem result (x0 : FVec Ideal S8704x1024 .bf16) (x1 : FVec Ideal S8704x1024 .bf16)
    (h0 : x0 = m (c.tc.loc main_arg0)) (h1 : x1 = m (c.tc.loc main_arg1)) :
    @Eq (FVec Ideal S1024x1024 .bf16) (val_main_v6 (F := Ideal) x0 x1) (arr m c) := by
  subst h0 h1
  exact Runs.ext_ix2 (ref_at _ _)

end Cert.Kernel8Ideal.Value
-- ==== Proof.Rows9.lean ====
/- The rows' gradient of a product with 1024 by 1024 weights: the array the call leaves, and the reference's. -/
module

public import proofs.«01_k».proof.Proof.Fold
public import proofs.«01_k».proof.Proof.Gen.Kernel9Ideal.Value
public import proofs.«01_k».proof.Proof.Gen.Reference9Ideal.Read
public import Idealize.ShloMosaic.Lib.Pipeline.ValueKit
public import Idealize.ShloMosaic.Lib.WritesUnit
public import Idealize.ShloMosaic.Lib.Pointwise

@[expose] public section

set_option maxRecDepth 16384

noncomputable section

open Idealize.ShloMosaic Idealize.ShloMosaic.TcCoe Idealize.SL.Sem

namespace Cert.Kernel9Ideal.Value

open Cert.Kernel9Ideal Cert.Kernel9Ideal.Gen Cert.Reference9Ideal.Read

theorem pay_at (a : Vec Ideal S2176x1024 .bf16) (b : Vec Ideal S1024x1024 .bf16) (r : Fin 2176) (d : Fin 1024) :
    (k0_pay1 a b (ix2 r d) : EReal) = Runs.rowsRows a b (ix2 r d) := by
  pointwise [k0_pay1, zero_add, Runs.rowsRows]

variable (m : (ℓ : Loc nD τ sig) → Buf (Elt Ideal) ℓ) (c : Dev nD)

section Steps

variable (t : Fin cfg0.N)

theorem lt_N : t.val < 4 := lt_of_lt_of_eq t.isLt N_0

theorem idx : ∀ t : Fin cfg0.N, win0_0.index t = ![t.val, 0] ∧ win0_1.index t = ![0, 0] ∧ win0_2.index t = ![t.val, 0] :=
  (by decide +kernel : ∀ t : Fin grid0.N, _)

/-- The rows of point `n`. -/
def rowOf (n : ℕ) (r : Fin 2176) : Fin 8704 := ⟨n % 4 * 2176 + r.val, by have := Nat.mod_lt n (show 0 < 4 by omega); omega⟩

theorem read0 (r : Fin 2176) (k : Fin 1024) : ((iblk m c 0 t : Vec Ideal S2176x1024 .bf16) (ix2 r k) : EReal)
    = ((m (c.tc.loc main_arg0) : FVec Ideal S8704x1024 .bf16) (ix2 (rowOf t r) k) : EReal) := by
  have ht := lt_N t
  blk_point [iblk, V, (idx t).1, rowOf]

theorem read1 (k d : Fin 1024) : ((iblk m c 1 t : Vec Ideal S1024x1024 .bf16) (ix2 d k) : EReal)
    = ((m (c.tc.loc main_arg1) : FVec Ideal S1024x1024 .bf16) (ix2 d k) : EReal) := by
  blk_point [iblk, V, (idx t).2.1]

theorem emb2 (r : Fin 2176) (d : Fin 1024) : (win0_2.blk t).view.emb (ix2 r d) = ix2 (rowOf t r) d := by
  have ht := lt_N t
  blk_ext [(idx t).2.2, rowOf]

theorem out_eq (a : Vec Ideal S2176x1024 .bf16) (b : Vec Ideal S1024x1024 .bf16) : out0_2 a b = k0_pay1 a b := by
  frame_out

end Steps

/-- The array the call leaves. -/
def arr : FVec Ideal S8704x1024 .bf16 := Runs.rowsRows (m (c.tc.loc main_arg0)) (m (c.tc.loc main_arg1))

theorem final : @Eq (FVec Ideal S8704x1024 .bf16) ((dats m 0 c).arrAt 2 cfg0.N) (arr m c) := by
  refine (dats m 0 c).arrAt_eq_of_covers 2 _ (by decide +kernel) fun t hf y => ?_
  blk_simp
  rw [after0_2, Runs.eta y]
  refine (congrFun (out_eq _ _) _).trans ((pay_at _ _ _ _).trans (Eq.trans ?_ (congrArg (arr m c) (emb2 t (y 0) (y 1)).symm)))
  exact Finset.sum_congr rfl fun k _ => congrArg₂ (fun x y : EReal => x * y) (read0 m c t _ k) (read1 m c t k _)

theorem ref_at (x0 : FVec Ideal S8704x1024 .bf16) (x1 : FVec Ideal S1024x1024 .bf16) (r : Fin 8704) (d : Fin 1024) :
    (val_main_v5 (F := Ideal) x0 x1 (ix2 r d) : EReal) = Runs.rowsRows x0 x1 (ix2 r d) := by
  pointwise [val_main_v5, val_main_v4, val_main_v3, val_main_v1, Runs.rowsRows]

/-- The reference's array is the kernel's. -/
theorem result (x0 : FVec Ideal S8704x1024 .bf16) (x1 : FVec Ideal S1024x1024 .bf16)
    (h0 : x0 = m (c.tc.loc main_arg0)) (h1 : x1 = m (c.tc.loc main_arg1)) :
    @Eq (FVec Ideal S8704x1024 .bf16) (val_main_v5 (F := Ideal) x0 x1) (arr m c) := by
  subst h0 h1
  exact Runs.ext_ix2 (ref_at _ _)

end Cert.Kernel9Ideal.Value
-- ==== Proof.Rows10.lean ====
/- The input projection's first column block: the array the call leaves, and the reference's. -/
module

public import proofs.«01_k».proof.Proof.Fold
public import proofs.«01_k».proof.Proof.Gen.Kernel10Ideal.Value
public import proofs.«01_k».proof.Proof.Gen.Reference10Ideal.Read
public import Idealize.ShloMosaic.Lib.Pipeline.ValueKit
public import Idealize.ShloMosaic.Lib.WritesUnit
public import Idealize.ShloMosaic.Lib.Pointwise

@[expose] public section

set_option maxRecDepth 16384

noncomputable section

open Idealize.ShloMosaic Idealize.ShloMosaic.TcCoe Idealize.SL.Sem

namespace Cert.Kernel10Ideal.Value

open Cert.Kernel10Ideal Cert.Kernel10Ideal.Gen Cert.Reference10Ideal.Read

theorem pay_at (a : Vec Ideal S2176x1024 .bf16) (b : Vec Ideal S1024x1024 .bf16) (r : Fin 2176) (d : Fin 1024) :
    (k0_pay1 a b (ix2 r d) : EReal) = Runs.rowsCols a b (ix2 r d) := by
  pointwise [k0_pay1, zero_add, Runs.rowsCols]

variable (m : (ℓ : Loc nD τ sig) → Buf (Elt Ideal) ℓ) (c : Dev nD)

section Steps

variable (t : Fin cfg0.N)

theorem lt_N : t.val < 4 := lt_of_lt_of_eq t.isLt N_0

theorem idx : ∀ t : Fin cfg0.N, win0_0.index t = ![t.val, 0] ∧ win0_1.index t = ![0, 0] ∧ win0_2.index t = ![t.val, 0] :=
  (by decide +kernel : ∀ t : Fin grid0.N, _)

/-- The rows of point `n`. -/
def rowOf (n : ℕ) (r : Fin 2176) : Fin 8704 := ⟨n % 4 * 2176 + r.val, by have := Nat.mod_lt n (show 0 < 4 by omega); omega⟩

theorem read0 (r : Fin 2176) (k : Fin 1024) : ((iblk m c 0 t : Vec Ideal S2176x1024 .bf16) (ix2 r k) : EReal)
    = ((m (c.tc.loc main_arg0) : FVec Ideal S8704x1024 .bf16) (ix2 (rowOf t r) k) : EReal) := by
  have ht := lt_N t
  blk_point [iblk, V, (idx t).1, rowOf]

theorem read1 (k d : Fin 1024) : ((iblk m c 1 t : Vec Ideal S1024x1024 .bf16) (ix2 k d) : EReal)
    = ((m (c.tc.loc main_arg1) : FVec Ideal S1024x1024 .bf16) (ix2 k d) : EReal) := by
  blk_point [iblk, V, (idx t).2.1]

theorem emb2 (r : Fin 2176) (d : Fin 1024) : (win0_2.blk t).view.emb (ix2 r d) = ix2 (rowOf t r) d := by
  have ht := lt_N t
  blk_ext [(idx t).2.2, rowOf]

theorem out_eq (a : Vec Ideal S2176x1024 .bf16) (b : Vec Ideal S1024x1024 .bf16) : out0_2 a b = k0_pay1 a b := by
  frame_out

end Steps

/-- The array the call leaves. -/
def arr : FVec Ideal S8704x1024 .f32 := Runs.rowsCols (m (c.tc.loc main_arg0)) (m (c.tc.loc main_arg1))

theorem final : @Eq (FVec Ideal S8704x1024 .f32) ((dats m 0 c).arrAt 2 cfg0.N) (arr m c) := by
  refine (dats m 0 c).arrAt_eq_of_covers 2 _ (by decide +kernel) fun t hf y => ?_
  blk_simp
  rw [after0_2, Runs.eta y]
  refine (congrFun (out_eq _ _) _).trans ((pay_at _ _ _ _).trans (Eq.trans ?_ (congrArg (arr m c) (emb2 t (y 0) (y 1)).symm)))
  exact Finset.sum_congr rfl fun k _ => congrArg₂ (fun x y : EReal => x * y) (read0 m c t _ k) (read1 m c t k _)

theorem ref_at (x0 : FVec Ideal S8704x1024 .bf16) (x1 : FVec Ideal S1024x1024 .bf16) (r : Fin 8704) (d : Fin 1024) :
    (val_main_v2 (F := Ideal) x0 x1 (ix2 r d) : EReal) = Runs.rowsCols x0 x1 (ix2 r d) := by
  pointwise [val_main_v2, val_main_v1, val_main_v0, Runs.rowsCols]

/-- The reference's array is the kernel's. -/
theorem result (x0 : FVec Ideal S8704x1024 .bf16) (x1 : FVec Ideal S1024x1024 .bf16)
    (h0 : x0 = m (c.tc.loc main_arg0)) (h1 : x1 = m (c.tc.loc main_arg1)) :
    @Eq (FVec Ideal S8704x1024 .f32) (val_main_v2 (F := Ideal) x0 x1) (arr m c) := by
  subst h0 h1
  exact Runs.ext_ix2 (ref_at _ _)

end Cert.Kernel10Ideal.Value
-- ==== Proof.Rows11.lean ====
/- The input projection's column blocks of 1024, and the other products with 1024 by 1024 weights: the array the call leaves, and the reference's. -/
module

public import proofs.«01_k».proof.Proof.Fold
public import proofs.«01_k».proof.Proof.Gen.Kernel11Ideal.Value
public import proofs.«01_k».proof.Proof.Gen.Reference11Ideal.Read
public import Idealize.ShloMosaic.Lib.Pipeline.ValueKit
public import Idealize.ShloMosaic.Lib.WritesUnit
public import Idealize.ShloMosaic.Lib.Pointwise

@[expose] public section

set_option maxRecDepth 16384

noncomputable section

open Idealize.ShloMosaic Idealize.ShloMosaic.TcCoe Idealize.SL.Sem

namespace Cert.Kernel11Ideal.Value

open Cert.Kernel11Ideal Cert.Kernel11Ideal.Gen Cert.Reference11Ideal.Read

theorem pay_at (a : Vec Ideal S2176x1024 .bf16) (b : Vec Ideal S1024x1024 .bf16) (r : Fin 2176) (d : Fin 1024) :
    (k0_pay1 a b (ix2 r d) : EReal) = Runs.rowsCols a b (ix2 r d) := by
  pointwise [k0_pay1, zero_add, Runs.rowsCols]

variable (m : (ℓ : Loc nD τ sig) → Buf (Elt Ideal) ℓ) (c : Dev nD)

section Steps

variable (t : Fin cfg0.N)

theorem lt_N : t.val < 4 := lt_of_lt_of_eq t.isLt N_0

theorem idx : ∀ t : Fin cfg0.N, win0_0.index t = ![t.val, 0] ∧ win0_1.index t = ![0, 0] ∧ win0_2.index t = ![t.val, 0] :=
  (by decide +kernel : ∀ t : Fin grid0.N, _)

/-- The rows of point `n`. -/
def rowOf (n : ℕ) (r : Fin 2176) : Fin 8704 := ⟨n % 4 * 2176 + r.val, by have := Nat.mod_lt n (show 0 < 4 by omega); omega⟩

theorem read0 (r : Fin 2176) (k : Fin 1024) : ((iblk m c 0 t : Vec Ideal S2176x1024 .bf16) (ix2 r k) : EReal)
    = ((m (c.tc.loc main_arg0) : FVec Ideal S8704x1024 .bf16) (ix2 (rowOf t r) k) : EReal) := by
  have ht := lt_N t
  blk_point [iblk, V, (idx t).1, rowOf]

theorem read1 (k d : Fin 1024) : ((iblk m c 1 t : Vec Ideal S1024x1024 .bf16) (ix2 k d) : EReal)
    = ((m (c.tc.loc main_arg1) : FVec Ideal S1024x1024 .bf16) (ix2 k d) : EReal) := by
  blk_point [iblk, V, (idx t).2.1]

theorem emb2 (r : Fin 2176) (d : Fin 1024) : (win0_2.blk t).view.emb (ix2 r d) = ix2 (rowOf t r) d := by
  have ht := lt_N t
  blk_ext [(idx t).2.2, rowOf]

theorem out_eq (a : Vec Ideal S2176x1024 .bf16) (b : Vec Ideal S1024x1024 .bf16) : out0_2 a b = k0_pay1 a b := by
  frame_out

end Steps

/-- The array the call leaves. -/
def arr : FVec Ideal S8704x1024 .bf16 := Runs.rowsCols (m (c.tc.loc main_arg0)) (m (c.tc.loc main_arg1))

theorem final : @Eq (FVec Ideal S8704x1024 .bf16) ((dats m 0 c).arrAt 2 cfg0.N) (arr m c) := by
  refine (dats m 0 c).arrAt_eq_of_covers 2 _ (by decide +kernel) fun t hf y => ?_
  blk_simp
  rw [after0_2, Runs.eta y]
  refine (congrFun (out_eq _ _) _).trans ((pay_at _ _ _ _).trans (Eq.trans ?_ (congrArg (arr m c) (emb2 t (y 0) (y 1)).symm)))
  exact Finset.sum_congr rfl fun k _ => congrArg₂ (fun x y : EReal => x * y) (read0 m c t _ k) (read1 m c t k _)

theorem ref_at (x0 : FVec Ideal S8704x1024 .bf16) (x1 : FVec Ideal S1024x1024 .bf16) (r : Fin 8704) (d : Fin 1024) :
    (val_main_v3 (F := Ideal) x0 x1 (ix2 r d) : EReal) = Runs.rowsCols x0 x1 (ix2 r d) := by
  pointwise [val_main_v3, val_main_v2, val_main_v1, val_main_v0, Runs.rowsCols]

/-- The reference's array is the kernel's. -/
theorem result (x0 : FVec Ideal S8704x1024 .bf16) (x1 : FVec Ideal S1024x1024 .bf16)
    (h0 : x0 = m (c.tc.loc main_arg0)) (h1 : x1 = m (c.tc.loc main_arg1)) :
    @Eq (FVec Ideal S8704x1024 .bf16) (val_main_v3 (F := Ideal) x0 x1) (arr m c) := by
  subst h0 h1
  exact Runs.ext_ix2 (ref_at _ _)

end Cert.Kernel11Ideal.Value
-- ==== Proof.Rows12.lean ====
/- The input projection's column blocks of 512: the array the call leaves, and the reference's. -/
module

public import proofs.«01_k».proof.Proof.Fold
public import proofs.«01_k».proof.Proof.Gen.Kernel12Ideal.Value
public import proofs.«01_k».proof.Proof.Gen.Reference12Ideal.Read
public import Idealize.ShloMosaic.Lib.Pipeline.ValueKit
public import Idealize.ShloMosaic.Lib.WritesUnit
public import Idealize.ShloMosaic.Lib.Pointwise

@[expose] public section

set_option maxRecDepth 16384

noncomputable section

open Idealize.ShloMosaic Idealize.ShloMosaic.TcCoe Idealize.SL.Sem

namespace Cert.Kernel12Ideal.Value

open Cert.Kernel12Ideal Cert.Kernel12Ideal.Gen Cert.Reference12Ideal.Read

theorem pay_at (a : Vec Ideal S2176x1024 .bf16) (b : Vec Ideal S1024x512 .bf16) (r : Fin 2176) (d : Fin 512) :
    (k0_pay1 a b (ix2 r d) : EReal) = Runs.rowsCols a b (ix2 r d) := by
  pointwise [k0_pay1, zero_add, Runs.rowsCols]

variable (m : (ℓ : Loc nD τ sig) → Buf (Elt Ideal) ℓ) (c : Dev nD)

section Steps

variable (t : Fin cfg0.N)

theorem lt_N : t.val < 4 := lt_of_lt_of_eq t.isLt N_0

theorem idx : ∀ t : Fin cfg0.N, win0_0.index t = ![t.val, 0] ∧ win0_1.index t = ![0, 0] ∧ win0_2.index t = ![t.val, 0] :=
  (by decide +kernel : ∀ t : Fin grid0.N, _)

/-- The rows of point `n`. -/
def rowOf (n : ℕ) (r : Fin 2176) : Fin 8704 := ⟨n % 4 * 2176 + r.val, by have := Nat.mod_lt n (show 0 < 4 by omega); omega⟩

theorem read0 (r : Fin 2176) (k : Fin 1024) : ((iblk m c 0 t : Vec Ideal S2176x1024 .bf16) (ix2 r k) : EReal)
    = ((m (c.tc.loc main_arg0) : FVec Ideal S8704x1024 .bf16) (ix2 (rowOf t r) k) : EReal) := by
  have ht := lt_N t
  blk_point [iblk, V, (idx t).1, rowOf]

theorem read1 (k : Fin 1024) (d : Fin 512) : ((iblk m c 1 t : Vec Ideal S1024x512 .bf16) (ix2 k d) : EReal)
    = ((m (c.tc.loc main_arg1) : FVec Ideal S1024x512 .bf16) (ix2 k d) : EReal) := by
  blk_point [iblk, V, (idx t).2.1]

theorem emb2 (r : Fin 2176) (d : Fin 512) : (win0_2.blk t).view.emb (ix2 r d) = ix2 (rowOf t r) d := by
  have ht := lt_N t
  blk_ext [(idx t).2.2, rowOf]

theorem out_eq (a : Vec Ideal S2176x1024 .bf16) (b : Vec Ideal S1024x512 .bf16) : out0_2 a b = k0_pay1 a b := by
  frame_out

end Steps

/-- The array the call leaves. -/
def arr : FVec Ideal S8704x512 .bf16 := Runs.rowsCols (m (c.tc.loc main_arg0)) (m (c.tc.loc main_arg1))

theorem final : @Eq (FVec Ideal S8704x512 .bf16) ((dats m 0 c).arrAt 2 cfg0.N) (arr m c) := by
  refine (dats m 0 c).arrAt_eq_of_covers 2 _ (by decide +kernel) fun t hf y => ?_
  blk_simp
  rw [after0_2, Runs.eta y]
  refine (congrFun (out_eq _ _) _).trans ((pay_at _ _ _ _).trans (Eq.trans ?_ (congrArg (arr m c) (emb2 t (y 0) (y 1)).symm)))
  exact Finset.sum_congr rfl fun k _ => congrArg₂ (fun x y : EReal => x * y) (read0 m c t _ k) (read1 m c t k _)

theorem ref_at (x0 : FVec Ideal S8704x1024 .bf16) (x1 : FVec Ideal S1024x512 .bf16) (r : Fin 8704) (d : Fin 512) :
    (val_main_v3 (F := Ideal) x0 x1 (ix2 r d) : EReal) = Runs.rowsCols x0 x1 (ix2 r d) := by
  pointwise [val_main_v3, val_main_v2, val_main_v1, val_main_v0, Runs.rowsCols]

/-- The reference's array is the kernel's. -/
theorem result (x0 : FVec Ideal S8704x1024 .bf16) (x1 : FVec Ideal S1024x512 .bf16)
    (h0 : x0 = m (c.tc.loc main_arg0)) (h1 : x1 = m (c.tc.loc main_arg1)) :
    @Eq (FVec Ideal S8704x512 .bf16) (val_main_v3 (F := Ideal) x0 x1) (arr m c) := by
  subst h0 h1
  exact Runs.ext_ix2 (ref_at _ _)

end Cert.Kernel12Ideal.Value
-- ==== Proof.Rows13.lean ====
/- The input projection's column block of 3072: the array the call leaves, and the reference's. -/
module

public import proofs.«01_k».proof.Proof.Fold
public import proofs.«01_k».proof.Proof.Gen.Kernel13Ideal.Value
public import proofs.«01_k».proof.Proof.Gen.Reference13Ideal.Read
public import Idealize.ShloMosaic.Lib.Pipeline.ValueKit
public import Idealize.ShloMosaic.Lib.WritesUnit
public import Idealize.ShloMosaic.Lib.Pointwise

@[expose] public section

set_option maxRecDepth 16384

noncomputable section

open Idealize.ShloMosaic Idealize.ShloMosaic.TcCoe Idealize.SL.Sem

namespace Cert.Kernel13Ideal.Value

open Cert.Kernel13Ideal Cert.Kernel13Ideal.Gen Cert.Reference13Ideal.Read

theorem pay_at (a : Vec Ideal S2176x1024 .bf16) (b : Vec Ideal S1024x1024 .bf16) (r : Fin 2176) (d : Fin 1024) :
    (k0_pay1 a b (ix2 r d) : EReal) = Runs.rowsCols a b (ix2 r d) := by
  pointwise [k0_pay1, zero_add, Runs.rowsCols]

variable (m : (ℓ : Loc nD τ sig) → Buf (Elt Ideal) ℓ) (c : Dev nD)

section Steps

variable (t : Fin cfg0.N)

theorem lt_N : t.val < 12 := lt_of_lt_of_eq t.isLt N_0

theorem idx : ∀ t : Fin cfg0.N, win0_0.index t = ![t.val / 3, 0] ∧ win0_1.index t = ![0, t.val % 3] ∧ win0_2.index t = ![t.val / 3, t.val % 3] :=
  (by decide +kernel : ∀ t : Fin grid0.N, _)

/-- The rows of point `n`. -/
def rowOf (n : ℕ) (r : Fin 2176) : Fin 8704 := ⟨n / 3 % 4 * 2176 + r.val, by have := Nat.mod_lt (n / 3) (show 0 < 4 by omega); omega⟩

/-- Its columns. -/
def colOf (n : ℕ) (d : Fin 1024) : Fin 3072 := ⟨n % 3 * 1024 + d.val, by have := Nat.mod_lt n (show 0 < 3 by omega); omega⟩

theorem read0 (r : Fin 2176) (k : Fin 1024) : ((iblk m c 0 t : Vec Ideal S2176x1024 .bf16) (ix2 r k) : EReal)
    = ((m (c.tc.loc main_arg0) : FVec Ideal S8704x1024 .bf16) (ix2 (rowOf t r) k) : EReal) := by
  have ht := lt_N t
  blk_point [iblk, V, (idx t).1, rowOf]

theorem read1 (k d : Fin 1024) : ((iblk m c 1 t : Vec Ideal S1024x1024 .bf16) (ix2 k d) : EReal)
    = ((m (c.tc.loc main_arg1) : FVec Ideal S1024x3072 .bf16) (ix2 k (colOf t d)) : EReal) := by
  have ht := lt_N t
  blk_point [iblk, V, (idx t).2.1, colOf]

theorem emb2 (r : Fin 2176) (d : Fin 1024) : (win0_2.blk t).view.emb (ix2 r d) = ix2 (rowOf t r) (colOf t d) := by
  have ht := lt_N t
  blk_ext [(idx t).2.2, rowOf, colOf]

theorem out_eq (a : Vec Ideal S2176x1024 .bf16) (b : Vec Ideal S1024x1024 .bf16) : out0_2 a b = k0_pay1 a b := by
  frame_out

end Steps

/-- The array the call leaves. -/
def arr : FVec Ideal S8704x3072 .bf16 := Runs.rowsCols (m (c.tc.loc main_arg0)) (m (c.tc.loc main_arg1))

theorem final : @Eq (FVec Ideal S8704x3072 .bf16) ((dats m 0 c).arrAt 2 cfg0.N) (arr m c) := by
  refine (dats m 0 c).arrAt_eq_of_covers 2 _ (by decide +kernel) fun t hf y => ?_
  blk_simp
  rw [after0_2, Runs.eta y]
  refine (congrFun (out_eq _ _) _).trans ((pay_at _ _ _ _).trans (Eq.trans ?_ (congrArg (arr m c) (emb2 t (y 0) (y 1)).symm)))
  exact Finset.sum_congr rfl fun k _ => congrArg₂ (fun x y : EReal => x * y) (read0 m c t _ k) (read1 m c t k _)

theorem ref_at (x0 : FVec Ideal S8704x1024 .bf16) (x1 : FVec Ideal S1024x3072 .bf16) (r : Fin 8704) (d : Fin 3072) :
    (val_main_v3 (F := Ideal) x0 x1 (ix2 r d) : EReal) = Runs.rowsCols x0 x1 (ix2 r d) := by
  pointwise [val_main_v3, val_main_v2, val_main_v1, val_main_v0, Runs.rowsCols]

/-- The reference's array is the kernel's. -/
theorem result (x0 : FVec Ideal S8704x1024 .bf16) (x1 : FVec Ideal S1024x3072 .bf16)
    (h0 : x0 = m (c.tc.loc main_arg0)) (h1 : x1 = m (c.tc.loc main_arg1)) :
    @Eq (FVec Ideal S8704x3072 .bf16) (val_main_v3 (F := Ideal) x0 x1) (arr m c) := by
  subst h0 h1
  exact Runs.ext_ix2 (ref_at _ _)

end Cert.Kernel13Ideal.Value
-- ==== Proof.Online.lean ====
/- A softmax row taken chunk by chunk, in base 2: the running sum of weights and the running weighted sum of values are
   those of the keys seen so far, whatever real number is subtracted from the scores; and what comes out at the end is
   the softmax. Nothing here mentions a program. -/
module

public import proofs.«01_k».proof.Proof.Softmax

@[expose] public section

noncomputable section

namespace Attn

open Idealize.ShloMosaic

/-- A real factor that is not negative goes into a sum of extended reals. -/
theorem coe_mul_sum {ι : Type*} (t : Finset ι) (c : ℝ) (hc : 0 ≤ c) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha,
      EReal.left_distrib_of_nonneg_of_ne_top (EReal.coe_nonneg.mpr hc) (EReal.coe_ne_top c), ih]

/-! ## The keys seen so far -/

/-- The first `a` keys of `N`. -/
def seen (N a : ℕ) : Finset (Fin N) := Finset.univ.filter fun j => j.val < a

theorem seen_all (N : ℕ) : seen N N = Finset.univ := Finset.filter_true_of_mem fun j _ => j.isLt

/-- A sum over the first `a + n` keys is that over the first `a` and the one over the next chunk of `n`. -/
theorem sum_seen {M : Type*} [AddCommMonoid M] {N : ℕ} (f : Fin N → M) (a n : ℕ) (h : a + n ≤ N) :
    ∑ j ∈ seen N (a + n), f j = ∑ j ∈ seen N a, f j + ∑ x : Fin n, f ⟨a + x.val, by omega⟩ := by
  classical
  have inj : Function.Injective fun x : Fin n => (⟨a + x.val, by omega⟩ : Fin N) := fun x y e =>
    Fin.ext (Nat.add_left_cancel (congrArg Fin.val e))
  have e : seen N (a + n) = seen N a ∪ Finset.univ.map ⟨_, inj⟩ := by
    ext j
    simp only [seen, Finset.mem_filter, Finset.mem_univ, true_and, Finset.mem_union, Finset.mem_map, Function.Embedding.coeFn_mk]
    constructor
    · intro hj
      by_cases hj' : j.val < a
      · exact Or.inl hj'
      · exact Or.inr ⟨⟨j.val - a, by omega⟩, Fin.ext (by show a + (j.val - a) = j.val; omega)⟩
    · rintro (hj | ⟨x, rfl⟩)
      · omega
      · show a + x.val < a + n; omega
  have d : Disjoint (seen N a) (Finset.univ.map ⟨_, inj⟩) := by
    rw [Finset.disjoint_left]
    intro j hj hj'
    obtain ⟨x, -, rfl⟩ := Finset.mem_map.mp hj'
    have : a + x.val < a := (Finset.mem_filter.mp hj).2
    omega
  rw [e, Finset.sum_union d, Finset.sum_map]
  rfl

/-! ## Sums of weights -/

section weights

variable {J : Type} (S : J → ℝ) (V : J → EReal)

/-- The weights `2 ^ (S - m)` of some keys, added. -/
def wsum (m : ℝ) (t : Finset J) : ℝ := ∑ j ∈ t, (2 : ℝ) ^ (S j - m)

/-- The values of some keys by their weights, added. -/
def vsum (m : ℝ) (t : Finset J) : EReal := ∑ j ∈ t, (((2 : ℝ) ^ (S j - m) : ℝ) : EReal) * V j

theorem rescale (m m' : ℝ) (j : J) : (2 : ℝ) ^ (m - m') * (2 : ℝ) ^ (S j - m) = (2 : ℝ) ^ (S j - m') := by
  rw [← Real.rpow_add two_pos]
  congr 1
  ring

/-- To subtract another number, the sum of weights takes one factor. -/
theorem wsum_rescale (m m' : ℝ) (t : Finset J) : (2 : ℝ) ^ (m - m') * wsum S m t = wsum S m' t := by
  unfold wsum
  rw [Finset.mul_sum]
  exact Finset.sum_congr rfl fun j _ => rescale S m m' j

/-- To subtract another number, the weighted sum of values takes the same factor. -/
theorem vsum_rescale (m m' : ℝ) (t : Finset J) :
    (((2 : ℝ) ^ (m - m') : ℝ) : EReal) * vsum S V m t = vsum S V m' t := by
  unfold vsum
  rw [coe_mul_sum _ _ (Real.rpow_nonneg two_pos.le _)]
  refine Finset.sum_congr rfl fun j _ => ?_
  rw [← mul_assoc, ← EReal.coe_mul, rescale]

end weights

/-! ## The softmax -/

section row

variable {J : Type} [Fintype J] [Nonempty J] (s S : J → ℝ) (V : J → EReal) (m : ℝ)

theorem two_rpow_wgt (hS : ∀ j, S j = s j / Real.log 2) (j : J) :
    (2 : ℝ) ^ (S j - m) = Real.exp (top s - Real.log 2 * m) * wgt s j := by
  have h2 : Real.log 2 ≠ 0 := (Real.log_pos one_lt_two).ne'
  rw [Real.rpow_def_of_pos two_pos, wgt, ← Real.exp_add, hS]
  congr 1
  field_simp
  ring

theorem wsum_all (hS : ∀ j, S j = s j / Real.log 2) :
    wsum S m Finset.univ = Real.exp (top s - Real.log 2 * m) * tot s := by
  unfold wsum tot
  rw [Finset.mul_sum]
  exact Finset.sum_congr rfl fun j _ => two_rpow_wgt s S m hS j

theorem wsum_pos : 0 < wsum S m Finset.univ :=
  Finset.sum_pos (fun _ _ => Real.rpow_pos_of_pos two_pos _) Finset.univ_nonempty

/-- The weighted sum of values over the sum of weights is the softmax against the values. -/
theorem vsum_div (hS : ∀ j, S j = s j / Real.log 2) :
    vsum S V m Finset.univ * Ideal.div 1 ((wsum S m Finset.univ : ℝ) : EReal) = ∑ j, V j * ((prob s j : ℝ) : EReal) := by
  have hl := wsum_pos S m
  rw [← EReal.coe_one, div_coe hl.ne', mul_comm]
  unfold vsum
  rw [coe_mul_sum _ _ (one_div_nonneg.mpr hl.le)]
  refine Finset.sum_congr rfl fun j _ => ?_
  rw [← mul_assoc, ← EReal.coe_mul, mul_comm]
  congr 2
  rw [wsum_all s S m hS, two_rpow_wgt s S m hS j, prob]
  have h1 := (Real.exp_pos (top s - Real.log 2 * m)).ne'
  have h3 := tot_ne s
  field_simp

/-- The number subtracted and the logarithm of the sum of weights make the row's log-sum in base 2. -/
theorem add_log_wsum (hS : ∀ j, S j = s j / Real.log 2) :
    m + Real.log (wsum S m Finset.univ) * (Real.log 2)⁻¹ = (top s + Real.log (tot s)) / Real.log 2 := by
  have h2 : Real.log 2 ≠ 0 := (Real.log_pos one_lt_two).ne'
  rw [wsum_all s S m hS, Real.log_mul (Real.exp_pos _).ne' (tot_ne s), Real.log_exp]
  field_simp
  ring

end row

end Attn
-- ==== Proof.Fwd.lean ====
/- The forward call on one block of 256 rows: what it carries from chunk to chunk of keys, and what it makes of it, as array
   functions; and that they hold the sums of `Online` when the scores hold real numbers. `L` is a chunk of 1024 keys, `C` the 256
   keys of the context. -/
module

public import proofs.«01_k».proof.Proof.Gen.Kernel14Ideal.Skeleton
public import proofs.«01_k».proof.Proof.Online
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.Kernel14Ideal.Fwd

open Cert.Kernel14Ideal Cert.Kernel14Ideal.Gen

/-- The scale of the scores, in base 2. -/
theorem c2_eq : (Named.named κ "c2" 0x3E0293EE#32 : Ideal .f32) = (((Real.log 2)⁻¹ * Attn.sc : ℝ) : EReal) := rfl

/-- What takes a natural logarithm to base 2. -/
theorem r2_eq : (Named.named κ "r2" 0x3FB8AA3B#32 : Ideal .f32) = (((Real.log 2)⁻¹ : ℝ) : EReal) := rfl

/-! ## The operations -/

/-- What is carried: the greatest score so far, the sum of weights and the weighted sum of values. -/
structure St where
  m : FVec Ideal S256x1 .f32
  l : FVec Ideal S256x1 .f32
  a : FVec Ideal S256x128 .f32

/-- The scores against a chunk. -/
def sL (q : Vec Ideal S1x256x128 .bf16) (k : Vec Ideal S1x1024x128 .bf16) : FVec Ideal S256x1024 .f32 := k0_pay7 q k
def sC (q k : Vec Ideal S1x256x128 .bf16) : FVec Ideal S256x256 .f32 := k0_pay34 q k

/-- A chunk's greatest scores. -/
def mL (s : FVec Ideal S256x1024 .f32) : FVec Ideal S256x1 .f32 :=
  shapeCast S256x1 (multiReduction .maximumf [1] S256 s 0xFF800000#32 reduces_S256x1024_S256 (.inl rfl) rfl) shapeCasts_S256_S256x1
def mC (s : FVec Ideal S256x256 .f32) : FVec Ideal S256x1 .f32 :=
  shapeCast S256x1 (multiReduction .maximumf [1] S256 s 0xFF800000#32 reduces_S256x256_S256 (.inl rfl) rfl) shapeCasts_S256_S256x1

/-- A chunk's weights. -/
def pL (s : FVec Ideal S256x1024 .f32) (m : FVec Ideal S256x1 .f32) : FVec Ideal S256x1024 .f32 :=
  exp2 (subf s (broadcastTo S256x1024 m broadcasts_S256x1_S256x1024))
def pC (s : FVec Ideal S256x256 .f32) (m : FVec Ideal S256x1 .f32) : FVec Ideal S256x256 .f32 :=
  exp2 (subf s (broadcastTo S256x256 m broadcasts_S256x1_S256x256))

/-- A chunk's sums of weights. -/
def lL (p : FVec Ideal S256x1024 .f32) : FVec Ideal S256x1 .f32 :=
  shapeCast S256x1 (multiReduction .add [1] S256 p 0x00000000#32 reduces_S256x1024_S256 (.inl rfl) rfl) shapeCasts_S256_S256x1
def lC (p : FVec Ideal S256x256 .f32) : FVec Ideal S256x1 .f32 :=
  shapeCast S256x1 (multiReduction .add [1] S256 p 0x00000000#32 reduces_S256x256_S256 (.inl rfl) rfl) shapeCasts_S256_S256x1

/-- A chunk's weighted sums of values. -/
def aL (p : FVec Ideal S256x1024 .f32) (v : Vec Ideal S1x1024x128 .bf16) : FVec Ideal S256x128 .f32 :=
  matmul dot_S256x1024_S1024x128_S256x128_1_0_0_1_n_n none (truncf .bf16 p bitsLt_bf16_f32 : FVec Ideal S256x1024 .bf16)
    (shapeCast S1024x128 v shapeCasts_S1x1024x128_S1024x128 : FVec Ideal S1024x128 .bf16) (constant S256x128 .f32 0x00000000#32)
def aC (p : FVec Ideal S256x256 .f32) (v : Vec Ideal S1x256x128 .bf16) : FVec Ideal S256x128 .f32 :=
  matmul dot_S256x256_S256x128_S256x128_1_0_0_1_n_n none (truncf .bf16 p bitsLt_bf16_f32 : FVec Ideal S256x256 .bf16)
    (shapeCast S256x128 v shapeCasts_S1x256x128_S256x128 : FVec Ideal S256x128 .bf16) (constant S256x128 .f32 0x00000000#32)

/-- What is carried, for a new greatest score. -/
def rescale (x : St) (m : FVec Ideal S256x1 .f32) : St where
  m := m
  l := mulf (exp2 (subf x.m m)) x.l
  a := mulf (broadcastTo S256x128 (exp2 (subf x.m m)) broadcasts_S256x1_S256x128) x.a

/-- The first chunk. -/
def firstL (s : FVec Ideal S256x1024 .f32) (v : Vec Ideal S1x1024x128 .bf16) : St := ⟨mL s, lL (pL s (mL s)), aL (pL s (mL s)) v⟩
def firstC (s : FVec Ideal S256x256 .f32) (v : Vec Ideal S1x256x128 .bf16) : St := ⟨mC s, lC (pC s (mC s)), aC (pC s (mC s)) v⟩

/-- A further chunk. -/
def nextL (x : St) (s : FVec Ideal S256x1024 .f32) (v : Vec Ideal S1x1024x128 .bf16) : St :=
  ⟨maximumf x.m (mL s), addf (rescale x (maximumf x.m (mL s))).l (lL (pL s (maximumf x.m (mL s)))),
    addf (rescale x (maximumf x.m (mL s))).a (aL (pL s (maximumf x.m (mL s))) v)⟩
def nextC (x : St) (s : FVec Ideal S256x256 .f32) (v : Vec Ideal S1x256x128 .bf16) : St :=
  ⟨maximumf x.m (mC s), addf (rescale x (maximumf x.m (mC s))).l (lC (pC s (maximumf x.m (mC s)))),
    addf (rescale x (maximumf x.m (mC s))).a (aC (pC s (maximumf x.m (mC s))) v)⟩

/-- The attention's output. -/
def out (x : St) : FVec Ideal S256x128 .f32 :=
  mulf x.a (broadcastTo S256x128 (divf (broadcast S256x1 (Scalar.ofBits .f32 0x3F800000#32)) x.l) broadcasts_S256x1_S256x128)

/-! ## At an index -/

theorem sL_at (q : Vec Ideal S1x256x128 .bf16) (k : Vec Ideal S1x1024x128 .bf16) (r : Fin 256) (j : Fin 1024) :
    (sL q k (ix2 r j) : EReal)
      = (∑ d, (q (ix3 0 r d) : EReal) * (k (ix3 0 j d) : EReal)) * (Named.named κ "c2" 0x3E0293EE#32 : Ideal .f32) := by
  pointwise [sL, k0_pay7, k0_pay6]

theorem sC_at (q k : Vec Ideal S1x256x128 .bf16) (r : Fin 256) (j : Fin 256) :
    (sC q k (ix2 r j) : EReal)
      = (∑ d, (q (ix3 0 r d) : EReal) * (k (ix3 0 j d) : EReal)) * (Named.named κ "c2" 0x3E0293EE#32 : Ideal .f32) := by
  pointwise [sC, k0_pay34]

theorem mL_at (s : FVec Ideal S256x1024 .f32) (r : Fin 256) :
    (mL s (ix2 r 0) : EReal) = Finset.univ.fold max (Ideal.ofBits .f32 0xFF800000#32) fun j => (s (ix2 r j) : EReal) := by
  pointwise [mL]

theorem mC_at (s : FVec Ideal S256x256 .f32) (r : Fin 256) :
    (mC s (ix2 r 0) : EReal) = Finset.univ.fold max (Ideal.ofBits .f32 0xFF800000#32) fun j => (s (ix2 r j) : EReal) := by
  pointwise [mC]

theorem pL_at (s : FVec Ideal S256x1024 .f32) (m : FVec Ideal S256x1 .f32) (r : Fin 256) (j : Fin 1024) :
    (pL s m (ix2 r j) : EReal) = Ideal.exp2 ((s (ix2 r j) : EReal) - (m (ix2 r 0) : EReal)) := by
  pointwise [pL]
  rfl

theorem pC_at (s : FVec Ideal S256x256 .f32) (m : FVec Ideal S256x1 .f32) (r : Fin 256) (j : Fin 256) :
    (pC s m (ix2 r j) : EReal) = Ideal.exp2 ((s (ix2 r j) : EReal) - (m (ix2 r 0) : EReal)) := by
  pointwise [pC]
  rfl

theorem lL_at (p : FVec Ideal S256x1024 .f32) (r : Fin 256) : (lL p (ix2 r 0) : EReal) = ∑ j, (p (ix2 r j) : EReal) := by
  pointwise [lL]

theorem lC_at (p : FVec Ideal S256x256 .f32) (r : Fin 256) : (lC p (ix2 r 0) : EReal) = ∑ j, (p (ix2 r j) : EReal) := by
  pointwise [lC]

theorem aL_at (p : FVec Ideal S256x1024 .f32) (v : Vec Ideal S1x1024x128 .bf16) (r : Fin 256) (d : Fin 128) :
    (aL p v (ix2 r d) : EReal) = ∑ j, (p (ix2 r j) : EReal) * (v (ix3 0 j d) : EReal) := by
  pointwise [aL]

theorem aC_at (p : FVec Ideal S256x256 .f32) (v : Vec Ideal S1x256x128 .bf16) (r : Fin 256) (d : Fin 128) :
    (aC p v (ix2 r d) : EReal) = ∑ j, (p (ix2 r j) : EReal) * (v (ix3 0 j d) : EReal) := by
  pointwise [aC]

theorem rescale_l (x : St) (m : FVec Ideal S256x1 .f32) (r : Fin 256) :
    ((rescale x m).l (ix2 r 0) : EReal) = Ideal.exp2 ((x.m (ix2 r 0) : EReal) - (m (ix2 r 0) : EReal)) * (x.l (ix2 r 0) : EReal) := rfl

theorem rescale_a (x : St) (m : FVec Ideal S256x1 .f32) (r : Fin 256) (d : Fin 128) :
    ((rescale x m).a (ix2 r d) : EReal) = Ideal.exp2 ((x.m (ix2 r 0) : EReal) - (m (ix2 r 0) : EReal)) * (x.a (ix2 r d) : EReal) := by
  pointwise [rescale]
  rfl

theorem out_at (x : St) (r : Fin 256) (d : Fin 128) :
    (out x (ix2 r d) : EReal) = (x.a (ix2 r d) : EReal) * Ideal.div (Ideal.ofBits .f32 0x3F800000#32) (x.l (ix2 r 0)) := by
  pointwise [out]

theorem o_at (y : FVec Ideal S256x128 .f32) (r : Fin 256) (d : Fin 128) : (k0_pay1 y (ix3 0 r d) : EReal) = y (ix2 r d) := by
  pointwise [k0_pay1]

theorem z_at (y : FVec Ideal S256x128 .f32) (g : Vec Ideal S1x256x128 .bf16) (r : Fin 256) (d : Fin 128) :
    (k0_pay2 y g (ix3 0 r d) : EReal)
      = (y (ix2 r d) : EReal) * ((g (ix3 0 r d) : EReal) * Ideal.logistic (g (ix3 0 r d))) := by
  pointwise [k0_pay2]

theorem lse_at (m l : FVec Ideal S256x1 .f32) (r : Fin 256) :
    (k0_pay3 m l (ix4 0 0 0 r) : EReal)
      = (m (ix2 r 0) : EReal) + Ideal.log (l (ix2 r 0)) * (Named.named κ "r2" 0x3FB8AA3B#32 : Ideal .f32) := by
  pointwise [k0_pay3]

end Cert.Kernel14Ideal.Fwd
-- ==== Proof.FwdPoint.lean ====
/- What the forward call stores at each grid point: the gated output, the output and the rows' log-sums, from its blocks. -/
module

public import proofs.«01_k».proof.Proof.Fwd
public import proofs.«01_k».proof.Proof.Gen.Kernel14Ideal.Frame
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.Kernel14Ideal.Fwd

open Cert.Kernel14Ideal Cert.Kernel14Ideal.Gen

/-- 1024 keys from key `o` on are keys of the array. -/
abbrev InL (o : ℕ) : Prop := ∀ a, (![0, o, 0] : Fin 3 → ℕ) a + (![1, 1024, 128] : Fin 3 → ℕ) a ≤ S1x4352x128.size a

/-- 1024 keys from key `o` on. -/
abbrev rL (o : ℕ) (h : InL o) : Rect S1x4352x128 :=
  Rect.unit ![0, o, 0] ![1, 1024, 128] h

/-- The context's keys. -/
abbrev rC : Rect S1x4352x128 := Rect.unit ![0, 4096, 0] ![1, 256, 128] inb_S1x4352x128_S1x256x128_0_4096_0

section Blocks

variable (q : Vec Ideal S1x256x128 .bf16) (k v : Vec Ideal S1x4352x128 .bf16)

/-- Latent rows, after each chunk of keys. -/
def at1 : St := firstL (sL q (View.ld k (rL 0 inb_S1x4352x128_S1x1024x128_0_0_0))) (View.ld v (rL 0 inb_S1x4352x128_S1x1024x128_0_0_0))
def at2 : St := nextL (at1 q k v) (sL q (View.ld k (rL 1024 inb_S1x4352x128_S1x1024x128_0_1024_0)))
  (View.ld v (rL 1024 inb_S1x4352x128_S1x1024x128_0_1024_0))
def at3 : St := nextL (at2 q k v) (sL q (View.ld k (rL 2048 inb_S1x4352x128_S1x1024x128_0_2048_0)))
  (View.ld v (rL 2048 inb_S1x4352x128_S1x1024x128_0_2048_0))
def at4 : St := nextL (at3 q k v) (sL q (View.ld k (rL 3072 inb_S1x4352x128_S1x1024x128_0_3072_0)))
  (View.ld v (rL 3072 inb_S1x4352x128_S1x1024x128_0_3072_0))
def atAll : St := nextC (at4 q k v) (sC q (View.ld k rC)) (View.ld v rC)

/-- The context's rows. -/
def atCtx : St := firstC (sC q (View.ld k rC)) (View.ld v rC)

end Blocks

/-! ## The payloads are these steps -/

section payloads

variable (x : St) (s s' : FVec Ideal S256x1024 .f32) (d : FVec Ideal S256x256 .f32) (z : Ideal .f32)
  (q : Vec Ideal S1x256x128 .bf16) (k k' v v' : Vec Ideal S1x1024x128 .bf16) (kc vc g : Vec Ideal S1x256x128 .bf16)

theorem firstL_m : (firstL s v).m = mL s := by rw [firstL]
theorem firstC_m : (firstC d vc).m = mC d := by rw [firstC]
theorem nextL_m : (nextL x s v).m = maximumf x.m (mL s) := by rw [nextL]

theorem pay8_eq : k0_pay8 q k = sL q k := rfl
theorem pay13_eq : k0_pay13 q k = sL q k := rfl
theorem pay18_eq : k0_pay18 (k0_pay6 q) k = sL q k := rfl
theorem pay25_eq : k0_pay25 (k0_pay24 (k0_pay6 q) kc) (Named.named κ "c2" 0x3E0293EE#32) = sC q kc := rfl
theorem pay9_eq : k0_pay9 q k = mL (sL q k) := by
  unfold k0_pay9 mL sL
  rfl
theorem pay11_eq : k0_pay11 q k = (firstL (sL q k) v).l := rfl
theorem pay12_eq : k0_pay12 q k v = (firstL (sL q k) v).a := rfl
theorem pay14_eq : k0_pay14 q k k' = (nextL (firstL (sL q k) v) (sL q k') v').m := by
  unfold k0_pay14
  rw [pay8_eq, pay9_eq, nextL_m, firstL_m]
  generalize sL q k = s
  generalize sL q k' = s'
  rfl
theorem pay15_eq : k0_pay15 q k k' = exp2 (subf (firstL (sL q k) v).m (nextL (firstL (sL q k) v) (sL q k') v').m) := by
  unfold k0_pay15
  rw [pay14_eq q k k' v v', pay9_eq q k, firstL_m]
theorem pay16_eq : k0_pay16 q k k'
    = subf (sL q k') (broadcastTo S256x1024 (nextL (firstL (sL q k) v) (sL q k') v').m broadcasts_S256x1_S256x1024) := by
  unfold k0_pay16
  rw [pay14_eq q k k' v v', pay8_eq]
theorem pay19_eq : k0_pay19 s x.m = (nextL x s v).m := rfl

theorem pay22_eq : k0_pay22 x.l s' (nextL x s v).m (exp2 (subf x.m (nextL x s v).m))
    (subf s (broadcastTo S256x1024 (nextL x s v).m broadcasts_S256x1_S256x1024)) = (nextL (nextL x s v) s' v').l := rfl
theorem pay23_eq : k0_pay23 x.a s' (nextL x s v).m (exp2 (subf x.m (nextL x s v).m))
    (subf s (broadcastTo S256x1024 (nextL x s v).m broadcasts_S256x1_S256x1024)) v v' = (nextL (nextL x s v) s' v').a := rfl

theorem pay29_eq : k0_pay29 s x.m d z = (nextC (nextL x s v) (k0_pay25 d z) vc).m := rfl
theorem pay32_eq : k0_pay32 s x.m x.l d z = (nextC (nextL x s v) (k0_pay25 d z) vc).l := rfl
theorem pay33_eq : k0_pay33 s x.m x.l x.a d z v vc = out (nextC (nextL x s v) (k0_pay25 d z) vc) := rfl

theorem pay35_eq : k0_pay35 q kc = mC (sC q kc) := by
  unfold k0_pay35 mC sC
  rfl
theorem pay37_eq : k0_pay37 q kc = (firstC (sC q kc) vc).l := by
  unfold k0_pay37 k0_pay36 k0_pay35 firstC lC pC mC sC
  rfl
theorem pay38_eq : k0_pay38 q kc vc = out (firstC (sC q kc) vc) := by
  unfold k0_pay38
  rw [pay37_eq q kc vc]
  unfold k0_pay36 k0_pay35 out firstC aC pC mC sC
  rfl
theorem pay39_eq : k0_pay39 q kc vc = k0_pay1 (k0_pay38 q kc vc) := rfl
theorem pay40_eq : k0_pay4 (k0_pay40 q kc vc g) = k0_pay2 (k0_pay38 q kc vc) g := rfl
theorem pay5_eq (y l : FVec Ideal S256x1 .f32) : k0_pay5 y l = k0_pay3 y l := rfl

end payloads

/-! ## What a point of latent rows makes of its blocks -/

section made

variable (q : Vec Ideal S1x256x128 .bf16) (k v : Vec Ideal S1x4352x128 .bf16)

/-- The chunks of an array. -/
abbrev c0 (x : Vec Ideal S1x4352x128 .bf16) : Vec Ideal S1x1024x128 .bf16 := View.ld x (rL 0 inb_S1x4352x128_S1x1024x128_0_0_0)
abbrev c1 (x : Vec Ideal S1x4352x128 .bf16) : Vec Ideal S1x1024x128 .bf16 := View.ld x (rL 1024 inb_S1x4352x128_S1x1024x128_0_1024_0)
abbrev c2 (x : Vec Ideal S1x4352x128 .bf16) : Vec Ideal S1x1024x128 .bf16 := View.ld x (rL 2048 inb_S1x4352x128_S1x1024x128_0_2048_0)
abbrev c3 (x : Vec Ideal S1x4352x128 .bf16) : Vec Ideal S1x1024x128 .bf16 := View.ld x (rL 3072 inb_S1x4352x128_S1x1024x128_0_3072_0)
abbrev cC (x : Vec Ideal S1x4352x128 .bf16) : Vec Ideal S1x256x128 .bf16 := View.ld x rC

/-- After two chunks and after three, as the payloads name it. -/
theorem m2 : k0_pay14 q (c0 k) (c1 k) = (at2 q k v).m := pay14_eq q _ _ _ _
theorem m3 : k0_pay19 (k0_pay13 q (c2 k)) (k0_pay14 q (c0 k) (c1 k)) = (at3 q k v).m := by
  rw [m2 q k v, pay13_eq, pay19_eq _ _ (c2 v)]
  rfl
theorem l3 : k0_pay22 (k0_pay11 q (c0 k)) (k0_pay13 q (c2 k)) (k0_pay14 q (c0 k) (c1 k)) (k0_pay15 q (c0 k) (c1 k))
    (k0_pay16 q (c0 k) (c1 k)) = (at3 q k v).l := by
  rw [pay11_eq q _ (c0 v), pay13_eq, pay14_eq q _ _ (c0 v) (c1 v), pay15_eq q _ _ (c0 v) (c1 v), pay16_eq q _ _ (c0 v) (c1 v),
    pay22_eq _ _ _ _ (c2 v)]
  rfl
theorem a3 : k0_pay23 (k0_pay12 q (c0 k) (c0 v)) (k0_pay13 q (c2 k)) (k0_pay14 q (c0 k) (c1 k)) (k0_pay15 q (c0 k) (c1 k))
    (k0_pay16 q (c0 k) (c1 k)) (c1 v) (c2 v) = (at3 q k v).a := by
  rw [pay12_eq, pay13_eq, pay14_eq q _ _ (c0 v) (c1 v), pay15_eq q _ _ (c0 v) (c1 v), pay16_eq q _ _ (c0 v) (c1 v), pay23_eq]
  rfl

/-- After all keys. -/
theorem m_lat : k0_pay29 (k0_pay18 (k0_pay6 q) (c3 k)) (k0_pay19 (k0_pay13 q (c2 k)) (k0_pay14 q (c0 k) (c1 k)))
    (k0_pay24 (k0_pay6 q) (cC k)) (Named.named κ "c2" 0x3E0293EE#32) = (atAll q k v).m := by
  rw [m3 q k v, pay18_eq, pay29_eq _ _ _ _ (c3 v) (cC v), pay25_eq]
  rfl
theorem l_lat : k0_pay32 (k0_pay18 (k0_pay6 q) (c3 k)) (k0_pay19 (k0_pay13 q (c2 k)) (k0_pay14 q (c0 k) (c1 k)))
    (k0_pay22 (k0_pay11 q (c0 k)) (k0_pay13 q (c2 k)) (k0_pay14 q (c0 k) (c1 k)) (k0_pay15 q (c0 k) (c1 k)) (k0_pay16 q (c0 k) (c1 k)))
    (k0_pay24 (k0_pay6 q) (cC k)) (Named.named κ "c2" 0x3E0293EE#32) = (atAll q k v).l := by
  rw [m3 q k v, l3 q k v, pay18_eq, pay32_eq _ _ _ _ (c3 v) (cC v), pay25_eq]
  rfl
theorem out_lat : k0_pay33 (k0_pay18 (k0_pay6 q) (c3 k)) (k0_pay19 (k0_pay13 q (c2 k)) (k0_pay14 q (c0 k) (c1 k)))
    (k0_pay22 (k0_pay11 q (c0 k)) (k0_pay13 q (c2 k)) (k0_pay14 q (c0 k) (c1 k)) (k0_pay15 q (c0 k) (c1 k)) (k0_pay16 q (c0 k) (c1 k)))
    (k0_pay23 (k0_pay12 q (c0 k) (c0 v)) (k0_pay13 q (c2 k)) (k0_pay14 q (c0 k) (c1 k)) (k0_pay15 q (c0 k) (c1 k))
      (k0_pay16 q (c0 k) (c1 k)) (c1 v) (c2 v))
    (k0_pay24 (k0_pay6 q) (cC k)) (Named.named κ "c2" 0x3E0293EE#32) (c3 v) (cC v) = out (atAll q k v) := by
  rw [m3 q k v, l3 q k v, a3, pay18_eq, pay33_eq, pay25_eq]
  rfl

end made

variable (m : (ℓ : Loc nD τ sig) → Buf (Elt Ideal) ℓ) (c : Dev nD) (t : Fin cfg0.N)

/-! ## Latent rows -/

section latent

variable (h0 : t.val % 17 ≤ 15) (h1 : ¬t.val % 17 = 16)
include h0 h1

theorem z_A : (outsAt0 m c t.val t.isLt).1
    = k0_pay2 (out (atAll (iblk m c 0 t) (iblk m c 1 t) (iblk m c 2 t))) (iblk m c 3 t) := by
  rw [outsAt0_A m c t h0 h1]
  frame_out
  rw [out_lat]

theorem o_A : (outsAt0 m c t.val t.isLt).2.1 = k0_pay1 (out (atAll (iblk m c 0 t) (iblk m c 1 t) (iblk m c 2 t))) := by
  rw [outsAt0_A m c t h0 h1]
  frame_out
  rw [out_lat]

theorem lse_A : (outsAt0 m c t.val t.isLt).2.2
    = k0_pay3 (atAll (iblk m c 0 t) (iblk m c 1 t) (iblk m c 2 t)).m (atAll (iblk m c 0 t) (iblk m c 1 t) (iblk m c 2 t)).l := by
  rw [outsAt0_A m c t h0 h1]
  frame_out
  rw [m_lat (v := iblk m c 2 t), l_lat (v := iblk m c 2 t)]

end latent

/-! ## The context's rows -/

section context

variable (h0 : ¬t.val % 17 ≤ 15) (h1 : t.val % 17 = 16)
include h0 h1

theorem z_B : (outsAt0 m c t.val t.isLt).1
    = k0_pay2 (out (atCtx (iblk m c 0 t) (iblk m c 1 t) (iblk m c 2 t))) (iblk m c 3 t) := by
  rw [outsAt0_B m c t h0 h1]
  frame_out
  rw [pay40_eq, pay38_eq]
  rfl

theorem o_B : (outsAt0 m c t.val t.isLt).2.1 = k0_pay1 (out (atCtx (iblk m c 0 t) (iblk m c 1 t) (iblk m c 2 t))) := by
  rw [outsAt0_B m c t h0 h1]
  frame_out
  rw [pay39_eq, pay38_eq]
  rfl

theorem lse_B : (outsAt0 m c t.val t.isLt).2.2
    = k0_pay3 (atCtx (iblk m c 0 t) (iblk m c 1 t) (iblk m c 2 t)).m (atCtx (iblk m c 0 t) (iblk m c 1 t) (iblk m c 2 t)).l := by
  rw [outsAt0_B m c t h0 h1]
  frame_out
  rw [pay5_eq, pay35_eq, pay37_eq _ _ (View.ld (iblk m c 2 t) rC), ← firstC_m _ (View.ld (iblk m c 2 t) rC)]
  rfl

end context

end Cert.Kernel14Ideal.Fwd
-- ==== Proof.FwdRows.lean ====
/- What the forward call carries from chunk to chunk holds the sums of `Online`: the block's rows against the keys seen so far. -/
module

public import proofs.«01_k».proof.Proof.Fwd

@[expose] public section

noncomputable section

open Idealize.ShloMosaic Idealize.ShloMosaic.TcCoe Idealize.SL.Sem

namespace Cert.Kernel14Ideal.Fwd

open Cert.Kernel14Ideal Cert.Kernel14Ideal.Gen

variable {N : ℕ} (S : Fin 256 → Fin N → ℝ) (V : Fin N → Fin 128 → EReal)

/-- What is carried after the first `n` keys: for each row some real number subtracted, and the two sums for it. -/
def Is (n : ℕ) (x : St) : Prop :=
  ∃ M : Fin 256 → ℝ, (∀ r, (x.m (ix2 r 0) : EReal) = ((M r : ℝ) : EReal))
    ∧ (∀ r, (x.l (ix2 r 0) : EReal) = ((Attn.wsum (S r) (M r) (Attn.seen N n) : ℝ) : EReal))
    ∧ ∀ r d, (x.a (ix2 r d) : EReal) = Attn.vsum (S r) (fun j => V j d) (M r) (Attn.seen N n)

/-- A chunk of `n` keys after the first `a`: its greatest scores, its sums of weights and its weighted values. -/
structure Chunk (a n : ℕ) (h : a + n ≤ N) (mx : FVec Ideal S256x1 .f32) (l : FVec Ideal S256x1 .f32 → FVec Ideal S256x1 .f32)
    (w : FVec Ideal S256x1 .f32 → FVec Ideal S256x128 .f32) : Prop where
  mx : ∃ M : Fin 256 → ℝ, ∀ r, (mx (ix2 r 0) : EReal) = ((M r : ℝ) : EReal)
  l : ∀ (m : FVec Ideal S256x1 .f32) (M : Fin 256 → ℝ), (∀ r, (m (ix2 r 0) : EReal) = ((M r : ℝ) : EReal)) → ∀ r,
    (l m (ix2 r 0) : EReal) = ((∑ x : Fin n, (2 : ℝ) ^ (S r ⟨a + x.val, by omega⟩ - M r) : ℝ) : EReal)
  w : ∀ (m : FVec Ideal S256x1 .f32) (M : Fin 256 → ℝ), (∀ r, (m (ix2 r 0) : EReal) = ((M r : ℝ) : EReal)) → ∀ r d,
    (w m (ix2 r d) : EReal)
      = ∑ x : Fin n, (((2 : ℝ) ^ (S r ⟨a + x.val, by omega⟩ - M r) : ℝ) : EReal) * V ⟨a + x.val, by omega⟩ d

section chunks

variable {S V}

/-- The first chunk makes what is carried. -/
theorem Chunk.first {n : ℕ} {h : 0 + n ≤ N} {mx : FVec Ideal S256x1 .f32} {l : FVec Ideal S256x1 .f32 → FVec Ideal S256x1 .f32}
    {w : FVec Ideal S256x1 .f32 → FVec Ideal S256x128 .f32} (C : Chunk S V 0 n h mx l w) : Is S V (0 + n) ⟨mx, l mx, w mx⟩ := by
  obtain ⟨M, hM⟩ := C.mx
  have e : Attn.seen N 0 = ∅ := Finset.filter_false_of_mem fun j _ => Nat.not_lt_zero _
  refine ⟨M, hM, fun r => (C.l mx M hM r).trans ?_, fun r d => (C.w mx M hM r d).trans ?_⟩
  · rw [Attn.wsum, Attn.sum_seen _ 0 n h, e, Finset.sum_empty, zero_add]
  · rw [Attn.vsum, Attn.sum_seen _ 0 n h, e, Finset.sum_empty, zero_add]

/-- A further chunk is taken into what is carried. -/
theorem Chunk.next {a n : ℕ} {h : a + n ≤ N} {mx : FVec Ideal S256x1 .f32} {l : FVec Ideal S256x1 .f32 → FVec Ideal S256x1 .f32}
    {w : FVec Ideal S256x1 .f32 → FVec Ideal S256x128 .f32} (C : Chunk S V a n h mx l w) {x : St} (hx : Is S V a x) :
    Is S V (a + n) ⟨maximumf x.m mx, addf (rescale x (maximumf x.m mx)).l (l (maximumf x.m mx)),
      addf (rescale x (maximumf x.m mx)).a (w (maximumf x.m mx))⟩ := by
  obtain ⟨M, hM, hl, ha⟩ := hx
  obtain ⟨M1, hM1⟩ := C.mx
  have hM' : ∀ r, (maximumf x.m mx (ix2 r 0) : EReal) = ((max (M r) (M1 r) : ℝ) : EReal) := by
    intro r
    show max (x.m (ix2 r 0) : EReal) (mx (ix2 r 0) : EReal) = _
    rw [hM, hM1]
    exact (EReal.coe_strictMono.monotone.map_max).symm
  refine ⟨fun r => max (M r) (M1 r), hM', fun r => ?_, fun r d => ?_⟩
  · show ((rescale x (maximumf x.m mx)).l (ix2 r 0) : EReal) + (l (maximumf x.m mx) (ix2 r 0) : EReal) = _
    rw [rescale_l, C.l _ _ hM' r, hM, hM', hl, ← EReal.coe_sub, Attn.exp2_coe, ← EReal.coe_mul, Attn.wsum_rescale,
      ← EReal.coe_add, Attn.wsum, Attn.wsum, Attn.sum_seen _ a n h]
  · show ((rescale x (maximumf x.m mx)).a (ix2 r d) : EReal) + (w (maximumf x.m mx) (ix2 r d) : EReal) = _
    rw [rescale_a, C.w _ _ hM' r, hM, hM', ha, ← EReal.coe_sub, Attn.exp2_coe, Attn.vsum_rescale, Attn.vsum, Attn.vsum,
      Attn.sum_seen _ a n h]

/-- A latent chunk. -/
theorem chunkL {a : ℕ} (h : a + 1024 ≤ N) (s : FVec Ideal S256x1024 .f32) (v : Vec Ideal S1x1024x128 .bf16)
    (hs : ∀ r (x : Fin 1024), (s (ix2 r x) : EReal) = ((S r ⟨a + x.val, by omega⟩ : ℝ) : EReal))
    (hv : ∀ (x : Fin 1024) d, (v (ix3 0 x d) : EReal) = V ⟨a + x.val, by omega⟩ d) :
    Chunk S V a 1024 h (mL s) (fun m => lL (pL s m)) (fun m => aL (pL s m) v) where
  mx := ⟨fun r => Attn.top fun x : Fin 1024 => S r ⟨a + x.val, by omega⟩, fun r => by
    rw [mL_at, Attn.ofBits_neg_inf]
    simp only [hs]
    exact Attn.fold_max_coe _⟩
  l m M hM r := by
    rw [lL_at]
    simp only [pL_at, hs, hM, ← EReal.coe_sub, Attn.exp2_coe, Attn.coe_sum]
  w m M hM r d := by
    rw [aL_at]
    simp only [pL_at, hs, hM, hv, ← EReal.coe_sub, Attn.exp2_coe]

/-- The context's chunk. -/
theorem chunkC {a : ℕ} (h : a + 256 ≤ N) (s : FVec Ideal S256x256 .f32) (v : Vec Ideal S1x256x128 .bf16)
    (hs : ∀ r (x : Fin 256), (s (ix2 r x) : EReal) = ((S r ⟨a + x.val, by omega⟩ : ℝ) : EReal))
    (hv : ∀ (x : Fin 256) d, (v (ix3 0 x d) : EReal) = V ⟨a + x.val, by omega⟩ d) :
    Chunk S V a 256 h (mC s) (fun m => lC (pC s m)) (fun m => aC (pC s m) v) where
  mx := ⟨fun r => Attn.top fun x : Fin 256 => S r ⟨a + x.val, by omega⟩, fun r => by
    rw [mC_at, Attn.ofBits_neg_inf]
    simp only [hs]
    exact Attn.fold_max_coe _⟩
  l m M hM r := by
    rw [lC_at]
    simp only [pC_at, hs, hM, ← EReal.coe_sub, Attn.exp2_coe, Attn.coe_sum]
  w m M hM r d := by
    rw [aC_at]
    simp only [pC_at, hs, hM, hv, ← EReal.coe_sub, Attn.exp2_coe]

end chunks

section all

variable {S V} [Nonempty (Fin N)] {s : Fin 256 → Fin N → ℝ} (hS : ∀ r j, S r j = s r j / Real.log 2) {x : St} (hx : Is S V N x)
include hS hx

/-- After all keys the output is the softmax against the values. -/
theorem out_all (r : Fin 256) (d : Fin 128) :
    (out x (ix2 r d) : EReal) = ∑ j, V j d * ((Attn.prob (s r) j : ℝ) : EReal) := by
  obtain ⟨M, -, hl, ha⟩ := hx
  rw [out_at, hl, ha, Attn.ofBits_one, EReal.coe_one, Attn.seen_all]
  exact Attn.vsum_div (s r) (S r) _ _ (hS r)

/-- And what is saved is the rows' log-sums. -/
theorem lse_all (r : Fin 256) :
    (k0_pay3 x.m x.l (ix4 0 0 0 r) : EReal)
      = (((Attn.top (s r) + Real.log (Attn.tot (s r))) / Real.log 2 : ℝ) : EReal) := by
  obtain ⟨M, hM, hl, -⟩ := hx
  rw [lse_at, hM, hl, Attn.seen_all, Attn.log_coe (Attn.wsum_pos _ _), r2_eq, ← EReal.coe_mul, ← EReal.coe_add,
    Attn.add_log_wsum (s r) (S r) _ (hS r)]

end all

end Cert.Kernel14Ideal.Fwd
-- ==== Proof.FwdGrid.lean ====
/- Where a point of the forward call stands, what its blocks hold, and so what it stores. -/
module

public import proofs.«01_k».proof.Proof.FwdPoint
public import proofs.«01_k».proof.Proof.FwdRows
public import proofs.«01_k».proof.Proof.Arrays

@[expose] public section

set_option maxRecDepth 16384

noncomputable section

open Idealize.ShloMosaic Idealize.ShloMosaic.TcCoe Idealize.SL.Sem
open Idealize.ShloMosaic.Pipeline (Dat)

namespace Cert.Kernel14Ideal.Fwd

open Cert.Kernel14Ideal Cert.Kernel14Ideal.Gen
open Cert.KernelIdeal.Value (bOf hOf gOf rowOf rowOf_lat rowOf_ctx)

/-- The blocks hold the arguments at batch `b`, key head `h`, group `g` and the rows `row`; the values are `V`. -/
structure Holds (A : Attn.Args) (b h : Fin 2) (g : Fin 4) (row : Fin 256 → Fin 4352) (V : Fin 4352 → Fin 128 → EReal)
    (x0 : Vec Ideal S1x256x128 .bf16) (x1 x2 : Vec Ideal S1x4352x128 .bf16) : Prop where
  q : ∀ r d, (x0 (ix3 0 r d) : EReal) = ((A.q b (row r) (Attn.qcol h g d) : ℝ) : EReal)
  k : ∀ j d, (x1 (ix3 0 j d) : EReal) = ((A.k b j (Attn.kcol h d) : ℝ) : EReal)
  v : ∀ j d, (x2 (ix3 0 j d) : EReal) = V j d

section Numbers

variable {A : Attn.Args} {b h : Fin 2} {g : Fin 4} {row : Fin 256 → Fin 4352} {V : Fin 4352 → Fin 128 → EReal}
  {x0 : Vec Ideal S1x256x128 .bf16} {x1 x2 : Vec Ideal S1x4352x128 .bf16}

/-- A row's scores in base 2, against all keys and against the context's. -/
def S2 (A : Attn.Args) (b h : Fin 2) (g : Fin 4) (row : Fin 256 → Fin 4352) (r : Fin 256) (j : Fin 4352) : ℝ :=
  A.dot b h g (row r) j * ((Real.log 2)⁻¹ * Attn.sc)

theorem S2_eq (r : Fin 256) (j : Fin 4352) : S2 A b h g row r j = A.score b h g (row r) j / Real.log 2 := by
  unfold S2 Attn.Args.score
  rw [div_eq_mul_inv]
  ring

theorem Holds.dot (H : Holds A b h g row V x0 x1 x2) (r : Fin 256) (j : Fin 4352) :
    (∑ d, (x0 (ix3 0 r d) : EReal) * (x1 (ix3 0 j d) : EReal)) * (((Real.log 2)⁻¹ * Attn.sc : ℝ) : EReal)
      = ((S2 A b h g row r j : ℝ) : EReal) := by
  simp only [H.q, H.k, ← EReal.coe_mul, Attn.coe_sum]
  refine congrArg _ (congrArg (· * _) (Finset.sum_congr rfl fun d _ => mul_comm _ _))

theorem Holds.sL (H : Holds A b h g row V x0 x1 x2) (o : ℕ) (ho : InL o) (ho' : o + 1024 ≤ 4352) (r : Fin 256) (x : Fin 1024) :
    (sL x0 (View.ld x1 (rL o ho)) (ix2 r x) : EReal) = ((S2 A b h g row r ⟨o + x.val, by omega⟩ : ℝ) : EReal) := by
  refine (sL_at _ _ r x).trans (Eq.trans ?_ (H.dot r ⟨o + x.val, by omega⟩))
  rw [c2_eq]
  refine congrArg (fun z : EReal => z * _) (Finset.sum_congr rfl fun d _ => congrArg (fun z : EReal => _ * z) ?_)
  exact congrArg x1 (Cert.KernelIdeal.Block.rL_emb o ho ho' x d)

theorem Holds.sC (H : Holds A b h g row V x0 x1 x2) (r : Fin 256) (x : Fin 256) :
    (sC x0 (View.ld x1 rC) (ix2 r x) : EReal) = ((S2 A b h g row r (Attn.cx x) : ℝ) : EReal) := by
  refine (sC_at _ _ r x).trans (Eq.trans ?_ (H.dot r (Attn.cx x)))
  rw [c2_eq]
  refine congrArg (fun z : EReal => z * _) (Finset.sum_congr rfl fun d _ => congrArg (fun z : EReal => _ * z) ?_)
  exact congrArg x1 (Cert.KernelIdeal.Block.rC_emb x d)

theorem Holds.vL (H : Holds A b h g row V x0 x1 x2) (o : ℕ) (ho : InL o) (ho' : o + 1024 ≤ 4352) (x : Fin 1024) (d : Fin 128) :
    ((View.ld x2 (rL o ho) : Vec Ideal S1x1024x128 .bf16) (ix3 0 x d) : EReal) = V ⟨o + x.val, by omega⟩ d :=
  (congrArg x2 (Cert.KernelIdeal.Block.rL_emb o ho ho' x d)).trans (H.v _ d)

theorem Holds.vC (H : Holds A b h g row V x0 x1 x2) (x : Fin 256) (d : Fin 128) :
    ((View.ld x2 rC : Vec Ideal S1x256x128 .bf16) (ix3 0 x d) : EReal) = V (Attn.cx x) d :=
  (congrArg x2 (Cert.KernelIdeal.Block.rC_emb x d)).trans (H.v _ d)

/-- Latent rows have seen every key. -/
theorem Holds.all (H : Holds A b h g row V x0 x1 x2) : Is (S2 A b h g row) V 4352 (atAll x0 x1 x2) := by
  have i1 : Is (S2 A b h g row) V 1024 (at1 x0 x1 x2) :=
    (chunkL (a := 0) (by omega) _ _ (H.sL 0 _ (by omega)) (H.vL 0 _ (by omega))).first
  have i2 : Is (S2 A b h g row) V 2048 (at2 x0 x1 x2) :=
    (chunkL (a := 1024) (by omega) _ _ (H.sL 1024 _ (by omega)) (H.vL 1024 _ (by omega))).next i1
  have i3 : Is (S2 A b h g row) V 3072 (at3 x0 x1 x2) :=
    (chunkL (a := 2048) (by omega) _ _ (H.sL 2048 _ (by omega)) (H.vL 2048 _ (by omega))).next i2
  have i4 : Is (S2 A b h g row) V 4096 (at4 x0 x1 x2) :=
    (chunkL (a := 3072) (by omega) _ _ (H.sL 3072 _ (by omega)) (H.vL 3072 _ (by omega))).next i3
  exact (chunkC (a := 4096) (by omega) _ _ H.sC H.vC).next i4

/-- The context's rows have seen the context's keys. -/
theorem Holds.ctx (H : Holds A b h g row V x0 x1 x2) :
    Is (fun r j => S2 A b h g row r (Attn.cx j)) (fun j => V (Attn.cx j)) 256 (atCtx x0 x1 x2) := by
  refine (chunkC (a := 0) (by omega) _ _ (fun r x => (H.sC r x).trans ?_) (fun x d => (H.vC x d).trans ?_)).first <;>
    simp only [Nat.zero_add]

end Numbers

/-- The attention's output at a row, for values that need not be real. -/
def Y (A : Attn.Args) (b h : Fin 2) (g : Fin 4) (V : Fin 4352 → Fin 128 → EReal) (t : Fin 4352) (d : Fin 128) : EReal :=
  if t.val < 4096 then ∑ j : Fin 4352, V j d * ((Attn.prob (A.latRow b h g t) j : ℝ) : EReal)
  else ∑ j : Fin 256, V (Attn.cx j) d * ((Attn.prob (A.ctxRow b h g t) j : ℝ) : EReal)

section Numbers

variable {A : Attn.Args} {b h : Fin 2} {g : Fin 4} {row : Fin 256 → Fin 4352} {V : Fin 4352 → Fin 128 → EReal}
  {x0 : Vec Ideal S1x256x128 .bf16} {x1 x2 : Vec Ideal S1x4352x128 .bf16}

theorem Holds.out_lat (H : Holds A b h g row V x0 x1 x2) (r : Fin 256) (hr : (row r).val < 4096) (d : Fin 128) :
    (out (atAll x0 x1 x2) (ix2 r d) : EReal) = Y A b h g V (row r) d :=
  (out_all (s := fun r => A.latRow b h g (row r)) (fun r j => S2_eq r j) H.all r d).trans (if_pos hr).symm

theorem Holds.out_ctx (H : Holds A b h g row V x0 x1 x2) (r : Fin 256) (hr : ¬(row r).val < 4096) (d : Fin 128) :
    (out (atCtx x0 x1 x2) (ix2 r d) : EReal) = Y A b h g V (row r) d :=
  (out_all (s := fun r => A.ctxRow b h g (row r)) (fun r j => S2_eq r (Attn.cx j)) H.ctx r d).trans (if_neg hr).symm

theorem Holds.lse_lat (H : Holds A b h g row V x0 x1 x2) (r : Fin 256) (hr : (row r).val < 4096) :
    (k0_pay3 (atAll x0 x1 x2).m (atAll x0 x1 x2).l (ix4 0 0 0 r) : EReal) = ((A.lse2 b h g (row r) : ℝ) : EReal) :=
  (lse_all (s := fun r => A.latRow b h g (row r)) (fun r j => S2_eq r j) H.all r).trans (congrArg _ (if_pos hr).symm)

theorem Holds.lse_ctx (H : Holds A b h g row V x0 x1 x2) (r : Fin 256) (hr : ¬(row r).val < 4096) :
    (k0_pay3 (atCtx x0 x1 x2).m (atCtx x0 x1 x2).l (ix4 0 0 0 r) : EReal) = ((A.lse2 b h g (row r) : ℝ) : EReal) :=
  (lse_all (s := fun r => A.ctxRow b h g (row r)) (fun r j => S2_eq r (Attn.cx j)) H.ctx r).trans (congrArg _ (if_neg hr).symm)

end Numbers

/-! ## The grid -/

variable (m : (ℓ : Loc nD τ sig) → Buf (Elt Ideal) ℓ)

theorem lt_N (t : Fin cfg0.N) : t.val < 272 := lt_of_lt_of_eq t.isLt N_0

theorem idxQ : ∀ t : Fin cfg0.N, win0_0.index t = ![t.val / 136, t.val % 17, t.val / 17 % 8]
    ∧ win0_3.index t = ![t.val / 136, t.val % 17, t.val / 17 % 8]
    ∧ win0_4.index t = ![t.val / 136, t.val % 17, t.val / 17 % 8]
    ∧ win0_5.index t = ![t.val / 136, t.val % 17, t.val / 17 % 8] :=
  (by decide +kernel : ∀ t : Fin grid0.N, _)

theorem idxK : ∀ t : Fin cfg0.N, win0_1.index t = ![t.val / 136, 0, t.val / 68 % 2]
    ∧ win0_2.index t = ![t.val / 136, 0, t.val / 68 % 2]
    ∧ win0_6.index t = ![t.val / 136, t.val / 17 % 8, 0, t.val % 17] :=
  (by decide +kernel : ∀ t : Fin grid0.N, _)

/-- The arguments at the queries and the keys hold real numbers. -/
structure Reals (A : Attn.Args) (c : Dev nD) : Prop where
  q : ∀ b t i, ((m (c.tc.loc main_arg0) : FVec Ideal S2x4352x1024 .bf16) (ix3 b t i) : EReal) = ((A.q b t i : ℝ) : EReal)
  k : ∀ b t i, ((m (c.tc.loc main_arg1) : FVec Ideal S2x4352x256 .bf16) (ix3 b t i) : EReal) = ((A.k b t i : ℝ) : EReal)

/-- The values of a key head. -/
def vals (v : FVec Ideal S2x4352x256 .bf16) (b h : Fin 2) (j : Fin 4352) (d : Fin 128) : EReal := v (ix3 b j (Attn.kcol h d))

/-- What the gate multiplies by. -/
def silu (x : EReal) : EReal := x * Ideal.logistic x

section Reads

variable (c : Dev nD) (t : Fin cfg0.N)

theorem q_read (r : Fin 256) (d : Fin 128) :
    ((iblk m c 0 t : Vec Ideal S1x256x128 .bf16) (ix3 0 r d) : EReal)
      = ((m (c.tc.loc main_arg0) : FVec Ideal S2x4352x1024 .bf16) (ix3 (bOf t) (rowOf t r) (Attn.qcol (hOf t) (gOf t) d)) : EReal) := by
  have ht := lt_N t
  blk_point [iblk, V, idxQ t, bOf, hOf, gOf, rowOf, Attn.qcol]

theorem k_read (j : Fin 4352) (d : Fin 128) :
    ((iblk m c 1 t : Vec Ideal S1x4352x128 .bf16) (ix3 0 j d) : EReal)
      = ((m (c.tc.loc main_arg1) : FVec Ideal S2x4352x256 .bf16) (ix3 (bOf t) j (Attn.kcol (hOf t) d)) : EReal) := by
  have ht := lt_N t
  blk_point [iblk, V, idxK t, bOf, hOf, Attn.kcol]

theorem v_read (j : Fin 4352) (d : Fin 128) :
    ((iblk m c 2 t : Vec Ideal S1x4352x128 .bf16) (ix3 0 j d) : EReal)
      = ((m (c.tc.loc main_arg2) : FVec Ideal S2x4352x256 .bf16) (ix3 (bOf t) j (Attn.kcol (hOf t) d)) : EReal) := by
  have ht := lt_N t
  blk_point [iblk, V, idxK t, bOf, hOf, Attn.kcol]

theorem gate_read (r : Fin 256) (d : Fin 128) :
    ((iblk m c 3 t : Vec Ideal S1x256x128 .bf16) (ix3 0 r d) : EReal)
      = ((m (c.tc.loc main_arg3) : FVec Ideal S2x4352x1024 .bf16) (ix3 (bOf t) (rowOf t r) (Attn.qcol (hOf t) (gOf t) d)) : EReal) := by
  have ht := lt_N t
  blk_point [iblk, V, idxQ t, bOf, hOf, gOf, rowOf, Attn.qcol]

variable {c}
variable {A : Attn.Args} (R : Reals m A c)
include R

/-- Every point's blocks hold the arguments. -/
theorem holds : Holds A (bOf t) (hOf t) (gOf t) (rowOf t) (vals (m (c.tc.loc main_arg2)) (bOf t) (hOf t))
    (iblk m c 0 t) (iblk m c 1 t) (iblk m c 2 t) where
  q r d := (q_read m c t r d).trans (R.q _ _ _)
  k j d := (k_read m c t j d).trans (R.k _ _ _)
  v j d := v_read m c t j d

/-- The output a point stores. -/
theorem o_eq (r : Fin 256) (d : Fin 128) :
    (((outsAt0 m c t.val t.isLt).2.1 : Vec Ideal S1x256x128 .bf16) (ix3 0 r d) : EReal)
      = Y A (bOf t) (hOf t) (gOf t) (vals (m (c.tc.loc main_arg2)) (bOf t) (hOf t)) (rowOf t r) d := by
  by_cases h0 : t.val % 17 ≤ 15
  · exact (congrFun (o_A m c t h0 (by omega)) _).trans
      ((o_at _ r d).trans ((holds m t R).out_lat r (rowOf_lat t.val h0 r) d))
  · have h1 : t.val % 17 = 16 := by omega
    exact (congrFun (o_B m c t h0 h1) _).trans
      ((o_at _ r d).trans ((holds m t R).out_ctx r (rowOf_ctx t.val h1 r) d))

/-- The gated output a point stores. -/
theorem z_eq (r : Fin 256) (d : Fin 128) :
    (((outsAt0 m c t.val t.isLt).1 : Vec Ideal S1x256x128 .bf16) (ix3 0 r d) : EReal)
      = Y A (bOf t) (hOf t) (gOf t) (vals (m (c.tc.loc main_arg2)) (bOf t) (hOf t)) (rowOf t r) d
        * silu ((m (c.tc.loc main_arg3) : FVec Ideal S2x4352x1024 .bf16) (ix3 (bOf t) (rowOf t r) (Attn.qcol (hOf t) (gOf t) d))) := by
  by_cases h0 : t.val % 17 ≤ 15
  · exact (congrFun (z_A m c t h0 (by omega)) _).trans ((z_at _ _ r d).trans
      (congrArg₂ (fun y z : EReal => y * silu z) ((holds m t R).out_lat r (rowOf_lat t.val h0 r) d) (gate_read m c t r d)))
  · have h1 : t.val % 17 = 16 := by omega
    exact (congrFun (z_B m c t h0 h1) _).trans ((z_at _ _ r d).trans
      (congrArg₂ (fun y z : EReal => y * silu z) ((holds m t R).out_ctx r (rowOf_ctx t.val h1 r) d) (gate_read m c t r d)))

/-- The rows' log-sums a point stores. -/
theorem lse_eq (r : Fin 256) :
    (((outsAt0 m c t.val t.isLt).2.2 : Vec Ideal S1x1x1x256 .f32) (ix4 0 0 0 r) : EReal)
      = ((A.lse2 (bOf t) (hOf t) (gOf t) (rowOf t r) : ℝ) : EReal) := by
  by_cases h0 : t.val % 17 ≤ 15
  · exact (congrFun (lse_A m c t h0 (by omega)) _).trans ((holds m t R).lse_lat r (rowOf_lat t.val h0 r))
  · have h1 : t.val % 17 = 16 := by omega
    exact (congrFun (lse_B m c t h0 h1) _).trans ((holds m t R).lse_ctx r (rowOf_ctx t.val h1 r))

end Reads

end Cert.Kernel14Ideal.Fwd
-- ==== Proof.FwdArrays.lean ====
/- The three arrays the forward call leaves: the gated output, the output and the rows' log-sums. -/
module

public import proofs.«01_k».proof.Proof.FwdGrid

@[expose] public section

set_option maxRecDepth 16384

noncomputable section

open Idealize.ShloMosaic Idealize.ShloMosaic.TcCoe Idealize.SL.Sem
open Idealize.ShloMosaic.Pipeline (Dat)

namespace Cert.Kernel14Ideal.Fwd

open Cert.Kernel14Ideal Cert.Kernel14Ideal.Gen
open Cert.KernelIdeal.Value (bOf hOf gOf rowOf hq gq dq' hq_qcol gq_qcol dq_qcol)

variable (m : (ℓ : Loc nD τ sig) → Buf (Elt Ideal) ℓ)

/-- Query head `g` of key head `h` among eight, and back. -/
def head (h : Fin 2) (g : Fin 4) : Fin 8 := ⟨h.val * 4 + g.val, by omega⟩
def h8 (i : Fin 8) : Fin 2 := ⟨i.val / 4, by omega⟩
def g8 (i : Fin 8) : Fin 4 := ⟨i.val % 4, by omega⟩

theorem h8_head (h : Fin 2) (g : Fin 4) : h8 (head h g) = h := Fin.ext (by show (h.val * 4 + g.val) / 4 = h.val; omega)
theorem g8_head (h : Fin 2) (g : Fin 4) : g8 (head h g) = g := Fin.ext (by show (h.val * 4 + g.val) % 4 = g.val; omega)
theorem head_eq (i : Fin 8) : head (h8 i) (g8 i) = i := Fin.ext (by show i.val / 4 * 4 + i.val % 4 = i.val; omega)

def arrO (A : Attn.Args) (v : FVec Ideal S2x4352x256 .bf16) : FVec Ideal S2x4352x1024 .bf16 := fun i =>
  Y A (i 0) (hq (i 2)) (gq (i 2)) (vals v (i 0) (hq (i 2))) (i 1) (dq' (i 2))
def arrZ (A : Attn.Args) (v : FVec Ideal S2x4352x256 .bf16) (gate : FVec Ideal S2x4352x1024 .bf16) : FVec Ideal S2x4352x1024 .bf16 :=
  fun i => (arrO A v i : EReal) * silu (gate i)
def arrL (A : Attn.Args) : FVec Ideal S2x8x1x4352 .f32 := fun i => ((A.lse2 (i 0) (h8 (i 1)) (g8 (i 1)) (i 3) : ℝ) : EReal)

theorem arrO_at (A : Attn.Args) (v : FVec Ideal S2x4352x256 .bf16) (b h : Fin 2) (g : Fin 4) (t : Fin 4352) (d : Fin 128) :
    (arrO A v (ix3 b t (Attn.qcol h g d)) : EReal) = Y A b h g (vals v b h) t d := by
  show Y A b (hq (Attn.qcol h g d)) (gq (Attn.qcol h g d)) (vals v b (hq (Attn.qcol h g d))) t (dq' (Attn.qcol h g d)) = _
  rw [hq_qcol, gq_qcol, dq_qcol]

theorem arrZ_at (A : Attn.Args) (v : FVec Ideal S2x4352x256 .bf16) (gate : FVec Ideal S2x4352x1024 .bf16) (b h : Fin 2) (g : Fin 4)
    (t : Fin 4352) (d : Fin 128) :
    (arrZ A v gate (ix3 b t (Attn.qcol h g d)) : EReal)
      = Y A b h g (vals v b h) t d * silu (gate (ix3 b t (Attn.qcol h g d))) :=
  congrArg (fun y : EReal => y * silu (gate (ix3 b t (Attn.qcol h g d)))) (arrO_at A v b h g t d)

theorem arrL_at (A : Attn.Args) (b h : Fin 2) (g : Fin 4) (t : Fin 4352) :
    (arrL A (ix4 b (head h g) 0 t) : EReal) = ((A.lse2 b h g t : ℝ) : EReal) := by
  show ((A.lse2 b (h8 (head h g)) (g8 (head h g)) t : ℝ) : EReal) = _
  rw [h8_head, g8_head]

theorem S1x1x1x256_idx (x : S1x1x1x256.Idx) : x = ix4 0 0 0 (x 3) := by
  funext a
  fin_cases a
  · exact Subsingleton.elim (α := Fin 1) _ _
  · exact Subsingleton.elim (α := Fin 1) _ _
  · exact Subsingleton.elim (α := Fin 1) _ _
  · rfl

theorem emb4 (t : Fin cfg0.N) (r : Fin 256) (d : Fin 128) :
    (win0_4.blk t).view.emb (ix3 0 r d) = ix3 (bOf t) (rowOf t r) (Attn.qcol (hOf t) (gOf t) d) := by
  have ht := lt_N t
  blk_ext [idxQ t, bOf, hOf, gOf, rowOf, Attn.qcol]

theorem emb5 (t : Fin cfg0.N) (r : Fin 256) (d : Fin 128) :
    (win0_5.blk t).view.emb (ix3 0 r d) = ix3 (bOf t) (rowOf t r) (Attn.qcol (hOf t) (gOf t) d) := by
  have ht := lt_N t
  blk_ext [idxQ t, bOf, hOf, gOf, rowOf, Attn.qcol]

theorem emb6 (t : Fin cfg0.N) (r : Fin 256) :
    (win0_6.blk t).view.emb (ix4 0 0 0 r) = ix4 (bOf t) (head (hOf t) (gOf t)) 0 (rowOf t r) := by
  have ht := lt_N t
  blk_ext [idxK t, bOf, hOf, gOf, rowOf, head]

section Final

variable {A : Attn.Args} {c : Dev nD} (R : Reals m A c)
include R

theorem final_z : @Eq (FVec Ideal S2x4352x1024 .bf16) ((dats m 0 c).arrAt 4 cfg0.N)
    (arrZ A (m (c.tc.loc main_arg2)) (m (c.tc.loc main_arg3))) := by
  refine (dats m 0 c).arrAt_eq_of_covers 4 _ (by decide +kernel) fun t hf y => ?_
  blk_simp
  rw [after0_4]
  have e : y = ix3 0 (y 1) (y 2) := Cert.KernelIdeal.Block.S1x256x128_idx y
  refine (congrArg (outsAt0 m c t.val t.isLt).1 e).trans ((z_eq m t R _ _).trans ?_)
  refine Eq.trans ?_ (congrArg (arrZ A (m (c.tc.loc main_arg2)) (m (c.tc.loc main_arg3)))
    ((emb4 t (y 1) (y 2)).symm.trans (congrArg (win0_4.blk t).view.emb e.symm)))
  exact (arrZ_at A _ _ _ _ _ _ _).symm

theorem final_o : @Eq (FVec Ideal S2x4352x1024 .bf16) ((dats m 0 c).arrAt 5 cfg0.N) (arrO A (m (c.tc.loc main_arg2))) := by
  refine (dats m 0 c).arrAt_eq_of_covers 5 _ (by decide +kernel) fun t hf y => ?_
  blk_simp
  rw [after0_5]
  have e : y = ix3 0 (y 1) (y 2) := Cert.KernelIdeal.Block.S1x256x128_idx y
  refine (congrArg (outsAt0 m c t.val t.isLt).2.1 e).trans ((o_eq m t R _ _).trans ?_)
  refine Eq.trans ?_ (congrArg (arrO A (m (c.tc.loc main_arg2)))
    ((emb5 t (y 1) (y 2)).symm.trans (congrArg (win0_5.blk t).view.emb e.symm)))
  exact (arrO_at A _ _ _ _ _ _).symm

theorem final_lse : @Eq (FVec Ideal S2x8x1x4352 .f32) ((dats m 0 c).arrAt 6 cfg0.N) (arrL A) := by
  refine (dats m 0 c).arrAt_eq_of_covers 6 _ (by decide +kernel) fun t hf y => ?_
  blk_simp
  rw [after0_6]
  have e : y = ix4 0 0 0 (y 3) := S1x1x1x256_idx y
  refine (congrArg (outsAt0 m c t.val t.isLt).2.2 e).trans ((lse_eq m t R _).trans ?_)
  refine Eq.trans ?_ (congrArg (arrL A) ((emb6 t (y 3)).symm.trans (congrArg (win0_6.blk t).view.emb e.symm)))
  exact (arrL_at A _ _ _ _).symm

end Final

end Cert.Kernel14Ideal.Fwd
-- ==== Proof.FwdRef.lean ====
/- The reference of the forward call at an index: the gated output, the output and the rows' log-sums. Its operations are those
   the host of the backward call makes, but for a maximum with minus infinity in each softmax. -/
module

public import proofs.«01_k».proof.Proof.FwdArrays
public import proofs.«01_k».proof.Proof.Results
public import proofs.«01_k».proof.Proof.Gen.Reference14Ideal.Read

@[expose] public section

set_option maxRecDepth 16384

noncomputable section

open Idealize.ShloMosaic Idealize.ShloMosaic.TcCoe Idealize.SL.Sem

namespace Cert.Reference14Ideal.Fwd

open Cert.Reference14Ideal Cert.Reference14Ideal.Gen Cert.Reference14Ideal.Read
open Cert.Kernel14Ideal.Fwd (Y vals silu arrO arrZ arrL arrO_at arrZ_at arrL_at head head_eq h8 g8)
open Cert.KernelIdeal (Host.sLat Host.mLat Host.eLat Host.lLat Host.oLat Host.sCtx Host.mCtx Host.eCtx Host.lCtx Host.oCtx)

variable (x0 : FVec Ideal S2x4352x1024 .bf16) (x1 x2 : FVec Ideal S2x4352x256 .bf16) (x3 : FVec Ideal S2x4352x1024 .bf16)

/-- A maximum with minus infinity changes nothing. -/
theorem max_neg_inf {s : Shape} (x y : FVec Ideal s .f32) (hx : ∀ i, (x i : EReal) = ⊥) : maximumf x y = y := by
  funext i
  show max (x i : EReal) (y i : EReal) = y i
  rw [hx i]
  exact max_bot_left _

/-! ## Latent rows -/

theorem s_lat : val_main_v10 (F := Ideal) x0 x1 = Host.sLat x0 x1 := rfl

theorem v13_eq : val_main_v13 (F := Ideal) x0 x1 = val_main_v11 (F := Ideal) x0 x1 :=
  max_neg_inf (val_main_v12 (F := Ideal)) (val_main_v11 (F := Ideal) x0 x1) fun i => Attn.ofBits_neg_inf

theorem m_lat : val_main_v14 (F := Ideal) x0 x1 = Host.mLat x0 x1 := by
  unfold val_main_v14
  rw [v13_eq]
  unfold val_main_v11
  rw [s_lat]
  rfl

theorem e_lat : val_main_v17 (F := Ideal) x0 x1 = Host.eLat x0 x1 := by
  unfold val_main_v17 val_main_v16 val_main_v15
  rw [m_lat, s_lat]
  rfl

theorem l_lat : val_main_v19 (F := Ideal) x0 x1 = Host.lLat x0 x1 := by
  unfold val_main_v19 val_main_v18
  rw [e_lat]
  rfl

theorem o_lat : val_main_v23 (F := Ideal) x0 x1 x2 = Host.oLat x0 x1 x2 := by
  unfold val_main_v23 val_main_v22 val_main_v21 val_main_v20
  rw [l_lat, e_lat]
  rfl

/-! ## The context's rows -/

theorem s_ctx : val_main_v30 (F := Ideal) x0 x1 = Host.sCtx x0 x1 := rfl

theorem v33_eq : val_main_v33 (F := Ideal) x0 x1 = val_main_v31 (F := Ideal) x0 x1 :=
  max_neg_inf (val_main_v32 (F := Ideal)) (val_main_v31 (F := Ideal) x0 x1) fun i => Attn.ofBits_neg_inf

theorem m_ctx : val_main_v34 (F := Ideal) x0 x1 = Host.mCtx x0 x1 := by
  unfold val_main_v34
  rw [v33_eq]
  unfold val_main_v31
  rw [s_ctx]
  rfl

theorem e_ctx : val_main_v37 (F := Ideal) x0 x1 = Host.eCtx x0 x1 := by
  unfold val_main_v37 val_main_v36 val_main_v35
  rw [m_ctx, s_ctx]
  rfl

theorem l_ctx : val_main_v39 (F := Ideal) x0 x1 = Host.lCtx x0 x1 := by
  unfold val_main_v39 val_main_v38
  rw [e_ctx]
  rfl

theorem o_ctx : val_main_v43 (F := Ideal) x0 x1 x2 = Host.oCtx x0 x1 x2 := by
  unfold val_main_v43 val_main_v42 val_main_v41 val_main_v40
  rw [l_ctx, e_ctx]
  rfl

/-! ## The results -/

/-- The rows' log-sums are made by the host's operations. -/
theorem lse_eq : val_main_v89 (F := Ideal) x0 x1 = Cert.KernelIdeal.Host.savedSum x0 x1 := rfl

/-- The gate, at an index. -/
theorem silu_at (b : Fin 2) (t : Fin 4352) (c : Fin 1024) :
    (val_main_v85 (F := Ideal) x3 (ix3 b t c) : EReal) = silu (x3 (ix3 b t c)) := by
  have e : (val_main_v85 (F := Ideal) x3 (ix3 b t c) : EReal)
      = (x3 (ix3 b t c) : EReal)
        * Ideal.div (Ideal.ofBits .f32 0x3F800000#32) (Ideal.ofBits .f32 0x3F800000#32 + Ideal.exp (-(x3 (ix3 b t c) : EReal))) := by
    unfold val_main_v85 val_main_call0_v5 val_main_call0_v4 val_main_call0_cst_0 val_main_call0_v3 val_main_call0_v2 val_main_call0_cst val_main_call0_v1 val_main_call0_v0 val_main_v84
    pointwise
    all_goals rfl
  rw [e, Attn.ofBits_one, EReal.coe_one]
  rfl

theorem mul_at (y z : FVec Ideal S2x4352x1024 .f32) (i : S2x4352x1024.Idx) {a b : EReal} (hy : (y i : EReal) = a)
    (hz : (z i : EReal) = b) : (mulf y z i : EReal) = a * b := by
  rw [← hy, ← hz]
  rfl

section Numbers

variable {x0 x1} {A : Attn.Args} (hq : ∀ b t c, (x0 (ix3 b t c) : EReal) = ((A.q b t c : ℝ) : EReal))
  (hk : ∀ b t c, (x1 (ix3 b t c) : EReal) = ((A.k b t c : ℝ) : EReal))
include hq hk

theorem y_at (b : Fin 2) (t : Fin 4352) (h : Fin 2) (g : Fin 4) (d : Fin 128) :
    (val_main_v45 (F := Ideal) x0 x1 x2 (ix3 b t (Attn.qcol h g d)) : EReal) = Y A b h g (vals x2 b h) t d := by
  unfold val_main_v45 val_main_v44
  rw [o_lat, o_ctx]
  refine (Cert.KernelIdeal.Host.join_at _ _ b t h g d).trans ?_
  unfold Y
  by_cases ht : t.val < 4096
  · rw [dif_pos ht, if_pos ht]
    exact Cert.KernelIdeal.Host.oLat_weights x0 x1 x2 A hq hk b ⟨t.val, ht⟩ h g d
  · rw [dif_neg ht, if_neg ht]
    refine (Cert.KernelIdeal.Host.oCtx_weights x0 x1 x2 A hq hk b ⟨t.val - 4096, by omega⟩ h g d).trans ?_
    rw [Cert.KernelIdeal.Host.cx_eq t ht]
    rfl

theorem o_at (b : Fin 2) (t : Fin 4352) (h : Fin 2) (g : Fin 4) (d : Fin 128) :
    (val_main_v88 (F := Ideal) x0 x1 x2 (ix3 b t (Attn.qcol h g d)) : EReal) = Y A b h g (vals x2 b h) t d := by
  rw [val_main_v88, Cert.KernelIdeal.Host.trunc_at]
  exact y_at x2 hq hk b t h g d

theorem z_at (b : Fin 2) (t : Fin 4352) (h : Fin 2) (g : Fin 4) (d : Fin 128) :
    (val_main_v87 (F := Ideal) x0 x1 x2 x3 (ix3 b t (Attn.qcol h g d)) : EReal)
      = Y A b h g (vals x2 b h) t d * silu (x3 (ix3 b t (Attn.qcol h g d))) := by
  rw [val_main_v87, Cert.KernelIdeal.Host.trunc_at, val_main_v86]
  exact mul_at _ _ _ (y_at x2 hq hk b t h g d) (silu_at x3 b t _)

theorem o_arr : @Eq (FVec Ideal S2x4352x1024 .bf16) (val_main_v88 (F := Ideal) x0 x1 x2) (arrO A x2) :=
  Cert.Proof.ext_q _ _ fun b t h g d => (o_at x2 hq hk b t h g d).trans (arrO_at A x2 b h g t d).symm

theorem z_arr : @Eq (FVec Ideal S2x4352x1024 .bf16) (val_main_v87 (F := Ideal) x0 x1 x2 x3) (arrZ A x2 x3) :=
  Cert.Proof.ext_q _ _ fun b t h g d => (z_at x2 x3 hq hk b t h g d).trans (arrZ_at A x2 x3 b h g t d).symm

theorem lse_arr : @Eq (FVec Ideal S2x8x1x4352 .f32) (val_main_v89 (F := Ideal) x0 x1) (arrL A) := by
  rw [lse_eq]
  funext i
  idx_vars i
  obtain rfl : i2 = 0 := Subsingleton.elim _ _
  rw [← head_eq i1]
  exact (Cert.KernelIdeal.Host.savedSum_at x0 x1 A hq hk i0 (h8 i1) (g8 i1) i3).trans (arrL_at A i0 _ _ i3).symm

end Numbers

end Cert.Reference14Ideal.Fwd
-- ==== Proof.FwdFinite.lean ====
/- The forward call's precondition: two arrays of finite numbers are arrays of real numbers. -/
module

public import proofs.«01_k».proof.Proof.Finite
public import proofs.«01_k».proof.Proof.Gen.Pre_finite_qk
public import proofs.«01_k».proof.Proof.FwdArrays

@[expose] public section

noncomputable section

open Idealize.ShloMosaic Idealize.ShloMosaic.TcCoe Idealize.SL.Sem

namespace Cert.Proof

open Cert.Kernel14Ideal

/-- The real numbers that `q` and `k` hold; the other three are not used. -/
def argsQK (m : (ℓ : Loc nD τ sig) → Buf (Elt Ideal) ℓ) (c : Dev nD) : Attn.Args where
  q b t i := ((m (c.tc.loc main_arg0) : FVec Ideal S2x4352x1024 .bf16) (ix3 b t i) : EReal).toReal
  k b t i := ((m (c.tc.loc main_arg1) : FVec Ideal S2x4352x256 .bf16) (ix3 b t i) : EReal).toReal
  v _ _ _ := 0
  gate _ _ _ := 0
  dz _ _ _ := 0

theorem reals_qk (m : (ℓ : Loc nD τ sig) → Buf (Elt Ideal) ℓ)
    (h : Pre_Kernel14Ideal_finite_qk (hPre_finite_qk := Cert.Pre_finite_qk.Gen.facts) m)
    (c : Dev nD) : Cert.Kernel14Ideal.Fwd.Reals m (argsQK m c) c := by
  obtain ⟨h0, h1⟩ := h c
  exact ⟨test_q _ h0, test_k _ h1⟩

end Cert.Proof
-- ==== Proof.lean ====
/- The certificate of the dense attention's backward call, and of the calls that make the products of the input projection,
   of the branches and of the output, forward and backward: kernels and references end without fault, their arguments kept
   and every semaphore counter at zero; the ideal programs are the kernels, the attention's with one constant named; and over
   the extended reals, the attention's four gradients, for finite arguments, and the products, for all, are the
   references'. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.Pre_finite_qk
public import proofs.«01_k».proof.Proof.Results
public import proofs.«01_k».proof.Proof.RefFirst
public import proofs.«01_k».proof.Proof.RefSecond
public import proofs.«01_k».proof.Proof.Weights4
public import proofs.«01_k».proof.Proof.Weights5
public import proofs.«01_k».proof.Proof.Weights6
public import proofs.«01_k».proof.Proof.Weights7
public import proofs.«01_k».proof.Proof.Weights8
public import proofs.«01_k».proof.Proof.Rows9
public import proofs.«01_k».proof.Proof.Rows10
public import proofs.«01_k».proof.Proof.Rows11
public import proofs.«01_k».proof.Proof.Rows12
public import proofs.«01_k».proof.Proof.Rows13
public import Idealize.ShloMosaic.Lib.Quiescent
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.FwdRef
public import proofs.«01_k».proof.Proof.FwdFinite
public import Idealize.ShloMosaic.Adequacy
public import Idealize.ShloMosaic.Init

@[expose] public section

noncomputable section

open Idealize.ShloMosaic Idealize.ShloMosaic.TcCoe Idealize.SL.Sem

namespace Cert.Proof

/-- The kernel ends, keeps its arguments and leaves every semaphore counter at zero. -/
theorem frame_kernel : Cert.quiescent_Kernel (hKernel := Cert.Kernel.Gen.facts) := fun m ρ _ => Cert.Kernel.Gen.frame m ρ

/-- So does the ideal kernel. -/
theorem frame_ideal : Cert.quiescent_KernelIdeal (hKernelIdeal := Cert.KernelIdeal.Gen.facts) :=
  fun m ρ _ => Cert.KernelIdeal.Gen.frame m ρ

/-- And so from finite arguments. -/
theorem frame_ideal_finite : Cert.quiescent_KernelIdeal_pre_finite (hKernelIdeal := Cert.KernelIdeal.Gen.facts)
    (hPre_finite := Cert.Pre_finite.Gen.facts) := fun m ρ _ => Cert.KernelIdeal.Gen.frame m ρ

/-- The reference ends, keeps its arguments and leaves every semaphore counter at zero. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run m ρ)

/-- And so from finite arguments. -/
theorem frame_reference_finite : Cert.quiescent_ReferenceIdeal_pre_finite (hReferenceIdeal := Cert.ReferenceIdeal.Gen.facts)
    (hPre_finite := Cert.Pre_finite.Gen.facts) := fun m ρ _ => frame_reference m ρ trivial

/-- The ideal program is the kernel with its constant `c2` named. -/
theorem preserves : Cert.preserves_Kernel_KernelIdeal := IdealRules.named_const.statement _ _ _ _ _ rfl

section

open Cert.ReferenceIdeal

/-- The reference's launch memory holds the same real numbers as the kernel's. -/
theorem inputs {m : (ℓ : Loc Cert.KernelIdeal.nD Cert.KernelIdeal.τ Cert.KernelIdeal.sig) → Buf (Elt Ideal) ℓ}
    {A : Attn.Args} {c : Dev Cert.KernelIdeal.nD} (R : Cert.KernelIdeal.Value.Reals m A c) :
    Stage.Inputs (m (c.tc.loc Cert.KernelIdeal.main_arg0)) (m (c.tc.loc Cert.KernelIdeal.main_arg1))
      (m (c.tc.loc Cert.KernelIdeal.main_arg2)) (m (c.tc.loc Cert.KernelIdeal.main_arg3))
      (m (c.tc.loc Cert.KernelIdeal.main_arg4)) A :=
  ⟨R.q, R.k, R.v, R.gate, R.dz⟩

end

/-- Over the extended reals, from finite arguments, kernel and reference end with the same four gradients. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => Cert.KernelIdeal.Value.arrQ (argsOf m c), fun c => Cert.KernelIdeal.Value.arrK (argsOf m c),
    fun c => Cert.KernelIdeal.Value.arrV (argsOf m c), fun c => Cert.KernelIdeal.Value.arrG (argsOf m c), ?_, ?_⟩
  · refine (θ_run Cert.KernelIdeal.defs _ _).mono (fun r h c => ?_) (Cert.KernelIdeal.Value.run_blocks m g)
    obtain ⟨h0, h1, h2, h3, hk⟩ := h c
    have R := reals m hpre c
    exact ⟨h0.trans (Cert.KernelIdeal.Value.final_q m R), h1.trans (Cert.KernelIdeal.Value.final_k m R),
      h2.trans (Cert.KernelIdeal.Value.final_v m R), h3.trans (Cert.KernelIdeal.Value.final_g m R), hk⟩
  · refine (θ_run Cert.ReferenceIdeal.defs _ _).mono (fun r h c => ?_) (Cert.ReferenceIdeal.Value.run m' g')
    obtain ⟨h0, h1, h2, h3, hk⟩ := h c
    obtain ⟨a0, a1, a2, a3, a4⟩ := hagree c
    have H : Cert.ReferenceIdeal.Stage.Inputs (m' (c.tc.loc Cert.ReferenceIdeal.main_arg0))
        (m' (c.tc.loc Cert.ReferenceIdeal.main_arg1)) (m' (c.tc.loc Cert.ReferenceIdeal.main_arg2))
        (m' (c.tc.loc Cert.ReferenceIdeal.main_arg3)) (m' (c.tc.loc Cert.ReferenceIdeal.main_arg4)) (argsOf m c) := by
      rw [a0, a1, a2, a3, a4]
      exact inputs (reals m hpre c)
    exact ⟨h0.trans ((Cert.ReferenceIdeal.Read.val_main_v146_eq (StableHlo.launchContents m' c)).trans (ref_q H)),
      h1.trans ((Cert.ReferenceIdeal.Read.val_main_v144_eq (StableHlo.launchContents m' c)).trans (ref_k H)),
      h2.trans ((Cert.ReferenceIdeal.Read.val_main_v143_eq (StableHlo.launchContents m' c)).trans (ref_v H)),
      h3.trans ((Cert.ReferenceIdeal.Read.val_main_v147_eq (StableHlo.launchContents m' c)).trans (ref_g H)), hk⟩

/-! ## The first call of the rows gradient -/

/-- The kernel of the rows' gradient from the first five column blocks ends, keeps its arguments and leaves every semaphore counter at zero. -/
theorem frame_kernel2 : Cert.quiescent_Kernel2 (hKernel2 := Cert.Kernel2.Gen.facts) := fun m ρ _ => Cert.Kernel2.Gen.frame m ρ

/-- So does the ideal kernel. -/
theorem frame_ideal2 : Cert.quiescent_Kernel2Ideal (hKernel2Ideal := Cert.Kernel2Ideal.Gen.facts) :=
  fun m ρ _ => Cert.Kernel2Ideal.Gen.frame m ρ

/-- And the reference. -/
theorem frame_reference2 : Cert.quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩)
    (Cert.Reference2Ideal.Value.run m ρ)

/-- The ideal program is the kernel. -/
theorem preserves2 : Cert.preserves_Kernel2_Kernel2Ideal := trivial

/-- Over the extended reals kernel and reference end with the same array. -/
theorem algebraic2 : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Kernel2Ideal.Value.arr m c, ?_, ?_⟩
  · exact (θ_run Cert.Kernel2Ideal.defs _ _).mono
      (fun r h c => ⟨(h c).1.trans (Cert.Kernel2Ideal.Value.final m c), (h c).2⟩) (Cert.Kernel2Ideal.Value.run_blocks m g)
  · refine (θ_run Cert.Reference2Ideal.defs _ _).mono (fun r h c => ?_) (Cert.Reference2Ideal.Value.run m' g')
    obtain ⟨a0, a1, a2, a3, a4, a5⟩ := hagree c
    exact ⟨(h c).1.trans ((Cert.Reference2Ideal.Read.val_main_v32_eq (F := Ideal) _ _ _ _ _ _).trans
      (Cert.Reference2Ideal.Value.result _ _ _ _ _ _ m c a0 a1 a2 a3 a4 a5)), (h c).2⟩

/-! ## The second call of the rows gradient -/

/-- The kernel of the rows' gradient from the last four ends, keeps its arguments and leaves every semaphore counter at zero. -/
theorem frame_kernel3 : Cert.quiescent_Kernel3 (hKernel3 := Cert.Kernel3.Gen.facts) := fun m ρ _ => Cert.Kernel3.Gen.frame m ρ

/-- So does the ideal kernel. -/
theorem frame_ideal3 : Cert.quiescent_Kernel3Ideal (hKernel3Ideal := Cert.Kernel3Ideal.Gen.facts) :=
  fun m ρ _ => Cert.Kernel3Ideal.Gen.frame m ρ

/-- And the reference. -/
theorem frame_reference3 : Cert.quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩)
    (Cert.Reference3Ideal.Value.run m ρ)

/-- The ideal program is the kernel. -/
theorem preserves3 : Cert.preserves_Kernel3_Kernel3Ideal := trivial

/-- Over the extended reals kernel and reference end with the same array. -/
theorem algebraic3 : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Kernel3Ideal.Value.arr m c, ?_, ?_⟩
  · exact (θ_run Cert.Kernel3Ideal.defs _ _).mono
      (fun r h c => ⟨(h c).1.trans (Cert.Kernel3Ideal.Value.final m c), (h c).2⟩) (Cert.Kernel3Ideal.Value.run_blocks m g)
  · refine (θ_run Cert.Reference3Ideal.defs _ _).mono (fun r h c => ?_) (Cert.Reference3Ideal.Value.run m' g')
    obtain ⟨a0, a1, a2, a3, a4, a5⟩ := hagree c
    exact ⟨(h c).1.trans ((Cert.Reference3Ideal.Read.val_main_v32_eq (F := Ideal) _ _ _ _ _ _).trans
      (Cert.Reference3Ideal.Value.result _ _ _ _ _ _ m c a0 a1 a2 a3 a4 a5)), (h c).2⟩

/-! ## The weights' gradient of the first column block -/

/-- The kernel of the weights' gradient of the first column block ends, keeps its arguments and leaves every semaphore counter at zero. -/
theorem frame_kernel4 : Cert.quiescent_Kernel4 (hKernel4 := Cert.Kernel4.Gen.facts) := fun m ρ _ => Cert.Kernel4.Gen.frame m ρ

/-- So does the ideal kernel. -/
theorem frame_ideal4 : Cert.quiescent_Kernel4Ideal (hKernel4Ideal := Cert.Kernel4Ideal.Gen.facts) :=
  fun m ρ _ => Cert.Kernel4Ideal.Gen.frame m ρ

/-- And the reference. -/
theorem frame_reference4 : Cert.quiescent_Reference4Ideal (hReference4Ideal := Cert.Reference4Ideal.Gen.facts) := fun m ρ _ =>
  (θ_run Cert.Reference4Ideal.defs _ _).mono
    (fun r h => ⟨fun c => (h c).2, Idealize.ShloMosaic.sem_eq_zero_of_no_sems (by decide) r.2⟩)
    (Cert.Reference4Ideal.Value.run m ρ)

/-- The ideal program is the kernel. -/
theorem preserves4 : Cert.preserves_Kernel4_Kernel4Ideal := trivial

/-- Over the extended reals kernel and reference end with the same array. -/
theorem algebraic4 : Cert.algebraic_Kernel4Ideal_Reference4Ideal (hKernel4Ideal := Cert.Kernel4Ideal.Gen.facts)
    (hReference4Ideal := Cert.Reference4Ideal.Gen.facts) := by
  intro m g m' g' _ hagree
  refine ⟨fun c => Cert.Kernel4Ideal.Value.arr m c, ?_, ?_⟩
  · exact (θ_run Cert.Kernel4Ideal.defs _ _).mono
      (fun r h c => ⟨(h c).1.trans (Cert.Kernel4Ideal.Value.final m c), (h c).2⟩) (Cert.Kernel4Ideal.Value.run_blocks m g)
  · refine (θ_run Cert.Reference4Ideal.defs _ _).mono (fun r h c => ?_) (Cert.Reference4Ideal.Value.run m' g')
    obtain ⟨a0, a1⟩ := hagree c
    exact ⟨(h c).1.trans ((Cert.Reference4Ideal.Read.val_main_v5_eq (F := Ideal) _ _).trans
      (Cert.Kernel4Ideal.Value.result m c _ _ a0 a1)), (h c).2⟩

/-! ## The weights' gradient of a column block of 1024 -/

/-- The kernel of the weights' gradient of a column block of 1024 ends, keeps its arguments and leaves every semaphore counter at zero. -/
theorem frame_kernel5 : Cert.quiescent_Kernel5 (hKernel5 := Cert.Kernel5.Gen.facts) := fun m ρ _ => Cert.Kernel5.Gen.frame m ρ

/-- So does the ideal kernel. -/
theorem frame_ideal5 : Cert.quiescent_Kernel5Ideal (hKernel5Ideal := Cert.Kernel5Ideal.Gen.facts) :=
  fun m ρ _ => Cert.Kernel5Ideal.Gen.frame m ρ

/-- And the reference. -/
theorem frame_reference5 : Cert.quiescent_Reference5Ideal (hReference5Ideal := Cert.Reference5Ideal.Gen.facts) := fun m ρ _ =>
  (θ_run Cert.Reference5Ideal.defs _ _).mono
    (fun r h => ⟨fun c => (h c).2, Idealize.ShloMosaic.sem_eq_zero_of_no_sems (by decide) r.2⟩)
    (Cert.Reference5Ideal.Value.run m ρ)

/-- The ideal program is the kernel. -/
theorem preserves5 : Cert.preserves_Kernel5_Kernel5Ideal := trivial

/-- Over the extended reals kernel and reference end with the same array. -/
theorem algebraic5 : Cert.algebraic_Kernel5Ideal_Reference5Ideal (hKernel5Ideal := Cert.Kernel5Ideal.Gen.facts)
    (hReference5Ideal := Cert.Reference5Ideal.Gen.facts) := by
  intro m g m' g' _ hagree
  refine ⟨fun c => Cert.Kernel5Ideal.Value.arr m c, ?_, ?_⟩
  · exact (θ_run Cert.Kernel5Ideal.defs _ _).mono
      (fun r h c => ⟨(h c).1.trans (Cert.Kernel5Ideal.Value.final m c), (h c).2⟩) (Cert.Kernel5Ideal.Value.run_blocks m g)
  · refine (θ_run Cert.Reference5Ideal.defs _ _).mono (fun r h c => ?_) (Cert.Reference5Ideal.Value.run m' g')
    obtain ⟨a0, a1⟩ := hagree c
    exact ⟨(h c).1.trans ((Cert.Reference5Ideal.Read.val_main_v6_eq (F := Ideal) _ _).trans
      (Cert.Kernel5Ideal.Value.result m c _ _ a0 a1)), (h c).2⟩

/-! ## The weights' gradient of a column block of 512 -/

/-- The kernel of the weights' gradient of a column block of 512 ends, keeps its arguments and leaves every semaphore counter at zero. -/
theorem frame_kernel6 : Cert.quiescent_Kernel6 (hKernel6 := Cert.Kernel6.Gen.facts) := fun m ρ _ => Cert.Kernel6.Gen.frame m ρ

/-- So does the ideal kernel. -/
theorem frame_ideal6 : Cert.quiescent_Kernel6Ideal (hKernel6Ideal := Cert.Kernel6Ideal.Gen.facts) :=
  fun m ρ _ => Cert.Kernel6Ideal.Gen.frame m ρ

/-- And the reference. -/
theorem frame_reference6 : Cert.quiescent_Reference6Ideal (hReference6Ideal := Cert.Reference6Ideal.Gen.facts) := fun m ρ _ =>
  (θ_run Cert.Reference6Ideal.defs _ _).mono
    (fun r h => ⟨fun c => (h c).2, Idealize.ShloMosaic.sem_eq_zero_of_no_sems (by decide) r.2⟩)
    (Cert.Reference6Ideal.Value.run m ρ)

/-- The ideal program is the kernel. -/
theorem preserves6 : Cert.preserves_Kernel6_Kernel6Ideal := trivial

/-- Over the extended reals kernel and reference end with the same array. -/
theorem algebraic6 : Cert.algebraic_Kernel6Ideal_Reference6Ideal (hKernel6Ideal := Cert.Kernel6Ideal.Gen.facts)
    (hReference6Ideal := Cert.Reference6Ideal.Gen.facts) := by
  intro m g m' g' _ hagree
  refine ⟨fun c => Cert.Kernel6Ideal.Value.arr m c, ?_, ?_⟩
  · exact (θ_run Cert.Kernel6Ideal.defs _ _).mono
      (fun r h c => ⟨(h c).1.trans (Cert.Kernel6Ideal.Value.final m c), (h c).2⟩) (Cert.Kernel6Ideal.Value.run_blocks m g)
  · refine (θ_run Cert.Reference6Ideal.defs _ _).mono (fun r h c => ?_) (Cert.Reference6Ideal.Value.run m' g')
    obtain ⟨a0, a1⟩ := hagree c
    exact ⟨(h c).1.trans ((Cert.Reference6Ideal.Read.val_main_v6_eq (F := Ideal) _ _).trans
      (Cert.Kernel6Ideal.Value.result m c _ _ a0 a1)), (h c).2⟩

/-! ## The weights' gradient of the column block of 3072 -/

/-- The kernel of the weights' gradient of the column block of 3072 ends, keeps its arguments and leaves every semaphore counter at zero. -/
theorem frame_kernel7 : Cert.quiescent_Kernel7 (hKernel7 := Cert.Kernel7.Gen.facts) := fun m ρ _ => Cert.Kernel7.Gen.frame m ρ

/-- So does the ideal kernel. -/
theorem frame_ideal7 : Cert.quiescent_Kernel7Ideal (hKernel7Ideal := Cert.Kernel7Ideal.Gen.facts) :=
  fun m ρ _ => Cert.Kernel7Ideal.Gen.frame m ρ

/-- And the reference. -/
theorem frame_reference7 : Cert.quiescent_Reference7Ideal (hReference7Ideal := Cert.Reference7Ideal.Gen.facts) := fun m ρ _ =>
  (θ_run Cert.Reference7Ideal.defs _ _).mono
    (fun r h => ⟨fun c => (h c).2, Idealize.ShloMosaic.sem_eq_zero_of_no_sems (by decide) r.2⟩)
    (Cert.Reference7Ideal.Value.run m ρ)

/-- The ideal program is the kernel. -/
theorem preserves7 : Cert.preserves_Kernel7_Kernel7Ideal := trivial

/-- Over the extended reals kernel and reference end with the same array. -/
theorem algebraic7 : Cert.algebraic_Kernel7Ideal_Reference7Ideal (hKernel7Ideal := Cert.Kernel7Ideal.Gen.facts)
    (hReference7Ideal := Cert.Reference7Ideal.Gen.facts) := by
  intro m g m' g' _ hagree
  refine ⟨fun c => Cert.Kernel7Ideal.Value.arr m c, ?_, ?_⟩
  · exact (θ_run Cert.Kernel7Ideal.defs _ _).mono
      (fun r h c => ⟨(h c).1.trans (Cert.Kernel7Ideal.Value.final m c), (h c).2⟩) (Cert.Kernel7Ideal.Value.run_blocks m g)
  · refine (θ_run Cert.Reference7Ideal.defs _ _).mono (fun r h c => ?_) (Cert.Reference7Ideal.Value.run m' g')
    obtain ⟨a0, a1⟩ := hagree c
    exact ⟨(h c).1.trans ((Cert.Reference7Ideal.Read.val_main_v6_eq (F := Ideal) _ _).trans
      (Cert.Kernel7Ideal.Value.result m c _ _ a0 a1)), (h c).2⟩

/-! ## The weights' gradient of a product with 1024 by 1024 weights -/

/-- The kernel of the weights' gradient of a product with 1024 by 1024 weights ends, keeps its arguments and leaves every semaphore counter at zero. -/
theorem frame_kernel8 : Cert.quiescent_Kernel8 (hKernel8 := Cert.Kernel8.Gen.facts) := fun m ρ _ => Cert.Kernel8.Gen.frame m ρ

/-- So does the ideal kernel. -/
theorem frame_ideal8 : Cert.quiescent_Kernel8Ideal (hKernel8Ideal := Cert.Kernel8Ideal.Gen.facts) :=
  fun m ρ _ => Cert.Kernel8Ideal.Gen.frame m ρ

/-- And the reference. -/
theorem frame_reference8 : Cert.quiescent_Reference8Ideal (hReference8Ideal := Cert.Reference8Ideal.Gen.facts) := fun m ρ _ =>
  (θ_run Cert.Reference8Ideal.defs _ _).mono
    (fun r h => ⟨fun c => (h c).2, Idealize.ShloMosaic.sem_eq_zero_of_no_sems (by decide) r.2⟩)
    (Cert.Reference8Ideal.Value.run m ρ)

/-- The ideal program is the kernel. -/
theorem preserves8 : Cert.preserves_Kernel8_Kernel8Ideal := trivial

/-- Over the extended reals kernel and reference end with the same array. -/
theorem algebraic8 : Cert.algebraic_Kernel8Ideal_Reference8Ideal (hKernel8Ideal := Cert.Kernel8Ideal.Gen.facts)
    (hReference8Ideal := Cert.Reference8Ideal.Gen.facts) := by
  intro m g m' g' _ hagree
  refine ⟨fun c => Cert.Kernel8Ideal.Value.arr m c, ?_, ?_⟩
  · exact (θ_run Cert.Kernel8Ideal.defs _ _).mono
      (fun r h c => ⟨(h c).1.trans (Cert.Kernel8Ideal.Value.final m c), (h c).2⟩) (Cert.Kernel8Ideal.Value.run_blocks m g)
  · refine (θ_run Cert.Reference8Ideal.defs _ _).mono (fun r h c => ?_) (Cert.Reference8Ideal.Value.run m' g')
    obtain ⟨a0, a1⟩ := hagree c
    exact ⟨(h c).1.trans ((Cert.Reference8Ideal.Read.val_main_v6_eq (F := Ideal) _ _).trans
      (Cert.Kernel8Ideal.Value.result m c _ _ a0 a1)), (h c).2⟩

/-! ## The rows' gradient of a product with 1024 by 1024 weights -/

/-- The kernel of the rows' gradient of a product with 1024 by 1024 weights ends, keeps its arguments and leaves every semaphore counter at zero. -/
theorem frame_kernel9 : Cert.quiescent_Kernel9 (hKernel9 := Cert.Kernel9.Gen.facts) := fun m ρ _ => Cert.Kernel9.Gen.frame m ρ

/-- So does the ideal kernel. -/
theorem frame_ideal9 : Cert.quiescent_Kernel9Ideal (hKernel9Ideal := Cert.Kernel9Ideal.Gen.facts) :=
  fun m ρ _ => Cert.Kernel9Ideal.Gen.frame m ρ

/-- And the reference. -/
theorem frame_reference9 : Cert.quiescent_Reference9Ideal (hReference9Ideal := Cert.Reference9Ideal.Gen.facts) := fun m ρ _ =>
  (θ_run Cert.Reference9Ideal.defs _ _).mono
    (fun r h => ⟨fun c => (h c).2, Idealize.ShloMosaic.sem_eq_zero_of_no_sems (by decide) r.2⟩)
    (Cert.Reference9Ideal.Value.run m ρ)

/-- The ideal program is the kernel. -/
theorem preserves9 : Cert.preserves_Kernel9_Kernel9Ideal := trivial

/-- Over the extended reals kernel and reference end with the same array. -/
theorem algebraic9 : Cert.algebraic_Kernel9Ideal_Reference9Ideal (hKernel9Ideal := Cert.Kernel9Ideal.Gen.facts)
    (hReference9Ideal := Cert.Reference9Ideal.Gen.facts) := by
  intro m g m' g' _ hagree
  refine ⟨fun c => Cert.Kernel9Ideal.Value.arr m c, ?_, ?_⟩
  · exact (θ_run Cert.Kernel9Ideal.defs _ _).mono
      (fun r h c => ⟨(h c).1.trans (Cert.Kernel9Ideal.Value.final m c), (h c).2⟩) (Cert.Kernel9Ideal.Value.run_blocks m g)
  · refine (θ_run Cert.Reference9Ideal.defs _ _).mono (fun r h c => ?_) (Cert.Reference9Ideal.Value.run m' g')
    obtain ⟨a0, a1⟩ := hagree c
    exact ⟨(h c).1.trans ((Cert.Reference9Ideal.Read.val_main_v5_eq (F := Ideal) _ _).trans
      (Cert.Kernel9Ideal.Value.result m c _ _ a0 a1)), (h c).2⟩

/-! ## The input projection's first column block -/

/-- The kernel of the input projection's first column block ends, keeps its arguments and leaves every semaphore counter at zero. -/
theorem frame_kernel10 : Cert.quiescent_Kernel10 (hKernel10 := Cert.Kernel10.Gen.facts) := fun m ρ _ => Cert.Kernel10.Gen.frame m ρ

/-- So does the ideal kernel. -/
theorem frame_ideal10 : Cert.quiescent_Kernel10Ideal (hKernel10Ideal := Cert.Kernel10Ideal.Gen.facts) :=
  fun m ρ _ => Cert.Kernel10Ideal.Gen.frame m ρ

/-- And the reference. -/
theorem frame_reference10 : Cert.quiescent_Reference10Ideal (hReference10Ideal := Cert.Reference10Ideal.Gen.facts) := fun m ρ _ =>
  (θ_run Cert.Reference10Ideal.defs _ _).mono
    (fun r h => ⟨fun c => (h c).2, Idealize.ShloMosaic.sem_eq_zero_of_no_sems (by decide) r.2⟩)
    (Cert.Reference10Ideal.Value.run m ρ)

/-- The ideal program is the kernel. -/
theorem preserves10 : Cert.preserves_Kernel10_Kernel10Ideal := trivial

/-- Over the extended reals kernel and reference end with the same array. -/
theorem algebraic10 : Cert.algebraic_Kernel10Ideal_Reference10Ideal (hKernel10Ideal := Cert.Kernel10Ideal.Gen.facts)
    (hReference10Ideal := Cert.Reference10Ideal.Gen.facts) := by
  intro m g m' g' _ hagree
  refine ⟨fun c => Cert.Kernel10Ideal.Value.arr m c, ?_, ?_⟩
  · exact (θ_run Cert.Kernel10Ideal.defs _ _).mono
      (fun r h c => ⟨(h c).1.trans (Cert.Kernel10Ideal.Value.final m c), (h c).2⟩) (Cert.Kernel10Ideal.Value.run_blocks m g)
  · refine (θ_run Cert.Reference10Ideal.defs _ _).mono (fun r h c => ?_) (Cert.Reference10Ideal.Value.run m' g')
    obtain ⟨a0, a1⟩ := hagree c
    exact ⟨(h c).1.trans ((Cert.Reference10Ideal.Read.val_main_v2_eq (F := Ideal) _ _).trans
      (Cert.Kernel10Ideal.Value.result m c _ _ a0 a1)), (h c).2⟩

/-! ## A product with 1024 by 1024 weights -/

/-- The kernel of a product with 1024 by 1024 weights ends, keeps its arguments and leaves every semaphore counter at zero. -/
theorem frame_kernel11 : Cert.quiescent_Kernel11 (hKernel11 := Cert.Kernel11.Gen.facts) := fun m ρ _ => Cert.Kernel11.Gen.frame m ρ

/-- So does the ideal kernel. -/
theorem frame_ideal11 : Cert.quiescent_Kernel11Ideal (hKernel11Ideal := Cert.Kernel11Ideal.Gen.facts) :=
  fun m ρ _ => Cert.Kernel11Ideal.Gen.frame m ρ

/-- And the reference. -/
theorem frame_reference11 : Cert.quiescent_Reference11Ideal (hReference11Ideal := Cert.Reference11Ideal.Gen.facts) := fun m ρ _ =>
  (θ_run Cert.Reference11Ideal.defs _ _).mono
    (fun r h => ⟨fun c => (h c).2, Idealize.ShloMosaic.sem_eq_zero_of_no_sems (by decide) r.2⟩)
    (Cert.Reference11Ideal.Value.run m ρ)

/-- The ideal program is the kernel. -/
theorem preserves11 : Cert.preserves_Kernel11_Kernel11Ideal := trivial

/-- Over the extended reals kernel and reference end with the same array. -/
theorem algebraic11 : Cert.algebraic_Kernel11Ideal_Reference11Ideal (hKernel11Ideal := Cert.Kernel11Ideal.Gen.facts)
    (hReference11Ideal := Cert.Reference11Ideal.Gen.facts) := by
  intro m g m' g' _ hagree
  refine ⟨fun c => Cert.Kernel11Ideal.Value.arr m c, ?_, ?_⟩
  · exact (θ_run Cert.Kernel11Ideal.defs _ _).mono
      (fun r h c => ⟨(h c).1.trans (Cert.Kernel11Ideal.Value.final m c), (h c).2⟩) (Cert.Kernel11Ideal.Value.run_blocks m g)
  · refine (θ_run Cert.Reference11Ideal.defs _ _).mono (fun r h c => ?_) (Cert.Reference11Ideal.Value.run m' g')
    obtain ⟨a0, a1⟩ := hagree c
    exact ⟨(h c).1.trans ((Cert.Reference11Ideal.Read.val_main_v3_eq (F := Ideal) _ _).trans
      (Cert.Kernel11Ideal.Value.result m c _ _ a0 a1)), (h c).2⟩

/-! ## A column block of 512 -/

/-- The kernel of a column block of 512 ends, keeps its arguments and leaves every semaphore counter at zero. -/
theorem frame_kernel12 : Cert.quiescent_Kernel12 (hKernel12 := Cert.Kernel12.Gen.facts) := fun m ρ _ => Cert.Kernel12.Gen.frame m ρ

/-- So does the ideal kernel. -/
theorem frame_ideal12 : Cert.quiescent_Kernel12Ideal (hKernel12Ideal := Cert.Kernel12Ideal.Gen.facts) :=
  fun m ρ _ => Cert.Kernel12Ideal.Gen.frame m ρ

/-- And the reference. -/
theorem frame_reference12 : Cert.quiescent_Reference12Ideal (hReference12Ideal := Cert.Reference12Ideal.Gen.facts) := fun m ρ _ =>
  (θ_run Cert.Reference12Ideal.defs _ _).mono
    (fun r h => ⟨fun c => (h c).2, Idealize.ShloMosaic.sem_eq_zero_of_no_sems (by decide) r.2⟩)
    (Cert.Reference12Ideal.Value.run m ρ)

/-- The ideal program is the kernel. -/
theorem preserves12 : Cert.preserves_Kernel12_Kernel12Ideal := trivial

/-- Over the extended reals kernel and reference end with the same array. -/
theorem algebraic12 : Cert.algebraic_Kernel12Ideal_Reference12Ideal (hKernel12Ideal := Cert.Kernel12Ideal.Gen.facts)
    (hReference12Ideal := Cert.Reference12Ideal.Gen.facts) := by
  intro m g m' g' _ hagree
  refine ⟨fun c => Cert.Kernel12Ideal.Value.arr m c, ?_, ?_⟩
  · exact (θ_run Cert.Kernel12Ideal.defs _ _).mono
      (fun r h c => ⟨(h c).1.trans (Cert.Kernel12Ideal.Value.final m c), (h c).2⟩) (Cert.Kernel12Ideal.Value.run_blocks m g)
  · refine (θ_run Cert.Reference12Ideal.defs _ _).mono (fun r h c => ?_) (Cert.Reference12Ideal.Value.run m' g')
    obtain ⟨a0, a1⟩ := hagree c
    exact ⟨(h c).1.trans ((Cert.Reference12Ideal.Read.val_main_v3_eq (F := Ideal) _ _).trans
      (Cert.Kernel12Ideal.Value.result m c _ _ a0 a1)), (h c).2⟩

/-! ## The column block of 3072 -/

/-- The kernel of the column block of 3072 ends, keeps its arguments and leaves every semaphore counter at zero. -/
theorem frame_kernel13 : Cert.quiescent_Kernel13 (hKernel13 := Cert.Kernel13.Gen.facts) := fun m ρ _ => Cert.Kernel13.Gen.frame m ρ

/-- So does the ideal kernel. -/
theorem frame_ideal13 : Cert.quiescent_Kernel13Ideal (hKernel13Ideal := Cert.Kernel13Ideal.Gen.facts) :=
  fun m ρ _ => Cert.Kernel13Ideal.Gen.frame m ρ

/-- And the reference. -/
theorem frame_reference13 : Cert.quiescent_Reference13Ideal (hReference13Ideal := Cert.Reference13Ideal.Gen.facts) := fun m ρ _ =>
  (θ_run Cert.Reference13Ideal.defs _ _).mono
    (fun r h => ⟨fun c => (h c).2, Idealize.ShloMosaic.sem_eq_zero_of_no_sems (by decide) r.2⟩)
    (Cert.Reference13Ideal.Value.run m ρ)

/-- The ideal program is the kernel. -/
theorem preserves13 : Cert.preserves_Kernel13_Kernel13Ideal := trivial

/-- Over the extended reals kernel and reference end with the same array. -/
theorem algebraic13 : Cert.algebraic_Kernel13Ideal_Reference13Ideal (hKernel13Ideal := Cert.Kernel13Ideal.Gen.facts)
    (hReference13Ideal := Cert.Reference13Ideal.Gen.facts) := by
  intro m g m' g' _ hagree
  refine ⟨fun c => Cert.Kernel13Ideal.Value.arr m c, ?_, ?_⟩
  · exact (θ_run Cert.Kernel13Ideal.defs _ _).mono
      (fun r h c => ⟨(h c).1.trans (Cert.Kernel13Ideal.Value.final m c), (h c).2⟩) (Cert.Kernel13Ideal.Value.run_blocks m g)
  · refine (θ_run Cert.Reference13Ideal.defs _ _).mono (fun r h c => ?_) (Cert.Reference13Ideal.Value.run m' g')
    obtain ⟨a0, a1⟩ := hagree c
    exact ⟨(h c).1.trans ((Cert.Reference13Ideal.Read.val_main_v3_eq (F := Ideal) _ _).trans
      (Cert.Kernel13Ideal.Value.result m c _ _ a0 a1)), (h c).2⟩

/-! ## The forward call of the dense attention -/

/-- The kernel of the forward call ends, keeps its arguments and leaves every semaphore counter at zero. -/
theorem frame_kernel14 : Cert.quiescent_Kernel14 (hKernel14 := Cert.Kernel14.Gen.facts) := fun m ρ _ => Cert.Kernel14.Gen.frame m ρ

/-- So does the ideal kernel. -/
theorem frame_ideal14 : Cert.quiescent_Kernel14Ideal (hKernel14Ideal := Cert.Kernel14Ideal.Gen.facts) :=
  fun m ρ _ => Cert.Kernel14Ideal.Gen.frame m ρ

/-- And so from finite `q` and `k`. -/
theorem frame_ideal14_finite : Cert.quiescent_Kernel14Ideal_pre_finite_qk (hKernel14Ideal := Cert.Kernel14Ideal.Gen.facts)
    (hPre_finite_qk := Cert.Pre_finite_qk.Gen.facts) := fun m ρ _ => Cert.Kernel14Ideal.Gen.frame m ρ

/-- And the reference. -/
theorem frame_reference14 : Cert.quiescent_Reference14Ideal (hReference14Ideal := Cert.Reference14Ideal.Gen.facts) := fun m ρ _ =>
  (θ_run Cert.Reference14Ideal.defs _ _).mono
    (fun r h => ⟨fun c => (h c).2.2.2, Idealize.ShloMosaic.sem_eq_zero_of_no_sems (by decide) r.2⟩)
    (Cert.Reference14Ideal.Value.run m ρ)

/-- And so from finite `q` and `k`. -/
theorem frame_reference14_finite : Cert.quiescent_Reference14Ideal_pre_finite_qk
    (hReference14Ideal := Cert.Reference14Ideal.Gen.facts) (hPre_finite_qk := Cert.Pre_finite_qk.Gen.facts) :=
  fun m ρ _ => frame_reference14 m ρ trivial

/-- The ideal program is the kernel with its constants `c2` and `r2` named. -/
theorem preserves14 : Cert.preserves_Kernel14_Kernel14Ideal :=
  ⟨IdealRules.named_const.statement _ _ _ _ _ rfl, IdealRules.named_const.statement _ _ _ _ _ rfl⟩

/-- Over the extended reals, from finite `q` and `k`, kernel and reference end with the same gated output, the same output and the same
    log-sums of the rows. -/
theorem algebraic14 : Cert.algebraic_Kernel14Ideal_Reference14Ideal_pre_finite_qk
    (hKernel14Ideal := Cert.Kernel14Ideal.Gen.facts) (hReference14Ideal := Cert.Reference14Ideal.Gen.facts)
    (hPre_finite_qk := Cert.Pre_finite_qk.Gen.facts) := by
  intro m g m' g' hpre hagree
  refine ⟨fun c => Cert.Kernel14Ideal.Fwd.arrZ (argsQK m c) (m (c.tc.loc Cert.Kernel14Ideal.main_arg2)) (m (c.tc.loc Cert.Kernel14Ideal.main_arg3)),
    fun c => Cert.Kernel14Ideal.Fwd.arrO (argsQK m c) (m (c.tc.loc Cert.Kernel14Ideal.main_arg2)),
    fun c => Cert.Kernel14Ideal.Fwd.arrL (argsQK m c), ?_, ?_⟩
  · refine (θ_run Cert.Kernel14Ideal.defs _ _).mono (fun r h c => ?_) (Cert.Kernel14Ideal.Value.run_blocks m g)
    obtain ⟨h0, h1, h2, hk⟩ := h c
    have R := reals_qk m hpre c
    exact ⟨h0.trans (Cert.Kernel14Ideal.Fwd.final_z m R), h1.trans (Cert.Kernel14Ideal.Fwd.final_o m R),
      h2.trans (Cert.Kernel14Ideal.Fwd.final_lse m R), hk⟩
  · refine (θ_run Cert.Reference14Ideal.defs _ _).mono (fun r h c => ?_) (Cert.Reference14Ideal.Value.run m' g')
    obtain ⟨h0, h1, h2, hk⟩ := h c
    obtain ⟨a0, a1, a2, a3⟩ := hagree c
    have R := reals_qk m hpre c
    refine ⟨h0.trans ((Cert.Reference14Ideal.Read.val_main_v87_eq m' c).trans ?_),
      h1.trans ((Cert.Reference14Ideal.Read.val_main_v88_eq m' c).trans ?_),
      h2.trans ((Cert.Reference14Ideal.Read.val_main_v89_eq m' c).trans ?_), hk⟩
    · rw [a0, a1, a2, a3]
      exact Cert.Reference14Ideal.Fwd.z_arr _ _ R.q R.k
    · rw [a0, a1, a2]
      exact Cert.Reference14Ideal.Fwd.o_arr _ R.q R.k
    · rw [a0, a1]
      exact Cert.Reference14Ideal.Fwd.lse_arr R.q R.k

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts, Cert.Pre_finite.Gen.facts,
  Cert.Pre_finite_qk.Gen.facts,
  frame_kernel, frame_ideal, frame_ideal_finite, frame_reference, frame_reference_finite,
  frame_kernel2, frame_ideal2, frame_reference2, frame_kernel3, frame_ideal3, frame_reference3,
  frame_kernel4, frame_ideal4, frame_reference4,
  frame_kernel5, frame_ideal5, frame_reference5,
  frame_kernel6, frame_ideal6, frame_reference6,
  frame_kernel7, frame_ideal7, frame_reference7,
  frame_kernel8, frame_ideal8, frame_reference8,
  frame_kernel9, frame_ideal9, frame_reference9,
  frame_kernel10, frame_ideal10, frame_reference10,
  frame_kernel11, frame_ideal11, frame_reference11,
  frame_kernel12, frame_ideal12, frame_reference12,
  frame_kernel13, frame_ideal13, frame_reference13,
  frame_kernel14, frame_ideal14, frame_ideal14_finite, frame_reference14, frame_reference14_finite,
  preserves, algebraic, preserves2, algebraic2, preserves3, algebraic3,
  preserves4, algebraic4, preserves5, algebraic5, preserves6, algebraic6, preserves7, algebraic7, preserves8, algebraic8, preserves9, algebraic9, preserves10, algebraic10, preserves11, algebraic11, preserves12, algebraic12, preserves13, algebraic13, preserves14, algebraic14⟩

end Cert.Proof

end
